-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "rsqrt_two" .f32 0x3F3504F3#32 (((Real.sqrt 2)⁻¹ : ℝ) : EReal)
  ∧ IdealRules.named_const.Statement Cert.KernelIdeal.κ "rsqrt_two_pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v35) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v36) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v58) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v94) = v0 c
          ∧ r.2.mem ((c.tc : Thread Cert.Reference6Ideal.nD Cert.Reference6Ideal.τ).loc Cert.Reference6Ideal.main_v95) = v1 c
          ∧ r.2.mem ((c.tc : Thread Cert.Reference6Ideal.nD Cert.Reference6Ideal.τ).loc Cert.Reference6Ideal.main_v96) = v2 c
          ∧ r.2.mem ((c.tc : Thread Cert.Reference6Ideal.nD Cert.Reference6Ideal.τ).loc Cert.Reference6Ideal.main_v99) = v3 c
          ∧ r.2.mem ((c.tc : Thread Cert.Reference6Ideal.nD Cert.Reference6Ideal.τ).loc Cert.Reference6Ideal.main_v102) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15_0)) (v1 : (c : Dev Cert.Kernel8Ideal.nD) → Buf (Elt Ideal) ((c.tc : Thread Cert.Kernel8Ideal.nD Cert.Kernel8Ideal.τ).loc Cert.Kernel8Ideal.main_v15_1)) (v2 : (c : Dev Cert.Kernel8Ideal.nD) → Buf (Elt Ideal) ((c.tc : Thread Cert.Kernel8Ideal.nD Cert.Kernel8Ideal.τ).loc Cert.Kernel8Ideal.main_v15_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_0) = v0 c
          ∧ r.2.mem ((c.tc : Thread Cert.Kernel8Ideal.nD Cert.Kernel8Ideal.τ).loc Cert.Kernel8Ideal.main_v15_1) = v1 c
          ∧ r.2.mem ((c.tc : Thread Cert.Kernel8Ideal.nD Cert.Kernel8Ideal.τ).loc Cert.Kernel8Ideal.main_v15_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v48) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite3 : Cert.Pre_finite3.Facts) (hPre_finite5 : Cert.Pre_finite5.Facts) (hPre_finite6 : Cert.Pre_finite6.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4096x3584 : Shape := ⟨2, ![4096, 3584]⟩
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4096x1536 : Shape := ⟨2, ![4096, 1536]⟩
abbrev S_ : Shape := ⟨0, ![]⟩
abbrev S4096x512 : Shape := ⟨2, ![4096, 512]⟩

class Facts : Prop where
  slices_S4096x3584_S4096x1536_0_0 : S4096x3584.Slices ![0, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  slices_S4096x1024_S4096x512_0_0 : S4096x1024.Slices ![0, 0] S4096x512
  bcast_S_S4096x512 : S_.BroadcastsInDim S4096x512 (![] : Fin 0 → Fin S4096x512.rank)
  reducesTo_S4096x512_S_d0_1 : S4096x512.ReducesTo [0, 1] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg3 : FVec F S1x4x128x128 .f32) (main_arg4 : FVec F S1x4x128 .f32) (main_v17 : IVec S_ 1) : IVec S_ 1 :=
  let main_v18 : FVec F S1x4x128x128 .f32 := Host.absf main_arg3
  let main_cst_4 : FVec F S_ .f32 := constant S_ .f32 0x7F800000#32
  let main_v19 : FVec F S1x4x128x128 .f32 := broadcastInDim S1x4x128x128 ![] bcast_S_S1x4x128x128 main_cst_4
  let main_v20 : IVec S1x4x128x128 1 := cmpf .olt main_v18 main_v19
  let main_c_5 : IVec S_ 1 := constantI S_ 1 1#1
  let main_v21 : IVec S_ 1 := (fun x v => Host.reduce IntOp.andi x v reducesTo_S1x4x128x128_S_d0_1_2_3 h_S_) main_v20 main_c_5
  let main_v22 : IVec S_ 1 := andi main_v17 main_v21
  let main_v23 : FVec F S1x4x128 .f32 := Host.absf main_arg4
  let main_cst_6 : FVec F S_ .f32 := constant S_ .f32 0x7F800000#32
  let main_v24 : FVec F S1x4x128 .f32 := broadcastInDim S1x4x128 ![] bcast_S_S1x4x128 main_cst_6
  let main_v25 : IVec S1x4x128 1 := cmpf .olt main_v23 main_v24
  let main_c_7 : IVec S_ 1 := constantI S_ 1 1#1
  let main_v26 : IVec S_ 1 := (fun x v => Host.reduce IntOp.andi x v reducesTo_S1x4x128_S_d0_1_2 h_S_) main_v25 main_c_7
  let main_v27 : IVec S_ 1 := andi main_v22 main_v26
  main_v27

def fn {F : FTy → Type} [FloatOps F] (main_arg0 : FVec F S4096x3584 .bf16) (main_arg1 : FVec F S4096x1024 .bf16) (main_arg2 : FVec F S1x512 .f32) (main_arg3 : FVec F S1x4x128x128 .f32) (main_arg4 : FVec F S1x4x128 .f32) : IVec S_ 1 :=
  let main_v0 : FVec F S4096x1536 .bf16 := (extractStridedSlice S4096x1536 ![0, 0] · slices_S4096x3584_S4096x1536_0_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S4096x512 .bf16 := (extractStridedSlice S4096x512 ![0, 0] · slices_S4096x1024_S4096x512_0_0) main_arg1
  let main_v7 : FVec F S4096x512 .f32 := (extf .f32 · bitsLt_bf16_f32) main_v6
  let main_v8 : FVec F S4096x512 .f32 := Host.absf main_v7
  let main_cst_0 : FVec F S_ .f32 := constant S_ .f32 0x7F800000#32
  let main_v9 : FVec F S4096x512 .f32 := broadcastInDim S4096x512 ![] bcast_S_S4096x512 main_cst_0
  let main_v10 : IVec S4096x512 1 := cmpf .olt main_v8 main_v9
  let main_c_1 : IVec S_ 1 := constantI S_ 1 1#1
  let main_v11 : IVec S_ 1 := (fun x v => Host.reduce IntOp.andi x v reducesTo_S4096x512_S_d0_1 h_S_) main_v10 main_c_1
  let main_v12 : IVec S_ 1 := andi main_v5 main_v11
  let main_v13 : FVec F S1x512 .f32 := Host.absf main_arg2
  let main_cst_2 : FVec F S_ .f32 := constant S_ .f32 0x7F800000#32
  let main_v14 : FVec F S1x512 .f32 := broadcastInDim S1x512 ![] bcast_S_S1x512 main_cst_2
  let main_v15 : IVec S1x512 1 := cmpf .olt main_v13 main_v14
  let main_c_3 : IVec S_ 1 := constantI S_ 1 1#1
  let main_v16 : IVec S_ 1 := (fun x v => Host.reduce IntOp.andi x v reducesTo_S1x512_S_d0_1 h_S_) main_v15 main_c_3
  let main_v17 : IVec S_ 1 := andi main_v12 main_v16
  fn_part1 (F := F) main_arg3 main_arg4 main_v17
-- ==== Pre_finite3.lean ====
abbrev S4096x512 : Shape := ⟨2, ![4096, 512]⟩
abbrev S3584x1024 : Shape := ⟨2, ![3584, 1024]⟩
abbrev S4096x1024 : Shape := ⟨2, ![4096, 1024]⟩
abbrev S1x1024 : Shape := ⟨2, ![1, 1024]⟩
abbrev S4096x3584 : Shape := ⟨2, ![4096, 3584]⟩
abbrev S_ : Shape := ⟨0, ![]⟩

class Facts : Prop where
  concatenates_S4096x512_S4096x512_S4096x512_S4096x512_S4096x512_S4096x512_S4096x512_S4096x3584_d1 : Shape.Concatenates [S4096x512, S4096x512, S4096x512, S4096x512, S4096x512, S4096x512, S4096x512] S4096x3584 1
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S3584x1024 : S_.BroadcastsInDim S3584x1024 (![] : Fin 0 → Fin S3584x1024.rank)
  reducesTo_S3584x1024_S_d0_1 : S3584x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg11 : FVec F S1x1024 .f32) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S1x1024 .f32 := Host.absf main_arg11
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S4096x512 .bf16) (main_arg5 : FVec F S4096x512 .bf16) (main_arg6 : FVec F S4096x512 .bf16) (main_arg7 : FVec F S3584x1024 .bf16) (main_arg8 : FVec F S4096x1024 .f32) (main_arg9 : FVec F S4096x1024 .f32) (main_arg10 : FVec F S1x1024 .f32) (main_arg11 : FVec F S1x1024 .f32) (main_arg12 : FVec F S1x1024 .f32) : IVec S_ 1 :=
  let main_v0 : FVec F S4096x3584 .bf16 := concatenate S4096x3584 1 [⟨S4096x512, main_arg0⟩, ⟨S4096x512, main_arg1⟩, ⟨S4096x512, main_arg2⟩, ⟨S4096x512, main_arg3⟩, ⟨S4096x512, main_arg4⟩, ⟨S4096x512, main_arg5⟩, ⟨S4096x512, main_arg6⟩] concatenates_S4096x512_S4096x512_S4096x512_S4096x512_S4096x512_S4096x512_S4096x512_S4096x3584_d1
  let main_v1 : FVec F S4096x3584 .f32 := (extf .f32 · bitsLt_bf16_f32) main_v0
  let main_v2 : FVec F S4096x3584 .f32 := Host.absf main_v1
  let main_cst : FVec F S_ .f32 := constant S_ .f32 0x7F800000#32
  let main_v3 : FVec F S4096x3584 .f32 := broadcastInDim S4096x3584 ![] bcast_S_S4096x3584 main_cst
  let main_v4 : IVec S4096x3584 1 := cmpf .olt main_v2 main_v3
  let main_c : IVec S_ 1 := constantI S_ 1 1#1
  let main_v5 : IVec S_ 1 := (fun x v => Host.reduce IntOp.andi x v reducesTo_S4096x3584_S_d0_1 h_S_) main_v4 main_c
  let main_v6 : FVec F S3584x1024 .f32 := (extf .f32 · bitsLt_bf16_f32) main_arg7
  let main_v7 : FVec F S3584x1024 .f32 := Host.absf main_v6
  let main_cst_0 : FVec F S_ .f32 := constant S_ .f32 0x7F800000#32
  let main_v8 : FVec F S3584x1024 .f32 := broadcastInDim S3584x1024 ![] bcast_S_S3584x1024 main_cst_0
  let main_v9 : IVec S3584x1024 1 := cmpf .olt main_v7 main_v8
  let main_c_1 : IVec S_ 1 := constantI S_ 1 1#1
  let main_v10 : IVec S_ 1 := (fun x v => Host.reduce IntOp.andi x v reducesTo_S3584x1024_S_d0_1 h_S_) main_v9 main_c_1
  let main_v11 : IVec S_ 1 := andi main_v5 main_v10
  let main_v12 : FVec F S4096x1024 .f32 := Host.absf main_arg8
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v11 main_v15
  let main_v17 : FVec F S1x1024 .f32 := Host.absf main_arg10
  fn_part1 (F := F) main_arg11 main_v16 main_v17
-- ==== Pre_finite5.lean ====
abbrev S4096x1024 : Shape := ⟨2, ![4096, 1024]⟩
abbrev S1x1024 : Shape := ⟨2, ![1, 1024]⟩
abbrev S3584x1024 : Shape := ⟨2, ![3584, 1024]⟩
abbrev S1x64 : Shape := ⟨2, ![1, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S3584x1024 : S_.BroadcastsInDim S3584x1024 (![] : Fin 0 → Fin S3584x1024.rank)
  reducesTo_S3584x1024_S_d0_1 : S3584x1024.ReducesTo [0, 1] S_

variable [Facts]

def fn_part1 {F : FTy → Type} [FloatOps F] (main_arg4 : FVec F S3584x1024 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S3584x1024 .f32 := (extf .f32 · bitsLt_bf16_f32) main_arg4
  let main_v20 : FVec F S3584x1024 .f32 := Host.absf main_v19
  let main_cst_6 : FVec F S_ .f32 := constant S_ .f32 0x7F800000#32
  let main_v21 : FVec F S3584x1024 .f32 := broadcastInDim S3584x1024 ![] bcast_S_S3584x1024 main_cst_6
  let main_v22 : IVec S3584x1024 1 := cmpf .olt main_v20 main_v21
  let main_c_7 : IVec S_ 1 := constantI S_ 1 1#1
  let main_v23 : IVec S_ 1 := (fun x v => Host.reduce IntOp.andi x v reducesTo_S3584x1024_S_d0_1 h_S_) main_v22 main_c_7
  let main_v24 : IVec S_ 1 := andi main_v18 main_v23
  main_v24

def fn {F : FTy → Type} [FloatOps F] (main_arg0 : FVec F S4096x1024 .f32) (main_arg1 : FVec F S1x1024 .f32) (main_arg2 : FVec F S1x1024 .f32) (main_arg3 : FVec F S1x1024 .f32) (main_arg4 : FVec F S3584x1024 .bf16) (main_arg5 : FVec F S1x64 .f32) (main_arg6 : FVec F S1x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_finite6.lean ====
abbrev S4096x3584 : Shape := ⟨2, ![4096, 3584]⟩
abbrev S4096x512 : Shape := ⟨2, ![4096, 512]⟩
abbrev S1x64 : Shape := ⟨2, ![1, 64]⟩
abbrev S4096x1024 : Shape := ⟨2, ![4096, 1024]⟩
abbrev S_ : Shape := ⟨0, ![]⟩

class Facts : Prop where
  slices_S4096x3584_S4096x1024_0_1536 : S4096x3584.Slices ![0, 1536] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg5 : FVec F S1x64 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S1x64 .f32 := Host.absf main_arg5
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_c_7 : IVec S_ 1 := constantI S_ 1 1#1
  let main_v24 : IVec S_ 1 := (fun x v => Host.reduce IntOp.andi x v reducesTo_S1x64_S_d0_1 h_S_) main_v23 main_c_7
  let main_v25 : IVec S_ 1 := andi main_v20 main_v24
  main_v25

def fn {F : FTy → Type} [FloatOps F] (main_arg0 : FVec F S4096x3584 .bf16) (main_arg1 : FVec F S4096x512 .f32) (main_arg2 : FVec F S4096x512 .f32) (main_arg3 : FVec F S4096x512 .f32) (main_arg4 : FVec F S1x64 .f32) (main_arg5 : FVec F S1x64 .f32) : IVec S_ 1 :=
  let main_v0 : FVec F S4096x1024 .bf16 := (extractStridedSlice S4096x1024 ![0, 1536] · slices_S4096x3584_S4096x1024_0_1536) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S4096x512 .f32 := Host.absf main_arg1
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v5 main_v9
  let main_v11 : FVec F S4096x512 .f32 := Host.absf main_arg2
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : IVec S_ 1 := andi main_v10 main_v14
  let main_v16 : FVec F S1x64 .f32 := Host.absf main_arg4
  let main_cst_4 : FVec F S_ .f32 := constant S_ .f32 0x7F800000#32
  fn_part1 (F := F) main_arg5 main_v15 main_v16 main_cst_4
-- ==== Pre_finite8.lean ====
abbrev S256x1024 : Shape := ⟨2, ![256, 1024]⟩
abbrev S256x512 : Shape := ⟨2, ![256, 512]⟩
abbrev S1x64 : Shape := ⟨2, ![1, 64]⟩
abbrev S_ : Shape := ⟨0, ![]⟩

class Facts : Prop where
  slices_S256x1024_S256x512_0_0 : S256x1024.Slices ![0, 0] S256x512
  bitsLt_bf16_f32 : FTy.bits .bf16 < FTy.bits .f32
  bcast_S_S256x512 : S_.BroadcastsInDim S256x512 (![] : Fin 0 → Fin S256x512.rank)
  reducesTo_S256x512_S_d0_1 : S256x512.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S256x1024 .bf16) (main_arg1 : FVec F S256x512 .f32) (main_arg2 : FVec F S256x512 .f32) (main_arg3 : FVec F S1x64 .f32) : IVec S_ 1 :=
  let main_v0 : FVec F S256x512 .bf16 := (extractStridedSlice S256x512 ![0, 0] · slices_S256x1024_S256x512_0_0) main_arg0
  let main_v1 : FVec F S256x512 .f32 := (extf .f32 · bitsLt_bf16_f32) main_v0
  let main_v2 : FVec F S256x512 .f32 := Host.absf main_v1
  let main_cst : FVec F S_ .f32 := constant S_ .f32 0x7F800000#32
  let main_v3 : FVec F S256x512 .f32 := broadcastInDim S256x512 ![] bcast_S_S256x512 main_cst
  let main_v4 : IVec S256x512 1 := cmpf .olt main_v2 main_v3
  let main_c : IVec S_ 1 := constantI S_ 1 1#1
  let main_v5 : IVec S_ 1 := (fun x v => Host.reduce IntOp.andi x v reducesTo_S256x512_S_d0_1 h_S_) main_v4 main_c
  let main_v6 : FVec F S256x512 .f32 := Host.absf main_arg1
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v5 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  main_v15
-- ==== Kernel.lean ====
abbrev S4096x3584 : Shape := ⟨2, ![4096, 3584]⟩
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S_ : Shape := ⟨0, ![]⟩
abbrev S8x128 : Shape := ⟨2, ![8, 128]⟩
abbrev S4x128x128 : Shape := ⟨3, ![4, 128, 128]⟩
abbrev S4x128 : Shape := ⟨2, ![4, 128]⟩
abbrev S4x128x1 : Shape := ⟨3, ![4, 128, 1]⟩
abbrev S4096x512 : Shape := ⟨2, ![4096, 512]⟩
abbrev S4x8x128 : Shape := ⟨3, ![4, 8, 128]⟩
abbrev S512x512 : Shape := ⟨2, ![512, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x8x128 : Shape := ⟨3, ![1, 8, 128]⟩

abbrev nBuf : Space → Nat
  | .hbm => 18
  | .vmem => 22
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S1x512, .f32⟩
  | .hbm, ⟨3, _⟩ => ⟨S1x4x128x128, .f32⟩
  | .hbm, ⟨4, _⟩ => ⟨S1x4x128, .f32⟩
  | .hbm, ⟨5, _⟩ => ⟨S_, .bf16⟩
  | .hbm, ⟨6, _⟩ => ⟨S8x128, .bf16⟩
  | .hbm, ⟨7, _⟩ => ⟨S4x128x128, .f32⟩
  | .hbm, ⟨8, _⟩ => ⟨S4x128x128, .f32⟩
  | .hbm, ⟨9, _⟩ => ⟨S4x128, .f32⟩
  | .hbm, ⟨10, _⟩ => ⟨S4x128x1, .f32⟩
  | .hbm, ⟨11, _⟩ => ⟨S4x128x128, .f32⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4x128x128, .f32⟩
  | .hbm, ⟨16, _⟩ => ⟨S4x8x128, .f32⟩
  | .hbm, ⟨17, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S8x128, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S4x128x128, .f32⟩
  | .local _ .vmem, ⟨20, _⟩ => ⟨S4x8x128, .f32⟩
  | .local _ .vmem, ⟨21, _⟩ => ⟨S1x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "rsqrt_two" => some (((Real.sqrt 2)⁻¹ : ℝ) : EReal)
  | "rsqrt_two_pi" => some (((Real.sqrt (2 * Real.pi))⁻¹ : ℝ) : EReal)
  | _ => none
-- ==== ReferenceIdeal.lean ====
abbrev S4096x3584 : Shape := ⟨2, ![4096, 3584]⟩
abbrev S4096x1024 : Shape := ⟨2, ![4096, 1024]⟩
abbrev S1x512 : Shape := ⟨2, ![1, 512]⟩
abbrev S1x4x128x128 : Shape := ⟨4, ![1, 4, 128, 128]⟩
abbrev S1x4x128 : Shape := ⟨3, ![1, 4, 128]⟩
abbrev S4096x1536 : Shape := ⟨2, ![4096, 1536]⟩
abbrev S1x4096x1536 : Shape := ⟨3, ![1, 4096, 1536]⟩
abbrev S1x4096x512 : Shape := ⟨3, ![1, 4096, 512]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S1x32x128x4x128 : Shape := ⟨5, ![1, 32, 128, 4, 128]⟩
abbrev S1x32x128x4 : Shape := ⟨4, ![1, 32, 128, 4]⟩
abbrev S1x32x128x4x1 : Shape := ⟨5, ![1, 32, 128, 4, 1]⟩
abbrev S1x1x1x4x128 : Shape := ⟨5, ![1, 1, 1, 4, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S32x128x4 : Shape := ⟨3, ![32, 128, 4]⟩
abbrev S4x1x128 : Shape := ⟨3, ![4, 1, 128]⟩
abbrev S4x8x128 : Shape := ⟨3, ![4, 8, 128]⟩

abbrev nBuf : Space → Nat
  | .hbm => 181
  | .vmem => 0
  | .smem => 0
  | _ => 0

abbrev hbmTy0_0 (i : Nat) : BufTy := match i % 128 with
  | 0 => ⟨S4096x3584, .bf16⟩
  | 1 => ⟨S4096x1024, .bf16⟩
  | 2 => ⟨S1x512, .f32⟩
  | 3 => ⟨S1x4x128x128, .f32⟩
  | 4 => ⟨S1x4x128, .f32⟩
  | 5 => ⟨S4096x1536, .bf16⟩
  | 6 => ⟨S1x4096x1536, .bf16⟩
  | 7 => ⟨S1x4096x1536, .f32⟩
  | 8 => ⟨S1x4096x512, .f32⟩
  | 9 => ⟨S1x4096x512, .f32⟩
  | 10 => ⟨S1x4096x512, .f32⟩
  | 11 => ⟨S4096x512, .bf16⟩
  | 12 => ⟨S1x4096x512, .bf16⟩
  | 13 => ⟨S1x4096x512, .f32⟩
  | 14 => ⟨S512, .f32⟩
  | 15 => ⟨S4x128x128, .f32⟩
  | 16 => ⟨S4x128, .f32⟩
  | 17 => ⟨S_, .f32⟩
  | 18 => ⟨S1x4096x512, .f32⟩
  | 19 => ⟨S1x4096x512, .f32⟩
  | 20 => ⟨S1x4096x512, .f32⟩
  | 21 => ⟨S_, .f32⟩
  | 22 => ⟨S_, .f32⟩
  | 23 => ⟨S1x4096x512, .f32⟩
  | 24 => ⟨S1x4096x512, .f32⟩
  | 25 => ⟨S_, .f32⟩
  | 26 => ⟨S_, .f32⟩
  | 27 => ⟨S_, .f32⟩
  | 28 => ⟨S1x4096x512, .f32⟩
  | 29 => ⟨S_, .f32⟩
  | 30 => ⟨S_, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S_, .f32⟩
  | 38 => ⟨S1x4096x512, .f32⟩
  | 39 => ⟨S1x4096x512, .f32⟩
  | 40 => ⟨S1x4096x512, .f32⟩
  | 41 => ⟨S_, .f32⟩
  | 42 => ⟨S_, .f32⟩
  | 43 => ⟨S1x4096x512, .f32⟩
  | 44 => ⟨S1x4096x512, .f32⟩
  | 45 => ⟨S_, .f32⟩
  | 46 => ⟨S_, .f32⟩
  | 47 => ⟨S_, .f32⟩
  | 48 => ⟨S1x4096x512, .f32⟩
  | 49 => ⟨S_, .f32⟩
  | 50 => ⟨S_, .f32⟩
  | 51 => ⟨S1x4096x512, .f32⟩
  | 52 => ⟨S1x4096x512, .f32⟩
  | 53 => ⟨S1x4096x512, .f32⟩
  | 54 => ⟨S1x4096x512, .f32⟩
  | 55 => ⟨S1x4096x512, .f32⟩
  | 56 => ⟨S1x4096x512, .f32⟩
  | 57 => ⟨S1x32x128x4x128, .f32⟩
  | 58 => ⟨S4x128, .f32⟩
  | 59 => ⟨S1x32x128x4x128, .f32⟩
  | 60 => ⟨S_, .f32⟩
  | 61 => ⟨S1x32x128x4, .f32⟩
  | 62 => ⟨S1x32x128x4x1, .f32⟩
  | 63 => ⟨S_, .f32⟩
  | 64 => ⟨S1x32x128x4x1, .f32⟩
  | 65 => ⟨S1x32x128x4x1, .f32⟩
  | 66 => ⟨S_, .f32⟩
  | 67 => ⟨S1x32x128x4x1, .f32⟩
  | 68 => ⟨S1x32x128x4x1, .f32⟩
  | 69 => ⟨S1x32x128x4x1, .f32⟩
  | 70 => ⟨S1x32x128x4x1, .f32⟩
  | 71 => ⟨S_, .f32⟩
  | 72 => ⟨S1x32x128x4x1, .f32⟩
  | 73 => ⟨S1x32x128x4x1, .f32⟩
  | 74 => ⟨S1x32x128x4x128, .f32⟩
  | 75 => ⟨S1x32x128x4x128, .f32⟩
  | 76 => ⟨S1x1x1x4x128, .f32⟩
  | 77 => ⟨S1x32x128x4x128, .f32⟩
  | 78 => ⟨S1x32x128x4x128, .f32⟩
  | 79 => ⟨S4x1x32x128x128, .f32⟩
  | 80 => ⟨S1x32x128x4x128, .f32⟩
  | 81 => ⟨S128x4, .f32⟩
  | 82 => ⟨S128x4x1, .f32⟩
  | 83 => ⟨S1x1x128x4x1, .f32⟩
  | 84 => ⟨S1x32x128x4x128, .f32⟩
  | 85 => ⟨S1x32x128x4x128, .f32⟩
  | 86 => ⟨S1x4096x512, .f32⟩
  | 87 => ⟨S1x4096x512, .f32⟩
  | 88 => ⟨S1x4096x512, .f32⟩
  | 89 => ⟨S1x4096x512, .f32⟩
  | 90 => ⟨S_, .f32⟩
  | 91 => ⟨S1x4096x512, .f32⟩
  | 92 => ⟨S1x4096x512, .f32⟩
  | 93 => ⟨S_, .f32⟩
  | 94 => ⟨S1x4096x512, .f32⟩
  | 95 => ⟨S1x4096x512, .f32⟩
  | 96 => ⟨S_, .f32⟩
  | 97 => ⟨S1x4096x512, .f32⟩
  | 98 => ⟨S1x4096x512, .f32⟩
  | 99 => ⟨S1x4096x512, .f32⟩
  | 100 => ⟨S1x4096x512, .f32⟩
  | 101 => ⟨S1x4096x512, .f32⟩
  | 102 => ⟨S1x4096x512, .f32⟩
  | 103 => ⟨S1x4096x512, .f32⟩
  | 104 => ⟨S1x4096x512, .f32⟩
  | 105 => ⟨S1x4096x512, .f32⟩
  | 106 => ⟨S1x4096x512, .f32⟩
  | 107 => ⟨S1x4096x512, .f32⟩
  | 108 => ⟨S1x4096x512, .f32⟩
  | 109 => ⟨S1x4096x512, .f32⟩
  | 110 => ⟨S1x32x128x4x128, .f32⟩
  | 111 => ⟨S_, .f32⟩
  | 112 => ⟨S1x128x4, .f32⟩
  | 113 => ⟨S1x1x128x4x1, .f32⟩
  | 114 => ⟨S_, .f32⟩
  | 115 => ⟨S128x4, .f32⟩
  | 116 => ⟨S128x4x1, .f32⟩
  | 117 => ⟨S_, .f32⟩
  | 118 => ⟨S128x4, .f32⟩
  | 119 => ⟨S4x128, .f32⟩
  | 120 => ⟨S4x1x32x128x128, .f32⟩
  | 121 => ⟨S4x128x128, .f32⟩
  | 122 => ⟨S4x1x32x128x128, .f32⟩
  | 123 => ⟨S1x32x128x4x128, .f32⟩
  | 124 => ⟨S1x32x128x4x128, .f32⟩
  | 125 => ⟨S_, .f32⟩
  | 126 => ⟨S1x4x128, .f32⟩
  | 127 => ⟨S1x1x1x4x128, .f32⟩
  | _ => ⟨S4096x3584, .bf16⟩

abbrev hbmTy0_1 (i : Nat) : BufTy := match i % 128 with
  | 0 => ⟨S1x32x128x4x128, .f32⟩
  | 1 => ⟨S1x32x128x4x128, .f32⟩
  | 2 => ⟨S_, .f32⟩
  | 3 => ⟨S4x128, .f32⟩
  | 4 => ⟨S1x32x128x4x128, .f32⟩
  | 5 => ⟨S_, .f32⟩
  | 6 => ⟨S1x32x128x4, .f32⟩
  | 7 => ⟨S1x32x128x4x1, .f32⟩
  | 8 => ⟨S1x32x128x4x128, .f32⟩
  | 9 => ⟨S1x32x128x4x128, .f32⟩
  | 10 => ⟨S1x32x128x4x1, .f32⟩
  | 11 => ⟨S_, .f32⟩
  | 12 => ⟨S1x32x128x4x1, .f32⟩
  | 13 => ⟨S1x32x128x4x1, .f32⟩
  | 14 => ⟨S_, .f32⟩
  | 15 => ⟨S32x128x4, .f32⟩
  | 16 => ⟨S1x32x128x4, .f32⟩
  | 17 => ⟨S1x32x128x4x128, .f32⟩
  | 18 => ⟨S1x32x128x4x128, .f32⟩
  | 19 => ⟨S1x32x128x4x128, .f32⟩
  | 20 => ⟨S1x32x128x4x128, .f32⟩
  | 21 => ⟨S1x32x128x4x128, .f32⟩
  | 22 => ⟨S512, .f32⟩
  | 23 => ⟨S1x4096x512, .f32⟩
  | 24 => ⟨S1x4096x512, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S_, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S1x4096x512, .f32⟩
  | 38 => ⟨S1x4096x512, .f32⟩
  | 39 => ⟨S1x4096x512, .f32⟩
  | 40 => ⟨S_, .f32⟩
  | 41 => ⟨S1x4096x512, .f32⟩
  | 42 => ⟨S1x4096x512, .f32⟩
  | 43 => ⟨S1x4096x512, .f32⟩
  | 44 => ⟨S4096x512, .f32⟩
  | 45 => ⟨S4096x512, .bf16⟩
  | 46 => ⟨S4096x512, .f32⟩
  | 47 => ⟨S4096x512, .bf16⟩
  | 48 => ⟨S4096x512, .f32⟩
  | 49 => ⟨S4096x512, .bf16⟩
  | 50 => ⟨S4x1x128, .f32⟩
  | 51 => ⟨S4x8x128, .f32⟩
  | 52 => ⟨S1x512, .f32⟩
  | _ => ⟨S4096x3584, .bf16⟩

abbrev hbmTy (i : Nat) : BufTy := match i / 128 with
  | 0 => hbmTy0_0 i
  | 1 => hbmTy0_1 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_v71_2 : Ref sig .tc := ⟨.hbm, 95, rfl⟩
abbrev main_call0_cst_1 : Ref sig .tc := ⟨.hbm, 96, rfl⟩
abbrev main_call0_v6 : Ref sig .tc := ⟨.hbm, 97, rfl⟩
abbrev main_call0_v7 : Ref sig .tc := ⟨.hbm, 98, rfl⟩
abbrev main_v71_1 : Ref sig .tc := ⟨.hbm, 99, rfl⟩
abbrev main_v71_0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_11 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_cst_13 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_15 : Ref sig .tc := ⟨.hbm, 130, rfl⟩
abbrev main_v94 : Ref sig .tc := ⟨.hbm, 131, rfl⟩
abbrev main_v95 : Ref sig .tc := ⟨.hbm, 132, rfl⟩
abbrev main_cst_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_17 : Ref sig .tc := ⟨.hbm, 139, rfl⟩
abbrev main_v101 : Ref sig .tc := ⟨.hbm, 140, rfl⟩
abbrev main_v102 : Ref sig .tc := ⟨.hbm, 141, rfl⟩
abbrev main_cst_18 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_20 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S1x128 : Shape := ⟨2, ![1, 128]⟩
abbrev S512x1024 : Shape := ⟨2, ![512, 1024]⟩
abbrev S512x512 : Shape := ⟨2, ![512, 512]⟩
abbrev S1024 : Shape := ⟨1, ![1024]⟩
abbrev S1 : Shape := ⟨1, ![1]⟩
abbrev S1x1 : Shape := ⟨2, ![1, 1]⟩

abbrev nBuf : Space → Nat
  | .hbm => 11
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S1x1024, .f32⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x128, .f32⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_44 : BitVec 32 := 0#32
  let v61 : BitVec 1 := Scalar.cmpi .ne v60 c0_i32_44
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S1024 : Shape := ⟨1, ![1024]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S1x1024, .f32⟩
  | .hbm, ⟨5, _⟩ => ⟨S1024x1024, .bf16⟩
  | .hbm, ⟨6, _⟩ => ⟨S4096x512, .f32⟩
  | .hbm, ⟨7, _⟩ => ⟨S4096x512, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S1024x1024, .f32⟩
  | .hbm, ⟨44, _⟩ => ⟨S1024x1024, .f32⟩
  | .hbm, ⟨45, _⟩ => ⟨S4096x1024, .f32⟩
  | .hbm, ⟨46, _⟩ => ⟨S4096x512, .f32⟩
  | .hbm, ⟨47, _⟩ => ⟨S4096x512, .f32⟩
  | .hbm, ⟨48, _⟩ => ⟨S4096x1024, .f32⟩
  | .hbm, ⟨49, _⟩ => ⟨S4096x1024, .bf16⟩
  | .hbm, ⟨50, _⟩ => ⟨S1024x1024, .bf16⟩
  | .hbm, ⟨51, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel3.lean ====
abbrev S4096x512 : Shape := ⟨2, ![4096, 512]⟩
abbrev S3584x1024 : Shape := ⟨2, ![3584, 1024]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 17
  | .vmem => 27
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S3584x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S3584x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3584x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S4096x512 : Shape := ⟨2, ![4096, 512]⟩
abbrev S3584x1024 : Shape := ⟨2, ![3584, 1024]⟩
abbrev S4096x1024 : Shape := ⟨2, ![4096, 1024]⟩
abbrev S1x1024 : Shape := ⟨2, ![1, 1024]⟩
abbrev S1024 : Shape := ⟨1, ![1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S3584x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1024x3584, .bf16⟩
  | .hbm, ⟨15, _⟩ => ⟨S1024x3584, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x3584, .f32⟩
  | .hbm, ⟨44, _⟩ => ⟨S4096x3584, .bf16⟩
  | .hbm, ⟨45, _⟩ => ⟨S4096x3584, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S1x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩
abbrev S1024x3584 : Shape := ⟨2, ![1024, 3584]⟩
abbrev S512x1024 : Shape := ⟨2, ![512, 1024]⟩
abbrev S512x512 : Shape := ⟨2, ![512, 512]⟩
abbrev S1024x256 : Shape := ⟨2, ![1024, 256]⟩
abbrev S1024x512 : Shape := ⟨2, ![1024, 512]⟩

abbrev nBuf : Space → Nat
  | .hbm => 12
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S256x1024, .bf16⟩
  | .hbm, ⟨9, _⟩ => ⟨S256x512, .bf16⟩
  | .hbm, ⟨10, _⟩ => ⟨S256x512, .bf16⟩
  | .hbm, ⟨11, _⟩ => ⟨S1024x3584, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S256x1024, .bf16⟩
  | .local _ .vmem, ⟨17, _⟩ => ⟨S256x512, .bf16⟩
  | .local _ .vmem, ⟨18, _⟩ => ⟨S256x512, .bf16⟩
  | .local _ .vmem, ⟨19, _⟩ => ⟨S1024x3584, .bf16⟩
  | .local _ .vmem, ⟨20, _⟩ => ⟨S1024x3584, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v54 : BitVec 1 := Scalar.cmpi .eq arg0 c7_i32
  let v55 : BitVec 32 := Scalar.extui v54
  let c0_i32_44 : BitVec 32 := 0#32
  let v56 : BitVec 1 := Scalar.cmpi .ne v55 c0_i32_44
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩
abbrev S4096x3584 : Shape := ⟨2, ![4096, 3584]⟩
abbrev S1024x1024 : Shape := ⟨2, ![1024, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S256x1024, .bf16⟩
  | .hbm, ⟨9, _⟩ => ⟨S256x512, .bf16⟩
  | .hbm, ⟨10, _⟩ => ⟨S256x512, .bf16⟩
  | .hbm, ⟨11, _⟩ => ⟨S4096x1024, .f32⟩
  | .hbm, ⟨12, _⟩ => ⟨S256x1024, .f32⟩
  | .hbm, ⟨13, _⟩ => ⟨S4096x3584, .bf16⟩
  | .hbm, ⟨14, _⟩ => ⟨S4096x3584, .f32⟩
  | .hbm, ⟨15, _⟩ => ⟨S256x512, .f32⟩
  | .hbm, ⟨16, _⟩ => ⟨S256x512, .f32⟩
  | .hbm, ⟨17, _⟩ => ⟨S256x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x3584, .f32⟩
  | .hbm, ⟨22, _⟩ => ⟨S3584x1024, .f32⟩
  | .hbm, ⟨23, _⟩ => ⟨S1024x3584, .f32⟩
  | .hbm, ⟨24, _⟩ => ⟨S1024x3584, .f32⟩
  | .hbm, ⟨25, _⟩ => ⟨S1024x3584, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S3584x1024 : Shape := ⟨2, ![3584, 1024]⟩
abbrev S1x64 : Shape := ⟨2, ![1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S4096x3584 : Shape := ⟨2, ![4096, 3584]⟩
abbrev S4096x512 : Shape := ⟨2, ![4096, 512]⟩
abbrev S512x1024 : Shape := ⟨2, ![512, 1024]⟩
abbrev S512x3584 : Shape := ⟨2, ![512, 3584]⟩
abbrev S512 : Shape := ⟨1, ![512]⟩
abbrev S512x1 : Shape := ⟨2, ![512, 1]⟩

abbrev nBuf : Space → Nat
  | .hbm => 24
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3584x1024, .bf16⟩
  | .hbm, ⟨5, _⟩ => ⟨S1x64, .f32⟩
  | .hbm, ⟨6, _⟩ => ⟨S1x64, .f32⟩
  | .hbm, ⟨7, _⟩ => ⟨S8x1x8x1, .i32⟩
  | .hbm, ⟨8, _⟩ => ⟨S8x1x8x1, .i32⟩
  | .hbm, ⟨9, _⟩ => ⟨S8x1x8x1, .i1⟩
  | .hbm, ⟨10, _⟩ => ⟨S8x64x8x64, .i1⟩
  | .hbm, ⟨11, _⟩ => ⟨S512x512, .i1⟩
  | .hbm, ⟨12, _⟩ => ⟨S512x512, .f32⟩
  | .hbm, ⟨13, _⟩ => ⟨S512x512, .bf16⟩
  | .hbm, ⟨14, _⟩ => ⟨S1x1x1x64, .f32⟩
  | .hbm, ⟨15, _⟩ => ⟨S1x1x8x64, .f32⟩
  | .hbm, ⟨16, _⟩ => ⟨S1x512, .f32⟩
  | .hbm, ⟨17, _⟩ => ⟨S1x1x1x64, .f32⟩
  | .hbm, ⟨18, _⟩ => ⟨S1x1x8x64, .f32⟩
  | .hbm, ⟨19, _⟩ => ⟨S1x512, .f32⟩
  | .hbm, ⟨20, _⟩ => ⟨S4096x1024, .bf16⟩
  | .hbm, ⟨21, _⟩ => ⟨S4096x3584, .bf16⟩
  | .hbm, ⟨22, _⟩ => ⟨S4096x512, .bf16⟩
  | .hbm, ⟨23, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3584x1024, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S512x3584, .bf16⟩
  | .local _ .vmem, ⟨12, _⟩ => ⟨S512x3584, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4096x1024 : Shape := ⟨2, ![4096, 1024]⟩
abbrev S1x1024 : Shape := ⟨2, ![1, 1024]⟩
abbrev S3584x1024 : Shape := ⟨2, ![3584, 1024]⟩
abbrev S1x64 : Shape := ⟨2, ![1, 64]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3584 : Shape := ⟨2, ![1024, 3584]⟩
abbrev S4096x3584 : Shape := ⟨2, ![4096, 3584]⟩
abbrev S4096x512 : Shape := ⟨2, ![4096, 512]⟩
abbrev S4096x8x64 : Shape := ⟨3, ![4096, 8, 64]⟩
abbrev S64 : Shape := ⟨1, ![64]⟩
abbrev S4096x8 : Shape := ⟨2, ![4096, 8]⟩
abbrev S4096x8x1 : Shape := ⟨3, ![4096, 8, 1]⟩
abbrev S1x1x64 : Shape := ⟨3, ![1, 1, 64]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3584x1024, .bf16⟩
  | .hbm, ⟨5, _⟩ => ⟨S1x64, .f32⟩
  | .hbm, ⟨6, _⟩ => ⟨S1x64, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x3584, .bf16⟩
  | .hbm, ⟨32, _⟩ => ⟨S1024x3584, .f32⟩
  | .hbm, ⟨33, _⟩ => ⟨S4096x3584, .f32⟩
  | .hbm, ⟨34, _⟩ => ⟨S4096x512, .f32⟩
  | .hbm, ⟨35, _⟩ => ⟨S4096x512, .f32⟩
  | .hbm, ⟨36, _⟩ => ⟨S4096x8x64, .f32⟩
  | .hbm, ⟨37, _⟩ => ⟨S64, .f32⟩
  | .hbm, ⟨38, _⟩ => ⟨S4096x8x64, .f32⟩
  | .hbm, ⟨39, _⟩ => ⟨S_, .f32⟩
  | .hbm, ⟨40, _⟩ => ⟨S4096x8, .f32⟩
  | .hbm, ⟨41, _⟩ => ⟨S4096x8x1, .f32⟩
  | .hbm, ⟨42, _⟩ => ⟨S_, .f32⟩
  | .hbm, ⟨43, _⟩ => ⟨S4096x8x1, .f32⟩
  | .hbm, ⟨44, _⟩ => ⟨S4096x8x1, .f32⟩
  | .hbm, ⟨45, _⟩ => ⟨S_, .f32⟩
  | .hbm, ⟨46, _⟩ => ⟨S4096x8x1, .f32⟩
  | .hbm, ⟨47, _⟩ => ⟨S4096x8x1, .f32⟩
  | .hbm, ⟨48, _⟩ => ⟨S4096x8x1, .f32⟩
  | .hbm, ⟨49, _⟩ => ⟨S4096x8x64, .f32⟩
  | .hbm, ⟨50, _⟩ => ⟨S4096x8x64, .f32⟩
  | .hbm, ⟨51, _⟩ => ⟨S1x1x64, .f32⟩
  | .hbm, ⟨52, _⟩ => ⟨S4096x8x64, .f32⟩
  | .hbm, ⟨53, _⟩ => ⟨S4096x8x64, .f32⟩
  | .hbm, ⟨54, _⟩ => ⟨S_, .f32⟩
  | .hbm, ⟨55, _⟩ => ⟨S4096x8x64, .f32⟩
  | .hbm, ⟨56, _⟩ => ⟨S4096x8x64, .f32⟩
  | .hbm, ⟨57, _⟩ => ⟨S4096x8x64, .f32⟩
  | .hbm, ⟨58, _⟩ => ⟨S64, .f32⟩
  | .hbm, ⟨59, _⟩ => ⟨S4096x8x64, .f32⟩
  | .hbm, ⟨60, _⟩ => ⟨S_, .f32⟩
  | .hbm, ⟨61, _⟩ => ⟨S4096x8, .f32⟩
  | .hbm, ⟨62, _⟩ => ⟨S4096x8x1, .f32⟩
  | .hbm, ⟨63, _⟩ => ⟨S_, .f32⟩
  | .hbm, ⟨64, _⟩ => ⟨S4096x8x1, .f32⟩
  | .hbm, ⟨65, _⟩ => ⟨S4096x8x1, .f32⟩
  | .hbm, ⟨66, _⟩ => ⟨S_, .f32⟩
  | .hbm, ⟨67, _⟩ => ⟨S4096x8x1, .f32⟩
  | .hbm, ⟨68, _⟩ => ⟨S4096x8x1, .f32⟩
  | .hbm, ⟨69, _⟩ => ⟨S4096x8x1, .f32⟩
  | .hbm, ⟨70, _⟩ => ⟨S4096x8x64, .f32⟩
  | .hbm, ⟨71, _⟩ => ⟨S4096x8x64, .f32⟩
  | .hbm, ⟨72, _⟩ => ⟨S1x1x64, .f32⟩
  | .hbm, ⟨73, _⟩ => ⟨S4096x8x64, .f32⟩
  | .hbm, ⟨74, _⟩ => ⟨S4096x8x64, .f32⟩
  | .hbm, ⟨75, _⟩ => ⟨S4096x1024, .bf16⟩
  | .hbm, ⟨76, _⟩ => ⟨S4096x3584, .bf16⟩
  | .hbm, ⟨77, _⟩ => ⟨S4096x512, .f32⟩
  | .hbm, ⟨78, _⟩ => ⟨S4096x512, .bf16⟩
  | .hbm, ⟨79, _⟩ => ⟨S4096x512, .f32⟩
  | .hbm, ⟨80, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel6.lean ====
abbrev S4096x3584 : Shape := ⟨2, ![4096, 3584]⟩
abbrev S4096x512 : Shape := ⟨2, ![4096, 512]⟩
abbrev S1x64 : Shape := ⟨2, ![1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S8x64x128 : Shape := ⟨3, ![8, 64, 128]⟩
abbrev S512x128 : Shape := ⟨2, ![512, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x128 : Shape := ⟨2, ![8, 128]⟩
abbrev S512 : Shape := ⟨1, ![512]⟩
abbrev S8x512 : Shape := ⟨2, ![8, 512]⟩

abbrev nBuf : Space → Nat
  | .hbm => 29
  | .vmem => 24
  | .smem => 0
  | _ => 0

abbrev bufTy : (tb : Table) → Fin (tcTables nBuf tb) → BufTy
  | .hbm, ⟨0, _⟩ => ⟨S4096x3584, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1x64, .f32⟩
  | .hbm, ⟨5, _⟩ => ⟨S1x64, .f32⟩
  | .hbm, ⟨6, _⟩ => ⟨S8x1x8x1, .i32⟩
  | .hbm, ⟨7, _⟩ => ⟨S8x1x8x1, .i32⟩
  | .hbm, ⟨8, _⟩ => ⟨S8x1x8x1, .i1⟩
  | .hbm, ⟨9, _⟩ => ⟨S8x64x8x64, .i1⟩
  | .hbm, ⟨10, _⟩ => ⟨S512x512, .i1⟩
  | .hbm, ⟨11, _⟩ => ⟨S512x512, .f32⟩
  | .hbm, ⟨12, _⟩ => ⟨S512x512, .bf16⟩
  | .hbm, ⟨13, _⟩ => ⟨S8x64x128, .i32⟩
  | .hbm, ⟨14, _⟩ => ⟨S8x64x128, .i32⟩
  | .hbm, ⟨15, _⟩ => ⟨S8x64x128, .i1⟩
  | .hbm, ⟨16, _⟩ => ⟨S512x128, .i1⟩
  | .hbm, ⟨17, _⟩ => ⟨S512x128, .f32⟩
  | .hbm, ⟨18, _⟩ => ⟨S1x1x1x64, .f32⟩
  | .hbm, ⟨19, _⟩ => ⟨S1x1x8x64, .f32⟩
  | .hbm, ⟨20, _⟩ => ⟨S1x512, .f32⟩
  | .hbm, ⟨21, _⟩ => ⟨S1x1x1x64, .f32⟩
  | .hbm, ⟨22, _⟩ => ⟨S1x1x8x64, .f32⟩
  | .hbm, ⟨23, _⟩ => ⟨S1x512, .f32⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S8x128, .f32⟩
  | .hbm, ⟨28, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S8x128, .f32⟩
  | .local _ .vmem, ⟨21, _⟩ => ⟨S8x128, .f32⟩
  | .local _ .vmem, ⟨22, _⟩ => ⟨S1x512, .f32⟩
  | .local _ .vmem, ⟨23, _⟩ => ⟨S1x512, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v102 : BitVec 1 := Scalar.cmpi .eq arg0 c7_i32
  let v103 : BitVec 32 := Scalar.extui v102
  let c0_i32_52 : BitVec 32 := 0#32
  let v104 : BitVec 1 := Scalar.cmpi .ne v103 c0_i32_52
  v104

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S4096x3584 : Shape := ⟨2, ![4096, 3584]⟩
abbrev S4096x512 : Shape := ⟨2, ![4096, 512]⟩
abbrev S1x64 : Shape := ⟨2, ![1, 64]⟩
abbrev S4096x8x64 : Shape := ⟨3, ![4096, 8, 64]⟩
abbrev S64 : Shape := ⟨1, ![64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S1x128 : Shape := ⟨2, ![1, 128]⟩
abbrev S8x128 : Shape := ⟨2, ![8, 128]⟩

abbrev nBuf : Space → Nat
  | .hbm => 131
  | .vmem => 0
  | .smem => 0
  | _ => 0

abbrev hbmTy0_0 (i : Nat) : BufTy := match i % 128 with
  | 0 => ⟨S4096x3584, .bf16⟩
  | 1 => ⟨S4096x512, .f32⟩
  | 2 => ⟨S4096x512, .f32⟩
  | 3 => ⟨S4096x512, .f32⟩
  | 4 => ⟨S1x64, .f32⟩
  | 5 => ⟨S1x64, .f32⟩
  | 6 => ⟨S4096x512, .bf16⟩
  | 7 => ⟨S4096x512, .f32⟩
  | 8 => ⟨S4096x512, .bf16⟩
  | 9 => ⟨S4096x512, .f32⟩
  | 10 => ⟨S4096x512, .bf16⟩
  | 11 => ⟨S4096x512, .f32⟩
  | 12 => ⟨S4096x8x64, .f32⟩
  | 13 => ⟨S64, .f32⟩
  | 14 => ⟨S4096x8x64, .f32⟩
  | 15 => ⟨S_, .f32⟩
  | 16 => ⟨S4096x8, .f32⟩
  | 17 => ⟨S4096x8x1, .f32⟩
  | 18 => ⟨S_, .f32⟩
  | 19 => ⟨S4096x8x1, .f32⟩
  | 20 => ⟨S4096x8x1, .f32⟩
  | 21 => ⟨S_, .f32⟩
  | 22 => ⟨S4096x8x1, .f32⟩
  | 23 => ⟨S4096x8x1, .f32⟩
  | 24 => ⟨S4096x8x1, .f32⟩
  | 25 => ⟨S4096x8x1, .f32⟩
  | 26 => ⟨S_, .f32⟩
  | 27 => ⟨S4096x8x1, .f32⟩
  | 28 => ⟨S4096x8x1, .f32⟩
  | 29 => ⟨S4096x8x64, .f32⟩
  | 30 => ⟨S4096x8x64, .f32⟩
  | 31 => ⟨S1x1x64, .f32⟩
  | 32 => ⟨S4096x8x64, .f32⟩
  | 33 => ⟨S4096x8x64, .f32⟩
  | 34 => ⟨S_, .f32⟩
  | 35 => ⟨S4096x8x64, .f32⟩
  | 36 => ⟨S4096x8x64, .f32⟩
  | 37 => ⟨S4096x8x64, .f32⟩
  | 38 => ⟨S64, .f32⟩
  | 39 => ⟨S4096x8x64, .f32⟩
  | 40 => ⟨S_, .f32⟩
  | 41 => ⟨S4096x8, .f32⟩
  | 42 => ⟨S4096x8x1, .f32⟩
  | 43 => ⟨S_, .f32⟩
  | 44 => ⟨S4096x8x1, .f32⟩
  | 45 => ⟨S4096x8x1, .f32⟩
  | 46 => ⟨S_, .f32⟩
  | 47 => ⟨S4096x8x1, .f32⟩
  | 48 => ⟨S4096x8x1, .f32⟩
  | 49 => ⟨S4096x8x1, .f32⟩
  | 50 => ⟨S4096x8x1, .f32⟩
  | 51 => ⟨S_, .f32⟩
  | 52 => ⟨S4096x8x1, .f32⟩
  | 53 => ⟨S4096x8x1, .f32⟩
  | 54 => ⟨S4096x8x64, .f32⟩
  | 55 => ⟨S4096x8x64, .f32⟩
  | 56 => ⟨S1x1x64, .f32⟩
  | 57 => ⟨S4096x8x64, .f32⟩
  | 58 => ⟨S4096x8x64, .f32⟩
  | 59 => ⟨S4096x512, .f32⟩
  | 60 => ⟨S4096x512, .f32⟩
  | 61 => ⟨S4096x8x64, .f32⟩
  | 62 => ⟨S4096x8x64, .f32⟩
  | 63 => ⟨S4096x8x64, .f32⟩
  | 64 => ⟨S_, .f32⟩
  | 65 => ⟨S64, .f32⟩
  | 66 => ⟨S1x1x64, .f32⟩
  | 67 => ⟨S4096x8x64, .f32⟩
  | 68 => ⟨S4096x8x64, .f32⟩
  | 69 => ⟨S_, .f32⟩
  | 70 => ⟨S64, .f32⟩
  | 71 => ⟨S4096x8x64, .f32⟩
  | 72 => ⟨S_, .f32⟩
  | 73 => ⟨S4096x8, .f32⟩
  | 74 => ⟨S4096x8x1, .f32⟩
  | 75 => ⟨S4096x8x64, .f32⟩
  | 76 => ⟨S4096x8x64, .f32⟩
  | 77 => ⟨S4096x8x1, .f32⟩
  | 78 => ⟨S_, .f32⟩
  | 79 => ⟨S4096x8x1, .f32⟩
  | 80 => ⟨S4096x8x1, .f32⟩
  | 81 => ⟨S_, .f32⟩
  | 82 => ⟨S4096x8, .f32⟩
  | 83 => ⟨S4096x8x64, .f32⟩
  | 84 => ⟨S4096x8x64, .f32⟩
  | 85 => ⟨S4096x8x64, .f32⟩
  | 86 => ⟨S4096x8x64, .f32⟩
  | 87 => ⟨S4096x8x64, .f32⟩
  | 88 => ⟨S1x64, .f32⟩
  | 89 => ⟨S4096x512, .f32⟩
  | 90 => ⟨S_, .f32⟩
  | 91 => ⟨S4096x8x64, .f32⟩
  | 92 => ⟨S4096x8x64, .f32⟩
  | 93 => ⟨S4096x8x64, .f32⟩
  | 94 => ⟨S_, .f32⟩
  | 95 => ⟨S64, .f32⟩
  | 96 => ⟨S1x1x64, .f32⟩
  | 97 => ⟨S4096x8x64, .f32⟩
  | 98 => ⟨S4096x8x64, .f32⟩
  | 99 => ⟨S_, .f32⟩
  | 100 => ⟨S64, .f32⟩
  | 101 => ⟨S4096x8x64, .f32⟩
  | 102 => ⟨S_, .f32⟩
  | 103 => ⟨S4096x8, .f32⟩
  | 104 => ⟨S4096x8x1, .f32⟩
  | 105 => ⟨S4096x8x64, .f32⟩
  | 106 => ⟨S4096x8x64, .f32⟩
  | 107 => ⟨S4096x8x1, .f32⟩
  | 108 => ⟨S_, .f32⟩
  | 109 => ⟨S4096x8x1, .f32⟩
  | 110 => ⟨S4096x8x1, .f32⟩
  | 111 => ⟨S_, .f32⟩
  | 112 => ⟨S4096x8, .f32⟩
  | 113 => ⟨S4096x8x64, .f32⟩
  | 114 => ⟨S4096x8x64, .f32⟩
  | 115 => ⟨S4096x8x64, .f32⟩
  | 116 => ⟨S4096x8x64, .f32⟩
  | 117 => ⟨S4096x8x64, .f32⟩
  | 118 => ⟨S1x64, .f32⟩
  | 119 => ⟨S4096x512, .f32⟩
  | 120 => ⟨S4096x512, .bf16⟩
  | 121 => ⟨S4096x512, .bf16⟩
  | 122 => ⟨S4096x512, .bf16⟩
  | 123 => ⟨S_, .f32⟩
  | 124 => ⟨S1x64, .f32⟩
  | 125 => ⟨S1x128, .f32⟩
  | 126 => ⟨S8x128, .f32⟩
  | 127 => ⟨S_, .f32⟩
  | _ => ⟨S4096x3584, .bf16⟩

abbrev hbmTy0_1 (i : Nat) : BufTy := match i % 128 with
  | 0 => ⟨S1x64, .f32⟩
  | 1 => ⟨S1x128, .f32⟩
  | 2 => ⟨S8x128, .f32⟩
  | _ => ⟨S4096x3584, .bf16⟩

abbrev hbmTy (i : Nat) : BufTy := match i / 128 with
  | 0 => hbmTy0_0 i
  | 1 => hbmTy0_1 i
  | _ => ⟨S4096x3584, .bf16⟩

abbrev bufTy : (tb : Table) → Fin (tcTables nBuf tb) → BufTy
  | .hbm, ⟨i, _⟩ => hbmTy i
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]
-- ==== Kernel7.lean ====
abbrev S256x512 : Shape := ⟨2, ![256, 512]⟩
abbrev S3584x1024 : Shape := ⟨2, ![3584, 1024]⟩
abbrev S256x1024 : Shape := ⟨2, ![256, 1024]⟩
abbrev S1x1024 : Shape := ⟨2, ![1, 1024]⟩
abbrev S1024x1024 : Shape := ⟨2, ![1024, 1024]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S3584x1024, .bf16⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S1024x1024, .bf16⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S256x512 : Shape := ⟨2, ![256, 512]⟩
abbrev S3584x1024 : Shape := ⟨2, ![3584, 1024]⟩
abbrev S256x1024 : Shape := ⟨2, ![256, 1024]⟩
abbrev S1x1024 : Shape := ⟨2, ![1, 1024]⟩
abbrev S1024 : Shape := ⟨1, ![1024]⟩
abbrev S1024x3584 : Shape := ⟨2, ![1024, 3584]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 54
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S3584x1024, .bf16⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1024x3584, .bf16⟩
  | .hbm, ⟨9, _⟩ => ⟨S1024x1024, .bf16⟩
  | .hbm, ⟨10, _⟩ => ⟨S1024x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .bf16⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S256x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel8.lean ====
abbrev S256x1024 : Shape := ⟨2, ![256, 1024]⟩
abbrev S256x512 : Shape := ⟨2, ![256, 512]⟩
abbrev S1x64 : Shape := ⟨2, ![1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S8x64x128 : Shape := ⟨3, ![8, 64, 128]⟩
abbrev S512x128 : Shape := ⟨2, ![512, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x128 : Shape := ⟨2, ![8, 128]⟩
abbrev S512 : Shape := ⟨1, ![512]⟩
abbrev S8x512 : Shape := ⟨2, ![8, 512]⟩

abbrev nBuf : Space → Nat
  | .hbm => 22
  | .vmem => 10
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S1x64, .f32⟩
  | .hbm, ⟨4, _⟩ => ⟨S8x1x8x1, .i32⟩
  | .hbm, ⟨5, _⟩ => ⟨S8x1x8x1, .i32⟩
  | .hbm, ⟨6, _⟩ => ⟨S8x1x8x1, .i1⟩
  | .hbm, ⟨7, _⟩ => ⟨S8x64x8x64, .i1⟩
  | .hbm, ⟨8, _⟩ => ⟨S512x512, .i1⟩
  | .hbm, ⟨9, _⟩ => ⟨S512x512, .f32⟩
  | .hbm, ⟨10, _⟩ => ⟨S512x512, .bf16⟩
  | .hbm, ⟨11, _⟩ => ⟨S8x64x128, .i32⟩
  | .hbm, ⟨12, _⟩ => ⟨S8x64x128, .i32⟩
  | .hbm, ⟨13, _⟩ => ⟨S8x64x128, .i1⟩
  | .hbm, ⟨14, _⟩ => ⟨S512x128, .i1⟩
  | .hbm, ⟨15, _⟩ => ⟨S512x128, .f32⟩
  | .hbm, ⟨16, _⟩ => ⟨S1x1x1x64, .f32⟩
  | .hbm, ⟨17, _⟩ => ⟨S1x1x8x64, .f32⟩
  | .hbm, ⟨18, _⟩ => ⟨S1x512, .f32⟩
  | .hbm, ⟨19, _⟩ => ⟨S256x512, .bf16⟩
  | .hbm, ⟨20, _⟩ => ⟨S256x512, .bf16⟩
  | .hbm, ⟨21, _⟩ => ⟨S8x128, .f32⟩
  | .local _ .vmem, ⟨0, _⟩ => ⟨S256x512, .bf16⟩
  | .local _ .vmem, ⟨1, _⟩ => ⟨S256x512, .f32⟩
  | .local _ .vmem, ⟨2, _⟩ => ⟨S256x512, .f32⟩
  | .local _ .vmem, ⟨3, _⟩ => ⟨S512x512, .bf16⟩
  | .local _ .vmem, ⟨4, _⟩ => ⟨S1x512, .f32⟩
  | .local _ .vmem, ⟨5, _⟩ => ⟨S512x128, .f32⟩
  | .local _ .vmem, ⟨6, _⟩ => ⟨S256x512, .bf16⟩
  | .local _ .vmem, ⟨7, _⟩ => ⟨S256x512, .bf16⟩
  | .local _ .vmem, ⟨8, _⟩ => ⟨S8x128, .f32⟩
  | .local _ .vmem, ⟨9, _⟩ => ⟨S1x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v15_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_27 : BitVec 32 := 0#32
  let v53 : BitVec 1 := Scalar.cmpi .eq arg0 c0_i32_27
  let v54 : BitVec 32 := Scalar.extui v53
  let c0_i32_28 : BitVec 32 := 0#32
  let v55 : BitVec 1 := Scalar.cmpi .ne v54 c0_i32_28
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S256x1024 : Shape := ⟨2, ![256, 1024]⟩
abbrev S256x512 : Shape := ⟨2, ![256, 512]⟩
abbrev S1x64 : Shape := ⟨2, ![1, 64]⟩
abbrev S256x8x64 : Shape := ⟨3, ![256, 8, 64]⟩
abbrev S64 : Shape := ⟨1, ![64]⟩
abbrev S_ : Shape := ⟨0, ![]⟩
abbrev S256x8 : Shape := ⟨2, ![256, 8]⟩
abbrev S256x8x1 : Shape := ⟨3, ![256, 8, 1]⟩
abbrev S1x1x64 : Shape := ⟨3, ![1, 1, 64]⟩
abbrev S1x128 : Shape := ⟨2, ![1, 128]⟩
abbrev S8x128 : Shape := ⟨2, ![8, 128]⟩

abbrev nBuf : Space → Nat
  | .hbm => 65
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S1x64, .f32⟩
  | .hbm, ⟨4, _⟩ => ⟨S256x512, .bf16⟩
  | .hbm, ⟨5, _⟩ => ⟨S256x512, .f32⟩
  | .hbm, ⟨6, _⟩ => ⟨S256x512, .bf16⟩
  | .hbm, ⟨7, _⟩ => ⟨S256x512, .f32⟩
  | .hbm, ⟨8, _⟩ => ⟨S256x8x64, .f32⟩
  | .hbm, ⟨9, _⟩ => ⟨S64, .f32⟩
  | .hbm, ⟨10, _⟩ => ⟨S256x8x64, .f32⟩
  | .hbm, ⟨11, _⟩ => ⟨S_, .f32⟩
  | .hbm, ⟨12, _⟩ => ⟨S256x8, .f32⟩
  | .hbm, ⟨13, _⟩ => ⟨S256x8x1, .f32⟩
  | .hbm, ⟨14, _⟩ => ⟨S_, .f32⟩
  | .hbm, ⟨15, _⟩ => ⟨S256x8x1, .f32⟩
  | .hbm, ⟨16, _⟩ => ⟨S256x8x1, .f32⟩
  | .hbm, ⟨17, _⟩ => ⟨S_, .f32⟩
  | .hbm, ⟨18, _⟩ => ⟨S256x8x1, .f32⟩
  | .hbm, ⟨19, _⟩ => ⟨S256x8x1, .f32⟩
  | .hbm, ⟨20, _⟩ => ⟨S256x8x1, .f32⟩
  | .hbm, ⟨21, _⟩ => ⟨S256x8x1, .f32⟩
  | .hbm, ⟨22, _⟩ => ⟨S_, .f32⟩
  | .hbm, ⟨23, _⟩ => ⟨S256x8x1, .f32⟩
  | .hbm, ⟨24, _⟩ => ⟨S256x8x1, .f32⟩
  | .hbm, ⟨25, _⟩ => ⟨S256x8x64, .f32⟩
  | .hbm, ⟨26, _⟩ => ⟨S256x8x64, .f32⟩
  | .hbm, ⟨27, _⟩ => ⟨S1x1x64, .f32⟩
  | .hbm, ⟨28, _⟩ => ⟨S256x8x64, .f32⟩
  | .hbm, ⟨29, _⟩ => ⟨S256x8x64, .f32⟩
  | .hbm, ⟨30, _⟩ => ⟨S256x512, .f32⟩
  | .hbm, ⟨31, _⟩ => ⟨S256x8x64, .f32⟩
  | .hbm, ⟨32, _⟩ => ⟨S256x8x64, .f32⟩
  | .hbm, ⟨33, _⟩ => ⟨S_, .f32⟩
  | .hbm, ⟨34, _⟩ => ⟨S64, .f32⟩
  | .hbm, ⟨35, _⟩ => ⟨S1x1x64, .f32⟩
  | .hbm, ⟨36, _⟩ => ⟨S256x8x64, .f32⟩
  | .hbm, ⟨37, _⟩ => ⟨S256x8x64, .f32⟩
  | .hbm, ⟨38, _⟩ => ⟨S_, .f32⟩
  | .hbm, ⟨39, _⟩ => ⟨S64, .f32⟩
  | .hbm, ⟨40, _⟩ => ⟨S256x8x64, .f32⟩
  | .hbm, ⟨41, _⟩ => ⟨S_, .f32⟩
  | .hbm, ⟨42, _⟩ => ⟨S256x8, .f32⟩
  | .hbm, ⟨43, _⟩ => ⟨S256x8x1, .f32⟩
  | .hbm, ⟨44, _⟩ => ⟨S256x8x64, .f32⟩
  | .hbm, ⟨45, _⟩ => ⟨S256x8x64, .f32⟩
  | .hbm, ⟨46, _⟩ => ⟨S256x8x1, .f32⟩
  | .hbm, ⟨47, _⟩ => ⟨S_, .f32⟩
  | .hbm, ⟨48, _⟩ => ⟨S256x8x1, .f32⟩
  | .hbm, ⟨49, _⟩ => ⟨S256x8x1, .f32⟩
  | .hbm, ⟨50, _⟩ => ⟨S_, .f32⟩
  | .hbm, ⟨51, _⟩ => ⟨S256x8, .f32⟩
  | .hbm, ⟨52, _⟩ => ⟨S256x8x64, .f32⟩
  | .hbm, ⟨53, _⟩ => ⟨S256x8x64, .f32⟩
  | .hbm, ⟨54, _⟩ => ⟨S256x8x64, .f32⟩
  | .hbm, ⟨55, _⟩ => ⟨S256x8x64, .f32⟩
  | .hbm, ⟨56, _⟩ => ⟨S256x8x64, .f32⟩
  | .hbm, ⟨57, _⟩ => ⟨S1x64, .f32⟩
  | .hbm, ⟨58, _⟩ => ⟨S256x512, .f32⟩
  | .hbm, ⟨59, _⟩ => ⟨S_, .f32⟩
  | .hbm, ⟨60, _⟩ => ⟨S1x64, .f32⟩
  | .hbm, ⟨61, _⟩ => ⟨S1x128, .f32⟩
  | .hbm, ⟨62, _⟩ => ⟨S8x128, .f32⟩
  | .hbm, ⟨63, _⟩ => ⟨S256x512, .bf16⟩
  | .hbm, ⟨64, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Project.Tile.lean ====
/-
  The output projection's gradient, one tile: what each of the three cases of the body (first tile, a tile between, the
  last tile) leaves in its output blocks and in the carried accumulator, as the body's own named terms of the blocks it
  was given, the accumulator's two half stores read at an index.
-/
module

public import proofs.«01_k».proof.Proof.Gen.Kernel2Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Tile

open Cert.Kernel2Ideal Cert.Kernel2Ideal.Gen

variable {F : FTy → Type} [FloatOps F]

theorem hz : (![0, 0] : Fin 2 → Nat) = fun _ => 0 := funext fun a => by fin_cases a <;> rfl

/-! ## The tile's terms -/

section Terms

variable (x t : Vec F S512x1024 .f32) (a b : Vec F S512x512 .bf16) (g : Vec F S1x1024 .f32) (w : Vec F S1024x1024 .bf16)

/-- The upper and lower 512 rows of the projection's weights. -/
abbrev wTop : Vec F S512x1024 .bf16 := View.ld w (Rect.unit ![0, 0] ![512, 1024] inb_S1024x1024_S512x1024_0_0)
abbrev wBot : Vec F S512x1024 .bf16 := View.ld w (Rect.unit ![512, 0] ![512, 1024] inb_S1024x1024_S512x1024_512_0)

/-- The tile's projected rows. -/
abbrev mix : FVec F S512x1024 .f32 := k0_pay5 a b (wTop w) (wBot w)

/-- The tile's residual: the gated step less the target. -/
abbrev resid : FVec F S512x1024 .f32 := k0_pay6 a b g (wTop w) (wBot w) x t

/-- The tile's rows of the weights' gradient, added to the upper and to the lower half of `acc`. -/
abbrev dwTop (acc : Vec F S512x1024 .f32) : FVec F S512x1024 .f32 := k0_pay13 a g (resid x t a b g w) k0_pay8 acc
abbrev dwBot (acc : Vec F S512x1024 .f32) : FVec F S512x1024 .f32 := k0_pay14 b g (resid x t a b g w) k0_pay8 acc

end Terms

/-- The zero block the first tile stores over the accumulator. -/
abbrev zeroAcc : Vec F S1024x1024 .f32 := k0_pay2

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x512 .bf16) (h3 : a3.IsWhole) (a4 : Memref sig .tc .vmem S512x512 .bf16) (h4 : a4.IsWhole)
  (a5 : Memref sig .tc .vmem S1x1024 .f32) (h5 : a5.IsWhole) (a6 : Memref sig .tc .vmem S1024x1024 .bf16) (h6 : a6.IsWhole)
  (a7 : Memref sig .tc .vmem S512x1024 .f32) (h7 : a7.IsWhole) (a8 : Memref sig .tc .vmem S512x1024 .bf16) (h8 : a8.IsWhole)
  (a9 : Memref sig .tc .vmem S1024x1024 .bf16) (h9 : a9.IsWhole) (a10 : Memref sig .tc .vmem S1x1024 .f32) (h10 : a10.IsWhole)
  (a11 : Memref sig .tc .vmem S1x128 .f32) (h11 : a11.IsWhole) (a12 : Memref sig .tc .vmem S1024x1024 .f32) (h12 : a12.IsWhole)
  (x t : Vec F S512x1024 .f32) (a b : Vec F S512x512 .bf16) (g : Vec F S1x1024 .f32) (w : Vec F S1024x1024 .bf16)
  (dg : Vec F S1x1024 .f32) (ls : Vec F S1x128 .f32) (acc : Vec F S1024x1024 .f32)

/-! ## The accumulator's two half stores -/

/-- The upper and the lower half of a `[1024, 1024]` buffer. -/
abbrev rTop : Rect S1024x1024 := Rect.unit ![0, 0] ![512, 1024] inb_S1024x1024_S512x1024_0_0
abbrev rBot : Rect S1024x1024 := Rect.unit ![512, 0] ![512, 1024] inb_S1024x1024_S512x1024_512_0

theorem top_emb (k : Fin 512) (j : Fin 1024) : (ix2 (⟨k.val, by omega⟩ : Fin 1024) j : S1024x1024.Idx) = rTop.emb (ix2 k j) := by
  funext q; apply Fin.ext
  match q with
  | ⟨0, _⟩ => show (k : Nat) = 0 + 1 * k; omega
  | ⟨1, _⟩ => show (j : Nat) = 0 + 1 * j; omega

theorem bot_emb (k : Fin 512) (j : Fin 1024) : (ix2 (⟨512 + k.val, by omega⟩ : Fin 1024) j : S1024x1024.Idx) = rBot.emb (ix2 k j) := by
  funext q; apply Fin.ext
  match q with
  | ⟨0, _⟩ => show 512 + (k : Nat) = 512 + 1 * k; omega
  | ⟨1, _⟩ => show (j : Nat) = 0 + 1 * j; omega

theorem top_not_bot (k : Fin 512) (j : Fin 1024) : (ix2 (⟨k.val, by omega⟩ : Fin 1024) j : S1024x1024.Idx) ∉ rBot.set := by
  rw [Rect.mem_set_unit]
  intro h
  have e : 512 ≤ (k : Nat) := (h 0).1
  omega

theorem bot_not_top (y : rBot.shape.Idx) : rBot.idx y ∉ rTop.set := by
  rw [Rect.mem_set_unit]
  intro h
  have e : 512 + 1 * (y 0 : Nat) < 0 + 512 := (h 0).2
  omega

/-- Two stores, of the upper and then of the lower half of a `[1024, 1024]` buffer, read at an index of the upper half:
    the first store's payload, whatever was there before. -/
theorem canon_top (P Q : Vec F S512x1024 .f32) (L : List (View.Piece (Elt F) S1024x1024 .f32)) (k : Fin 512) (j : Fin 1024) :
    View.canon (⟨rBot, P⟩ ::
      ⟨rTop, Q⟩ :: L) (ix2 (⟨k.val, by omega⟩ : Fin 1024) j) = Q (ix2 k j) := by
  refine (View.canon_cons_of_not_mem (⟨rBot, P⟩ : View.Piece (Elt F) S1024x1024 .f32) (⟨rTop, Q⟩ :: L) (top_not_bot k j)).trans ?_
  rw [top_emb]
  exact View.canon_cons_emb rTop Q L _

/-- The same at an index of the lower half: the second store's payload. -/
theorem canon_bot (P : Vec F S512x1024 .f32) (L : List (View.Piece (Elt F) S1024x1024 .f32)) (k : Fin 512) (j : Fin 1024) :
    View.canon (⟨rBot, P⟩ :: L)
      (ix2 (⟨512 + k.val, by omega⟩ : Fin 1024) j) = P (ix2 k j) := by
  rw [bot_emb]
  exact View.canon_cons_emb rBot P L _

/-- The zero block read over one half. -/
theorem readCov_zero (v : View sig .tc .vmem S1024x1024 .f32) (r : Rect S1024x1024) :
    v.readCov [⟨Rect.unit ![0, 0] ![1024, 1024] inb_S1024x1024_S1024x1024_0_0, zeroAcc (F := F)⟩] r.toLoadRect
      = View.ld (zeroAcc (F := F)) r := by
  rw [View.readCov_eq_canon', View.canon_unit_zero hz]

/-- The lower half of the zero block, read after the upper half was stored. -/
theorem readCov_zero_bot (v : View sig .tc .vmem S1024x1024 .f32) (Q : Vec F S512x1024 .f32) :
    v.readCov [⟨rTop, Q⟩,
        ⟨Rect.unit ![0, 0] ![1024, 1024] inb_S1024x1024_S1024x1024_0_0, zeroAcc (F := F)⟩]
        rBot.toLoadRect
      = View.ld (zeroAcc (F := F)) rBot := by
  rw [View.readCov_eq_canon']
  funext y
  refine (View.canon_cons_of_not_mem (⟨rTop, Q⟩ : View.Piece (Elt F) S1024x1024 .f32) _ (bot_not_top y)).trans ?_
  rw [View.canon_unit_zero hz]

/-- The whole buffer read back after the stores `L`: what they leave. -/
theorem readCov_whole (v : View sig .tc .vmem S1024x1024 .f32) (L : List (View.Piece (Elt F) S1024x1024 .f32)) :
    v.readCov L (Rect.unit ![0, 0] ![1024, 1024] inb_S1024x1024_S1024x1024_0_0).toLoadRect = View.canon L := by
  rw [View.readCov_eq_canon']
  generalize View.canon L = X
  exact View.ld_unit_zero (S := S1024x1024) hz _ _

/-! ## The first tile -/

section First

variable (hc0 : cond0_0 i) (hc1 : ¬cond0_1 i)

theorem dx_first : out0_A_6 c i a1 h1 a2 h2 a3 h3 a4 h4 a5 h5 a6 h6 a7 h7 a8 h8 a9 h9 a10 h10 a11 h11 a12 h12 hc0 hc1 x t a b g w
    = k0_pay9 (resid x t a b g w) k0_pay8 := by
  unfold out0_A_6
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]

theorem dmc_first : out0_A_7 c i a1 h1 a2 h2 a3 h3 a4 h4 a5 h5 a6 h6 a7 h7 a8 h8 a9 h9 a10 h10 a11 h11 a12 h12 hc0 hc1 x t a b g w
    = k0_pay12 g (resid x t a b g w) k0_pay8 w := by
  unfold out0_A_7
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz,
    View.ld_unit_zero (S := S1024x1024) hz]

theorem dgate_first : out0_A_9 c i a1 h1 a2 h2 a3 h3 a4 h4 a5 h5 a6 h6 a7 h7 a8 h8 a9 h9 a10 h10 a11 h11 a12 h12 hc0 hc1 x t a b g w
    = k0_pay10 (mix a b w) (resid x t a b g w) k0_pay8 k0_pay3 := by
  unfold out0_A_9
  rw [View.read_writes_junk_eq_canon]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]

theorem loss_first : out0_A_10 c i a1 h1 a2 h2 a3 h3 a4 h4 a5 h5 a6 h6 a7 h7 a8 h8 a9 h9 a10 h10 a11 h11 a12 h12 hc0 hc1 x t a b g w
    = k0_pay7 a b g (wTop w) (wBot w) x t k0_pay4 := by
  unfold out0_A_10
  rw [View.read_writes_junk_eq_canon]
  unfold kernelRun0_A
  dsimp only
  sl_unfold_words
  rw [View.canon_cons_unit_zero hz, View.readCov_unit_zero _ hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]

theorem acc_first : sout0_A_0 c i a1 h1 a2 h2 a3 h3 a4 h4 a5 h5 a6 h6 a7 h7 a8 h8 a9 h9 a10 h10 a11 h11 a12 h12 hc0 hc1 x t a b g w
    = View.canon [⟨rBot, dwBot x t a b g w
          (View.ld (zeroAcc (F := F)) rBot)⟩,
        ⟨rTop, dwTop x t a b g w
          (View.ld (zeroAcc (F := F)) rTop)⟩,
        ⟨Rect.unit ![0, 0] ![1024, 1024] inb_S1024x1024_S1024x1024_0_0, zeroAcc (F := F)⟩] := by
  unfold sout0_A_0
  rw [View.read_writes_junk_eq_canon]
  unfold kernelRun0_A
  dsimp only
  sl_unfold_words
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]
  rw [readCov_zero_bot, readCov_zero]

end First

/-! ## A tile between -/

section Between

variable (hc0 : ¬cond0_0 i) (hc1 : ¬cond0_1 i)

theorem dx_between : out0_B_6 c i a1 h1 a2 h2 a3 h3 a4 h4 a5 h5 a6 h6 a7 h7 a8 h8 a9 h9 a10 h10 a11 h11 a12 h12 hc0 hc1 x t a b g w dg ls acc
    = k0_pay9 (resid x t a b g w) k0_pay8 := by
  unfold out0_B_6
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]

theorem dmc_between : out0_B_7 c i a1 h1 a2 h2 a3 h3 a4 h4 a5 h5 a6 h6 a7 h7 a8 h8 a9 h9 a10 h10 a11 h11 a12 h12 hc0 hc1 x t a b g w dg ls acc
    = k0_pay12 g (resid x t a b g w) k0_pay8 w := by
  unfold out0_B_7
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz,
    View.ld_unit_zero (S := S1024x1024) hz]

theorem dgate_between : out0_B_9 c i a1 h1 a2 h2 a3 h3 a4 h4 a5 h5 a6 h6 a7 h7 a8 h8 a9 h9 a10 h10 a11 h11 a12 h12 hc0 hc1 x t a b g w dg ls acc
    = k0_pay10 (mix a b w) (resid x t a b g w) k0_pay8 dg := by
  unfold out0_B_9
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread, h10.read_unread,
    View.ld_unit_zero (S := S512x1024) hz, View.ld_unit_zero (S := S512x512) hz, View.ld_unit_zero (S := S1x1024) hz]

theorem loss_between : out0_B_10 c i a1 h1 a2 h2 a3 h3 a4 h4 a5 h5 a6 h6 a7 h7 a8 h8 a9 h9 a10 h10 a11 h11 a12 h12 hc0 hc1 x t a b g w dg ls acc
    = k0_pay7 a b g (wTop w) (wBot w) x t ls := by
  unfold out0_B_10
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread, h11.read_unread,
    View.ld_unit_zero (S := S512x1024) hz, View.ld_unit_zero (S := S512x512) hz, View.ld_unit_zero (S := S1x1024) hz,
    View.ld_unit_zero (S := S1x128) hz]

theorem acc_between : sout0_B_0 c i a1 h1 a2 h2 a3 h3 a4 h4 a5 h5 a6 h6 a7 h7 a8 h8 a9 h9 a10 h10 a11 h11 a12 h12 hc0 hc1 x t a b g w dg ls acc
    = View.canon [⟨rBot, dwBot x t a b g w
          (View.ld acc rBot)⟩,
        ⟨rTop, dwTop x t a b g w
          (View.ld acc rTop)⟩] := by
  unfold sout0_B_0
  rw [View.read_writes_junk_eq_canon]
  unfold kernelRun0_B
  dsimp only
  sl_unfold_words
  simp only [View.readAt_eq_ld, h1.read_unread, h2.read_unread, h3.read_unread, h4.read_unread, h5.read_unread, h6.read_unread, h12.read_unread,
    View.ld_unit_zero (S := S512x1024) hz, View.ld_unit_zero (S := S512x512) hz, View.ld_unit_zero (S := S1x1024) hz]

end Between

/-! ## The last tile -/

section Last

variable (hc0 : ¬cond0_0 i) (hc1 : cond0_1 i)

theorem dx_last : out0_C_6 c i a1 h1 a2 h2 a3 h3 a4 h4 a5 h5 a6 h6 a7 h7 a8 h8 a9 h9 a10 h10 a11 h11 a12 h12 hc0 hc1 x t a b g w dg ls acc
    = k0_pay9 (resid x t a b g w) k0_pay8 := by
  unfold out0_C_6
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz]

theorem dmc_last : out0_C_7 c i a1 h1 a2 h2 a3 h3 a4 h4 a5 h5 a6 h6 a7 h7 a8 h8 a9 h9 a10 h10 a11 h11 a12 h12 hc0 hc1 x t a b g w dg ls acc
    = k0_pay12 g (resid x t a b g w) k0_pay8 w := by
  unfold out0_C_7
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread,
    View.ld_unit_zero (S := S512x1024) hz, View.ld_unit_zero (S := S512x512) hz, View.ld_unit_zero (S := S1x1024) hz,
    View.ld_unit_zero (S := S1024x1024) hz]

theorem dgate_last : out0_C_9 c i a1 h1 a2 h2 a3 h3 a4 h4 a5 h5 a6 h6 a7 h7 a8 h8 a9 h9 a10 h10 a11 h11 a12 h12 hc0 hc1 x t a b g w dg ls acc
    = k0_pay10 (mix a b w) (resid x t a b g w) k0_pay8 dg := by
  unfold out0_C_9
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread, h10.read_unread,
    View.ld_unit_zero (S := S512x1024) hz, View.ld_unit_zero (S := S512x512) hz, View.ld_unit_zero (S := S1x1024) hz]

theorem loss_last : out0_C_10 c i a1 h1 a2 h2 a3 h3 a4 h4 a5 h5 a6 h6 a7 h7 a8 h8 a9 h9 a10 h10 a11 h11 a12 h12 hc0 hc1 x t a b g w dg ls acc
    = k0_pay7 a b g (wTop w) (wBot w) x t ls := by
  unfold out0_C_10
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread, h11.read_unread,
    View.ld_unit_zero (S := S512x1024) hz, View.ld_unit_zero (S := S512x512) hz, View.ld_unit_zero (S := S1x1024) hz,
    View.ld_unit_zero (S := S1x128) hz]

theorem acc_last : sout0_C_0 c i a1 h1 a2 h2 a3 h3 a4 h4 a5 h5 a6 h6 a7 h7 a8 h8 a9 h9 a10 h10 a11 h11 a12 h12 hc0 hc1 x t a b g w dg ls acc
    = View.canon [⟨rBot, dwBot x t a b g w (View.ld acc rBot)⟩, ⟨rTop, dwTop x t a b g w (View.ld acc rTop)⟩] := by
  unfold sout0_C_0
  rw [View.read_writes_junk_eq_canon]
  unfold kernelRun0_C
  dsimp only
  sl_unfold_words
  simp only [View.readAt_eq_ld, h1.read_unread, h2.read_unread, h3.read_unread, h4.read_unread, h5.read_unread, h6.read_unread, h12.read_unread,
    View.ld_unit_zero (S := S512x1024) hz, View.ld_unit_zero (S := S512x512) hz, View.ld_unit_zero (S := S1x1024) hz]

/-- The last tile stores the accumulator, rounded, as the weights' gradient. -/
theorem dw_last : out0_C_8 c i a1 h1 a2 h2 a3 h3 a4 h4 a5 h5 a6 h6 a7 h7 a8 h8 a9 h9 a10 h10 a11 h11 a12 h12 hc0 hc1 x t a b g w dg ls acc
    = k0_pay1 (View.canon [⟨rBot, dwBot x t a b g w
          (View.ld acc rBot)⟩,
        ⟨rTop, dwTop x t a b g w
          (View.ld acc rTop)⟩]) := by
  unfold out0_C_8
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread, h12.read_unread,
    View.ld_unit_zero (S := S512x1024) hz, View.ld_unit_zero (S := S512x512) hz, View.ld_unit_zero (S := S1x1024) hz]
  rw [readCov_whole]

end Last

end Cert.Kernel2Ideal.Tile
-- ==== Proof.Project.Row.lean ====
/-
  The output projection's gradient, read at an index over the extended reals: the formulas of one row, and what each of
  a tile's terms holds at a row and a column in those formulas.
-/
module

public import proofs.«01_k».proof.Proof.Project.Tile

@[expose] public section

set_option maxRecDepth 16384

noncomputable section

open Idealize.ShloMosaic Idealize.ShloMosaic.TcCoe Idealize.SL.Sem

namespace Cert.Project

/-! ## One row -/

section Row

variable (x t : Fin 1024 → EReal) (a b : Fin 512 → EReal) (g : Fin 1024 → EReal) (w : Fin 1024 → Fin 1024 → EReal)

/-- The row through the projection: its two halves against the weights' upper and lower rows. -/
def mixRow (j : Fin 1024) : EReal := ∑ k : Fin 512, a k * w ⟨k, by omega⟩ j + ∑ k : Fin 512, b k * w ⟨512 + k, by omega⟩ j

/-- The residual: the row after the gated step, less its target. -/
def residRow (j : Fin 1024) : EReal := x j + g j * mixRow a b w j - t j

/-- The loss's gradient in the row: the residual over the row's length. -/
def dyRow (j : Fin 1024) : EReal := residRow x t a b g w j * Ideal.ofBits .f32 0x3A800000#32

/-- The gradient in the projected row. -/
def dmixRow (j : Fin 1024) : EReal := dyRow x t a b g w j * g j

/-- The gradient in the row that was projected. -/
def dcatRow (k : Fin 1024) : EReal := ∑ j : Fin 1024, dmixRow x t a b g w j * w k j

end Row

end Cert.Project

namespace Cert.Kernel2Ideal.Tile

open Cert.Kernel2Ideal Cert.Kernel2Ideal.Gen Cert.Project

/-! ## A tile's terms at a row and a column -/

section Tile

variable (x t : Vec Ideal S512x1024 .f32) (a b : Vec Ideal S512x512 .bf16) (g : Vec Ideal S1x1024 .f32) (w : Vec Ideal S1024x1024 .bf16)

theorem mix_apply (r : Fin 512) (j : Fin 1024) :
    mix a b w (ix2 r j) = mixRow (fun k => a (ix2 r k)) (fun k => b (ix2 r k)) (fun k j => w (ix2 k j)) j := by
  pointwise [mix, k0_pay5, wTop, wBot, mixRow]

theorem resid_apply (r : Fin 512) (j : Fin 1024) : resid x t a b g w (ix2 r j)
    = residRow (fun j => x (ix2 r j)) (fun j => t (ix2 r j)) (fun k => a (ix2 r k)) (fun k => b (ix2 r k)) (fun j => g (ix2 0 j))
      (fun k j => w (ix2 k j)) j := by
  unfold resid k0_pay6
  rw [residRow, ← mix_apply]
  pointwise

theorem dy_apply (r : Fin 512) (j : Fin 1024) : k0_pay9 (resid x t a b g w) k0_pay8 (ix2 r j)
    = dyRow (fun j => x (ix2 r j)) (fun j => t (ix2 r j)) (fun k => a (ix2 r k)) (fun k => b (ix2 r k)) (fun j => g (ix2 0 j))
      (fun k j => w (ix2 k j)) j := by
  rw [dyRow, ← resid_apply]
  pointwise [k0_pay9, k0_pay8]

theorem dmix_apply (r : Fin 512) (j : Fin 1024) : k0_pay11 g (resid x t a b g w) k0_pay8 (ix2 r j)
    = dmixRow (fun j => x (ix2 r j)) (fun j => t (ix2 r j)) (fun k => a (ix2 r k)) (fun k => b (ix2 r k)) (fun j => g (ix2 0 j))
      (fun k j => w (ix2 k j)) j := by
  rw [dmixRow, ← dy_apply]
  pointwise [k0_pay11]

theorem dmc_apply (r : Fin 512) (k : Fin 1024) : k0_pay12 g (resid x t a b g w) k0_pay8 w (ix2 r k)
    = dcatRow (fun j => x (ix2 r j)) (fun j => t (ix2 r j)) (fun k => a (ix2 r k)) (fun k => b (ix2 r k)) (fun j => g (ix2 0 j))
      (fun k j => w (ix2 k j)) k := by
  unfold dcatRow
  simp only [← dmix_apply]
  pointwise [k0_pay12]

theorem dgate_apply (dg : Vec Ideal S1x1024 .f32) (j : Fin 1024) : k0_pay10 (mix a b w) (resid x t a b g w) k0_pay8 dg (ix2 0 j)
    = dg (ix2 0 j) + ∑ r : Fin 512, dyRow (fun j => x (ix2 r j)) (fun j => t (ix2 r j)) (fun k => a (ix2 r k)) (fun k => b (ix2 r k))
        (fun j => g (ix2 0 j)) (fun k j => w (ix2 k j)) j * mixRow (fun k => a (ix2 r k)) (fun k => b (ix2 r k)) (fun k j => w (ix2 k j)) j := by
  simp only [← dy_apply, ← mix_apply]
  pointwise [k0_pay10]

theorem loss_apply (ls : Vec Ideal S1x128 .f32) (l : Fin 128) : k0_pay7 a b g (wTop w) (wBot w) x t ls (ix2 0 l)
    = ls (ix2 0 l) + (∑ j : Fin 1024, ∑ r : Fin 512,
        residRow (fun j => x (ix2 r j)) (fun j => t (ix2 r j)) (fun k => a (ix2 r k)) (fun k => b (ix2 r k)) (fun j => g (ix2 0 j))
          (fun k j => w (ix2 k j)) j
        * residRow (fun j => x (ix2 r j)) (fun j => t (ix2 r j)) (fun k => a (ix2 r k)) (fun k => b (ix2 r k)) (fun j => g (ix2 0 j))
          (fun k j => w (ix2 k j)) j) * Ideal.ofBits .f32 0x3A000000#32 := by
  simp only [← resid_apply]
  unfold k0_pay7
  rw [show k0_pay6 a b g (wTop w) (wBot w) x t = resid x t a b g w from rfl]
  pointwise

theorem dwTop_apply (acc : Vec Ideal S512x1024 .f32) (k : Fin 512) (j : Fin 1024) : dwTop x t a b g w acc (ix2 k j)
    = acc (ix2 k j) + ∑ r : Fin 512, a (ix2 r k) * dmixRow (fun j => x (ix2 r j)) (fun j => t (ix2 r j)) (fun k => a (ix2 r k))
        (fun k => b (ix2 r k)) (fun j => g (ix2 0 j)) (fun k j => w (ix2 k j)) j := by
  simp only [← dmix_apply]
  pointwise [dwTop, k0_pay13]

theorem dwBot_apply (acc : Vec Ideal S512x1024 .f32) (k : Fin 512) (j : Fin 1024) : dwBot x t a b g w acc (ix2 k j)
    = acc (ix2 k j) + ∑ r : Fin 512, b (ix2 r k) * dmixRow (fun j => x (ix2 r j)) (fun j => t (ix2 r j)) (fun k => a (ix2 r k))
        (fun k => b (ix2 r k)) (fun j => g (ix2 0 j)) (fun k j => w (ix2 k j)) j := by
  simp only [← dmix_apply]
  pointwise [dwBot, k0_pay14]

end Tile

end Cert.Kernel2Ideal.Tile
-- ==== Proof.Project.Arrays.lean ====
/-
  The output projection's gradient over the whole arrays: what each of the five result arrays holds after the run, at an
  index, as the row formulas summed over the eight tiles.
-/
module

public import proofs.«01_k».proof.Proof.Project.Row

@[expose] public section

set_option maxRecDepth 16384

noncomputable section

open Idealize.ShloMosaic Idealize.ShloMosaic.TcCoe Idealize.SL.Sem
open Idealize.ShloMosaic.Pipeline (Dat)

namespace Cert.Project

/-! ## The formulas over the arrays -/

section Formulas

variable (X T : Vec Ideal ⟨2, ![4096, 1024]⟩ .f32) (A B : Vec Ideal ⟨2, ![4096, 512]⟩ .bf16)
  (G : Vec Ideal ⟨2, ![1, 1024]⟩ .f32) (W : Vec Ideal ⟨2, ![1024, 1024]⟩ .bf16) (R : Fin 4096)

def mixAt (j : Fin 1024) : EReal := mixRow (fun k => A (ix2 R k)) (fun k => B (ix2 R k)) (fun k j => W (ix2 k j)) j

def residAt (j : Fin 1024) : EReal := residRow (fun j => X (ix2 R j)) (fun j => T (ix2 R j)) (fun k => A (ix2 R k))
  (fun k => B (ix2 R k)) (fun j => G (ix2 0 j)) (fun k j => W (ix2 k j)) j

def dyAt (j : Fin 1024) : EReal := dyRow (fun j => X (ix2 R j)) (fun j => T (ix2 R j)) (fun k => A (ix2 R k))
  (fun k => B (ix2 R k)) (fun j => G (ix2 0 j)) (fun k j => W (ix2 k j)) j

def dmixAt (j : Fin 1024) : EReal := dmixRow (fun j => X (ix2 R j)) (fun j => T (ix2 R j)) (fun k => A (ix2 R k))
  (fun k => B (ix2 R k)) (fun j => G (ix2 0 j)) (fun k j => W (ix2 k j)) j

def dcatAt (k : Fin 1024) : EReal := dcatRow (fun j => X (ix2 R j)) (fun j => T (ix2 R j)) (fun k => A (ix2 R k))
  (fun k => B (ix2 R k)) (fun j => G (ix2 0 j)) (fun k j => W (ix2 k j)) k

end Formulas

/-- Row `r` of tile `t`, as a row of the arrays (row 0 past the eighth tile). -/
def rowOf (t : Nat) (r : Fin 512) : Fin 4096 := if h : t < 8 then ⟨512 * t + r, by omega⟩ else 0

theorem rowOf_lt {t : Nat} (h : t < 8) (r : Fin 512) : rowOf t r = ⟨512 * t + r, by omega⟩ := dif_pos h

/-- A sum over the rows is the sum over the tiles of the sums over their rows. -/
theorem sum_rows {M : Type*} [AddCommMonoid M] (f : Fin 4096 → M) :
    ∑ R : Fin 4096, f R = ∑ t ∈ Finset.range 8, ∑ r : Fin 512, f (rowOf t r) := by
  rw [Finset.sum_range, ← (finProdFinEquiv (m := 8) (n := 512)).sum_comp, Fintype.sum_prod_type]
  refine Finset.sum_congr rfl fun t _ => Finset.sum_congr rfl fun r _ => congrArg f ?_
  rw [rowOf_lt t.isLt]
  apply Fin.ext
  show (r : Nat) + 512 * t = 512 * t + r
  omega

end Cert.Project

namespace Cert.Kernel2Ideal.Tile

open Cert.Kernel2Ideal Cert.Kernel2Ideal.Gen Cert.Kernel2Ideal.Value Cert.Project

variable (m : (ℓ : Loc nD τ sig) → Buf (Elt Ideal) ℓ) (ρ : Dev nD → PrngReg) (c : Dev nD)

/-- The six arguments. -/
abbrev argX : Vec Ideal S4096x1024 .f32 := m ((c.tc : Thread nD τ).loc main_arg0)
abbrev argT : Vec Ideal S4096x1024 .f32 := m ((c.tc : Thread nD τ).loc main_arg1)
abbrev argA : Vec Ideal S4096x512 .bf16 := m ((c.tc : Thread nD τ).loc main_arg2)
abbrev argB : Vec Ideal S4096x512 .bf16 := m ((c.tc : Thread nD τ).loc main_arg3)
abbrev argG : Vec Ideal S1x1024 .f32 := m ((c.tc : Thread nD τ).loc main_arg4)
abbrev argW : Vec Ideal S1024x1024 .bf16 := m ((c.tc : Thread nD τ).loc main_arg5)

theorem lt8 (t : Fin cfg0.N) : t.val < 8 := lt_of_lt_of_eq t.isLt N_0

theorem cast_row (t : Fin cfg0.N) (r : Fin 512) : 512 * t.val + r.val < 4096 := by have := lt8 t; omega

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) := by decide +kernel

theorem blkX (t : Fin cfg0.N) (r : Fin 512) (j : Fin 1024) :
    (iblk m c 0 t : Vec Ideal S512x1024 .f32) (ix2 r j) = argX m c (ix2 (rowOf t r) j) := by
  have hi := (index_rows t).1
  rw [rowOf_lt (lt8 t)]
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

theorem blkT (t : Fin cfg0.N) (r : Fin 512) (j : Fin 1024) :
    (iblk m c 1 t : Vec Ideal S512x1024 .f32) (ix2 r j) = argT m c (ix2 (rowOf t r) j) := by
  have hi := (index_rows t).2.1
  rw [rowOf_lt (lt8 t)]
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [hi.1]; omega
  | ⟨1, _⟩ => show win0_1.index t 1 * 1024 + 1 * j.val = j.val; rw [hi.2]; omega

theorem blkA (t : Fin cfg0.N) (r : Fin 512) (j : Fin 512) :
    (iblk m c 2 t : Vec Ideal S512x512 .bf16) (ix2 r j) = argA m c (ix2 (rowOf t r) j) := by
  have hi := (index_rows t).2.2.1
  rw [rowOf_lt (lt8 t)]
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [hi.1]; omega
  | ⟨1, _⟩ => show win0_2.index t 1 * 512 + 1 * j.val = j.val; rw [hi.2]; omega

theorem blkB (t : Fin cfg0.N) (r : Fin 512) (j : Fin 512) :
    (iblk m c 3 t : Vec Ideal S512x512 .bf16) (ix2 r j) = argB m c (ix2 (rowOf t r) j) := by
  have hi := (index_rows t).2.2.2.1
  rw [rowOf_lt (lt8 t)]
  unfold iblk
  rw [View.read_apply]
  show V m c main_arg3 _ = m (c.tc.loc main_arg3) _
  unfold V
  congr 1
  funext a
  apply Fin.ext
  match a with
  | ⟨0, _⟩ => show win0_3.index t 0 * 512 + 1 * r.val = 512 * t.val + r.val; rw [hi.1]; omega
  | ⟨1, _⟩ => show win0_3.index t 1 * 512 + 1 * j.val = j.val; rw [hi.2]; omega

theorem blkG (t : Fin cfg0.N) (j : Fin 1024) :
    (iblk m c 4 t : Vec Ideal S1x1024 .f32) (ix2 0 j) = argG m c (ix2 0 j) := by
  have hi := (index_rows t).2.2.2.2.1
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [hi.1]
  | ⟨1, _⟩ => show win0_4.index t 1 * 1024 + 1 * j.val = j.val; rw [hi.2]; omega

theorem blkW (t : Fin cfg0.N) (k j : Fin 1024) :
    (iblk m c 5 t : Vec Ideal S1024x1024 .bf16) (ix2 k j) = argW m c (ix2 k j) := by
  have hi := (index_rows t).2.2.2.2.2
  unfold iblk
  rw [View.read_apply]
  show V m c main_arg5 _ = m (c.tc.loc main_arg5) _
  unfold V
  congr 1
  funext a
  apply Fin.ext
  match a with
  | ⟨0, _⟩ => show win0_5.index t 0 * 1024 + 1 * k.val = k.val; rw [hi.1]; omega
  | ⟨1, _⟩ => show win0_5.index t 1 * 1024 + 1 * j.val = j.val; rw [hi.2]; omega

/-! ## What one tile leaves -/

/-- The carried tuple's type. -/
abbrev Carried : Type := Vec Ideal S512x1024 .f32 × Vec Ideal S512x1024 .bf16 × Vec Ideal S1024x1024 .bf16 × Vec Ideal S1x1024 .f32
  × Vec Ideal S1x128 .f32 × Vec Ideal S1024x1024 .f32

abbrev dyM (R : Fin 4096) (j : Fin 1024) : EReal := dyAt (argX m c) (argT m c) (argA m c) (argB m c) (argG m c) (argW m c) R j
abbrev dmixM (R : Fin 4096) (j : Fin 1024) : EReal := dmixAt (argX m c) (argT m c) (argA m c) (argB m c) (argG m c) (argW m c) R j
abbrev dcatM (R : Fin 4096) (j : Fin 1024) : EReal := dcatAt (argX m c) (argT m c) (argA m c) (argB m c) (argG m c) (argW m c) R j
abbrev residM (R : Fin 4096) (j : Fin 1024) : EReal := residAt (argX m c) (argT m c) (argA m c) (argB m c) (argG m c) (argW m c) R j
abbrev mixM (R : Fin 4096) (j : Fin 1024) : EReal := mixAt (argA m c) (argB m c) (argW m c) R j

theorem step_dx (t : Fin cfg0.N) (st : Carried) (r : Fin 512) (j : Fin 1024) :
    (stAt0 m c t.val t.isLt st).1 (ix2 r j) = dyM m c (rowOf t r) j := by
  have e : k0_pay9 (resid (iblk m c 0 t) (iblk m c 1 t) (iblk m c 2 t) (iblk m c 3 t) (iblk m c 4 t) (iblk m c 5 t)) k0_pay8 (ix2 r j)
      = dyM m c (rowOf t r) j := by
    rw [dy_apply]
    simp only [blkX, blkT, blkA, blkB, blkG, blkW]
    rfl
  have := lt8 t
  by_cases h0 : t.val % 8 = 0
  · rw [stAt0_A m c t st h0 (by omega)]
    dsimp only
    rw [dx_first]
    exact e
  · by_cases h1 : t.val % 8 = 7
    · rw [stAt0_C m c t st h0 h1]
      dsimp only
      rw [dx_last]
      exact e
    · rw [stAt0_B m c t st h0 h1]
      dsimp only
      rw [dx_between]
      exact e

theorem step_dmc (t : Fin cfg0.N) (st : Carried) (r : Fin 512) (k : Fin 1024) :
    (stAt0 m c t.val t.isLt st).2.1 (ix2 r k) = dcatM m c (rowOf t r) k := by
  have e : k0_pay12 (iblk m c 4 t) (resid (iblk m c 0 t) (iblk m c 1 t) (iblk m c 2 t) (iblk m c 3 t) (iblk m c 4 t) (iblk m c 5 t))
      k0_pay8 (iblk m c 5 t) (ix2 r k) = dcatM m c (rowOf t r) k := by
    rw [dmc_apply]
    simp only [blkX, blkT, blkA, blkB, blkG, blkW]
    rfl
  have := lt8 t
  by_cases h0 : t.val % 8 = 0
  · rw [stAt0_A m c t st h0 (by omega)]
    dsimp only
    rw [dmc_first]
    exact e
  · by_cases h1 : t.val % 8 = 7
    · rw [stAt0_C m c t st h0 h1]
      dsimp only
      rw [dmc_last]
      exact e
    · rw [stAt0_B m c t st h0 h1]
      dsimp only
      rw [dmc_between]
      exact e

theorem step_dgate (t : Fin cfg0.N) (st : Carried) (j : Fin 1024) : (stAt0 m c t.val t.isLt st).2.2.2.1 (ix2 0 j)
    = (if t.val = 0 then 0 else st.2.2.2.1 (ix2 0 j)) + ∑ r : Fin 512, dyM m c (rowOf t r) j * mixM m c (rowOf t r) j := by
  have e (dg : Vec Ideal S1x1024 .f32) : k0_pay10 (mix (iblk m c 2 t) (iblk m c 3 t) (iblk m c 5 t))
      (resid (iblk m c 0 t) (iblk m c 1 t) (iblk m c 2 t) (iblk m c 3 t) (iblk m c 4 t) (iblk m c 5 t)) k0_pay8 dg (ix2 0 j)
      = dg (ix2 0 j) + ∑ r : Fin 512, dyM m c (rowOf t r) j * mixM m c (rowOf t r) j := by
    rw [dgate_apply]
    simp only [blkX, blkT, blkA, blkB, blkG, blkW]
    rfl
  have := lt8 t
  by_cases h0 : t.val % 8 = 0
  · rw [stAt0_A m c t st h0 (by omega), if_pos (by omega)]
    dsimp only
    rw [dgate_first, e]
    pointwise [k0_pay3]
  · rw [if_neg (by omega)]
    by_cases h1 : t.val % 8 = 7
    · rw [stAt0_C m c t st h0 h1]
      dsimp only
      rw [dgate_last]
      exact e _
    · rw [stAt0_B m c t st h0 h1]
      dsimp only
      rw [dgate_between]
      exact e _

/-- The squares of a tile's residuals, summed over the columns and the tile's rows. -/
def tileSquares (t : Nat) : EReal := ∑ j : Fin 1024, ∑ r : Fin 512, residM m c (rowOf t r) j * residM m c (rowOf t r) j

theorem step_loss (t : Fin cfg0.N) (st : Carried) (l : Fin 128) : (stAt0 m c t.val t.isLt st).2.2.2.2.1 (ix2 0 l)
    = (if t.val = 0 then 0 else st.2.2.2.2.1 (ix2 0 l)) + tileSquares m c t * Ideal.ofBits .f32 0x3A000000#32 := by
  have e (ls : Vec Ideal S1x128 .f32) : k0_pay7 (iblk m c 2 t) (iblk m c 3 t) (iblk m c 4 t) (wTop (iblk m c 5 t)) (wBot (iblk m c 5 t))
      (iblk m c 0 t) (iblk m c 1 t) ls (ix2 0 l) = ls (ix2 0 l) + tileSquares m c t * Ideal.ofBits .f32 0x3A000000#32 := by
    rw [loss_apply]
    simp only [blkX, blkT, blkA, blkB, blkG, blkW]
    rfl
  have := lt8 t
  by_cases h0 : t.val % 8 = 0
  · rw [stAt0_A m c t st h0 (by omega), if_pos (by omega)]
    dsimp only
    rw [loss_first, e]
    pointwise [k0_pay4]
  · rw [if_neg (by omega)]
    by_cases h1 : t.val % 8 = 7
    · rw [stAt0_C m c t st h0 h1]
      dsimp only
      rw [loss_last]
      exact e _
    · rw [stAt0_B m c t st h0 h1]
      dsimp only
      rw [loss_between]
      exact e _

/-- Entry `k` of a row of the two halves laid side by side. -/
def catAt (R : Fin 4096) (k : Fin 1024) : EReal :=
  if h : k.val < 512 then argA m c (ix2 R ⟨k, h⟩) else argB m c (ix2 R ⟨k - 512, by omega⟩)

theorem accTop (t : Fin cfg0.N) (acc : Vec Ideal S1024x1024 .f32) (k : Fin 512) (j : Fin 1024) :
    dwTop (iblk m c 0 t) (iblk m c 1 t) (iblk m c 2 t) (iblk m c 3 t) (iblk m c 4 t) (iblk m c 5 t) (View.ld acc rTop) (ix2 k j)
      = acc (ix2 ⟨k.val, by omega⟩ j) + ∑ r : Fin 512, catAt m c (rowOf t r) ⟨k.val, by omega⟩ * dmixM m c (rowOf t r) j := by
  rw [dwTop_apply]
  simp only [blkX, blkT, blkA, blkB, blkG, blkW, catAt, k.isLt, dif_pos]
  congr 1
  pointwise

theorem accBot (t : Fin cfg0.N) (acc : Vec Ideal S1024x1024 .f32) (k : Fin 512) (j : Fin 1024) :
    dwBot (iblk m c 0 t) (iblk m c 1 t) (iblk m c 2 t) (iblk m c 3 t) (iblk m c 4 t) (iblk m c 5 t) (View.ld acc rBot) (ix2 k j)
      = acc (ix2 ⟨512 + k.val, by omega⟩ j) + ∑ r : Fin 512, catAt m c (rowOf t r) ⟨512 + k.val, by omega⟩ * dmixM m c (rowOf t r) j := by
  rw [dwBot_apply]
  simp only [blkX, blkT, blkA, blkB, blkG, blkW, catAt, show ¬(512 + k.val < 512) by omega, dif_neg, not_false_eq_true,
    Nat.add_sub_cancel_left]
  congr 1
  pointwise

/-- The two half stores at any index: the accumulator before, and the tile's rows. -/
theorem acc_apply (t : Fin cfg0.N) (acc : Vec Ideal S1024x1024 .f32) (L : List (View.Piece (Elt Ideal) S1024x1024 .f32)) (k j : Fin 1024) :
    View.canon (⟨rBot, dwBot (iblk m c 0 t) (iblk m c 1 t) (iblk m c 2 t) (iblk m c 3 t) (iblk m c 4 t) (iblk m c 5 t) (View.ld acc rBot)⟩ ::
        ⟨rTop, dwTop (iblk m c 0 t) (iblk m c 1 t) (iblk m c 2 t) (iblk m c 3 t) (iblk m c 4 t) (iblk m c 5 t) (View.ld acc rTop)⟩ :: L) (ix2 k j)
      = acc (ix2 k j) + ∑ r : Fin 512, catAt m c (rowOf t r) k * dmixM m c (rowOf t r) j := by
  by_cases h : k.val < 512
  · have e : k = ⟨(⟨k.val, h⟩ : Fin 512).val, k.isLt⟩ := rfl
    exact (canon_top _ _ L ⟨k.val, h⟩ j).trans (accTop m c t acc ⟨k.val, h⟩ j)
  · have e : k = ⟨512 + (⟨k.val - 512, by omega⟩ : Fin 512).val, by dsimp only; omega⟩ := Fin.ext (by dsimp only; omega)
    rw [e]
    exact (canon_bot _ _ ⟨k.val - 512, by omega⟩ j).trans (accBot m c t acc ⟨k.val - 512, by omega⟩ j)

theorem step_acc (t : Fin cfg0.N) (st : Carried) (k j : Fin 1024) : (stAt0 m c t.val t.isLt st).2.2.2.2.2 (ix2 k j)
    = (if t.val = 0 then 0 else st.2.2.2.2.2 (ix2 k j)) + ∑ r : Fin 512, catAt m c (rowOf t r) k * dmixM m c (rowOf t r) j := by
  have := lt8 t
  by_cases h0 : t.val % 8 = 0
  · rw [stAt0_A m c t st h0 (by omega), if_pos (by omega)]
    dsimp only
    rw [acc_first, acc_apply]
    pointwise [zeroAcc, k0_pay2]
  · rw [if_neg (by omega)]
    by_cases h1 : t.val % 8 = 7
    · rw [stAt0_C m c t st h0 h1]
      dsimp only
      rw [acc_last]
      exact acc_apply m c t _ _ k j
    · rw [stAt0_B m c t st h0 h1]
      dsimp only
      rw [acc_between]
      exact acc_apply m c t _ _ k j

/-- The last tile's weights' gradient is the accumulator it leaves. -/
theorem step_dw (t : Fin cfg0.N) (h : t.val = 7) (st : Carried) (k j : Fin 1024) :
    (stAt0 m c t.val t.isLt st).2.2.1 (ix2 k j) = (stAt0 m c t.val t.isLt st).2.2.2.2.2 (ix2 k j) := by
  rw [stAt0_C m c t st (by omega) (by omega)]
  dsimp only
  rw [dw_last, acc_last]
  unfold k0_pay1
  rw [truncf_apply]
  rw [Ideal.truncf_def]

/-! ## The fold over the tiles -/

/-- The carried tuple after tile `n`. -/
abbrev after (n : Nat) (h : 0 + n < cfg0.N) : Carried := Pipeline.accAt (fun n h => stAt0 m c n h junk0) (stAt0 m c) 0 n h

theorem after_step (n : Nat) (h : 0 + n < cfg0.N) : ∃ st, after m c n h = stAt0 m c n (by omega) st := by
  cases n with
  | zero => exact ⟨_, rfl⟩
  | succ n =>
    refine ⟨after m c n (by omega), ?_⟩
    have e : 0 + (n + 1) = n + 1 := Nat.zero_add _
    show Pipeline.accAt _ _ 0 (n + 1) h = _
    rw [Pipeline.accAt_succ]
    simp only [e]

/-- A number read off the carried tuple that the first tile sets to its own share and each later tile adds its share to
    is, after tile `n`, the sum of the shares of tiles `0 … n`. -/
theorem fold_sum (π : Carried → EReal) (M : Nat → EReal)
    (hstep : ∀ (t : Fin cfg0.N) (st : Carried), π (stAt0 m c t.val t.isLt st) = (if t.val = 0 then 0 else π st) + M t.val) :
    ∀ (n : Nat) (h : 0 + n < cfg0.N), π (after m c n h) = ∑ s ∈ Finset.range (n + 1), M s
  | 0, h => by
    rw [Finset.sum_range_one]
    exact (hstep ⟨0, by omega⟩ junk0).trans (by rw [if_pos rfl, zero_add])
  | n + 1, h => by
    have e : 0 + (n + 1) = n + 1 := Nat.zero_add _
    rw [Finset.sum_range_succ, ← fold_sum π M hstep n (by omega)]
    show π (Pipeline.accAt _ _ 0 (n + 1) h) = _
    rw [Pipeline.accAt_succ]
    simp only [e]
    exact (hstep ⟨n + 1, by omega⟩ _).trans (by rw [if_neg (Nat.succ_ne_zero n)])

/-! ## The five result arrays -/

theorem pt_eq (R : Fin 4096) (j : Fin 1024) : 1 * (R.val / 512 - 0) + 1 * (j.val / 1024 - 0) = R.val / 512 := by omega

theorem loc_eq (R : Fin 4096) (j : Fin 1024) : loc6Of (ix2 R j) = ix2 ⟨R.val % 512, by omega⟩ j := by
  funext a
  apply Fin.ext
  match a with
  | ⟨0, _⟩ => rfl
  | ⟨1, _⟩ => show j.val % 1024 = j.val; omega

theorem rowOf_div (R : Fin 4096) : rowOf (R.val / 512) ⟨R.val % 512, by omega⟩ = R := by
  rw [rowOf_lt (by omega)]
  apply Fin.ext
  dsimp only
  omega

theorem G6_apply (R : Fin 4096) (j : Fin 1024) : G6 m c (ix2 R j) = dyM m c R j := by
  have hN : cfg0.N = 8 := N_0
  have hp : pt6Of (ix2 R j) = R.val / 512 := pt_eq R j
  have hlt : R.val / 512 < cfg0.N := by omega
  unfold G6
  rw [dif_pos (by omega), loc_eq]
  obtain ⟨st, hst⟩ := after_step m c (R.val / 512) (by omega)
  simp only [hp]
  show (after m c _ _).1 _ = _
  rw [hst, step_dx m c ⟨R.val / 512, hlt⟩, rowOf_div]

theorem G7_apply (R : Fin 4096) (k : Fin 1024) : G7 m c (ix2 R k) = dcatM m c R k := by
  have hN : cfg0.N = 8 := N_0
  have hp : pt7Of (ix2 R k) = R.val / 512 := pt_eq R k
  have hlt : R.val / 512 < cfg0.N := by omega
  unfold G7
  rw [dif_pos (by omega), show loc7Of (ix2 R k) = _ from loc_eq R k]
  obtain ⟨st, hst⟩ := after_step m c (R.val / 512) (by omega)
  simp only [hp]
  show (after m c _ _).2.1 _ = _
  rw [hst, step_dmc m c ⟨R.val / 512, hlt⟩, rowOf_div]

theorem G8_apply (k j : Fin 1024) : G8 m c (ix2 k j) = ∑ R : Fin 4096, catAt m c R k * dmixM m c R j := by
  have hN : cfg0.N = 8 := N_0
  rw [G8_last, sum_rows]
  obtain ⟨st, hst⟩ := after_step m c 7 (by omega)
  have h := step_dw m c ⟨7, by omega⟩ rfl st k j
  show (after m c _ _).2.2.1 _ = _
  rw [hst]
  refine h.trans ?_
  rw [← hst]
  have e := fold_sum m c (fun st => st.2.2.2.2.2 (ix2 k j)) (fun t => ∑ r : Fin 512, catAt m c (rowOf t r) k * dmixM m c (rowOf t r) j)
    (fun t st => step_acc m c t st k j) 7 (by omega)
  exact e

theorem G9_apply (j : Fin 1024) : G9 m c (ix2 0 j) = ∑ R : Fin 4096, dyM m c R j * mixM m c R j := by
  have hN : cfg0.N = 8 := N_0
  have e := fold_sum m c (fun st => st.2.2.2.1 (ix2 0 j)) (fun t => ∑ r : Fin 512, dyM m c (rowOf t r) j * mixM m c (rowOf t r) j)
    (fun t st => step_dgate m c t st j) 7 (by omega)
  rw [G9_last, sum_rows]
  refine Eq.trans ?_ (e.trans ?_)
  · show (after m c _ _).2.2.2.1 (ix2 0 j) = (after m c _ _).2.2.2.1 (ix2 0 j)
    with_reducible rfl
  · with_reducible rfl

theorem G10_apply (l : Fin 128) :
    G10 m c (ix2 0 l) = ∑ t ∈ Finset.range 8, tileSquares m c t * Ideal.ofBits .f32 0x3A000000#32 := by
  have hN : cfg0.N = 8 := N_0
  have e := fold_sum m c (fun st => st.2.2.2.2.1 (ix2 0 l)) (fun t => tileSquares m c t * Ideal.ofBits .f32 0x3A000000#32)
    (fun t st => step_loss m c t st l) 7 (by omega)
  rw [G10_last]
  refine Eq.trans ?_ (e.trans ?_)
  · show (after m c _ _).2.2.2.2.1 (ix2 0 l) = (after m c _ _).2.2.2.2.1 (ix2 0 l)
    with_reducible rfl
  · with_reducible rfl

end Cert.Kernel2Ideal.Tile
-- ==== Proof.Project.Reference.lean ====
/-
  The reference's five results over the extended reals, read at an index: the terms its run posts, named step by step, and
  each as the formula of a row.
-/
module

public import proofs.«01_k».proof.Proof.Gen.Reference2Ideal.Run
public import proofs.«01_k».proof.Proof.Project.Arrays

@[expose] public section

set_option maxRecDepth 16384

noncomputable section

open Idealize.ShloMosaic Idealize.ShloMosaic.TcCoe Idealize.SL.Sem

namespace Cert.Reference2Ideal.Project

open Cert.Reference2Ideal Cert.Reference2Ideal.Gen Cert.Reference2Ideal.Value Cert.Project

variable (X T : FVec Ideal S4096x1024 .f32) (A B : FVec Ideal S4096x512 .bf16) (G : FVec Ideal S1x1024 .f32) (W : FVec Ideal S1024x1024 .bf16)

/-- The two halves of a row, side by side. -/
def cat : FVec Ideal S4096x1024 .f32 := concatenate S4096x1024 1
  [⟨S4096x512, (extf .f32 A bitsLt_bf16_f32 : FVec Ideal S4096x512 .f32)⟩, ⟨S4096x512, (extf .f32 B bitsLt_bf16_f32 : FVec Ideal S4096x512 .f32)⟩] concatenates_S4096x512_S4096x512_S4096x1024_d1

def mix : FVec Ideal S4096x1024 .f32 :=
  Host.dotGeneral dot_S4096x1024_S1024x1024_S4096x1024_1_0_0_1_n_n none (cat A B) (extf .f32 W bitsLt_bf16_f32)

def resid : FVec Ideal S4096x1024 .f32 :=
  subf (addf X (mulf (broadcastInDim S4096x1024 ![0, 1] bcast_S1x1024_S4096x1024_0_1 G) (mix A B W))) T

/-- The gradient of the loss in a row: half of one over the row's length, times twice the residual. -/
def dx : FVec Ideal S4096x1024 .f32 :=
  mulf (broadcastInDim S4096x1024 ![0] bcast_S4096_S4096x1024_0 (Host.divf (broadcastInDim S4096 ![] bcast_S_S4096
      (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (resid X T A B G W))

def dmix : FVec Ideal S4096x1024 .f32 :=
  mulf (broadcastInDim S4096x1024 ![0, 1] bcast_S1x1024_S4096x1024_0_1 G) (dx X T A B G W)

def dhalves : FVec Ideal S4096x1024 .f32 :=
  Host.dotGeneral dot_S4096x1024_S1024x1024_S4096x1024_1_1_0_0_n_n none (dmix X T A B G W) (extf .f32 W bitsLt_bf16_f32)

def dcat : FVec Ideal S4096x1024 .bf16 := truncf .bf16 (concatenate S4096x1024 1
  [⟨S4096x512, extractStridedSlice S4096x512 ![0, 0] (dhalves X T A B G W) slices_S4096x1024_S4096x512_0_0⟩,
   ⟨S4096x512, extractStridedSlice S4096x512 ![0, 512] (dhalves X T A B G W) slices_S4096x1024_S4096x512_0_512⟩]
  concatenates_S4096x512_S4096x512_S4096x1024_d1) bitsLt_bf16_f32

def dw : FVec Ideal S1024x1024 .bf16 := truncf .bf16 (transpose S1024x1024 [1, 0]
  (Host.dotGeneral dot_S4096x1024_S4096x1024_S1024x1024_0_0_1_1_n_n none (dmix X T A B G W) (cat A B)) transposes_S1024x1024_S1024x1024_1_0) bitsLt_bf16_f32

def dgate : FVec Ideal S1x1024 .f32 := shapeCast S1x1024 (Host.reduceAdd (mulf (dx X T A B G W) (mix A B W)) (constant S_ .f32 0x00000000#32)
  reducesTo_S4096x1024_S1024_d0 h_S_) shapeCasts_S1024_S1x1024

def loss : FVec Ideal S1x128 .f32 := broadcastInDim S1x128 ![] bcast_S_S1x128 (mulf (constant S_ .f32 0x3F000000#32)
  (Host.reduceAdd (Host.divf (Host.reduceAdd (mulf (resid X T A B G W) (resid X T A B G W)) (constant S_ .f32 0x00000000#32)
    reducesTo_S4096x1024_S4096_d1 h_S_) (broadcastInDim S4096 ![] bcast_S_S4096 (constant S_ .f32 0x44800000#32)))
    (constant S_ .f32 0x00000000#32) reducesTo_S4096_S_d0 h_S_))

/-! ## At an index -/

/-- Column `k` of the two halves side by side. -/
def catCol (R : Fin 4096) (k : Fin 1024) : EReal := if h : k.val < 512 then A (ix2 R ⟨k, h⟩) else B (ix2 R ⟨k - 512, by omega⟩)

theorem cat_apply (R : Fin 4096) (k : Fin 1024) : cat A B (ix2 R k) = catCol A B R k := by
  unfold catCol
  pointwise [cat]

theorem mix_apply (R : Fin 4096) (j : Fin 1024) : mix A B W (ix2 R j) = mixAt A B W R j := by
  pointwise [mix, cat, mixAt, mixRow]

theorem resid_apply (R : Fin 4096) (j : Fin 1024) : resid X T A B G W (ix2 R j) = residAt X T A B G W R j := by
  rw [show residAt X T A B G W R j = X (ix2 R j) + G (ix2 0 j) * mixAt A B W R j - T (ix2 R j) from rfl, ← mix_apply]
  pointwise [resid]

theorem dx_apply (R : Fin 4096) (j : Fin 1024) : dx X T A B G W (ix2 R j)
    = Ideal.div (Ideal.ofBits .f32 0x3F000000#32 * 1) (Ideal.ofBits .f32 0x44800000#32)
      * (Ideal.ofBits .f32 0x40000000#32 * residAt X T A B G W R j) := by
  rw [← resid_apply]
  pointwise [dx]

theorem dmix_apply (R : Fin 4096) (j : Fin 1024) : dmix X T A B G W (ix2 R j) = G (ix2 0 j) * dx X T A B G W (ix2 R j) := by
  pointwise [dmix]

theorem dhalves_apply (R : Fin 4096) (k : Fin 1024) : dhalves X T A B G W (ix2 R k)
    = ∑ j : Fin 1024, dmix X T A B G W (ix2 R j) * W (ix2 k j) := by
  pointwise [dhalves]

theorem dcat_apply (R : Fin 4096) (k : Fin 1024) : dcat X T A B G W (ix2 R k) = dhalves X T A B G W (ix2 R k) := by
  pointwise [dcat]
  split
  · rfl
  · exact congrArg (fun k => dhalves X T A B G W (ix2 R k)) (Fin.ext (by dsimp only; omega))

theorem dw_apply (k j : Fin 1024) : dw X T A B G W (ix2 k j)
    = ∑ R : Fin 4096, dmix X T A B G W (ix2 R j) * cat A B (ix2 R k) := by
  pointwise [dw]

theorem dgate_apply (j : Fin 1024) : dgate X T A B G W (ix2 0 j) = ∑ R : Fin 4096, dx X T A B G W (ix2 R j) * mix A B W (ix2 R j) := by
  pointwise [dgate]

theorem loss_apply (l : Fin 128) : loss X T A B G W (ix2 0 l) = Ideal.ofBits .f32 0x3F000000#32
    * ∑ R : Fin 4096, Ideal.div (∑ j : Fin 1024, resid X T A B G W (ix2 R j) * resid X T A B G W (ix2 R j)) (Ideal.ofBits .f32 0x44800000#32) := by
  pointwise [loss]

end Cert.Reference2Ideal.Project
-- ==== Proof.Project.Equation.lean ====
/-
  The output projection's gradient: the five arrays the kernel leaves are the reference's five results, over the extended
  reals. Exact addition and multiplication are commutative and associative on every extended real, and a non-negative
  finite factor distributes over sums, so nothing is asked of the arguments.
-/
module

public import proofs.«01_k».proof.Proof.Project.Reference

@[expose] public section

set_option maxRecDepth 16384

noncomputable section

open Idealize.ShloMosaic Idealize.ShloMosaic.TcCoe Idealize.SL.Sem

namespace Cert.Project

/-! ## The constants -/

theorem half_eq : Ideal.ofBits .f32 0x3F000000#32 = (((1 : ℝ) / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem inv_width_eq : Ideal.ofBits .f32 0x3A800000#32 = (((1 : ℝ) / 1024 : ℝ) : EReal) := by
  simp [Ideal.ofBits, Ideal.ieee, -EReal.coe_mul]; norm_num

theorem half_inv_width_eq : Ideal.ofBits .f32 0x3A000000#32 = (((1 : ℝ) / 2048 : ℝ) : EReal) := by
  simp [Ideal.ofBits, Ideal.ieee, -EReal.coe_mul]; norm_num

/-- A non-negative real factor moves out of a sum, whatever the terms. -/
theorem sum_mul_coe {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert i s hi ih =>
    rw [Finset.sum_insert hi, Finset.sum_insert hi, ih,
      EReal.right_distrib_of_nonneg_of_ne_top (by exact_mod_cast hr) (EReal.coe_ne_top r)]

/-- Half of one over the width, times twice a number, is the number over the width. -/
theorem scale_eq (e : EReal) : Ideal.div (Ideal.ofBits .f32 0x3F000000#32 * 1) (Ideal.ofBits .f32 0x44800000#32)
    * (Ideal.ofBits .f32 0x40000000#32 * e) = e * Ideal.ofBits .f32 0x3A800000#32 := by
  rw [half_eq, width_eq, two_eq, inv_width_eq, Ideal.div_coe (by norm_num), mul_one, ← mul_assoc, ← EReal.coe_mul, ← EReal.coe_mul,
    mul_comm e]
  norm_num

/-- The mean of the rows' mean squares, halved, is the sum of all squares times one scale. -/
theorem loss_eq (q : Fin 4096 → EReal) : Ideal.ofBits .f32 0x3F000000#32 * ∑ R : Fin 4096, Ideal.div (q R) (Ideal.ofBits .f32 0x44800000#32)
    = (∑ R : Fin 4096, q R) * Ideal.ofBits .f32 0x3A000000#32 := by
  simp only [width_eq, Ideal.div_coe (show (1024 : ℝ) ≠ 0 by norm_num)]
  rw [sum_mul_coe _ _ (by norm_num), half_eq, half_inv_width_eq, mul_comm, mul_assoc, ← EReal.coe_mul]
  norm_num

end Cert.Project

namespace Cert.Kernel2Ideal.Tile

open Cert.Kernel2Ideal Cert.Kernel2Ideal.Gen Cert.Kernel2Ideal.Value Cert.Project

variable (m : (ℓ : Loc nD τ sig) → Buf (Elt Ideal) ℓ) (c : Dev nD)

/-- The two programs' terms over the kernel's arguments. -/
abbrev refDx := Cert.Reference2Ideal.Project.dx (argX m c) (argT m c) (argA m c) (argB m c) (argG m c) (argW m c)
abbrev refDmix := Cert.Reference2Ideal.Project.dmix (argX m c) (argT m c) (argA m c) (argB m c) (argG m c) (argW m c)

theorem refDx_apply (R : Fin 4096) (j : Fin 1024) : refDx m c (ix2 R j) = dyM m c R j :=
  (Cert.Reference2Ideal.Project.dx_apply _ _ _ _ _ _ R j).trans (scale_eq _)

theorem refDmix_apply (R : Fin 4096) (j : Fin 1024) : refDmix m c (ix2 R j) = dmixM m c R j := by
  refine (Cert.Reference2Ideal.Project.dmix_apply _ _ _ _ _ _ R j).trans ?_
  rw [show Cert.Reference2Ideal.Project.dx _ _ _ _ _ _ (ix2 R j) = _ from refDx_apply m c R j]
  exact mul_comm _ _

theorem dx_eq : G6 m c = Cert.Reference2Ideal.Project.dx (argX m c) (argT m c) (argA m c) (argB m c) (argG m c) (argW m c) := by
  funext i
  idx_vars i
  exact (G6_apply m c _ _).trans (refDx_apply m c _ _).symm

theorem dcat_eq : G7 m c = Cert.Reference2Ideal.Project.dcat (argX m c) (argT m c) (argA m c) (argB m c) (argG m c) (argW m c) := by
  funext i
  idx_vars i
  refine (G7_apply m c i0 i1).trans (Eq.trans (?_ : (_ : EReal) = _) (Cert.Reference2Ideal.Project.dcat_apply _ _ _ _ _ _ i0 i1).symm)
  rw [Cert.Reference2Ideal.Project.dhalves_apply]
  unfold dcatM dcatAt dcatRow
  refine Finset.sum_congr rfl fun j _ => ?_
  exact congrArg (· * argW m c (ix2 i1 j)) (refDmix_apply m c i0 j).symm

theorem dw_eq : G8 m c = Cert.Reference2Ideal.Project.dw (argX m c) (argT m c) (argA m c) (argB m c) (argG m c) (argW m c) := by
  funext i
  idx_vars i
  refine (G8_apply m c i0 i1).trans (Eq.trans (?_ : (_ : EReal) = _) (Cert.Reference2Ideal.Project.dw_apply _ _ _ _ _ _ i0 i1).symm)
  refine Finset.sum_congr rfl fun R _ => ?_
  rw [Cert.Reference2Ideal.Project.cat_apply, mul_comm]
  exact congrArg (· * catAt m c R i0) (refDmix_apply m c R i1).symm

theorem dgate_eq : G9 m c = Cert.Reference2Ideal.Project.dgate (argX m c) (argT m c) (argA m c) (argB m c) (argG m c) (argW m c) := by
  funext i
  idx_vars i
  obtain rfl : i0 = (0 : Fin 1) := Fin.fin_one_eq_zero i0
  refine (G9_apply m c i1).trans (Eq.trans (?_ : (_ : EReal) = _) (Cert.Reference2Ideal.Project.dgate_apply _ _ _ _ _ _ i1).symm)
  refine Finset.sum_congr rfl fun R _ => ?_
  rw [Cert.Reference2Ideal.Project.mix_apply]
  exact congrArg (· * mixM m c R i1) (refDx_apply m c R i1).symm

theorem loss_eq : G10 m c = Cert.Reference2Ideal.Project.loss (argX m c) (argT m c) (argA m c) (argB m c) (argG m c) (argW m c) := by
  funext i
  idx_vars i
  obtain rfl : i0 = (0 : Fin 1) := Fin.fin_one_eq_zero i0
  refine (G10_apply m c i1).trans (Eq.trans (?_ : (_ : EReal) = _) (Cert.Reference2Ideal.Project.loss_apply _ _ _ _ _ _ i1).symm)
  rw [Cert.Project.loss_eq, half_inv_width_eq, sum_mul_coe _ _ (by norm_num), sum_rows]
  congr 1
  refine Finset.sum_congr rfl fun t _ => ?_
  unfold tileSquares
  rw [Finset.sum_comm]
  refine Finset.sum_congr rfl fun r _ => Finset.sum_congr rfl fun j _ => ?_
  rw [Cert.Reference2Ideal.Project.resid_apply]

end Cert.Kernel2Ideal.Tile
-- ==== Proof.Gating.Chunk.lean ====
/-
  The spatial gating unit's gradient on one chunk of 128 rows and one group of 128 columns: the body's arithmetic as
  named terms of the blocks it loads, and the sixteen stores of a tile as lists of those terms, group by group and,
  within a group, chunk by chunk.
-/
module

public import proofs.«01_k».proof.Proof.Gen.KernelIdeal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Gating

open Cert.KernelIdeal Cert.KernelIdeal.Gen

variable {F : FTy → Type} [FloatOps F] [Named F]

/-! ## One chunk's terms -/

section Terms

/-- A constant filling a chunk. -/
abbrev fill (b : BitVec 32) : FVec F S128x128 .f32 := broadcast S128x128 (Scalar.ofBits .f32 b)

/-- The normal distribution function, and the derivative of `x · cdf x`. -/
def cdf (x : FVec F S128x128 .f32) : FVec F S128x128 .f32 :=
  mulf (fill 0x3F000000#32) (addf (fill 0x3F800000#32)
    (erf (mulf x (broadcast S128x128 (Named.named κ "rsqrt_two" 0x3F3504F3#32)))))
def dgelu (x : FVec F S128x128 .f32) : FVec F S128x128 .f32 :=
  addf (cdf x) (mulf x (mulf (exp (mulf (mulf (fill 0xBF000000#32) x) x))
    (broadcast S128x128 (Named.named κ "rsqrt_two_pi" 0x3ECC422A#32))))

/-- The logistic function, printed as `1 / (1 + exp (0 - x))`. -/
def logi (x : FVec F S128x128 .f32) : FVec F S128x128 .f32 :=
  divf (fill 0x3F800000#32) (addf (fill 0x3F800000#32) (exp (subf (fill 0x00000000#32) x)))

variable (au av ag d : Vec F S128x128 .bf16) (sg : Vec F S1x128 .f32) (ws wst bsb : Vec F S1x128x128 .f32) (ones : Vec F S8x128 .bf16)

/-- A loaded chunk at the wide format. -/
def wide (x : Vec F S128x128 .bf16) : FVec F S128x128 .f32 := extf .f32 x bitsLt_bf16_f32

/-- `gelu` of the `u` and of the `v` part. -/
def gel (x : Vec F S128x128 .bf16) : FVec F S128x128 .f32 := mulf (wide x) (cdf (wide x))

/-- The reciprocal root of the mean square of the rows of `gelu v`. -/
def rr : FVec F S128x1 .f32 :=
  rsqrt (addf (divf (shapeCast S128x1 (multiReduction .add [1] S128 (mulf (gel av) (gel av)) 0x00000000#32
      reduces_S128x128_S128 (.inl rfl) rfl) shapeCasts_S128_S128x1)
    (broadcast S128x1 (Scalar.ofBits .f32 0x43000000#32))) (broadcast S128x1 (Scalar.ofBits .f32 0x358637BD#32)))

/-- The normalised rows, and the same scaled by the gain. -/
def vhat : FVec F S128x128 .f32 := mulf (gel av) (broadcastTo S128x128 (rr av) broadcasts_S128x1_S128x128)
def vn : FVec F S128x128 .f32 := mulf (vhat av) (broadcastTo S128x128 sg broadcasts_S1x128_S128x128)

/-- A group's matrix of mixing weights, rounded. -/
def wmat (w : Vec F S1x128x128 .f32) : FVec F S128x128 .bf16 :=
  truncf .bf16 (shapeCast S128x128 w shapeCasts_S1x128x128_S128x128 : FVec F S128x128 .f32) bitsLt_bf16_f32

/-- The rows mixed along the chunk, and the bias added. -/
def mixed : FVec F S128x128 .f32 :=
  addf (matmul dot_S128x128_S128x128_S128x128_1_0_0_1_n_n none (wmat ws) (truncf .bf16 (vn av sg) bitsLt_bf16_f32)
    (constant S128x128 .f32 0x00000000#32)) (shapeCast S128x128 bsb shapeCasts_S1x128x128_S128x128)

/-- `silu` of the gate part. -/
def silu : FVec F S128x128 .f32 := mulf (wide ag) (logi (wide ag))

/-- What the body stores for the three parts of the input. -/
def dau : FVec F S128x128 .bf16 :=
  truncf .bf16 (mulf (mulf (mulf (wide d) (mixed av sg ws bsb)) (silu ag)) (dgelu (wide au))) bitsLt_bf16_f32
def dag : FVec F S128x128 .bf16 :=
  truncf .bf16 (mulf (mulf (mulf (wide d) (gel au)) (mixed av sg ws bsb))
    (mulf (logi (wide ag)) (addf (fill 0x3F800000#32) (mulf (wide ag) (subf (fill 0x3F800000#32) (logi (wide ag)))))))
    bitsLt_bf16_f32

/-- The gradient at the mixed rows, rounded, and what the rounding lost. -/
def dmix : FVec F S128x128 .f32 := mulf (mulf (wide d) (gel au)) (silu ag)
def dmb : FVec F S128x128 .bf16 := truncf .bf16 (dmix au ag d) bitsLt_bf16_f32
def dlo : FVec F S128x128 .bf16 :=
  truncf .bf16 (subf (dmix au ag d) (extf .f32 (dmb au ag d) bitsLt_bf16_f32)) bitsLt_bf16_f32

/-- What a chunk adds to the mixing weights', the biases' and the gain's gradients. -/
def dws : FVec F S128x128 .f32 :=
  matmul dot_S128x128_S128x128_S128x128_1_1_0_0_n_n none (dmb au ag d) (truncf .bf16 (vn av sg) bitsLt_bf16_f32)
    (constant S128x128 .f32 0x00000000#32)
def dbs : FVec F S8x128 .f32 :=
  addf (matmul dot_S8x128_S128x128_S8x128_1_1_0_0_n_n none (shapeCast S8x128 ones shapeCasts_S8x128_S8x128 : FVec F S8x128 .bf16)
      (dmb au ag d) (constant S8x128 .f32 0x00000000#32))
    (matmul dot_S8x128_S128x128_S8x128_1_1_0_0_n_n none (shapeCast S8x128 ones shapeCasts_S8x128_S8x128 : FVec F S8x128 .bf16)
      (dlo au ag d) (constant S8x128 .f32 0x00000000#32))
def dvn : FVec F S128x128 .f32 :=
  matmul dot_S128x128_S128x128_S128x128_1_0_0_1_n_n none (wmat wst) (dmb au ag d) (constant S128x128 .f32 0x00000000#32)
def dsg : FVec F S1x128 .f32 :=
  shapeCast S1x128 (multiReduction .add [0] S128 (mulf (dvn au ag d wst) (vhat av)) 0x00000000#32 reduces_S128x128_S128_2 (.inl rfl) rfl)
    shapeCasts_S128_S1x128

/-- The gradient back through the row normalisation and `gelu`. -/
def dvhat : FVec F S128x128 .f32 := mulf (dvn au ag d wst) (broadcastTo S128x128 sg broadcasts_S1x128_S128x128)
def dmean : FVec F S128x1 .f32 :=
  divf (shapeCast S128x1 (multiReduction .add [1] S128 (mulf (dvhat au ag d sg wst) (vhat av)) 0x00000000#32
      reduces_S128x128_S128 (.inl rfl) rfl) shapeCasts_S128_S128x1) (broadcast S128x1 (Scalar.ofBits .f32 0x43000000#32))
def dav : FVec F S128x128 .bf16 :=
  truncf .bf16 (mulf (mulf (broadcastTo S128x128 (rr av) broadcasts_S128x1_S128x128)
    (subf (dvhat au ag d sg wst) (mulf (vhat av) (broadcastTo S128x128 (dmean au av ag d sg wst) broadcasts_S128x1_S128x128))))
    (dgelu (wide av))) bitsLt_bf16_f32

end Terms

/-! ## A tile's stores -/

/-- The rectangle of chunk `j` and group `g` in a tile, the group's part of a row, and the group's matrix. -/
abbrev rTile (g j : Fin 4) : Rect S512x512 :=
  Rect.unit ![128 * j.val, 128 * g.val] ![128, 128] (by intro a; fin_cases a <;> simp <;> omega)
abbrev rRow (g : Fin 4) : Rect S1x512 :=
  Rect.unit ![0, 128 * g.val] ![1, 128] (by intro a; fin_cases a <;> simp <;> omega)
abbrev rMat (g : Fin 4) : Rect S4x128x128 :=
  Rect.unit ![g.val, 0, 0] ![1, 128, 128] (by intro a; fin_cases a <;> simp <;> omega)
abbrev rBias (g : Fin 4) : Rect S4x8x128 :=
  Rect.unit ![g.val, 0, 0] ![1, 8, 128] (by intro a; fin_cases a <;> simp <;> omega)
abbrev rOnes : Rect S8x128 := Rect.unit ![0, 0] ![8, 128] inb_S8x128_S8x128_0_0

/-- The group and the chunk of the `n`-th step of a tile. -/
abbrev grp (n : Nat) : Fin 4 := ⟨n / 4 % 4, Nat.mod_lt _ (by decide)⟩
abbrev chk (n : Nat) : Fin 4 := ⟨n % 4, Nat.mod_lt _ (by decide)⟩

section Tile

variable (x0 x1 x2 x3 : Vec F S512x512 .bf16) (x4 : Vec F S1x512 .f32) (x5 x6 x7 : Vec F S4x128x128 .f32) (x8 : Vec F S8x128 .bf16)

/-- What step `n` stores in a tile of the three outputs, and what it adds to the three accumulators. -/
abbrev stepU (g j : Fin 4) : Vec F S128x128 .bf16 :=
  dau (View.ld x0 (rTile g j)) (View.ld x1 (rTile g j)) (View.ld x2 (rTile g j)) (View.ld x3 (rTile g j)) (View.ld x4 (rRow g))
    (View.ld x5 (rMat g)) (View.ld x7 (rMat g))
abbrev stepV (g j : Fin 4) : Vec F S128x128 .bf16 :=
  dav (View.ld x0 (rTile g j)) (View.ld x1 (rTile g j)) (View.ld x2 (rTile g j)) (View.ld x3 (rTile g j)) (View.ld x4 (rRow g))
    (View.ld x6 (rMat g))
abbrev stepG (g j : Fin 4) : Vec F S128x128 .bf16 :=
  dag (View.ld x0 (rTile g j)) (View.ld x1 (rTile g j)) (View.ld x2 (rTile g j)) (View.ld x3 (rTile g j)) (View.ld x4 (rRow g))
    (View.ld x5 (rMat g)) (View.ld x7 (rMat g))
abbrev stepW (g j : Fin 4) : FVec F S128x128 .f32 :=
  dws (View.ld x0 (rTile g j)) (View.ld x1 (rTile g j)) (View.ld x2 (rTile g j)) (View.ld x3 (rTile g j)) (View.ld x4 (rRow g))
abbrev stepB (g j : Fin 4) : FVec F S8x128 .f32 :=
  dbs (View.ld x0 (rTile g j)) (View.ld x2 (rTile g j)) (View.ld x3 (rTile g j)) (View.ld x8 rOnes)
abbrev stepS (g j : Fin 4) : FVec F S1x128 .f32 :=
  dsg (View.ld x0 (rTile g j)) (View.ld x1 (rTile g j)) (View.ld x2 (rTile g j)) (View.ld x3 (rTile g j)) (View.ld x6 (rMat g))

/-- The tile's first `n` stores of the payloads `P`, the latest first. -/
def tileL (P : Fin 4 → Fin 4 → Vec F S128x128 .bf16) : Nat → List (View.Piece (Elt F) S512x512 .bf16)
  | 0 => []
  | n + 1 => ⟨rTile (grp n) (chk n), P (grp n) (chk n)⟩ :: tileL P n

/-- An accumulator's rectangle plus a step's part. -/
def matU (x : FVec F S1x128x128 .f32) (y : FVec F S128x128 .f32) : FVec F S1x128x128 .f32 :=
  shapeCast S1x128x128 (addf (shapeCast S128x128 x shapeCasts_S1x128x128_S128x128 : FVec F S128x128 .f32) y)
    shapeCasts_S128x128_S1x128x128
def biasU (x : FVec F S1x8x128 .f32) (y : FVec F S8x128 .f32) : FVec F S1x8x128 .f32 :=
  shapeCast S1x8x128 (addf (shapeCast S8x128 x shapeCasts_S1x8x128_S8x128 : FVec F S8x128 .f32) y) shapeCasts_S8x128_S1x8x128
def rowU (x y : FVec F S1x128 .f32) : FVec F S1x128 .f32 :=
  addf (shapeCast S1x128 x shapeCasts_S1x128_S1x128 : FVec F S1x128 .f32) y

/-- What a step reads back: for a group's first chunk `o` if there is one, else `d`. -/
def pick {α : Type} (o : Option α) (j : Fin 4) (d : α) : α :=
  match o, j with
  | some x, ⟨0, _⟩ => x
  | _, _ => d

/-- The first `n` stores of an accumulator over the stores `Z`: each adds its step's part to what it reads back, which for
    a group's first chunk is `old` if there is one, else what the stores left. -/
def matL (v : View sig .tc .vmem S4x128x128 .f32) (Z : List (View.Piece (Elt F) S4x128x128 .f32))
    (old : Option (Vec F S4x128x128 .f32)) (T : Fin 4 → Fin 4 → FVec F S128x128 .f32) :
    Nat → List (View.Piece (Elt F) S4x128x128 .f32)
  | 0 => Z
  | n + 1 => ⟨rMat (grp n), matU (pick (old.map fun x => View.ld x (rMat (grp n))) (chk n)
      (v.readCov (matL v Z old T n) (rMat (grp n)).toLoadRect)) (T (grp n) (chk n))⟩ :: matL v Z old T n

def biasL (v : View sig .tc .vmem S4x8x128 .f32) (Z : List (View.Piece (Elt F) S4x8x128 .f32))
    (old : Option (Vec F S4x8x128 .f32)) (T : Fin 4 → Fin 4 → FVec F S8x128 .f32) :
    Nat → List (View.Piece (Elt F) S4x8x128 .f32)
  | 0 => Z
  | n + 1 => ⟨rBias (grp n), biasU (pick (old.map fun x => View.ld x (rBias (grp n))) (chk n)
      (v.readCov (biasL v Z old T n) (rBias (grp n)).toLoadRect)) (T (grp n) (chk n))⟩ :: biasL v Z old T n

def rowL (v : View sig .tc .vmem S1x512 .f32) (Z : List (View.Piece (Elt F) S1x512 .f32))
    (old : Option (Vec F S1x512 .f32)) (T : Fin 4 → Fin 4 → FVec F S1x128 .f32) :
    Nat → List (View.Piece (Elt F) S1x512 .f32)
  | 0 => Z
  | n + 1 => ⟨rRow (grp n), rowU (pick (old.map fun x => View.ld x (rRow (grp n))) (chk n)
      (v.readCov (rowL v Z old T n) (rRow (grp n)).toLoadRect)) (T (grp n) (chk n))⟩ :: rowL v Z old T n

end Tile

end Cert.KernelIdeal.Gating
-- ==== Proof.Gating.Stores.lean ====
/-
  A tile's sixteen stores read back at an index: the three output tiles hold each step's payload, and the three
  accumulators hold what they held before plus the sum of the group's four parts.
-/
module

public import proofs.«01_k».proof.Proof.Gating.Chunk

@[expose] public section

set_option maxRecDepth 16384

noncomputable section

open Idealize.ShloMosaic Idealize.ShloMosaic.TcCoe Idealize.SL.Sem

namespace Cert.KernelIdeal.Gating

open Cert.KernelIdeal Cert.KernelIdeal.Gen

/-! ## Lists of stores -/

section Lists

variable {S : Shape} {φ : EltTy}

/-- Stores that miss an index leave it as it was. -/
theorem canon_skip (L : Nat → List (View.Piece (Elt Ideal) S φ)) (x : S.Idx) (lo k : Nat)
    (hL : ∀ n, lo ≤ n → n < lo + k → ∃ p : View.Piece (Elt Ideal) S φ, L (n + 1) = p :: L n ∧ x ∉ p.1.set) :
    View.canon (L (lo + k)) x = View.canon (L lo) x := by
  induction k with
  | zero => rfl
  | succ k ih =>
    obtain ⟨p, hp, hx⟩ := hL (lo + k) (by omega) (by omega)
    rw [← Nat.add_assoc, hp, View.canon_cons_of_not_mem p _ hx]
    exact ih fun n h1 h2 => hL n h1 (by omega)

end Lists

section Sum

variable {S : Shape}

/-- Four stores in turn at one rectangle, each adding to what it reads back, between stores that miss it. -/
theorem canon_sum (R : Fin 4 → Rect S) (L : Nat → List (View.Piece (Elt Ideal) S .f32))
    (P : (g j : Fin 4) → (R g).shape.Idx → Elt Ideal .f32) (g : Fin 4) (y : (R g).shape.Idx)
    (hL : ∀ g j : Fin 4, L (4 * g.val + j.val + 1) = (⟨R g, P g j⟩ : View.Piece (Elt Ideal) S .f32) :: L (4 * g.val + j.val))
    (hR : ∀ g', g' ≠ g → (R g).emb y ∉ (R g').set) (b : EReal) (T : Fin 4 → EReal)
    (h0 : P g 0 y = b + T 0)
    (h1 : P g 1 y = View.canon (L (4 * g.val + 1)) ((R g).emb y) + T 1)
    (h2 : P g 2 y = View.canon (L (4 * g.val + 2)) ((R g).emb y) + T 2)
    (h3 : P g 3 y = View.canon (L (4 * g.val + 3)) ((R g).emb y) + T 3) :
    View.canon (L 16) ((R g).emb y) = b + ∑ j, T j := by
  have hg := g.isLt
  have hk : View.canon (L (4 * g.val + 4 + (12 - 4 * g.val))) ((R g).emb y) = View.canon (L (4 * g.val + 4)) ((R g).emb y) := by
    refine canon_skip L _ _ _ fun n hlo hhi => ?_
    have := hL ⟨n / 4, by omega⟩ ⟨n % 4, by omega⟩
    rw [show 4 * (⟨n / 4, by omega⟩ : Fin 4).val + (⟨n % 4, by omega⟩ : Fin 4).val = n from Nat.div_add_mod n 4] at this
    refine ⟨_, this, hR _ fun h => ?_⟩
    have := congrArg Fin.val h
    simp only [] at this
    omega
  have e (j : Fin 4) : View.canon (L (4 * g.val + j.val + 1)) ((R g).emb y) = P g j y := by
    rw [hL g j, View.canon_cons_emb]
  rw [show 4 * g.val + 4 + (12 - 4 * g.val) = 16 by omega] at hk
  rw [hk, show L (4 * g.val + 4) = L (4 * g.val + (3 : Fin 4).val + 1) from rfl, e 3, h3,
    show L (4 * g.val + 3) = L (4 * g.val + (2 : Fin 4).val + 1) from rfl, e 2, h2,
    show L (4 * g.val + 2) = L (4 * g.val + (1 : Fin 4).val + 1) from rfl, e 1, h1,
    show L (4 * g.val + 1) = L (4 * g.val + (0 : Fin 4).val + 1) from rfl, e 0, h0, Fin.sum_univ_four]
  show b + T 0 + T 1 + T 2 + T 3 = (b + (T 0 + T 1 + T 2 + T 3) : EReal)
  simp only [add_assoc]

/-- Before a group's first store its rectangle is as the stores before the sixteen left it. -/
theorem canon_before (R : Fin 4 → Rect S) (L : Nat → List (View.Piece (Elt Ideal) S .f32))
    (P : (g j : Fin 4) → (R g).shape.Idx → Elt Ideal .f32) (g : Fin 4) (y : (R g).shape.Idx)
    (hL : ∀ g j : Fin 4, L (4 * g.val + j.val + 1) = (⟨R g, P g j⟩ : View.Piece (Elt Ideal) S .f32) :: L (4 * g.val + j.val))
    (hR : ∀ g', g' ≠ g → (R g).emb y ∉ (R g').set) :
    View.canon (L (4 * g.val)) ((R g).emb y) = View.canon (L 0) ((R g).emb y) := by
  have hg := g.isLt
  have hk : View.canon (L (0 + 4 * g.val)) ((R g).emb y) = View.canon (L 0) ((R g).emb y) := by
    refine canon_skip L _ _ _ fun n hlo hhi => ?_
    have := hL ⟨n / 4, by omega⟩ ⟨n % 4, by omega⟩
    rw [show 4 * (⟨n / 4, by omega⟩ : Fin 4).val + (⟨n % 4, by omega⟩ : Fin 4).val = n from Nat.div_add_mod n 4] at this
    refine ⟨_, this, hR _ fun h => ?_⟩
    have := congrArg Fin.val h
    simp only [] at this
    omega
  rwa [Nat.zero_add] at hk

end Sum

/-! ## Indices -/

/-- Row `q` of chunk `j` of a tile, and column `e` of group `g`. -/
abbrev trow (j : Fin 4) (q : Fin 128) : Fin 512 := ⟨128 * j.val + q.val, by omega⟩
abbrev tcol (g : Fin 4) (e : Fin 128) : Fin 512 := ⟨g.val * 128 + e.val, by omega⟩

theorem emb_tile (g j : Fin 4) (q e : Fin 128) :
    (rTile g j).emb (ix2 q e : (⟨2, ![128, 128]⟩ : Shape).Idx) = (ix2 (trow j q) (tcol g e) : S512x512.Idx) := by
  funext a; apply Fin.ext
  match a with
  | ⟨0, _⟩ => show 128 * j.val + 1 * q.val = 128 * j.val + q.val; omega
  | ⟨1, _⟩ => show 128 * g.val + 1 * e.val = g.val * 128 + e.val; omega

theorem emb_row (g : Fin 4) (e : Fin 128) :
    (rRow g).emb (ix2 0 e : (⟨2, ![1, 128]⟩ : Shape).Idx) = (ix2 0 (tcol g e) : S1x512.Idx) := by
  funext a; apply Fin.ext
  match a with
  | ⟨0, _⟩ => rfl
  | ⟨1, _⟩ => show 128 * g.val + 1 * e.val = g.val * 128 + e.val; omega

theorem emb_mat (g : Fin 4) (p q : Fin 128) :
    (rMat g).emb (ix3 0 p q : (⟨3, ![1, 128, 128]⟩ : Shape).Idx) = (ix3 g p q : S4x128x128.Idx) := by
  funext a; apply Fin.ext
  match a with
  | ⟨0, _⟩ => show g.val + 1 * 0 = g.val; omega
  | ⟨1, _⟩ => show 0 + 1 * p.val = p.val; omega
  | ⟨2, _⟩ => show 0 + 1 * q.val = q.val; omega

theorem emb_bias (g : Fin 4) (k : Fin 8) (p : Fin 128) :
    (rBias g).emb (ix3 0 k p : (⟨3, ![1, 8, 128]⟩ : Shape).Idx) = (ix3 g k p : S4x8x128.Idx) := by
  funext a; apply Fin.ext
  match a with
  | ⟨0, _⟩ => show g.val + 1 * 0 = g.val; omega
  | ⟨1, _⟩ => show 0 + 1 * k.val = k.val; omega
  | ⟨2, _⟩ => show 0 + 1 * p.val = p.val; omega

theorem not_mem_tile (g j g' j' : Fin 4) (q e : Fin 128) (h : g' ≠ g ∨ j' ≠ j) :
    (ix2 (trow j q) (tcol g e) : S512x512.Idx) ∉ (rTile g' j').set := by
  intro hm
  have hr := (Rect.mem_set_unit.mp hm) 0
  have hc := (Rect.mem_set_unit.mp hm) 1
  change 128 * j'.val ≤ 128 * j.val + q.val ∧ 128 * j.val + q.val < 128 * j'.val + 128 at hr
  change 128 * g'.val ≤ g.val * 128 + e.val ∧ g.val * 128 + e.val < 128 * g'.val + 128 at hc
  rcases h with h | h
  · exact h (Fin.ext (by omega))
  · exact h (Fin.ext (by omega))

theorem not_mem_row (g g' : Fin 4) (e : Fin 128) (h : g' ≠ g) : (ix2 0 (tcol g e) : S1x512.Idx) ∉ (rRow g').set := by
  intro hm
  have hc := (Rect.mem_set_unit.mp hm) 1
  change 128 * g'.val ≤ g.val * 128 + e.val ∧ g.val * 128 + e.val < 128 * g'.val + 128 at hc
  exact h (Fin.ext (by omega))

theorem not_mem_mat (g g' : Fin 4) (p q : Fin 128) (h : g' ≠ g) : (ix3 g p q : S4x128x128.Idx) ∉ (rMat g').set := by
  intro hm
  have hc := (Rect.mem_set_unit.mp hm) 0
  change g'.val ≤ g.val ∧ g.val < g'.val + 1 at hc
  exact h (Fin.ext (by omega))

theorem not_mem_bias (g g' : Fin 4) (k : Fin 8) (p : Fin 128) (h : g' ≠ g) : (ix3 g k p : S4x8x128.Idx) ∉ (rBias g').set := by
  intro hm
  have hc := (Rect.mem_set_unit.mp hm) 0
  change g'.val ≤ g.val ∧ g.val < g'.val + 1 at hc
  exact h (Fin.ext (by omega))

/-! ## The output tiles -/

theorem grp_eq (g j : Fin 4) : grp (4 * g.val + j.val) = g := Fin.ext (by show (4 * g.val + j.val) / 4 % 4 = g.val; omega)
theorem chk_eq (g j : Fin 4) : chk (4 * g.val + j.val) = j := Fin.ext (by show (4 * g.val + j.val) % 4 = j.val; omega)

theorem tile_apply (P : Fin 4 → Fin 4 → Vec Ideal S128x128 .bf16) (g j : Fin 4) (q e : Fin 128) :
    View.canon (tileL P 16) (ix2 (trow j q) (tcol g e)) = P g j (ix2 q e) := by
  have hk : View.canon (tileL P (4 * g.val + j.val + 1 + (15 - (4 * g.val + j.val)))) (ix2 (trow j q) (tcol g e))
      = View.canon (tileL P (4 * g.val + j.val + 1)) (ix2 (trow j q) (tcol g e)) := by
    refine canon_skip (tileL P) _ _ _ fun n hlo hhi => ?_
    refine ⟨⟨rTile (grp n) (chk n), P (grp n) (chk n)⟩, rfl, not_mem_tile g j _ _ q e ?_⟩
    by_contra hc
    rw [not_or, not_not, not_not] at hc
    have h1 := congrArg Fin.val hc.1
    have h2 := congrArg Fin.val hc.2
    simp only [] at h1 h2
    omega
  rw [show 4 * g.val + j.val + 1 + (15 - (4 * g.val + j.val)) = 16 by omega] at hk
  rw [hk, ← emb_tile]
  show View.canon ((⟨rTile (grp (4 * g.val + j.val)) (chk (4 * g.val + j.val)), P (grp (4 * g.val + j.val)) (chk (4 * g.val + j.val))⟩ :
    View.Piece (Elt Ideal) S512x512 .bf16) :: tileL P (4 * g.val + j.val)) _ = _
  rw [grp_eq, chk_eq]
  exact View.canon_cons_emb (rTile g j) (P g j) _ (ix2 q e)

/-! ## The accumulators -/

section Accumulators

theorem pick_back {α : Type} (o : Option α) (j : Fin 4) (d : α) (h : j ≠ 0 ∨ o = none) : pick o j d = d := by
  rcases h with h | rfl
  · obtain ⟨n, hn⟩ := j
    cases o with
    | none => rfl
    | some x =>
      cases n with
      | zero => exact absurd rfl h
      | succ n => rfl
  · rfl

/-- What step `j` of group `g` stores. -/
abbrev matP (v : View sig .tc .vmem S4x128x128 .f32) (Z : List (View.Piece (Elt Ideal) S4x128x128 .f32)) (old : Option (Vec Ideal S4x128x128 .f32))
    (T : Fin 4 → Fin 4 → FVec Ideal S128x128 .f32) (g j : Fin 4) : (rMat g).shape.Idx → Elt Ideal .f32 :=
  matU (pick (old.map fun x => View.ld x (rMat g)) j (v.readCov (matL v Z old T (4 * g.val + j.val)) (rMat g).toLoadRect)) (T g j)

theorem matU_apply (x : FVec Ideal S1x128x128 .f32) (y : FVec Ideal S128x128 .f32) (p q : Fin 128) :
    matU x y (ix3 0 p q) = (x (ix3 0 p q) + y (ix2 p q) : EReal) := by
  pointwise [matU]

theorem mat_step (v : View sig .tc .vmem S4x128x128 .f32) (Z : List (View.Piece (Elt Ideal) S4x128x128 .f32)) (old : Option (Vec Ideal S4x128x128 .f32))
    (T : Fin 4 → Fin 4 → FVec Ideal S128x128 .f32) (g j : Fin 4) : matL v Z old T (4 * g.val + j.val + 1) =
      (⟨rMat g, matP v Z old T g j⟩ : View.Piece (Elt Ideal) S4x128x128 .f32) :: matL v Z old T (4 * g.val + j.val) := by
  have e (n : Nat) (g j : Fin 4) (hg : grp n = g) (hj : chk n = j) : matL v Z old T (n + 1) =
      (⟨rMat g, matU (pick (old.map fun x => View.ld x (rMat g)) j (v.readCov (matL v Z old T n) (rMat g).toLoadRect)) (T g j)⟩ :
        View.Piece (Elt Ideal) S4x128x128 .f32) :: matL v Z old T n := by
    subst hg hj; rfl
  exact e _ g j (grp_eq g j) (chk_eq g j)

theorem mat_back (v : View sig .tc .vmem S4x128x128 .f32) (Z : List (View.Piece (Elt Ideal) S4x128x128 .f32)) (old : Option (Vec Ideal S4x128x128 .f32))
    (T : Fin 4 → Fin 4 → FVec Ideal S128x128 .f32) (g j : Fin 4) (h : j ≠ 0 ∨ old = none) (p q : Fin 128) :
    matP v Z old T g j (ix3 0 p q) = (View.canon (matL v Z old T (4 * g.val + j.val)) ((rMat g).emb (ix3 0 p q)) + T g j (ix2 p q) : EReal) := by
  refine (matU_apply _ _ p q).trans ?_
  rw [pick_back _ _ _ (h.imp id fun h => by rw [h]; rfl), View.readCov_eq_canon']
  rfl

theorem mat_first (v : View sig .tc .vmem S4x128x128 .f32) (Z : List (View.Piece (Elt Ideal) S4x128x128 .f32))
    (T : Fin 4 → Fin 4 → FVec Ideal S128x128 .f32) (hZ : ∀ i, View.canon Z i = (0 : EReal)) (g : Fin 4) (p q : Fin 128) :
    View.canon (matL v Z none T 16) (ix3 g p q) = (∑ j, T g j (ix2 p q) : EReal) := by
  have hR : ∀ g', g' ≠ g → (rMat g).emb (ix3 0 p q) ∉ (rMat g').set := fun g' h => by rw [emb_mat g p q]; exact not_mem_mat g g' p q h
  rw [← emb_mat g p q]
  refine (canon_sum rMat (matL v Z none T) (matP v Z none T) g (ix3 0 p q) (mat_step v Z none T) hR 0 (fun j => T g j (ix2 p q)) ?_
    (mat_back v Z none T g 1 (.inr rfl) p q) (mat_back v Z none T g 2 (.inr rfl) p q) (mat_back v Z none T g 3 (.inr rfl) p q)).trans
    (zero_add _)
  refine (mat_back v Z none T g 0 (.inr rfl) p q).trans ?_
  exact congrArg (fun x : EReal => x + T g 0 (ix2 p q)) ((canon_before rMat (matL v Z none T) (matP v Z none T) g (ix3 0 p q) (mat_step v Z none T) hR).trans (hZ _))

theorem mat_later (v : View sig .tc .vmem S4x128x128 .f32) (Z : List (View.Piece (Elt Ideal) S4x128x128 .f32)) (x : Vec Ideal S4x128x128 .f32)
    (T : Fin 4 → Fin 4 → FVec Ideal S128x128 .f32) (g : Fin 4) (p q : Fin 128) :
    View.canon (matL v Z (some x) T 16) (ix3 g p q) = (x (ix3 g p q) + ∑ j, T g j (ix2 p q) : EReal) := by
  have hR : ∀ g', g' ≠ g → (rMat g).emb (ix3 0 p q) ∉ (rMat g').set := fun g' h => by rw [emb_mat g p q]; exact not_mem_mat g g' p q h
  refine Eq.trans ?_ (congrArg (fun i => (x i + ∑ j, T g j (ix2 p q) : EReal)) (emb_mat g p q))
  rw [← emb_mat g p q]
  exact canon_sum rMat (matL v Z (some x) T) (matP v Z (some x) T) g (ix3 0 p q) (mat_step v Z (some x) T) hR (x ((rMat g).emb (ix3 0 p q)))
    (fun j => T g j (ix2 p q)) (matU_apply _ _ p q)
    (mat_back v Z (some x) T g 1 (.inl (by decide)) p q) (mat_back v Z (some x) T g 2 (.inl (by decide)) p q)
    (mat_back v Z (some x) T g 3 (.inl (by decide)) p q)

/-- What step `j` of group `g` stores. -/
abbrev biasP (v : View sig .tc .vmem S4x8x128 .f32) (Z : List (View.Piece (Elt Ideal) S4x8x128 .f32)) (old : Option (Vec Ideal S4x8x128 .f32))
    (T : Fin 4 → Fin 4 → FVec Ideal S8x128 .f32) (g j : Fin 4) : (rBias g).shape.Idx → Elt Ideal .f32 :=
  biasU (pick (old.map fun x => View.ld x (rBias g)) j (v.readCov (biasL v Z old T (4 * g.val + j.val)) (rBias g).toLoadRect)) (T g j)

theorem biasU_apply (x : FVec Ideal S1x8x128 .f32) (y : FVec Ideal S8x128 .f32) (k : Fin 8) (p : Fin 128) :
    biasU x y (ix3 0 k p) = (x (ix3 0 k p) + y (ix2 k p) : EReal) := by
  pointwise [biasU]

theorem bias_step (v : View sig .tc .vmem S4x8x128 .f32) (Z : List (View.Piece (Elt Ideal) S4x8x128 .f32)) (old : Option (Vec Ideal S4x8x128 .f32))
    (T : Fin 4 → Fin 4 → FVec Ideal S8x128 .f32) (g j : Fin 4) : biasL v Z old T (4 * g.val + j.val + 1) =
      (⟨rBias g, biasP v Z old T g j⟩ : View.Piece (Elt Ideal) S4x8x128 .f32) :: biasL v Z old T (4 * g.val + j.val) := by
  have e (n : Nat) (g j : Fin 4) (hg : grp n = g) (hj : chk n = j) : biasL v Z old T (n + 1) =
      (⟨rBias g, biasU (pick (old.map fun x => View.ld x (rBias g)) j (v.readCov (biasL v Z old T n) (rBias g).toLoadRect)) (T g j)⟩ :
        View.Piece (Elt Ideal) S4x8x128 .f32) :: biasL v Z old T n := by
    subst hg hj; rfl
  exact e _ g j (grp_eq g j) (chk_eq g j)

theorem bias_back (v : View sig .tc .vmem S4x8x128 .f32) (Z : List (View.Piece (Elt Ideal) S4x8x128 .f32)) (old : Option (Vec Ideal S4x8x128 .f32))
    (T : Fin 4 → Fin 4 → FVec Ideal S8x128 .f32) (g j : Fin 4) (h : j ≠ 0 ∨ old = none) (k : Fin 8) (p : Fin 128) :
    biasP v Z old T g j (ix3 0 k p) = (View.canon (biasL v Z old T (4 * g.val + j.val)) ((rBias g).emb (ix3 0 k p)) + T g j (ix2 k p) : EReal) := by
  refine (biasU_apply _ _ k p).trans ?_
  rw [pick_back _ _ _ (h.imp id fun h => by rw [h]; rfl), View.readCov_eq_canon']
  rfl

theorem bias_first (v : View sig .tc .vmem S4x8x128 .f32) (Z : List (View.Piece (Elt Ideal) S4x8x128 .f32))
    (T : Fin 4 → Fin 4 → FVec Ideal S8x128 .f32) (hZ : ∀ i, View.canon Z i = (0 : EReal)) (g : Fin 4) (k : Fin 8) (p : Fin 128) :
    View.canon (biasL v Z none T 16) (ix3 g k p) = (∑ j, T g j (ix2 k p) : EReal) := by
  have hR : ∀ g', g' ≠ g → (rBias g).emb (ix3 0 k p) ∉ (rBias g').set := fun g' h => by rw [emb_bias g k p]; exact not_mem_bias g g' k p h
  rw [← emb_bias g k p]
  refine (canon_sum rBias (biasL v Z none T) (biasP v Z none T) g (ix3 0 k p) (bias_step v Z none T) hR 0 (fun j => T g j (ix2 k p)) ?_
    (bias_back v Z none T g 1 (.inr rfl) k p) (bias_back v Z none T g 2 (.inr rfl) k p) (bias_back v Z none T g 3 (.inr rfl) k p)).trans
    (zero_add _)
  refine (bias_back v Z none T g 0 (.inr rfl) k p).trans ?_
  exact congrArg (fun x : EReal => x + T g 0 (ix2 k p)) ((canon_before rBias (biasL v Z none T) (biasP v Z none T) g (ix3 0 k p) (bias_step v Z none T) hR).trans (hZ _))

theorem bias_later (v : View sig .tc .vmem S4x8x128 .f32) (Z : List (View.Piece (Elt Ideal) S4x8x128 .f32)) (x : Vec Ideal S4x8x128 .f32)
    (T : Fin 4 → Fin 4 → FVec Ideal S8x128 .f32) (g : Fin 4) (k : Fin 8) (p : Fin 128) :
    View.canon (biasL v Z (some x) T 16) (ix3 g k p) = (x (ix3 g k p) + ∑ j, T g j (ix2 k p) : EReal) := by
  have hR : ∀ g', g' ≠ g → (rBias g).emb (ix3 0 k p) ∉ (rBias g').set := fun g' h => by rw [emb_bias g k p]; exact not_mem_bias g g' k p h
  refine Eq.trans ?_ (congrArg (fun i => (x i + ∑ j, T g j (ix2 k p) : EReal)) (emb_bias g k p))
  rw [← emb_bias g k p]
  exact canon_sum rBias (biasL v Z (some x) T) (biasP v Z (some x) T) g (ix3 0 k p) (bias_step v Z (some x) T) hR (x ((rBias g).emb (ix3 0 k p)))
    (fun j => T g j (ix2 k p)) (biasU_apply _ _ k p)
    (bias_back v Z (some x) T g 1 (.inl (by decide)) k p) (bias_back v Z (some x) T g 2 (.inl (by decide)) k p)
    (bias_back v Z (some x) T g 3 (.inl (by decide)) k p)

/-- What step `j` of group `g` stores. -/
abbrev rowP (v : View sig .tc .vmem S1x512 .f32) (Z : List (View.Piece (Elt Ideal) S1x512 .f32)) (old : Option (Vec Ideal S1x512 .f32))
    (T : Fin 4 → Fin 4 → FVec Ideal S1x128 .f32) (g j : Fin 4) : (rRow g).shape.Idx → Elt Ideal .f32 :=
  rowU (pick (old.map fun x => View.ld x (rRow g)) j (v.readCov (rowL v Z old T (4 * g.val + j.val)) (rRow g).toLoadRect)) (T g j)

theorem rowU_apply (x : FVec Ideal S1x128 .f32) (y : FVec Ideal S1x128 .f32) (e : Fin 128) :
    rowU x y (ix2 0 e) = (x (ix2 0 e) + y (ix2 0 e) : EReal) := by
  pointwise [rowU]

theorem row_step (v : View sig .tc .vmem S1x512 .f32) (Z : List (View.Piece (Elt Ideal) S1x512 .f32)) (old : Option (Vec Ideal S1x512 .f32))
    (T : Fin 4 → Fin 4 → FVec Ideal S1x128 .f32) (g j : Fin 4) : rowL v Z old T (4 * g.val + j.val + 1) =
      (⟨rRow g, rowP v Z old T g j⟩ : View.Piece (Elt Ideal) S1x512 .f32) :: rowL v Z old T (4 * g.val + j.val) := by
  have e (n : Nat) (g j : Fin 4) (hg : grp n = g) (hj : chk n = j) : rowL v Z old T (n + 1) =
      (⟨rRow g, rowU (pick (old.map fun x => View.ld x (rRow g)) j (v.readCov (rowL v Z old T n) (rRow g).toLoadRect)) (T g j)⟩ :
        View.Piece (Elt Ideal) S1x512 .f32) :: rowL v Z old T n := by
    subst hg hj; rfl
  exact e _ g j (grp_eq g j) (chk_eq g j)

theorem row_back (v : View sig .tc .vmem S1x512 .f32) (Z : List (View.Piece (Elt Ideal) S1x512 .f32)) (old : Option (Vec Ideal S1x512 .f32))
    (T : Fin 4 → Fin 4 → FVec Ideal S1x128 .f32) (g j : Fin 4) (h : j ≠ 0 ∨ old = none) (e : Fin 128) :
    rowP v Z old T g j (ix2 0 e) = (View.canon (rowL v Z old T (4 * g.val + j.val)) ((rRow g).emb (ix2 0 e)) + T g j (ix2 0 e) : EReal) := by
  refine (rowU_apply _ _ e).trans ?_
  rw [pick_back _ _ _ (h.imp id fun h => by rw [h]; rfl), View.readCov_eq_canon']
  rfl

theorem row_first (v : View sig .tc .vmem S1x512 .f32) (Z : List (View.Piece (Elt Ideal) S1x512 .f32))
    (T : Fin 4 → Fin 4 → FVec Ideal S1x128 .f32) (hZ : ∀ i, View.canon Z i = (0 : EReal)) (g : Fin 4) (e : Fin 128) :
    View.canon (rowL v Z none T 16) (ix2 0 (tcol g e)) = (∑ j, T g j (ix2 0 e) : EReal) := by
  have hR : ∀ g', g' ≠ g → (rRow g).emb (ix2 0 e) ∉ (rRow g').set := fun g' h => by rw [emb_row g e]; exact not_mem_row g g' e h
  rw [← emb_row g e]
  refine (canon_sum rRow (rowL v Z none T) (rowP v Z none T) g (ix2 0 e) (row_step v Z none T) hR 0 (fun j => T g j (ix2 0 e)) ?_
    (row_back v Z none T g 1 (.inr rfl) e) (row_back v Z none T g 2 (.inr rfl) e) (row_back v Z none T g 3 (.inr rfl) e)).trans
    (zero_add _)
  refine (row_back v Z none T g 0 (.inr rfl) e).trans ?_
  exact congrArg (fun x : EReal => x + T g 0 (ix2 0 e)) ((canon_before rRow (rowL v Z none T) (rowP v Z none T) g (ix2 0 e) (row_step v Z none T) hR).trans (hZ _))

theorem row_later (v : View sig .tc .vmem S1x512 .f32) (Z : List (View.Piece (Elt Ideal) S1x512 .f32)) (x : Vec Ideal S1x512 .f32)
    (T : Fin 4 → Fin 4 → FVec Ideal S1x128 .f32) (g : Fin 4) (e : Fin 128) :
    View.canon (rowL v Z (some x) T 16) (ix2 0 (tcol g e)) = (x (ix2 0 (tcol g e)) + ∑ j, T g j (ix2 0 e) : EReal) := by
  have hR : ∀ g', g' ≠ g → (rRow g).emb (ix2 0 e) ∉ (rRow g').set := fun g' h => by rw [emb_row g e]; exact not_mem_row g g' e h
  refine Eq.trans ?_ (congrArg (fun i => (x i + ∑ j, T g j (ix2 0 e) : EReal)) (emb_row g e))
  rw [← emb_row g e]
  exact canon_sum rRow (rowL v Z (some x) T) (rowP v Z (some x) T) g (ix2 0 e) (row_step v Z (some x) T) hR (x ((rRow g).emb (ix2 0 e)))
    (fun j => T g j (ix2 0 e)) (rowU_apply _ _ e)
    (row_back v Z (some x) T g 1 (.inl (by decide)) e) (row_back v Z (some x) T g 2 (.inl (by decide)) e)
    (row_back v Z (some x) T g 3 (.inl (by decide)) e)

end Accumulators

end Cert.KernelIdeal.Gating
-- ==== Proof.Gating.Reals.lean ====
/-
  The gradient of the spatial gating unit on one chunk of 128 rows and one group of 128 columns, over the reals; and how
  the operations of the extended reals act on real arguments.
-/
module

public import Idealize.ShloMosaic.Lib.Pointwise
public import Idealize.ShloMosaic.Lib.Tactic

@[expose] public section

noncomputable section

open Idealize.ShloMosaic

namespace Cert.Gating

/-! ## The formulas -/

/-- The error function, the normal distribution function and its density. -/
def erf (x : ℝ) : ℝ := 2 / Real.sqrt Real.pi * ∫ t in (0 : ℝ)..x, Real.exp (-(t ^ 2))
def cdf (x : ℝ) : ℝ := 1 / 2 * (1 + erf (x * (Real.sqrt 2)⁻¹))
def dens (x : ℝ) : ℝ := Real.exp (-1 / 2 * x * x) * (Real.sqrt (2 * Real.pi))⁻¹

/-- `gelu` and its derivative. -/
def gelu (x : ℝ) : ℝ := x * cdf x
def dgelu (x : ℝ) : ℝ := cdf x + x * dens x

/-- The logistic function, `silu`, and the derivative of `silu`. -/
def logi (x : ℝ) : ℝ := 1 / (1 + Real.exp (-x))
def silu (x : ℝ) : ℝ := x * logi x
def dsilu (x : ℝ) : ℝ := logi x * (1 + x * (1 - logi x))

section Chunk

variable (u v a d : Fin 128 → Fin 128 → ℝ) (s : Fin 128 → ℝ) (w : Fin 128 → Fin 128 → ℝ) (b : Fin 128 → ℝ)

/-- The rows' mean squares (with the small constant that keeps them positive), and their reciprocal roots. -/
def ms (q : Fin 128) : ℝ := (∑ e, gelu (v q e) * gelu (v q e)) / 128 + 8796093 / 8796093022208
def rs (q : Fin 128) : ℝ := (Real.sqrt (ms v q))⁻¹

/-- The normalised rows, the same with the gain, and the rows mixed along the chunk. -/
def vhat (q e : Fin 128) : ℝ := gelu (v q e) * rs v q
def vn (q e : Fin 128) : ℝ := vhat v q e * s e
def mix (p e : Fin 128) : ℝ := ∑ q, w p q * vn v s q e + b p

/-- The gradients of the two parts that are not mixed. -/
def dau (p e : Fin 128) : ℝ := d p e * mix v s w b p e * silu (a p e) * dgelu (u p e)
def dag (p e : Fin 128) : ℝ := d p e * gelu (u p e) * mix v s w b p e * dsilu (a p e)

/-- The gradient at the mixed rows, and before the mixing. -/
def dmix (p e : Fin 128) : ℝ := d p e * gelu (u p e) * silu (a p e)
def dvn (q e : Fin 128) : ℝ := ∑ p, w p q * dmix u a d p e

/-- What a chunk adds to the mixing weights', the biases' and the gain's gradients. -/
def dws (p q : Fin 128) : ℝ := ∑ e, dmix u a d p e * vn v s q e
def dbs (p : Fin 128) : ℝ := ∑ e, dmix u a d p e
def dsg (e : Fin 128) : ℝ := ∑ q, dvn u a d w q e * vhat v q e

/-- The gradient back through the row normalisation and `gelu`. -/
def dvhat (q e : Fin 128) : ℝ := dvn u a d w q e * s e
def dmean (q : Fin 128) : ℝ := (∑ e, dvhat u a d s w q e * vhat v q e) / 128
def dav (q e : Fin 128) : ℝ := rs v q * (dvhat u a d s w q e - vhat v q e * dmean u v a d s w q) * dgelu (v q e)

theorem ms_pos (q : Fin 128) : 0 < ms v q := by
  have h : 0 ≤ ∑ e, gelu (v q e) * gelu (v q e) := Finset.sum_nonneg fun e _ => mul_self_nonneg _
  unfold ms; positivity

end Chunk

/-! ## Operations on real arguments -/

theorem coe_sum {ι : Type*} (t : Finset ι) (f : ι → ℝ) : ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

theorem div_real {x y : ℝ} (h : y ≠ 0) : Ideal.div (x : EReal) (y : EReal) = ((x / y : ℝ) : EReal) := by
  rw [Ideal.div_coe h, ← EReal.coe_mul, mul_one_div]

theorem erf_real (x : ℝ) : Ideal.erf (x : EReal) = ((erf x : ℝ) : EReal) := rfl

theorem erfc_neg_real (x : ℝ) : Ideal.erfc ((-x : ℝ) : EReal) = ((1 + erf x : ℝ) : EReal) := by
  rw [EReal.coe_neg, Ideal.erfc_neg, erf_real, EReal.coe_add, EReal.coe_one]

theorem rsqrt_real {x : ℝ} (h : 0 < x) : Ideal.rsqrt (x : EReal) = (((Real.sqrt x)⁻¹ : ℝ) : EReal) := by
  rw [Ideal.rsqrt_coe, if_neg h.not_gt, if_neg h.ne']

theorem sqrt_real {x : ℝ} (h : 0 ≤ x) : Ideal.sqrt (x : EReal) = ((Real.sqrt x : ℝ) : EReal) := by
  rw [Ideal.sqrt_coe, if_neg h.not_gt]

theorem zero_eq : Ideal.ofBits .f32 0x00000000#32 = ((0 : ℝ) : EReal) := by
  simp [Ideal.ofBits, Ideal.ieee]
theorem half_eq : Ideal.ofBits .f32 0x3F000000#32 = (((1 : ℝ) / 2 : ℝ) : EReal) := by
  simp [Ideal.ofBits, Ideal.ieee, -EReal.coe_mul]; norm_num
theorem neg_half_eq : Ideal.ofBits .f32 0xBF000000#32 = (((-1 : ℝ) / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem neg_one_eq : Ideal.ofBits .f32 0xBF800000#32 = ((-1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem neg_two_eq : Ideal.ofBits .f32 0xC0000000#32 = ((-2 : ℝ) : EReal) := by
  simp [Ideal.ofBits, Ideal.ieee, -EReal.coe_mul]; norm_num
theorem width_eq : Ideal.ofBits .f32 0x43000000#32 = ((128 : ℝ) : EReal) := by
  simp [Ideal.ofBits, Ideal.ieee, -EReal.coe_mul]; norm_num
theorem eps_eq : Ideal.ofBits .f32 0x358637BD#32 = ((8796093 / 8796093022208 : ℝ) : EReal) := by
  simp [Ideal.ofBits, Ideal.ieee, -EReal.coe_mul]; norm_num

end Cert.Gating
-- ==== Proof.Gating.KernelReal.lean ====
/-
  The kernel's terms on one chunk and one group, of real arguments: each is the real formula of `Gating.Reals`.
-/
module

public import proofs.«01_k».proof.Proof.Gating.Chunk
public import proofs.«01_k».proof.Proof.Gating.Reals

@[expose] public section

set_option maxRecDepth 16384

noncomputable section

open Idealize.ShloMosaic Idealize.ShloMosaic.TcCoe Idealize.SL.Sem

namespace Cert.KernelIdeal.Gating

open Cert.KernelIdeal Cert.KernelIdeal.Gen
open Cert.Gating (coe_sum div_real erf_real rsqrt_real half_eq neg_half_eq one_eq width_eq eps_eq)

theorem rsqrt_two_eq : (Named.named (F := Ideal) (φ := .f32) κ "rsqrt_two" 0x3F3504F3#32 : EReal) = (((Real.sqrt 2)⁻¹ : ℝ) : EReal) :=
  IdealRules.named_const.ideal_named_scalar _ _ _ _ rfl
theorem rsqrt_two_pi_eq :
    (Named.named (F := Ideal) (φ := .f32) κ "rsqrt_two_pi" 0x3ECC422A#32 : EReal) = (((Real.sqrt (2 * Real.pi))⁻¹ : ℝ) : EReal) :=
  IdealRules.named_const.ideal_named_scalar _ _ _ _ rfl

section Elementwise

variable {x : FVec Ideal S128x128 .f32} {q e : Fin 128} {r : ℝ}

theorem cdf_real (h : x (ix2 q e) = (r : EReal)) : cdf x (ix2 q e) = ((Cert.Gating.cdf r : ℝ) : EReal) := by
  refine Eq.trans (b := Ideal.ofBits .f32 0x3F000000#32 * (1 + Ideal.erf (x (ix2 q e) * Named.named (F := Ideal) (φ := .f32) κ "rsqrt_two" 0x3F3504F3#32)))
    (by pointwise [cdf]; rfl) ?_
  rw [h, rsqrt_two_eq, half_eq, ← EReal.coe_mul, erf_real, ← EReal.coe_one, ← EReal.coe_add, ← EReal.coe_mul]
  rfl

theorem dgelu_real (h : x (ix2 q e) = (r : EReal)) : dgelu x (ix2 q e) = ((Cert.Gating.dgelu r : ℝ) : EReal) := by
  refine Eq.trans (b := cdf x (ix2 q e) + x (ix2 q e) * (Ideal.exp (Ideal.ofBits .f32 0xBF000000#32 * x (ix2 q e) * x (ix2 q e)) *
      Named.named (F := Ideal) (φ := .f32) κ "rsqrt_two_pi" 0x3ECC422A#32)) (by pointwise [dgelu]) ?_
  rw [cdf_real h, h, rsqrt_two_pi_eq, neg_half_eq, ← EReal.coe_mul, ← EReal.coe_mul, Ideal.exp_coe, ← EReal.coe_mul, ← EReal.coe_mul,
    ← EReal.coe_add]
  rfl

theorem logi_real (h : x (ix2 q e) = (r : EReal)) : logi x (ix2 q e) = ((Cert.Gating.logi r : ℝ) : EReal) := by
  refine Eq.trans (b := Ideal.div 1 (1 + Ideal.exp (0 - x (ix2 q e)))) (by pointwise [logi]) ?_
  rw [h, ← EReal.coe_zero, ← EReal.coe_sub, Ideal.exp_coe, ← EReal.coe_one, ← EReal.coe_add,
    div_real (by positivity), zero_sub]
  rfl

end Elementwise

section Chunk

variable {au av ag d : FVec Ideal S128x128 .bf16} {sg : FVec Ideal S1x128 .f32} {ws wst bsb : FVec Ideal S1x128x128 .f32}
  {ones : FVec Ideal S8x128 .bf16}
variable {u v a g : Fin 128 → Fin 128 → ℝ} {s : Fin 128 → ℝ} {w : Fin 128 → Fin 128 → ℝ} {b : Fin 128 → ℝ}

theorem wide_apply (x : FVec Ideal S128x128 .bf16) (q e : Fin 128) : wide (F := Ideal) x (ix2 q e) = x (ix2 q e) := by
  pointwise [wide]

theorem gel_real {x : FVec Ideal S128x128 .bf16} {f : Fin 128 → Fin 128 → ℝ} (h : ∀ q e, x (ix2 q e) = (f q e : EReal)) (q e : Fin 128) :
    gel (F := Ideal) x (ix2 q e) = ((Cert.Gating.gelu (f q e) : ℝ) : EReal) := by
  have hx : wide (F := Ideal) x (ix2 q e) = (f q e : EReal) := (wide_apply x q e).trans (h q e)
  refine Eq.trans (b := wide (F := Ideal) x (ix2 q e) * cdf (wide (F := Ideal) x) (ix2 q e)) (by pointwise [gel]) ?_
  rw [cdf_real hx, hx, ← EReal.coe_mul]
  rfl

theorem silu_real (ha : ∀ q e, ag (ix2 q e) = (a q e : EReal)) (q e : Fin 128) :
    silu (F := Ideal) ag (ix2 q e) = ((Cert.Gating.silu (a q e) : ℝ) : EReal) := by
  have hx : wide (F := Ideal) ag (ix2 q e) = (a q e : EReal) := (wide_apply ag q e).trans (ha q e)
  refine Eq.trans (b := wide (F := Ideal) ag (ix2 q e) * logi (wide (F := Ideal) ag) (ix2 q e)) (by pointwise [silu]) ?_
  rw [logi_real hx, hx, ← EReal.coe_mul]
  rfl

theorem rr_real (hv : ∀ q e, av (ix2 q e) = (v q e : EReal)) (q : Fin 128) :
    rr (F := Ideal) av (ix2 q 0) = ((Cert.Gating.rs v q : ℝ) : EReal) := by
  refine Eq.trans (b := Ideal.rsqrt (Ideal.div (∑ e, gel (F := Ideal) av (ix2 q e) * gel (F := Ideal) av (ix2 q e))
    (Ideal.ofBits .f32 0x43000000#32) + Ideal.ofBits .f32 0x358637BD#32)) (by pointwise [rr]) ?_
  simp only [gel_real hv, ← EReal.coe_mul]
  rw [coe_sum, width_eq, div_real (by norm_num), eps_eq, ← EReal.coe_add]
  exact rsqrt_real (Cert.Gating.ms_pos v q)

theorem vhat_real (hv : ∀ q e, av (ix2 q e) = (v q e : EReal)) (q e : Fin 128) :
    vhat (F := Ideal) av (ix2 q e) = ((Cert.Gating.vhat v q e : ℝ) : EReal) := by
  refine Eq.trans (b := gel (F := Ideal) av (ix2 q e) * rr (F := Ideal) av (ix2 q 0)) (by pointwise [vhat]) ?_
  rw [gel_real hv, rr_real hv, ← EReal.coe_mul]
  rfl

theorem vn_real (hv : ∀ q e, av (ix2 q e) = (v q e : EReal)) (hs : ∀ e, sg (ix2 0 e) = (s e : EReal)) (q e : Fin 128) :
    vn (F := Ideal) av sg (ix2 q e) = ((Cert.Gating.vn v s q e : ℝ) : EReal) := by
  refine Eq.trans (b := vhat (F := Ideal) av (ix2 q e) * sg (ix2 0 e)) (by pointwise [vn]) ?_
  rw [vhat_real hv, hs, ← EReal.coe_mul]
  rfl

theorem mixed_real (hv : ∀ q e, av (ix2 q e) = (v q e : EReal)) (hs : ∀ e, sg (ix2 0 e) = (s e : EReal))
    (hw : ∀ p q, ws (ix3 0 p q) = (w p q : EReal)) (hb : ∀ p e, bsb (ix3 0 p e) = (b p : EReal)) (p e : Fin 128) :
    mixed (F := Ideal) av sg ws bsb (ix2 p e) = ((Cert.Gating.mix v s w b p e : ℝ) : EReal) := by
  refine Eq.trans (b := (∑ q, ws (ix3 0 p q) * vn (F := Ideal) av sg (ix2 q e)) + bsb (ix3 0 p e)) (by pointwise [mixed, wmat]) ?_
  simp only [hw, vn_real hv hs, hb, ← EReal.coe_mul]
  rw [coe_sum, ← EReal.coe_add]
  rfl

theorem dmix_real (hu : ∀ q e, au (ix2 q e) = (u q e : EReal)) (ha : ∀ q e, ag (ix2 q e) = (a q e : EReal))
    (hd : ∀ q e, d (ix2 q e) = (g q e : EReal)) (q e : Fin 128) :
    dmix (F := Ideal) au ag d (ix2 q e) = ((Cert.Gating.dmix u a g q e : ℝ) : EReal) := by
  refine Eq.trans (b := wide (F := Ideal) d (ix2 q e) * gel (F := Ideal) au (ix2 q e) * silu (F := Ideal) ag (ix2 q e))
    (by pointwise [dmix]) ?_
  rw [wide_apply, hd, gel_real hu, silu_real ha, ← EReal.coe_mul, ← EReal.coe_mul]
  rfl

theorem dau_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal)) (hs : ∀ e, sg (ix2 0 e) = (s e : EReal))
    (hw : ∀ p q, ws (ix3 0 p q) = (w p q : EReal)) (hb : ∀ p e, bsb (ix3 0 p e) = (b p : EReal)) (q e : Fin 128) :
    dau (F := Ideal) au av ag d sg ws bsb (ix2 q e) = ((Cert.Gating.dau u v a g s w b q e : ℝ) : EReal) := by
  have hx : wide (F := Ideal) au (ix2 q e) = (u q e : EReal) := (wide_apply au q e).trans (hu q e)
  refine Eq.trans (b := wide (F := Ideal) d (ix2 q e) * mixed (F := Ideal) av sg ws bsb (ix2 q e) * silu (F := Ideal) ag (ix2 q e) *
    dgelu (wide (F := Ideal) au) (ix2 q e)) (by pointwise [dau]) ?_
  rw [wide_apply, hd, mixed_real hv hs hw hb, silu_real ha, dgelu_real hx, ← EReal.coe_mul, ← EReal.coe_mul, ← EReal.coe_mul]
  rfl

theorem dag_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal)) (hs : ∀ e, sg (ix2 0 e) = (s e : EReal))
    (hw : ∀ p q, ws (ix3 0 p q) = (w p q : EReal)) (hb : ∀ p e, bsb (ix3 0 p e) = (b p : EReal)) (q e : Fin 128) :
    dag (F := Ideal) au av ag d sg ws bsb (ix2 q e) = ((Cert.Gating.dag u v a g s w b q e : ℝ) : EReal) := by
  have hx : wide (F := Ideal) ag (ix2 q e) = (a q e : EReal) := (wide_apply ag q e).trans (ha q e)
  refine Eq.trans (b := wide (F := Ideal) d (ix2 q e) * gel (F := Ideal) au (ix2 q e) * mixed (F := Ideal) av sg ws bsb (ix2 q e) *
    (logi (wide (F := Ideal) ag) (ix2 q e) * (1 + wide (F := Ideal) ag (ix2 q e) * (1 - logi (wide (F := Ideal) ag) (ix2 q e)))))
    (by pointwise [dag]) ?_
  rw [logi_real hx, hx, wide_apply, hd, gel_real hu, mixed_real hv hs hw hb, ← EReal.coe_one]
  simp only [← EReal.coe_mul, ← EReal.coe_sub, ← EReal.coe_add]
  rfl

theorem dws_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal)) (hs : ∀ e, sg (ix2 0 e) = (s e : EReal))
    (p q : Fin 128) : dws (F := Ideal) au av ag d sg (ix2 p q) = ((Cert.Gating.dws u v a g s p q : ℝ) : EReal) := by
  refine Eq.trans (b := ∑ e, dmix (F := Ideal) au ag d (ix2 p e) * vn (F := Ideal) av sg (ix2 q e)) (by pointwise [dws, dmb]) ?_
  simp only [dmix_real hu ha hd, vn_real hv hs, ← EReal.coe_mul]
  exact coe_sum _ _

theorem dbs_real (hu : ∀ q e, au (ix2 q e) = (u q e : EReal)) (ha : ∀ q e, ag (ix2 q e) = (a q e : EReal))
    (hd : ∀ q e, d (ix2 q e) = (g q e : EReal)) (ho : ∀ k e, ones (ix2 k e) = ((1 : ℝ) : EReal)) (k : Fin 8) (p : Fin 128) :
    dbs (F := Ideal) au ag d ones (ix2 k p) = ((Cert.Gating.dbs u a g p : ℝ) : EReal) := by
  refine Eq.trans (b := (∑ e, ones (ix2 k e) * dmix (F := Ideal) au ag d (ix2 p e)) +
    ∑ e, ones (ix2 k e) * (dmix (F := Ideal) au ag d (ix2 p e) - dmix (F := Ideal) au ag d (ix2 p e))) (by pointwise [dbs, dlo, dmb]) ?_
  simp only [dmix_real hu ha hd, ho, ← EReal.coe_mul, ← EReal.coe_sub, coe_sum, ← EReal.coe_add]
  simp [Cert.Gating.dbs]

theorem dvn_real (hu : ∀ q e, au (ix2 q e) = (u q e : EReal)) (ha : ∀ q e, ag (ix2 q e) = (a q e : EReal))
    (hd : ∀ q e, d (ix2 q e) = (g q e : EReal)) (hw : ∀ p q, wst (ix3 0 q p) = (w p q : EReal)) (q e : Fin 128) :
    dvn (F := Ideal) au ag d wst (ix2 q e) = ((Cert.Gating.dvn u a g w q e : ℝ) : EReal) := by
  refine Eq.trans (b := ∑ p, wst (ix3 0 q p) * dmix (F := Ideal) au ag d (ix2 p e)) (by pointwise [dvn, wmat, dmb]) ?_
  simp only [dmix_real hu ha hd, hw, ← EReal.coe_mul]
  exact coe_sum _ _

theorem dsg_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal))
    (hw : ∀ p q, wst (ix3 0 q p) = (w p q : EReal)) (e : Fin 128) :
    dsg (F := Ideal) au av ag d wst (ix2 0 e) = ((Cert.Gating.dsg u v a g w e : ℝ) : EReal) := by
  refine Eq.trans (b := ∑ q, dvn (F := Ideal) au ag d wst (ix2 q e) * vhat (F := Ideal) av (ix2 q e)) (by pointwise [dsg]) ?_
  simp only [dvn_real hu ha hd hw, vhat_real hv, ← EReal.coe_mul]
  exact coe_sum _ _

theorem dvhat_real (hu : ∀ q e, au (ix2 q e) = (u q e : EReal)) (ha : ∀ q e, ag (ix2 q e) = (a q e : EReal))
    (hd : ∀ q e, d (ix2 q e) = (g q e : EReal)) (hs : ∀ e, sg (ix2 0 e) = (s e : EReal))
    (hw : ∀ p q, wst (ix3 0 q p) = (w p q : EReal)) (q e : Fin 128) :
    dvhat (F := Ideal) au ag d sg wst (ix2 q e) = ((Cert.Gating.dvhat u a g s w q e : ℝ) : EReal) := by
  refine Eq.trans (b := dvn (F := Ideal) au ag d wst (ix2 q e) * sg (ix2 0 e)) (by pointwise [dvhat]) ?_
  rw [dvn_real hu ha hd hw, hs, ← EReal.coe_mul]
  rfl

theorem dmean_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal)) (hs : ∀ e, sg (ix2 0 e) = (s e : EReal))
    (hw : ∀ p q, wst (ix3 0 q p) = (w p q : EReal)) (q : Fin 128) :
    dmean (F := Ideal) au av ag d sg wst (ix2 q 0) = ((Cert.Gating.dmean u v a g s w q : ℝ) : EReal) := by
  refine Eq.trans (b := Ideal.div (∑ e, dvhat (F := Ideal) au ag d sg wst (ix2 q e) * vhat (F := Ideal) av (ix2 q e))
    (Ideal.ofBits .f32 0x43000000#32)) (by pointwise [dmean]) ?_
  simp only [dvhat_real hu ha hd hs hw, vhat_real hv, ← EReal.coe_mul]
  rw [coe_sum, width_eq, div_real (by norm_num)]
  rfl

theorem dav_real (hu : ∀ q e, au (ix2 q e) = (u q e : EReal)) (hv : ∀ q e, av (ix2 q e) = (v q e : EReal))
    (ha : ∀ q e, ag (ix2 q e) = (a q e : EReal)) (hd : ∀ q e, d (ix2 q e) = (g q e : EReal)) (hs : ∀ e, sg (ix2 0 e) = (s e : EReal))
    (hw : ∀ p q, wst (ix3 0 q p) = (w p q : EReal)) (q e : Fin 128) :
    dav (F := Ideal) au av ag d sg wst (ix2 q e) = ((Cert.Gating.dav u v a g s w q e : ℝ) : EReal) := by
  have hx : wide (F := Ideal) av (ix2 q e) = (v q e : EReal) := (wide_apply av q e).trans (hv q e)
  refine Eq.trans (b := rr (F := Ideal) av (ix2 q 0) * (dvhat (F := Ideal) au ag d sg wst (ix2 q e) -
    vhat (F := Ideal) av (ix2 q e) * dmean (F := Ideal) au av ag d sg wst (ix2 q 0)) * dgelu (wide (F := Ideal) av) (ix2 q e))
    (by pointwise [dav]) ?_
  rw [rr_real hv, dvhat_real hu ha hd hs hw, vhat_real hv, dmean_real hu hv ha hd hs hw, dgelu_real hx]
  simp only [← EReal.coe_mul, ← EReal.coe_sub]
  rfl

end Chunk

end Cert.KernelIdeal.Gating
-- ==== Proof.Gating.Blocks.lean ====
/-
  The gating gradient's input blocks at an index: what tile `t` reads of the five arguments, directly or through the
  layouts the host prepares.
-/
module

public import proofs.«01_k».proof.Proof.Gen.KernelIdeal.Value
public import proofs.«01_k».proof.Proof.Gating.Stores
public import proofs.«01_k».proof.Proof.Gating.KernelReal

@[expose] public section

set_option maxRecDepth 16384

noncomputable section

open Idealize.ShloMosaic Idealize.ShloMosaic.TcCoe Idealize.SL.Sem
open Idealize.ShloMosaic.Pipeline (Dat)

namespace Cert.KernelIdeal.Gating

open Cert.KernelIdeal Cert.KernelIdeal.Gen Cert.KernelIdeal.Value

variable (m : (ℓ : Loc nD τ sig) → Buf (Elt Ideal) ℓ) (c : Dev nD)

/-- The five arguments. -/
abbrev argZ : Vec Ideal S4096x3584 .bf16 := m ((c.tc : Thread nD τ).loc main_arg0)
abbrev argD : Vec Ideal S4096x1024 .bf16 := m ((c.tc : Thread nD τ).loc main_arg1)
abbrev argS : Vec Ideal S1x512 .f32 := m ((c.tc : Thread nD τ).loc main_arg2)
abbrev argW : Vec Ideal S1x4x128x128 .f32 := m ((c.tc : Thread nD τ).loc main_arg3)
abbrev argB : Vec Ideal S1x4x128 .f32 := m ((c.tc : Thread nD τ).loc main_arg4)

theorem lt8 (t : Fin cfg0.N) : t.val < 8 := lt_of_lt_of_eq t.isLt N_0

theorem index_rows : ∀ t : Fin cfg0.N, (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) := by decide +kernel

theorem index_whole : ∀ t : Fin cfg0.N, (win0_4.index t 0 = 0 ∧ win0_4.index t 1 = 0)
    ∧ (win0_5.index t 0 = 0 ∧ win0_5.index t 1 = 0 ∧ win0_5.index t 2 = 0) ∧ (win0_6.index t 0 = 0 ∧ win0_6.index t 1 = 0 ∧ win0_6.index t 2 = 0)
    ∧ (win0_7.index t 0 = 0 ∧ win0_7.index t 1 = 0 ∧ win0_7.index t 2 = 0) ∧ (win0_8.index t 0 = 0 ∧ win0_8.index t 1 = 0) := by decide +kernel

theorem index_acc : ∀ t : Fin cfg0.N, (win0_12.index t 0 = 0 ∧ win0_12.index t 1 = 0 ∧ win0_12.index t 2 = 0)
    ∧ (win0_13.index t 0 = 0 ∧ win0_13.index t 1 = 0 ∧ win0_13.index t 2 = 0) ∧ (win0_14.index t 0 = 0 ∧ win0_14.index t 1 = 0) := by decide +kernel

/-! ## The layouts the host prepares -/

theorem host_ones (k : Fin 8) (e : Fin 128) : (V m c main_v0 : Vec Ideal S8x128 .bf16) (ix2 k e) = ((1 : ℝ) : EReal) := by
  have h : (V m c main_v0 : Vec Ideal S8x128 .bf16) =
      broadcastInDim S8x128 ![] bcast_S_S8x128 (constant (F := Ideal) S_ .bf16 0x3F80#16 : FVec Ideal S_ .bf16) := by
    show StableHlo.after hostOps0 _ _ = _
    after_results
  rw [h]
  refine Eq.trans (b := Ideal.ofBits .bf16 0x3F80#16) (by pointwise) ?_
  simp [Ideal.ofBits, Ideal.ieee, -EReal.coe_mul]; norm_num

theorem host_ws (g : Fin 4) (p q : Fin 128) : (V m c main_v1 : Vec Ideal S4x128x128 .f32) (ix3 g p q) = argW m c (ix4 0 g p q) := by
  have h : (V m c main_v1 : Vec Ideal S4x128x128 .f32) = shapeCast S4x128x128 (argW m c) shapeCasts_S1x4x128x128_S4x128x128 := by
    show StableHlo.after hostOps0 _ _ = _
    after_results
    rfl
  rw [h]
  pointwise

theorem host_wst (g : Fin 4) (p q : Fin 128) : (V m c main_v2 : Vec Ideal S4x128x128 .f32) (ix3 g q p) = argW m c (ix4 0 g p q) := by
  have h : (V m c main_v2 : Vec Ideal S4x128x128 .f32) =
      transpose S4x128x128 [0, 2, 1] (shapeCast S4x128x128 (argW m c) shapeCasts_S1x4x128x128_S4x128x128) transposes_S4x128x128_S4x128x128_0_2_1 := by
    show StableHlo.after hostOps0 _ _ = _
    after_results
    rfl
  rw [h]
  pointwise

theorem host_bsb (g : Fin 4) (p e : Fin 128) : (V m c main_v5 : Vec Ideal S4x128x128 .f32) (ix3 g p e) = argB m c (ix3 0 g p) := by
  have h : (V m c main_v5 : Vec Ideal S4x128x128 .f32) = broadcastInDim S4x128x128 ![0, 1, 2] bcast_S4x128x1_S4x128x128_0_1_2
      (broadcastInDim S4x128x1 ![0, 1] bcast_S4x128_S4x128x1_0_1 (shapeCast S4x128 (argB m c) shapeCasts_S1x4x128_S4x128)) := by
    show StableHlo.after hostOps0 _ _ = _
    after_results
    rfl
  rw [h]
  pointwise

/-! ## A tile's blocks -/

/-- Row `r` of tile `t`, as a row of the arrays. -/
abbrev rowOf (t : Fin cfg0.N) (r : Fin 512) : Fin 4096 := ⟨512 * t.val + r.val, by have := lt8 t; omega⟩

theorem blkU (t : Fin cfg0.N) (r j : Fin 512) :
    (iblk m c 0 t : Vec Ideal S512x512 .bf16) (ix2 r j) = argZ m c (ix2 (rowOf t r) ⟨j.val, by omega⟩) := by
  have hi := (index_rows t).1
  unfold iblk
  rw [View.read_apply]
  refine (congrFun (V_main_arg0 m c) _).trans ?_
  congr 1
  funext a
  apply Fin.ext
  match a with
  | ⟨0, _⟩ => show win0_0.index t 0 * 512 + 1 * r.val = 512 * t.val + r.val; rw [hi.1]; omega
  | ⟨1, _⟩ => show win0_0.index t 1 * 512 + 1 * j.val = j.val; rw [hi.2]; omega

theorem blkV (t : Fin cfg0.N) (r j : Fin 512) :
    (iblk m c 1 t : Vec Ideal S512x512 .bf16) (ix2 r j) = argZ m c (ix2 (rowOf t r) ⟨512 + j.val, by omega⟩) := by
  have hi := (index_rows t).2.1
  unfold iblk
  rw [View.read_apply]
  refine (congrFun (V_main_arg0 m c) _).trans ?_
  congr 1
  funext a
  apply Fin.ext
  match a with
  | ⟨0, _⟩ => show win0_1.index t 0 * 512 + 1 * r.val = 512 * t.val + r.val; rw [hi.1]; omega
  | ⟨1, _⟩ => show win0_1.index t 1 * 512 + 1 * j.val = 512 + j.val; rw [hi.2]; omega

theorem blkG (t : Fin cfg0.N) (r j : Fin 512) :
    (iblk m c 2 t : Vec Ideal S512x512 .bf16) (ix2 r j) = argZ m c (ix2 (rowOf t r) ⟨1024 + j.val, by omega⟩) := by
  have hi := (index_rows t).2.2.1
  unfold iblk
  rw [View.read_apply]
  refine (congrFun (V_main_arg0 m c) _).trans ?_
  congr 1
  funext a
  apply Fin.ext
  match a with
  | ⟨0, _⟩ => show win0_2.index t 0 * 512 + 1 * r.val = 512 * t.val + r.val; rw [hi.1]; omega
  | ⟨1, _⟩ => show win0_2.index t 1 * 512 + 1 * j.val = 1024 + j.val; rw [hi.2]; omega

theorem blkD (t : Fin cfg0.N) (r j : Fin 512) :
    (iblk m c 3 t : Vec Ideal S512x512 .bf16) (ix2 r j) = argD m c (ix2 (rowOf t r) ⟨j.val, by omega⟩) := by
  have hi := (index_rows t).2.2.2.1
  unfold iblk
  rw [View.read_apply]
  refine (congrFun (V_main_arg1 m c) _).trans ?_
  congr 1
  funext a
  apply Fin.ext
  match a with
  | ⟨0, _⟩ => show win0_3.index t 0 * 512 + 1 * r.val = 512 * t.val + r.val; rw [hi.1]; omega
  | ⟨1, _⟩ => show win0_3.index t 1 * 512 + 1 * j.val = j.val; rw [hi.2]; omega

theorem blkS (t : Fin cfg0.N) (j : Fin 512) : (iblk m c 4 t : Vec Ideal S1x512 .f32) (ix2 0 j) = argS m c (ix2 0 j) := by
  have hi := (index_whole t).1
  unfold iblk
  rw [View.read_apply]
  refine (congrFun (V_main_arg2 m c) _).trans ?_
  congr 1
  funext a
  apply Fin.ext
  match a with
  | ⟨0, _⟩ => show win0_4.index t 0 * 1 + 1 * 0 = 0; rw [hi.1]
  | ⟨1, _⟩ => show win0_4.index t 1 * 512 + 1 * j.val = j.val; rw [hi.2]; omega

theorem blkWs (t : Fin cfg0.N) (g : Fin 4) (p q : Fin 128) :
    (iblk m c 5 t : Vec Ideal S4x128x128 .f32) (ix3 g p q) = argW m c (ix4 0 g p q) := by
  have hi := (index_whole t).2.1
  rw [← host_ws]
  unfold iblk
  rw [View.read_apply]
  show V m c main_v1 _ = V m c main_v1 _
  congr 1
  funext a
  apply Fin.ext
  match a with
  | ⟨0, _⟩ => show win0_5.index t 0 * 4 + 1 * g.val = g.val; rw [hi.1]; omega
  | ⟨1, _⟩ => show win0_5.index t 1 * 128 + 1 * p.val = p.val; rw [hi.2.1]; omega
  | ⟨2, _⟩ => show win0_5.index t 2 * 128 + 1 * q.val = q.val; rw [hi.2.2]; omega

theorem blkWst (t : Fin cfg0.N) (g : Fin 4) (p q : Fin 128) :
    (iblk m c 6 t : Vec Ideal S4x128x128 .f32) (ix3 g q p) = argW m c (ix4 0 g p q) := by
  have hi := (index_whole t).2.2.1
  rw [← host_wst]
  unfold iblk
  rw [View.read_apply]
  show V m c main_v2 _ = V m c main_v2 _
  congr 1
  funext a
  apply Fin.ext
  match a with
  | ⟨0, _⟩ => show win0_6.index t 0 * 4 + 1 * g.val = g.val; rw [hi.1]; omega
  | ⟨1, _⟩ => show win0_6.index t 1 * 128 + 1 * q.val = q.val; rw [hi.2.1]; omega
  | ⟨2, _⟩ => show win0_6.index t 2 * 128 + 1 * p.val = p.val; rw [hi.2.2]; omega

theorem blkB (t : Fin cfg0.N) (g : Fin 4) (p e : Fin 128) :
    (iblk m c 7 t : Vec Ideal S4x128x128 .f32) (ix3 g p e) = argB m c (ix3 0 g p) := by
  have hi := (index_whole t).2.2.2.1
  rw [← host_bsb m c g p e]
  unfold iblk
  rw [View.read_apply]
  show V m c main_v5 _ = V m c main_v5 _
  congr 1
  funext a
  apply Fin.ext
  match a with
  | ⟨0, _⟩ => show win0_7.index t 0 * 4 + 1 * g.val = g.val; rw [hi.1]; omega
  | ⟨1, _⟩ => show win0_7.index t 1 * 128 + 1 * p.val = p.val; rw [hi.2.1]; omega
  | ⟨2, _⟩ => show win0_7.index t 2 * 128 + 1 * e.val = e.val; rw [hi.2.2]; omega

theorem blkOnes (t : Fin cfg0.N) (k : Fin 8) (e : Fin 128) :
    (iblk m c 8 t : Vec Ideal S8x128 .bf16) (ix2 k e) = ((1 : ℝ) : EReal) := by
  have hi := (index_whole t).2.2.2.2
  rw [← host_ones m c k e]
  unfold iblk
  rw [View.read_apply]
  show V m c main_v0 _ = V m c main_v0 _
  congr 1
  funext a
  apply Fin.ext
  match a with
  | ⟨0, _⟩ => show win0_8.index t 0 * 8 + 1 * k.val = k.val; rw [hi.1]; omega
  | ⟨1, _⟩ => show win0_8.index t 1 * 128 + 1 * e.val = e.val; rw [hi.2]; omega

end Cert.KernelIdeal.Gating
-- ==== Proof.Gating.Pieces.lean ====
/-
  The gating gradient's body, one tile: what each of its two cases (the first tile, a later tile) leaves in its six
  output blocks is its sixteen stores in turn.
-/
module

public import proofs.«01_k».proof.Proof.Gating.Chunk

@[expose] public section

set_option maxRecDepth 16384

noncomputable section

open Idealize.ShloMosaic Idealize.ShloMosaic.TcCoe Idealize.SL.Sem
open Idealize.ShloMosaic.Pipeline (Dat)

namespace Cert.KernelIdeal.Gating

open Cert.KernelIdeal Cert.KernelIdeal.Gen

variable {F : FTy → Type} [FloatOps F] [Named F]

variable (c : Dev nD) (i : grid0.Coords)
  (a1 : Memref sig .tc .vmem S512x512 .bf16) (h1 : a1.IsWhole) (a2 : Memref sig .tc .vmem S512x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S1x512 .f32) (h5 : a5.IsWhole) (a6 : Memref sig .tc .vmem S4x128x128 .f32) (h6 : a6.IsWhole)
  (a7 : Memref sig .tc .vmem S4x128x128 .f32) (h7 : a7.IsWhole) (a8 : Memref sig .tc .vmem S4x128x128 .f32) (h8 : a8.IsWhole)
  (a9 : Memref sig .tc .vmem S8x128 .bf16) (h9 : a9.IsWhole) (a10 : Memref sig .tc .vmem S512x512 .bf16) (h10 : a10.IsWhole)
  (a11 : Memref sig .tc .vmem S512x512 .bf16) (h11 : a11.IsWhole) (a12 : Memref sig .tc .vmem S512x512 .bf16) (h12 : a12.IsWhole)
  (a13 : Memref sig .tc .vmem S4x128x128 .f32) (h13 : a13.IsWhole) (a14 : Memref sig .tc .vmem S4x8x128 .f32) (h14 : a14.IsWhole)
  (a15 : Memref sig .tc .vmem S1x512 .f32) (h15 : a15.IsWhole)
  (x0 x1 x2 x3 : Vec F S512x512 .bf16) (x4 : Vec F S1x512 .f32) (x5 x6 x7 : Vec F S4x128x128 .f32) (x8 : Vec F S8x128 .bf16)
  (o12 : Vec F S4x128x128 .f32) (o13 : Vec F S4x8x128 .f32) (o14 : Vec F S1x512 .f32)

/-! ## The first tile -/

section First

variable (hc0 : cond0_0 i)

theorem dau_first : out0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (tileL (stepU x0 x1 x2 x3 x4 x5 x7) 16) := by
  unfold out0_A_9; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

theorem dav_first : out0_A_10 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (tileL (stepV x0 x1 x2 x3 x4 x6) 16) := by
  unfold out0_A_10; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

theorem dag_first : out0_A_11 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (tileL (stepG x0 x1 x2 x3 x4 x5 x7) 16) := by
  unfold out0_A_11; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

theorem dws_first : out0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (matL a13.view [⟨Rect.unit ![0, 0, 0] ![4, 128, 128] inb_S4x128x128_S4x128x128_0_0_0, k0_pay2⟩] none (stepW x0 x1 x2 x3 x4) 16) := by
  unfold out0_A_12; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

theorem dbs_first : out0_A_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (biasL a14.view [⟨Rect.unit ![0, 0, 0] ![4, 8, 128] inb_S4x8x128_S4x8x128_0_0_0, k0_pay3⟩] none (stepB x0 x2 x3 x8) 16) := by
  unfold out0_A_13; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

theorem dsg_first : out0_A_14 c i a1 h1 a2 h2 a3 h3 a4 h4 a5 h5 a6 h6 a7 h7 a8 h8 a9 h9 a10 h10 a11 h11 a12 h12 a13 h13 a14 h14 a15 h15 hc0 x0 x1 x2 x3 x4 x5 x6 x7 x8
    = View.canon (rowL a15.view [⟨Rect.unit ![0, 0] ![1, 512] inb_S1x512_S1x512_0_0, k0_pay4⟩] none (stepS x0 x1 x2 x3 x6) 16) := by
  unfold out0_A_14; rw [View.read_writes_junk_eq_canon]; unfold kernelRun0_A; dsimp only; sl_unfold_words
  simp only [View.readAt_eq_ld, h1.read_unread, h2.read_unread, h3.read_unread, h4.read_unread, h5.read_unread, h6.read_unread, h7.read_unread, h8.read_unread, h9.read_unread]
  rfl

end First

/-! ## A later tile -/

section Later

variable (hc0 : ¬cond0_0 i)

theorem dau_later : out0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (tileL (stepU x0 x1 x2 x3 x4 x5 x7) 16) := by
  unfold out0_B_9; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread]
  rfl

theorem dav_later : out0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (tileL (stepV x0 x1 x2 x3 x4 x6) 16) := by
  unfold out0_B_10; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread]
  rfl

theorem dag_later : out0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (tileL (stepG x0 x1 x2 x3 x4 x5 x7) 16) := by
  unfold out0_B_11; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread]
  rfl

theorem dws_later : out0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (matL a13.view [] (some o12) (stepW x0 x1 x2 x3 x4) 16) := by
  unfold out0_B_12; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread, h13.read_unread]
  rfl

theorem dbs_later : out0_B_13 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (biasL a14.view [] (some o13) (stepB x0 x2 x3 x8) 16) := by
  unfold out0_B_13; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread, h14.read_unread]
  rfl

theorem dsg_later : out0_B_14 c i a1 h1 a2 h2 a3 h3 a4 h4 a5 h5 a6 h6 a7 h7 a8 h8 a9 h9 a10 h10 a11 h11 a12 h12 a13 h13 a14 h14 a15 h15 hc0 x0 x1 x2 x3 x4 x5 x6 x7 x8 o12 o13 o14
    = View.canon (rowL a15.view [] (some o14) (stepS x0 x1 x2 x3 x6) 16) := by
  unfold out0_B_14; rw [View.read_writes_junk_eq_canon]; unfold kernelRun0_B; dsimp only; sl_unfold_words
  simp only [View.readAt_eq_ld, h1.read_unread, h2.read_unread, h3.read_unread, h4.read_unread, h5.read_unread, h6.read_unread, h7.read_unread, h8.read_unread, h9.read_unread, h15.read_unread]
  rfl

end Later

end Cert.KernelIdeal.Gating
-- ==== Proof.Gating.Reference.lean ====
/-
  The reference's gradient of the spatial gating unit over the extended reals: the terms its run posts, named step by
  step, each read at an index.
-/
module

public import proofs.«01_k».proof.Proof.Gen.ReferenceIdeal.Run
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.Gating

open Cert.ReferenceIdeal Cert.ReferenceIdeal.Gen Cert.ReferenceIdeal.Value

/-! ## The terms -/

section Part

variable (x : FVec Ideal S1x4096x512 .f32)

/-- A constant filling the rows. -/
abbrev fillR (b : BitVec 32) : FVec Ideal S1x4096x512 .f32 := broadcastInDim S1x4096x512 ![] bcast_S_S1x4096x512 (constant S_ .f32 b)

/-- The steps of `gelu`: half the argument, the root of two, the argument of `erfc`, the coefficient of its derivative. -/
def half : FVec Ideal S1x4096x512 .f32 := mulf (fillR 0x3F000000#32) x
def rootTwo : FVec Ideal S1x4096x512 .f32 :=
  broadcastInDim S1x4096x512 ![] bcast_S_S1x4096x512 (Host.sqrt (constant (F := Ideal) S_ .f32 0x40000000#32))
def arg : FVec Ideal S1x4096x512 .f32 := Host.divf (Host.negf x) rootTwo
def erfcs : FVec Ideal S1x4096x512 .f32 := Host.erfc (arg x)
def derfc : FVec Ideal S1x4096x512 .f32 :=
  mulf (broadcastInDim S1x4096x512 ![] bcast_S_S1x4096x512 (Host.divf (constant (F := Ideal) S_ .f32 0xC0000000#32)
    (Host.sqrt (Host.acos (constant (F := Ideal) S_ .f32 0xBF800000#32))))) (Host.exp (mulf (Host.negf (arg x)) (arg x)))
def gel : FVec Ideal S1x4096x512 .f32 := mulf (half x) (erfcs x)

/-- The gradient back through `gelu`, of the gradient `y`. -/
def gelBack (y : FVec Ideal S1x4096x512 .f32) : FVec Ideal S1x4096x512 .f32 :=
  addf (Host.negf (Host.divf (mulf (mulf (half x) y) (derfc x)) rootTwo)) (mulf (fillR 0x3F000000#32) (mulf y (erfcs x)))

/-- The logistic function, and its derivative's product form. -/
def logi : FVec Ideal S1x4096x512 .f32 := Host.divf (fillR 0x3F800000#32) (addf (fillR 0x3F800000#32) (Host.exp (Host.negf x)))
def dlogi : FVec Ideal S1x4096x512 .f32 := mulf (logi x) (subf (fillR 0x3F800000#32) (logi x))
def silu : FVec Ideal S1x4096x512 .f32 := mulf x (logi x)
def siluBack (y : FVec Ideal S1x4096x512 .f32) : FVec Ideal S1x4096x512 .f32 := addf (mulf y (logi x)) (mulf (mulf x y) (dlogi x))

end Part

variable (Z : FVec Ideal S4096x3584 .bf16) (D : FVec Ideal S4096x1024 .bf16) (S : FVec Ideal S1x512 .f32)
  (W : FVec Ideal S1x4x128x128 .f32) (B : FVec Ideal S1x4x128 .f32)

/-- The three parts of the input and the gradient at the result, at the wide format. -/
def wideZ : FVec Ideal S1x4096x1536 .f32 := extf .f32 (broadcastInDim S1x4096x1536 ![1, 2] bcast_S4096x1536_S1x4096x1536_1_2
  (extractStridedSlice S4096x1536 ![0, 0] Z slices_S4096x3584_S4096x1536_0_0)) bitsLt_bf16_f32
def pU : FVec Ideal S1x4096x512 .f32 := extractStridedSlice S1x4096x512 ![0, 0, 0] (wideZ Z) slices_S1x4096x1536_S1x4096x512_0_0_0
def pV : FVec Ideal S1x4096x512 .f32 := extractStridedSlice S1x4096x512 ![0, 0, 512] (wideZ Z) slices_S1x4096x1536_S1x4096x512_0_0_512
def pG : FVec Ideal S1x4096x512 .f32 := extractStridedSlice S1x4096x512 ![0, 0, 1024] (wideZ Z) slices_S1x4096x1536_S1x4096x512_0_0_1024
def pD : FVec Ideal S1x4096x512 .f32 := extf .f32 (broadcastInDim S1x4096x512 ![1, 2] bcast_S4096x512_S1x4096x512_1_2
  (extractStridedSlice S4096x512 ![0, 0] D slices_S4096x1024_S4096x512_0_0)) bitsLt_bf16_f32

/-- `gelu` of the `v` part by chunks and groups; its mean squares, their reciprocal root, and half the root's slope. -/
def gv : FVec Ideal S1x32x128x4x128 .f32 := shapeCast S1x32x128x4x128 (gel (pV Z)) shapeCasts_S1x4096x512_S1x32x128x4x128
def ms : FVec Ideal S1x32x128x4x1 .f32 :=
  addf (Host.divf (broadcastInDim S1x32x128x4x1 ![0, 1, 2, 3] bcast_S1x32x128x4_S1x32x128x4x1_0_1_2_3
      (Host.reduceAdd (mulf (gv Z) (gv Z)) (constant S_ .f32 0x00000000#32) reducesTo_S1x32x128x4x128_S1x32x128x4_d4 h_S_))
      (broadcastInDim S1x32x128x4x1 ![] bcast_S_S1x32x128x4x1 (constant S_ .f32 0x43000000#32)))
    (broadcastInDim S1x32x128x4x1 ![] bcast_S_S1x32x128x4x1 (constant S_ .f32 0x358637BD#32))
def rs : FVec Ideal S1x32x128x4x1 .f32 := Host.rsqrt (ms Z)
def slope : FVec Ideal S1x32x128x4x1 .f32 :=
  mulf (broadcastInDim S1x32x128x4x1 ![] bcast_S_S1x32x128x4x1 (constant S_ .f32 0xBF000000#32)) (Host.divf (rs Z) (ms Z))

/-- A column of the rows spread over a group's columns. -/
abbrev spread (x : FVec Ideal S1x32x128x4x1 .f32) : FVec Ideal S1x32x128x4x128 .f32 :=
  broadcastInDim S1x32x128x4x128 ![0, 1, 2, 3, 4] bcast_S1x32x128x4x1_S1x32x128x4x128_0_1_2_3_4 x

/-- The normalised rows, the gain over all rows, and the product of the two. -/
def vhat : FVec Ideal S1x32x128x4x128 .f32 := mulf (gv Z) (spread (rs Z))
def gain : FVec Ideal S1x32x128x4x128 .f32 :=
  broadcastInDim S1x32x128x4x128 ![0, 1, 2, 3, 4] bcast_S1x1x1x4x128_S1x32x128x4x128_0_1_2_3_4
    (broadcastInDim S1x1x1x4x128 ![3, 4] bcast_S4x128_S1x1x1x4x128_3_4
      (shapeCast S4x128 (shapeCast S512 S shapeCasts_S1x512_S512) shapeCasts_S512_S4x128))
def vn : FVec Ideal S1x32x128x4x128 .f32 := mulf (vhat Z) (gain S)

/-- The mixing weights, the rows mixed along each chunk, and the biases added. -/
def wts : FVec Ideal S4x128x128 .f32 := shapeCast S4x128x128 W shapeCasts_S1x4x128x128_S4x128x128
def mixed5 : FVec Ideal S1x32x128x4x128 .f32 :=
  addf (transpose S1x32x128x4x128 [1, 2, 4, 0, 3] (Host.dotGeneral dot_S1x32x128x4x128_S4x128x128_S4x1x32x128x128_2_2_014_1_3_0 none
      (vn Z S) (wts W)) transposes_S4x1x32x128x128_S1x32x128x4x128_1_2_4_0_3)
    (broadcastInDim S1x32x128x4x128 ![0, 1, 2, 3, 4] bcast_S1x1x128x4x1_S1x32x128x4x128_0_1_2_3_4
      (broadcastInDim S1x1x128x4x1 ![2, 3, 4] bcast_S128x4x1_S1x1x128x4x1_2_3_4
        (broadcastInDim S128x4x1 ![0, 1] bcast_S128x4_S128x4x1_0_1
          (transpose S128x4 [1, 0] (shapeCast S4x128 B shapeCasts_S1x4x128_S4x128) transposes_S4x128_S128x4_1_0))))
def mixed : FVec Ideal S1x4096x512 .f32 := shapeCast S1x4096x512 (mixed5 Z S W B) shapeCasts_S1x32x128x4x128_S1x4096x512

/-- The three results of the elementwise parts. -/
def dAct : FVec Ideal S1x4096x512 .f32 := mulf (pD D) (silu (pG Z))
def dau : FVec Ideal S4096x512 .bf16 := truncf .bf16
  (shapeCast S4096x512 (gelBack (pU Z) (mulf (dAct Z D) (mixed Z S W B))) shapeCasts_S1x4096x512_S4096x512) bitsLt_bf16_f32
def dag : FVec Ideal S4096x512 .bf16 := truncf .bf16
  (shapeCast S4096x512 (siluBack (pG Z) (mulf (mulf (gel (pU Z)) (mixed Z S W B)) (pD D))) shapeCasts_S1x4096x512_S4096x512) bitsLt_bf16_f32

/-- The gradient at the mixed rows, by chunks and groups, and with the groups first. -/
def dmix : FVec Ideal S1x32x128x4x128 .f32 :=
  shapeCast S1x32x128x4x128 (mulf (gel (pU Z)) (dAct Z D)) shapeCasts_S1x4096x512_S1x32x128x4x128
def dmixT : FVec Ideal S4x1x32x128x128 .f32 :=
  transpose S4x1x32x128x128 [3, 0, 1, 4, 2] (dmix Z D) transposes_S1x32x128x4x128_S4x1x32x128x128_3_0_1_4_2

/-- The biases', the mixing weights' and the gain's gradients. -/
def dbs : FVec Ideal S4x8x128 .f32 :=
  broadcastInDim S4x8x128 ![0, 1, 2] bcast_S4x1x128_S4x8x128_0_1_2 (broadcastInDim S4x1x128 ![0, 2] bcast_S4x128_S4x1x128_0_2
    (transpose S4x128 [1, 0] (Host.reduceAdd (broadcastInDim S128x4x1 ![0, 1] bcast_S128x4_S128x4x1_0_1
      (Host.reduceAdd (shapeCast S1x1x128x4x1 (Host.reduceAdd (dmix Z D) (constant S_ .f32 0x00000000#32)
        reducesTo_S1x32x128x4x128_S1x128x4_d1_4 h_S_) shapeCasts_S1x128x4_S1x1x128x4x1) (constant S_ .f32 0x00000000#32)
        reducesTo_S1x1x128x4x1_S128x4_d0_1_4 h_S_)) (constant S_ .f32 0x00000000#32) reducesTo_S128x4x1_S128x4_d2 h_S_)
      transposes_S128x4_S4x128_1_0))
def dws : FVec Ideal S4x128x128 .f32 :=
  Host.dotGeneral dot_S4x1x32x128x128_S1x32x128x4x128_S4x128x128_123_014_4_2_0_3 none (dmixT Z D) (vn Z S)
def dvn : FVec Ideal S1x32x128x4x128 .f32 :=
  transpose S1x32x128x4x128 [1, 2, 4, 0, 3] (Host.dotGeneral dot_S4x1x32x128x128_S4x128x128_S4x1x32x128x128_4_1_123_2_0_0 none
    (dmixT Z D) (wts W)) transposes_S4x1x32x128x128_S1x32x128x4x128_1_2_4_0_3
def dsg : FVec Ideal S1x512 .f32 :=
  broadcastInDim S1x512 ![1] bcast_S512_S1x512_1 (shapeCast S512 (Host.reduceAdd (shapeCast S1x1x1x4x128
    (Host.reduceAdd (mulf (vhat Z) (dvn Z D W)) (constant S_ .f32 0x00000000#32) reducesTo_S1x32x128x4x128_S1x4x128_d1_2 h_S_)
    shapeCasts_S1x4x128_S1x1x1x4x128) (constant S_ .f32 0x00000000#32) reducesTo_S1x1x1x4x128_S4x128_d0_1_2 h_S_) shapeCasts_S4x128_S512)

/-- The gradient back through the row normalisation. -/
def dvhat : FVec Ideal S1x32x128x4x128 .f32 := mulf (dvn Z D W) (gain S)
def dms : FVec Ideal S1x32x128x4x128 .f32 :=
  broadcastInDim S1x32x128x4x128 ![0, 1, 2, 3] bcast_S1x32x128x4_S1x32x128x4x128_0_1_2_3
    (broadcastInDim S1x32x128x4 ![1, 2, 3] bcast_S32x128x4_S1x32x128x4_1_2_3
      (Host.reduceAdd (Host.divf (mulf (shapeCast S1x32x128x4x1 (Host.reduceAdd (mulf (gv Z) (dvhat Z D S W))
          (constant S_ .f32 0x00000000#32) reducesTo_S1x32x128x4x128_S1x32x128x4_d4 h_S_) shapeCasts_S1x32x128x4_S1x32x128x4x1) (slope Z))
        (broadcastInDim S1x32x128x4x1 ![] bcast_S_S1x32x128x4x1 (constant S_ .f32 0x43000000#32)))
        (constant S_ .f32 0x00000000#32) reducesTo_S1x32x128x4x1_S32x128x4_d0_4 h_S_))
def dgv : FVec Ideal S1x32x128x4x128 .f32 :=
  addf (addf (mulf (dvhat Z D S W) (spread (rs Z))) (mulf (gv Z) (dms Z D S W))) (mulf (dms Z D S W) (gv Z))
def dav : FVec Ideal S4096x512 .bf16 := truncf .bf16
  (shapeCast S4096x512 (gelBack (pV Z) (shapeCast S1x4096x512 (dgv Z D S W) shapeCasts_S1x32x128x4x128_S1x4096x512))
    shapeCasts_S1x4096x512_S4096x512) bitsLt_bf16_f32

/-! ## The run's results -/

section Results

variable (m : (ℓ : Loc nD τ sig) → Buf (Elt Ideal) ℓ) (c : Dev nD)

abbrev argZ : FVec Ideal S4096x3584 .bf16 := m ((c.tc : Thread nD τ).loc main_arg0)
abbrev argD : FVec Ideal S4096x1024 .bf16 := m ((c.tc : Thread nD τ).loc main_arg1)
abbrev argS : FVec Ideal S1x512 .f32 := m ((c.tc : Thread nD τ).loc main_arg2)
abbrev argW : FVec Ideal S1x4x128x128 .f32 := m ((c.tc : Thread nD τ).loc main_arg3)
abbrev argB : FVec Ideal S1x4x128 .f32 := m ((c.tc : Thread nD τ).loc main_arg4)

theorem out_dau : res_out0 m c = dau (argZ m c) (argD m c) (argS m c) (argW m c) (argB m c) := rfl
theorem out_dav : res_out1 m c = dav (argZ m c) (argD m c) (argS m c) (argW m c) := rfl
theorem out_dag : res_out2 m c = dag (argZ m c) (argD m c) (argS m c) (argW m c) (argB m c) := rfl
theorem out_dws : res_out3 m c = dws (argZ m c) (argD m c) (argS m c) := rfl
theorem out_dsg : res_out5 m c = dsg (argZ m c) (argD m c) (argW m c) := rfl

end Results

end Cert.ReferenceIdeal.Gating
-- ==== Proof.Gating.ReferenceReal.lean ====
/-
  The reference's terms of real arguments: on each chunk of 128 rows and each group of 128 columns, each is the real
  formula of `Gating.Reals`.
-/
module

public import proofs.«01_k».proof.Proof.Gating.Reference
public import proofs.«01_k».proof.Proof.Gating.Reals

@[expose] public section

set_option maxRecDepth 16384

noncomputable section

open Idealize.ShloMosaic Idealize.ShloMosaic.TcCoe Idealize.SL.Sem

namespace Cert.Gating

/-! ## Sums over an index's coordinates -/

/-- A host sum at `j` is the sum over any listing of the indices that drop to `j`. -/
theorem hostReduceAdd_of_fiber {s t : Shape} {axes : List (Fin s.rank)} {κ : Type*} [Fintype κ] (h : s.ReducesTo axes t)
    (x : s.Idx → EReal) (init : EReal) (j : t.Idx) (f : κ → s.Idx) (hf : Function.Injective f)
    (hj : ∀ i, h.drop i = j ↔ ∃ k, f k = i) : Ideal.hostReduceAdd h x init j = init + ∑ k, x (f k) :=
  congrArg (init + ·) (Finset.sum_filter_eq_sum_of_fiber _ f (fun _ _ e => hf e) hj x)

end Cert.Gating

namespace Cert.ReferenceIdeal.Gating

open Cert.ReferenceIdeal Cert.ReferenceIdeal.Gen Cert.ReferenceIdeal.Value
open Cert.Gating (coe_sum div_real erf_real erfc_neg_real rsqrt_real sqrt_real half_eq neg_half_eq one_eq neg_one_eq two_eq neg_two_eq
  width_eq eps_eq hostReduceAdd_of_fiber)

/-- Row `q` of chunk `n`, and column `e` of group `g`. -/
abbrev row (n : Fin 32) (q : Fin 128) : Fin 4096 := ⟨n.val * 128 + q.val, by omega⟩
abbrev col (g : Fin 4) (e : Fin 128) : Fin 512 := ⟨g.val * 128 + e.val, by omega⟩

section Sums

variable (x : FVec Ideal S1x32x128x4x128 .f32)

theorem sum_rows_cols (q : Fin 128) (g : Fin 4) (init : EReal) :
    Ideal.hostReduceAdd reducesTo_S1x32x128x4x128_S1x128x4_d1_4 x init (ix3 0 q g) = init + ∑ k : Fin 32 × Fin 128, x (ix5 0 k.1 q g k.2) := by
  refine hostReduceAdd_of_fiber _ _ _ _ _ (fun _ _ h => Prod.ext (congrFun h 1) (congrFun h 4)) fun i => ?_
  constructor
  · intro h
    refine ⟨(i 1, i 4), ?_⟩
    funext a
    match a with
    | ⟨0, _⟩ => exact (Fin.fin_one_eq_zero (i 0)).symm
    | ⟨1, _⟩ => rfl
    | ⟨2, _⟩ => exact Fin.ext (congrArg Fin.val (congrFun h 1)).symm
    | ⟨3, _⟩ => exact Fin.ext (congrArg Fin.val (congrFun h 2)).symm
    | ⟨4, _⟩ => rfl
  · rintro ⟨k, rfl⟩
    funext a
    match a with
    | ⟨0, _⟩ => rfl
    | ⟨1, _⟩ => rfl
    | ⟨2, _⟩ => rfl

theorem sum_chunks_rows (g : Fin 4) (e : Fin 128) (init : EReal) :
    Ideal.hostReduceAdd reducesTo_S1x32x128x4x128_S1x4x128_d1_2 x init (ix3 0 g e) = init + ∑ k : Fin 32 × Fin 128, x (ix5 0 k.1 k.2 g e) := by
  refine hostReduceAdd_of_fiber _ _ _ _ _ (fun _ _ h => Prod.ext (congrFun h 1) (congrFun h 2)) fun i => ?_
  constructor
  · intro h
    refine ⟨(i 1, i 2), ?_⟩
    funext a
    match a with
    | ⟨0, _⟩ => exact (Fin.fin_one_eq_zero (i 0)).symm
    | ⟨1, _⟩ => rfl
    | ⟨2, _⟩ => rfl
    | ⟨3, _⟩ => exact Fin.ext (congrArg Fin.val (congrFun h 1)).symm
    | ⟨4, _⟩ => exact Fin.ext (congrArg Fin.val (congrFun h 2)).symm
  · rintro ⟨k, rfl⟩
    funext a
    match a with
    | ⟨0, _⟩ => rfl
    | ⟨1, _⟩ => rfl
    | ⟨2, _⟩ => rfl

theorem sum_units_bias (y : FVec Ideal S1x1x128x4x1 .f32) (q : Fin 128) (g : Fin 4) (init : EReal) :
    Ideal.hostReduceAdd reducesTo_S1x1x128x4x1_S128x4_d0_1_4 y init (ix2 q g) = init + y (ix5 0 0 q g 0) := by
  refine (hostReduceAdd_of_fiber (κ := Unit) _ _ _ _ (fun _ => ix5 0 0 q g 0) (fun _ _ _ => rfl) fun i => ?_).trans (by simp)
  constructor
  · intro h
    refine ⟨(), ?_⟩
    funext a
    match a with
    | ⟨0, _⟩ => exact (Fin.fin_one_eq_zero (i 0)).symm
    | ⟨1, _⟩ => exact (Fin.fin_one_eq_zero (i 1)).symm
    | ⟨2, _⟩ => exact Fin.ext (congrArg Fin.val (congrFun h 0)).symm
    | ⟨3, _⟩ => exact Fin.ext (congrArg Fin.val (congrFun h 1)).symm
    | ⟨4, _⟩ => exact (Fin.fin_one_eq_zero (i 4)).symm
  · rintro ⟨k, rfl⟩
    funext a
    match a with
    | ⟨0, _⟩ => rfl
    | ⟨1, _⟩ => rfl

theorem sum_units_gain (y : FVec Ideal S1x1x1x4x128 .f32) (g : Fin 4) (e : Fin 128) (init : EReal) :
    Ideal.hostReduceAdd reducesTo_S1x1x1x4x128_S4x128_d0_1_2 y init (ix2 g e) = init + y (ix5 0 0 0 g e) := by
  refine (hostReduceAdd_of_fiber (κ := Unit) _ _ _ _ (fun _ => ix5 0 0 0 g e) (fun _ _ _ => rfl) fun i => ?_).trans (by simp)
  constructor
  · intro h
    refine ⟨(), ?_⟩
    funext a
    match a with
    | ⟨0, _⟩ => exact (Fin.fin_one_eq_zero (i 0)).symm
    | ⟨1, _⟩ => exact (Fin.fin_one_eq_zero (i 1)).symm
    | ⟨2, _⟩ => exact (Fin.fin_one_eq_zero (i 2)).symm
    | ⟨3, _⟩ => exact Fin.ext (congrArg Fin.val (congrFun h 0)).symm
    | ⟨4, _⟩ => exact Fin.ext (congrArg Fin.val (congrFun h 1)).symm
  · rintro ⟨k, rfl⟩
    funext a
    match a with
    | ⟨0, _⟩ => rfl
    | ⟨1, _⟩ => rfl

theorem sum_units_rows (y : FVec Ideal S1x32x128x4x1 .f32) (n : Fin 32) (q : Fin 128) (g : Fin 4) (init : EReal) :
    Ideal.hostReduceAdd reducesTo_S1x32x128x4x1_S32x128x4_d0_4 y init (ix3 n q g) = init + y (ix5 0 n q g 0) := by
  refine (hostReduceAdd_of_fiber (κ := Unit) _ _ _ _ (fun _ => ix5 0 n q g 0) (fun _ _ _ => rfl) fun i => ?_).trans (by simp)
  constructor
  · intro h
    refine ⟨(), ?_⟩
    funext a
    match a with
    | ⟨0, _⟩ => exact (Fin.fin_one_eq_zero (i 0)).symm
    | ⟨1, _⟩ => exact Fin.ext (congrArg Fin.val (congrFun h 0)).symm
    | ⟨2, _⟩ => exact Fin.ext (congrArg Fin.val (congrFun h 1)).symm
    | ⟨3, _⟩ => exact Fin.ext (congrArg Fin.val (congrFun h 2)).symm
    | ⟨4, _⟩ => exact (Fin.fin_one_eq_zero (i 4)).symm
  · rintro ⟨k, rfl⟩
    funext a
    match a with
    | ⟨0, _⟩ => rfl
    | ⟨1, _⟩ => rfl
    | ⟨2, _⟩ => rfl

/-- The contraction of the mixing weights' gradient: over the chunks and a group's columns. -/
abbrev dotW : DotDims S4x1x32x128x128 S1x32x128x4x128 S4x128x128 := dot_S4x1x32x128x128_S1x32x128x4x128_S4x128x128_123_014_4_2_0_3

/-- The contraction index of chunk `n` and column `e`. -/
def contrW (k : Fin 32 × Fin 128) : dotW.contr.Idx := fun a =>
  match a with
  | ⟨0, _⟩ => (0 : Fin 1)
  | ⟨1, _⟩ => k.1
  | ⟨2, _⟩ => k.2

def contrWEquiv : Fin 32 × Fin 128 ≃ dotW.contr.Idx where
  toFun := contrW
  invFun i := (i ⟨1, by decide⟩, i ⟨2, by decide⟩)
  left_inv _ := rfl
  right_inv i := by
    funext a
    match a with
    | ⟨0, _⟩ => exact (Fin.fin_one_eq_zero (i ⟨0, by decide⟩)).symm
    | ⟨1, _⟩ => rfl
    | ⟨2, _⟩ => rfl

theorem matmulW (y : FVec Ideal S4x1x32x128x128 .f32) (g : Fin 4) (p q : Fin 128) :
    Ideal.matmul dotW y x (fun _ => 0) (ix3 g p q) = ∑ k : Fin 32 × Fin 128, y (ix5 g 0 k.1 k.2 p) * x (ix5 0 k.1 q g k.2) := by
  refine (zero_add _).trans (Fintype.sum_equiv contrWEquiv _ _ fun k => ?_).symm
  have hl : dotW.lhsIdx (ix3 g p q) (contrW k) = ix5 g 0 k.1 k.2 p := by
    funext a
    match a with
    | ⟨0, _⟩ => rfl
    | ⟨1, _⟩ => rfl
    | ⟨2, _⟩ => rfl
    | ⟨3, _⟩ => rfl
    | ⟨4, _⟩ => rfl
  have hr : dotW.rhsIdx (ix3 g p q) (contrW k) = ix5 0 k.1 q g k.2 := by
    funext a
    match a with
    | ⟨0, _⟩ => rfl
    | ⟨1, _⟩ => rfl
    | ⟨2, _⟩ => rfl
    | ⟨3, _⟩ => rfl
    | ⟨4, _⟩ => rfl
  show _ = y (dotW.lhsIdx (ix3 g p q) (contrW k)) * x (dotW.rhsIdx (ix3 g p q) (contrW k))
  rw [hl, hr]

end Sums

/-! ## Elementwise terms -/

section Elementwise

variable {x y : FVec Ideal S1x4096x512 .f32} {i : Fin 4096} {j : Fin 512} {r t : ℝ}

theorem rootTwo_eq (i : Fin 4096) (j : Fin 512) : rootTwo (ix3 0 i j) = ((Real.sqrt 2 : ℝ) : EReal) := by
  refine Eq.trans (b := Ideal.sqrt (Ideal.ofBits .f32 0x40000000#32)) (by pointwise [rootTwo]) ?_
  rw [two_eq, sqrt_real (by norm_num)]

theorem arg_real (h : x (ix3 0 i j) = (r : EReal)) : arg x (ix3 0 i j) = ((-(r * (Real.sqrt 2)⁻¹) : ℝ) : EReal) := by
  refine Eq.trans (b := Ideal.div (-x (ix3 0 i j)) (rootTwo (ix3 0 i j))) (by pointwise [arg]) ?_
  rw [h, rootTwo_eq, ← EReal.coe_neg, div_real (by positivity)]
  congr 1; ring

theorem erfcs_real (h : x (ix3 0 i j) = (r : EReal)) :
    erfcs x (ix3 0 i j) = ((1 + Cert.Gating.erf (r * (Real.sqrt 2)⁻¹) : ℝ) : EReal) := by
  refine Eq.trans (b := Ideal.erfc (arg x (ix3 0 i j))) (by pointwise [erfcs]) ?_
  rw [arg_real h, erfc_neg_real]

theorem half_real (h : x (ix3 0 i j) = (r : EReal)) : half x (ix3 0 i j) = ((1 / 2 * r : ℝ) : EReal) := by
  refine Eq.trans (b := Ideal.ofBits .f32 0x3F000000#32 * x (ix3 0 i j)) (by pointwise [half]) ?_
  rw [h, half_eq, ← EReal.coe_mul]

theorem gel_real (h : x (ix3 0 i j) = (r : EReal)) : gel x (ix3 0 i j) = ((Cert.Gating.gelu r : ℝ) : EReal) := by
  refine Eq.trans (b := half x (ix3 0 i j) * erfcs x (ix3 0 i j)) (by pointwise [gel]) ?_
  rw [half_real h, erfcs_real h, ← EReal.coe_mul, Cert.Gating.gelu, Cert.Gating.cdf]
  congr 1; ring

theorem derfc_real (h : x (ix3 0 i j) = (r : EReal)) :
    derfc x (ix3 0 i j) = ((-2 / Real.sqrt Real.pi * Real.exp (-1 / 2 * r * r) : ℝ) : EReal) := by
  refine Eq.trans (b := Ideal.div (Ideal.ofBits .f32 0xC0000000#32) (Ideal.sqrt (Ideal.acos (Ideal.ofBits .f32 0xBF800000#32))) *
    Ideal.exp (-arg x (ix3 0 i j) * arg x (ix3 0 i j))) (by pointwise [derfc]) ?_
  have hs : (Real.sqrt 2)⁻¹ * (Real.sqrt 2)⁻¹ = 1 / 2 := by
    rw [← mul_inv, Real.mul_self_sqrt (by norm_num)]; norm_num
  rw [arg_real h, neg_two_eq, neg_one_eq, Ideal.acos_coe, if_pos (by norm_num), Real.arccos_neg_one, sqrt_real Real.pi_pos.le,
    div_real (Real.sqrt_pos.mpr Real.pi_pos).ne', ← EReal.coe_neg, ← EReal.coe_mul, Ideal.exp_coe, ← EReal.coe_mul]
  congr 3
  linear_combination -(r * r) * hs

theorem gelBack_real (h : x (ix3 0 i j) = (r : EReal)) (hy : y (ix3 0 i j) = (t : EReal)) :
    gelBack x y (ix3 0 i j) = ((t * Cert.Gating.dgelu r : ℝ) : EReal) := by
  refine Eq.trans (b := -Ideal.div (half x (ix3 0 i j) * y (ix3 0 i j) * derfc x (ix3 0 i j)) (rootTwo (ix3 0 i j)) +
    Ideal.ofBits .f32 0x3F000000#32 * (y (ix3 0 i j) * erfcs x (ix3 0 i j))) (by pointwise [gelBack]) ?_
  rw [half_real h, hy, derfc_real h, rootTwo_eq, erfcs_real h, half_eq, ← EReal.coe_mul, ← EReal.coe_mul, div_real (by positivity),
    ← EReal.coe_neg, ← EReal.coe_mul, ← EReal.coe_mul, ← EReal.coe_add, Cert.Gating.dgelu, Cert.Gating.cdf, Cert.Gating.dens,
    Real.sqrt_mul (by norm_num)]
  congr 1
  have h2 : Real.sqrt 2 ≠ 0 := by positivity
  have hp : Real.sqrt Real.pi ≠ 0 := (Real.sqrt_pos.mpr Real.pi_pos).ne'
  field_simp
  ring

theorem logi_real (h : x (ix3 0 i j) = (r : EReal)) : logi x (ix3 0 i j) = ((Cert.Gating.logi r : ℝ) : EReal) := by
  refine Eq.trans (b := Ideal.div 1 (1 + Ideal.exp (-x (ix3 0 i j)))) (by pointwise [logi]) ?_
  rw [h, ← EReal.coe_neg, Ideal.exp_coe, ← EReal.coe_one, ← EReal.coe_add, div_real (by positivity)]
  rfl

theorem silu_real (h : x (ix3 0 i j) = (r : EReal)) : silu x (ix3 0 i j) = ((Cert.Gating.silu r : ℝ) : EReal) := by
  refine Eq.trans (b := x (ix3 0 i j) * logi x (ix3 0 i j)) (by pointwise [silu]) ?_
  rw [logi_real h, h, ← EReal.coe_mul]
  rfl

theorem siluBack_real (h : x (ix3 0 i j) = (r : EReal)) (hy : y (ix3 0 i j) = (t : EReal)) :
    siluBack x y (ix3 0 i j) = ((t * Cert.Gating.dsilu r : ℝ) : EReal) := by
  refine Eq.trans (b := y (ix3 0 i j) * logi x (ix3 0 i j) + x (ix3 0 i j) * y (ix3 0 i j) *
    (logi x (ix3 0 i j) * (1 - logi x (ix3 0 i j)))) (by pointwise [siluBack, dlogi]) ?_
  rw [logi_real h, h, hy, ← EReal.coe_one]
  simp only [← EReal.coe_mul, ← EReal.coe_sub, ← EReal.coe_add]
  rw [Cert.Gating.dsilu]
  congr 1; ring

end Elementwise

end Cert.ReferenceIdeal.Gating
-- ==== Proof.Gating.ReferenceChunk.lean ====
/-
  The reference's six results of real arguments, chunk by chunk and group by group: the real formulas of `Gating.Reals`,
  summed over the chunks where the result is a parameter's gradient.
-/
module

public import proofs.«01_k».proof.Proof.Gating.ReferenceReal

@[expose] public section

set_option maxRecDepth 16384

noncomputable section

open Idealize.ShloMosaic Idealize.ShloMosaic.TcCoe Idealize.SL.Sem

namespace Cert.ReferenceIdeal.Gating

open Cert.ReferenceIdeal Cert.ReferenceIdeal.Gen Cert.ReferenceIdeal.Value
open Cert.Gating (coe_sum div_real rsqrt_real half_eq neg_half_eq one_eq width_eq eps_eq)

/-- The arguments are these real numbers: the three parts of the input and the gradient at the result by chunk, group, row
    and column, the gain by group and column, the mixing weights and the biases by group. -/
structure Reals (Z : FVec Ideal S4096x3584 .bf16) (D : FVec Ideal S4096x1024 .bf16) (S : FVec Ideal S1x512 .f32)
    (W : FVec Ideal S1x4x128x128 .f32) (B : FVec Ideal S1x4x128 .f32) (u v a d : Fin 32 → Fin 4 → Fin 128 → Fin 128 → ℝ)
    (s : Fin 4 → Fin 128 → ℝ) (w : Fin 4 → Fin 128 → Fin 128 → ℝ) (b : Fin 4 → Fin 128 → ℝ) : Prop where
  hu : ∀ n g q e, pU Z (ix3 0 (row n q) (col g e)) = (u n g q e : EReal)
  hv : ∀ n g q e, pV Z (ix3 0 (row n q) (col g e)) = (v n g q e : EReal)
  ha : ∀ n g q e, pG Z (ix3 0 (row n q) (col g e)) = (a n g q e : EReal)
  hd : ∀ n g q e, pD D (ix3 0 (row n q) (col g e)) = (d n g q e : EReal)
  hs : ∀ g e, S (ix2 0 (col g e)) = (s g e : EReal)
  hw : ∀ g p q, W (ix4 0 g p q) = (w g p q : EReal)
  hb : ∀ g p, B (ix3 0 g p) = (b g p : EReal)

variable {Z : FVec Ideal S4096x3584 .bf16} {D : FVec Ideal S4096x1024 .bf16} {S : FVec Ideal S1x512 .f32}
  {W : FVec Ideal S1x4x128x128 .f32} {B : FVec Ideal S1x4x128 .f32} {u v a d : Fin 32 → Fin 4 → Fin 128 → Fin 128 → ℝ}
  {s : Fin 4 → Fin 128 → ℝ} {w : Fin 4 → Fin 128 → Fin 128 → ℝ} {b : Fin 4 → Fin 128 → ℝ}

/-- An array by chunks and groups, read by rows and columns. -/
theorem flat_apply (x : FVec Ideal S1x32x128x4x128 .f32) (n : Fin 32) (q : Fin 128) (g : Fin 4) (e : Fin 128) :
    shapeCast S1x4096x512 x shapeCasts_S1x32x128x4x128_S1x4096x512 (ix3 0 (row n q) (col g e)) = x (ix5 0 n q g e) := by
  pointwise []
  congr 2 <;> apply Fin.ext <;> show _ = _ <;> simp only [] <;> omega

namespace Reals

variable (h : Reals Z D S W B u v a d s w b)
include h

theorem gv (n : Fin 32) (q : Fin 128) (g : Fin 4) (e : Fin 128) :
    gv Z (ix5 0 n q g e) = ((Cert.Gating.gelu (v n g q e) : ℝ) : EReal) := by
  refine Eq.trans (b := gel (pV Z) (ix3 0 (row n q) (col g e))) (by pointwise [Cert.ReferenceIdeal.Gating.gv]) ?_
  exact gel_real (h.hv n g q e)

theorem ms (n : Fin 32) (q : Fin 128) (g : Fin 4) : ms Z (ix5 0 n q g 0) = ((Cert.Gating.ms (v n g) q : ℝ) : EReal) := by
  refine Eq.trans (b := Ideal.div (∑ e, Cert.ReferenceIdeal.Gating.gv Z (ix5 0 n q g e) * Cert.ReferenceIdeal.Gating.gv Z (ix5 0 n q g e))
    (Ideal.ofBits .f32 0x43000000#32) + Ideal.ofBits .f32 0x358637BD#32) (by pointwise [Cert.ReferenceIdeal.Gating.ms]) ?_
  simp only [h.gv, ← EReal.coe_mul]
  rw [coe_sum, width_eq, div_real (by norm_num), eps_eq, ← EReal.coe_add]
  rfl

theorem rs (n : Fin 32) (q : Fin 128) (g : Fin 4) : rs Z (ix5 0 n q g 0) = ((Cert.Gating.rs (v n g) q : ℝ) : EReal) := by
  refine Eq.trans (b := Ideal.rsqrt (Cert.ReferenceIdeal.Gating.ms Z (ix5 0 n q g 0))) (by pointwise [Cert.ReferenceIdeal.Gating.rs]) ?_
  rw [h.ms]
  exact rsqrt_real (Cert.Gating.ms_pos _ q)

theorem slope (n : Fin 32) (q : Fin 128) (g : Fin 4) :
    slope Z (ix5 0 n q g 0) = ((-1 / 2 * (Cert.Gating.rs (v n g) q / Cert.Gating.ms (v n g) q) : ℝ) : EReal) := by
  refine Eq.trans (b := Ideal.ofBits .f32 0xBF000000#32 * Ideal.div (Cert.ReferenceIdeal.Gating.rs Z (ix5 0 n q g 0))
    (Cert.ReferenceIdeal.Gating.ms Z (ix5 0 n q g 0))) (by pointwise [Cert.ReferenceIdeal.Gating.slope]) ?_
  rw [h.ms, h.rs, div_real (Cert.Gating.ms_pos _ q).ne', neg_half_eq, ← EReal.coe_mul]

theorem vhat (n : Fin 32) (q : Fin 128) (g : Fin 4) (e : Fin 128) :
    vhat Z (ix5 0 n q g e) = ((Cert.Gating.vhat (v n g) q e : ℝ) : EReal) := by
  refine Eq.trans (b := Cert.ReferenceIdeal.Gating.gv Z (ix5 0 n q g e) * Cert.ReferenceIdeal.Gating.rs Z (ix5 0 n q g 0))
    (by pointwise [Cert.ReferenceIdeal.Gating.vhat]) ?_
  rw [h.gv, h.rs, ← EReal.coe_mul]
  rfl

theorem gain (n : Fin 32) (q : Fin 128) (g : Fin 4) (e : Fin 128) : gain S (ix5 0 n q g e) = (s g e : EReal) :=
  Eq.trans (by pointwise [Cert.ReferenceIdeal.Gating.gain]) (h.hs g e)

theorem vn (n : Fin 32) (q : Fin 128) (g : Fin 4) (e : Fin 128) :
    vn Z S (ix5 0 n q g e) = ((Cert.Gating.vn (v n g) (s g) q e : ℝ) : EReal) := by
  refine Eq.trans (b := Cert.ReferenceIdeal.Gating.vhat Z (ix5 0 n q g e) * Cert.ReferenceIdeal.Gating.gain S (ix5 0 n q g e))
    (by pointwise [Cert.ReferenceIdeal.Gating.vn]) ?_
  rw [h.vhat, h.gain, ← EReal.coe_mul]
  rfl

theorem wts (g : Fin 4) (p q : Fin 128) : wts W (ix3 g p q) = (w g p q : EReal) :=
  Eq.trans (by pointwise [Cert.ReferenceIdeal.Gating.wts]) (h.hw g p q)

theorem mixed (n : Fin 32) (p : Fin 128) (g : Fin 4) (e : Fin 128) :
    mixed Z S W B (ix3 0 (row n p) (col g e)) = ((Cert.Gating.mix (v n g) (s g) (w g) (b g) p e : ℝ) : EReal) := by
  refine (flat_apply (mixed5 Z S W B) n p g e).trans ?_
  refine Eq.trans (b := (∑ q, Cert.ReferenceIdeal.Gating.vn Z S (ix5 0 n q g e) * Cert.ReferenceIdeal.Gating.wts W (ix3 g p q)) +
    B (ix3 0 g p)) (by pointwise [mixed5]) ?_
  simp only [h.vn, h.wts, h.hb, ← EReal.coe_mul]
  rw [coe_sum, ← EReal.coe_add, Cert.Gating.mix]
  congr 2
  exact Finset.sum_congr rfl fun q _ => mul_comm _ _

theorem dAct (n : Fin 32) (p : Fin 128) (g : Fin 4) (e : Fin 128) :
    dAct Z D (ix3 0 (row n p) (col g e)) = ((d n g p e * Cert.Gating.silu (a n g p e) : ℝ) : EReal) := by
  refine Eq.trans (b := pD D (ix3 0 (row n p) (col g e)) * silu (pG Z) (ix3 0 (row n p) (col g e)))
    (by pointwise [Cert.ReferenceIdeal.Gating.dAct]) ?_
  rw [h.hd, silu_real (h.ha n g p e), ← EReal.coe_mul]

theorem dau (n : Fin 32) (p : Fin 128) (g : Fin 4) (e : Fin 128) : dau Z D S W B (ix2 (row n p) (col g e)) =
    ((Cert.Gating.dau (u n g) (v n g) (a n g) (d n g) (s g) (w g) (b g) p e : ℝ) : EReal) := by
  refine Eq.trans (b := gelBack (pU Z) (mulf (Cert.ReferenceIdeal.Gating.dAct Z D) (Cert.ReferenceIdeal.Gating.mixed Z S W B))
    (ix3 0 (row n p) (col g e))) (by pointwise [Cert.ReferenceIdeal.Gating.dau]) ?_
  refine (gelBack_real (h.hu n g p e) (t := d n g p e * Cert.Gating.silu (a n g p e) *
    Cert.Gating.mix (v n g) (s g) (w g) (b g) p e) ?_).trans ?_
  · refine Eq.trans (b := Cert.ReferenceIdeal.Gating.dAct Z D (ix3 0 (row n p) (col g e)) *
      Cert.ReferenceIdeal.Gating.mixed Z S W B (ix3 0 (row n p) (col g e))) (by pointwise []) ?_
    rw [h.dAct, h.mixed, ← EReal.coe_mul]
  · rw [Cert.Gating.dau]
    congr 1; ring

theorem dag (n : Fin 32) (p : Fin 128) (g : Fin 4) (e : Fin 128) : dag Z D S W B (ix2 (row n p) (col g e)) =
    ((Cert.Gating.dag (u n g) (v n g) (a n g) (d n g) (s g) (w g) (b g) p e : ℝ) : EReal) := by
  refine Eq.trans (b := siluBack (pG Z) (mulf (mulf (gel (pU Z)) (Cert.ReferenceIdeal.Gating.mixed Z S W B)) (pD D))
    (ix3 0 (row n p) (col g e))) (by pointwise [Cert.ReferenceIdeal.Gating.dag]) ?_
  refine (siluBack_real (h.ha n g p e) (t := Cert.Gating.gelu (u n g p e) * Cert.Gating.mix (v n g) (s g) (w g) (b g) p e *
    d n g p e) ?_).trans ?_
  · refine Eq.trans (b := gel (pU Z) (ix3 0 (row n p) (col g e)) * Cert.ReferenceIdeal.Gating.mixed Z S W B (ix3 0 (row n p) (col g e)) *
      pD D (ix3 0 (row n p) (col g e))) (by pointwise []) ?_
    rw [gel_real (h.hu n g p e), h.mixed, h.hd, ← EReal.coe_mul, ← EReal.coe_mul]
  · rw [Cert.Gating.dag]
    congr 1; ring

theorem dmix (n : Fin 32) (p : Fin 128) (g : Fin 4) (e : Fin 128) :
    dmix Z D (ix5 0 n p g e) = ((Cert.Gating.dmix (u n g) (a n g) (d n g) p e : ℝ) : EReal) := by
  refine Eq.trans (b := gel (pU Z) (ix3 0 (row n p) (col g e)) * Cert.ReferenceIdeal.Gating.dAct Z D (ix3 0 (row n p) (col g e)))
    (by pointwise [Cert.ReferenceIdeal.Gating.dmix]) ?_
  rw [gel_real (h.hu n g p e), h.dAct, ← EReal.coe_mul, Cert.Gating.dmix]
  congr 1; ring

theorem dmixT (n : Fin 32) (p : Fin 128) (g : Fin 4) (e : Fin 128) :
    dmixT Z D (ix5 g 0 n e p) = ((Cert.Gating.dmix (u n g) (a n g) (d n g) p e : ℝ) : EReal) :=
  Eq.trans (by pointwise [Cert.ReferenceIdeal.Gating.dmixT]) (h.dmix n p g e)

theorem dvn (n : Fin 32) (q : Fin 128) (g : Fin 4) (e : Fin 128) :
    dvn Z D W (ix5 0 n q g e) = ((Cert.Gating.dvn (u n g) (a n g) (d n g) (w g) q e : ℝ) : EReal) := by
  refine Eq.trans (b := ∑ p, Cert.ReferenceIdeal.Gating.dmixT Z D (ix5 g 0 n e p) * Cert.ReferenceIdeal.Gating.wts W (ix3 g p q))
    (by pointwise [Cert.ReferenceIdeal.Gating.dvn]) ?_
  simp only [h.dmixT, h.wts, ← EReal.coe_mul]
  rw [coe_sum, Cert.Gating.dvn]
  congr 1
  exact Finset.sum_congr rfl fun p _ => mul_comm _ _

theorem dvhat (n : Fin 32) (q : Fin 128) (g : Fin 4) (e : Fin 128) :
    dvhat Z D S W (ix5 0 n q g e) = ((Cert.Gating.dvhat (u n g) (a n g) (d n g) (s g) (w g) q e : ℝ) : EReal) := by
  refine Eq.trans (b := Cert.ReferenceIdeal.Gating.dvn Z D W (ix5 0 n q g e) * Cert.ReferenceIdeal.Gating.gain S (ix5 0 n q g e))
    (by pointwise [Cert.ReferenceIdeal.Gating.dvhat]) ?_
  rw [h.dvn, h.gain, ← EReal.coe_mul]
  rfl

theorem dbs (k : Fin 8) (g : Fin 4) (p : Fin 128) :
    dbs Z D (ix3 g k p) = ((∑ n, Cert.Gating.dbs (u n g) (a n g) (d n g) p : ℝ) : EReal) := by
  refine Eq.trans (b := ∑ k : Fin 32 × Fin 128, Cert.ReferenceIdeal.Gating.dmix Z D (ix5 0 k.1 p g k.2)) ?_ ?_
  · pointwise [Cert.ReferenceIdeal.Gating.dbs]
    rw [Fin.sum_univ_one, sum_units_bias]
    pointwise []
    rw [sum_rows_cols]
    simp
  · simp only [h.dmix, coe_sum, Fintype.sum_prod_type]
    rfl

theorem dws (g : Fin 4) (p q : Fin 128) :
    dws Z D S (ix3 g p q) = ((∑ n, Cert.Gating.dws (u n g) (v n g) (a n g) (d n g) (s g) p q : ℝ) : EReal) := by
  refine Eq.trans (b := Ideal.matmul dotW (Cert.ReferenceIdeal.Gating.dmixT Z D) (Cert.ReferenceIdeal.Gating.vn Z S) (fun _ => 0)
    (ix3 g p q)) (by pointwise [Cert.ReferenceIdeal.Gating.dws]) ?_
  rw [matmulW]
  simp only [h.dmixT, h.vn, ← EReal.coe_mul, coe_sum, Fintype.sum_prod_type]
  rfl

theorem dsg (g : Fin 4) (e : Fin 128) :
    dsg Z D W (ix2 0 (col g e)) = ((∑ n, Cert.Gating.dsg (u n g) (v n g) (a n g) (d n g) (w g) e : ℝ) : EReal) := by
  refine Eq.trans (b := ∑ k : Fin 32 × Fin 128, Cert.ReferenceIdeal.Gating.vhat Z (ix5 0 k.1 k.2 g e) *
    Cert.ReferenceIdeal.Gating.dvn Z D W (ix5 0 k.1 k.2 g e)) ?_ ?_
  · pointwise [Cert.ReferenceIdeal.Gating.dsg]
    rw [sum_units_gain]
    pointwise []
    rw [sum_chunks_rows]
    pointwise []
  · simp only [h.vhat, h.dvn, ← EReal.coe_mul, coe_sum, Fintype.sum_prod_type]
    congr 1
    exact Finset.sum_congr rfl fun n _ => Finset.sum_congr rfl fun q _ => mul_comm _ _

theorem dms (n : Fin 32) (q : Fin 128) (g : Fin 4) (e : Fin 128) : dms Z D S W (ix5 0 n q g e) =
    (((∑ e', Cert.Gating.gelu (v n g q e') * Cert.Gating.dvhat (u n g) (a n g) (d n g) (s g) (w g) q e') *
      (-1 / 2 * (Cert.Gating.rs (v n g) q / Cert.Gating.ms (v n g) q)) / 128 : ℝ) : EReal) := by
  refine Eq.trans (b := Ideal.div ((∑ e', Cert.ReferenceIdeal.Gating.gv Z (ix5 0 n q g e') *
    Cert.ReferenceIdeal.Gating.dvhat Z D S W (ix5 0 n q g e')) * Cert.ReferenceIdeal.Gating.slope Z (ix5 0 n q g 0))
    (Ideal.ofBits .f32 0x43000000#32)) ?_ ?_
  · pointwise [Cert.ReferenceIdeal.Gating.dms]
    rw [sum_units_rows]
    pointwise []
  · simp only [h.gv, h.dvhat, ← EReal.coe_mul]
    rw [coe_sum, h.slope, ← EReal.coe_mul, width_eq, div_real (by norm_num)]

theorem dav (n : Fin 32) (q : Fin 128) (g : Fin 4) (e : Fin 128) : dav Z D S W (ix2 (row n q) (col g e)) =
    ((Cert.Gating.dav (u n g) (v n g) (a n g) (d n g) (s g) (w g) q e : ℝ) : EReal) := by
  refine Eq.trans (b := gelBack (pV Z) (shapeCast S1x4096x512 (dgv Z D S W) shapeCasts_S1x32x128x4x128_S1x4096x512)
    (ix3 0 (row n q) (col g e))) (by pointwise [Cert.ReferenceIdeal.Gating.dav]) ?_
  refine (gelBack_real (h.hv n g q e) (t := Cert.Gating.rs (v n g) q * (Cert.Gating.dvhat (u n g) (a n g) (d n g) (s g) (w g) q e -
    Cert.Gating.vhat (v n g) q e * Cert.Gating.dmean (u n g) (v n g) (a n g) (d n g) (s g) (w g) q)) ?_).trans rfl
  refine (flat_apply (dgv Z D S W) n q g e).trans ?_
  refine Eq.trans (b := Cert.ReferenceIdeal.Gating.dvhat Z D S W (ix5 0 n q g e) * Cert.ReferenceIdeal.Gating.rs Z (ix5 0 n q g 0) +
    Cert.ReferenceIdeal.Gating.gv Z (ix5 0 n q g e) * Cert.ReferenceIdeal.Gating.dms Z D S W (ix5 0 n q g e) +
    Cert.ReferenceIdeal.Gating.dms Z D S W (ix5 0 n q g e) * Cert.ReferenceIdeal.Gating.gv Z (ix5 0 n q g e)) (by pointwise [dgv]) ?_
  rw [h.dvhat, h.rs, h.gv, h.dms]
  simp only [← EReal.coe_mul, ← EReal.coe_add]
  congr 1
  have hm := Cert.Gating.ms_pos (v n g) q
  have hr : Cert.Gating.rs (v n g) q / Cert.Gating.ms (v n g) q =
      Cert.Gating.rs (v n g) q * (Cert.Gating.rs (v n g) q * Cert.Gating.rs (v n g) q) := by
    rw [Cert.Gating.rs, ← mul_inv (Real.sqrt _) (Real.sqrt _), Real.mul_self_sqrt hm.le, div_eq_mul_inv]
  have hsum : ∑ e', Cert.Gating.dvhat (u n g) (a n g) (d n g) (s g) (w g) q e' * Cert.Gating.vhat (v n g) q e' =
      Cert.Gating.rs (v n g) q * ∑ e', Cert.Gating.gelu (v n g q e') * Cert.Gating.dvhat (u n g) (a n g) (d n g) (s g) (w g) q e' := by
    rw [Finset.mul_sum]
    exact Finset.sum_congr rfl fun e' _ => by rw [Cert.Gating.vhat]; ring
  rw [hr, Cert.Gating.dmean, hsum, Cert.Gating.vhat]
  ring

end Reals

end Cert.ReferenceIdeal.Gating
-- ==== Proof.Gating.Tiles.lean ====
/-
  The gating gradient, one tile of real arguments: what the sixteen steps store and add is the real formula of the step's
  chunk and group.
-/
module

public import proofs.«01_k».proof.Proof.Gating.Blocks
public import proofs.«01_k».proof.Proof.Gating.Pieces
public import proofs.«01_k».proof.Proof.Gating.ReferenceChunk

@[expose] public section

set_option maxRecDepth 16384

noncomputable section

open Idealize.ShloMosaic Idealize.ShloMosaic.TcCoe Idealize.SL.Sem
open Idealize.ShloMosaic.Pipeline (Dat)

namespace Cert.Gating

open Cert.ReferenceIdeal.Gating (row col)

/-- The arguments are these real numbers, read at rows and columns. -/
structure Given (Z : Vec Ideal ⟨2, ![4096, 3584]⟩ .bf16) (D : Vec Ideal ⟨2, ![4096, 1024]⟩ .bf16) (S : Vec Ideal ⟨2, ![1, 512]⟩ .f32)
    (W : Vec Ideal ⟨4, ![1, 4, 128, 128]⟩ .f32) (B : Vec Ideal ⟨3, ![1, 4, 128]⟩ .f32) (u v a d : Fin 32 → Fin 4 → Fin 128 → Fin 128 → ℝ)
    (s : Fin 4 → Fin 128 → ℝ) (w : Fin 4 → Fin 128 → Fin 128 → ℝ) (b : Fin 4 → Fin 128 → ℝ) : Prop where
  hu : ∀ n g q e, Z (ix2 (row n q) ⟨(col g e).val, by omega⟩) = (u n g q e : EReal)
  hv : ∀ n g q e, Z (ix2 (row n q) ⟨512 + (col g e).val, by omega⟩) = (v n g q e : EReal)
  ha : ∀ n g q e, Z (ix2 (row n q) ⟨1024 + (col g e).val, by omega⟩) = (a n g q e : EReal)
  hd : ∀ n g q e, D (ix2 (row n q) ⟨(col g e).val, by omega⟩) = (d n g q e : EReal)
  hs : ∀ g e, S (ix2 0 (col g e)) = (s g e : EReal)
  hw : ∀ g p q, W (ix4 0 g p q) = (w g p q : EReal)
  hb : ∀ g p, B (ix3 0 g p) = (b g p : EReal)

/-- Chunk `j` of tile `t`. -/
def chunkOf (t : Nat) (j : Fin 4) : Fin 32 := ⟨(4 * t + j.val) % 32, Nat.mod_lt _ (by decide)⟩

/-- A sum over the chunks is the sum over the tiles of the sums over their chunks. -/
theorem sum_chunks {M : Type*} [AddCommMonoid M] (f : Fin 32 → M) :
    ∑ n : Fin 32, f n = ∑ t ∈ Finset.range 8, ∑ j : Fin 4, f (chunkOf t j) := by
  rw [Finset.sum_range, ← (finProdFinEquiv (m := 8) (n := 4)).sum_comp, Fintype.sum_prod_type]
  refine Finset.sum_congr rfl fun t _ => Finset.sum_congr rfl fun j _ => congrArg f ?_
  apply Fin.ext
  show (j : Nat) + 4 * t = (4 * t + j) % 32
  omega

end Cert.Gating

namespace Cert.KernelIdeal.Gating

open Cert.KernelIdeal Cert.KernelIdeal.Gen Cert.KernelIdeal.Value
open Cert.ReferenceIdeal.Gating (row col)
open Cert.Gating (Given chunkOf)

variable {m : (ℓ : Loc nD τ sig) → Buf (Elt Ideal) ℓ} {c : Dev nD} {u v a d : Fin 32 → Fin 4 → Fin 128 → Fin 128 → ℝ}
  {s : Fin 4 → Fin 128 → ℝ} {w : Fin 4 → Fin 128 → Fin 128 → ℝ} {b : Fin 4 → Fin 128 → ℝ}
  (h : Given (argZ m c) (argD m c) (argS m c) (argW m c) (argB m c) u v a d s w b) (t : Fin cfg0.N) (g j : Fin 4)

/-- Row `q` of chunk `j` of tile `t`. -/
theorem row_eq (q : Fin 128) : rowOf t (trow j q) = row (chunkOf t j) q := by
  have := lt8 t
  apply Fin.ext
  show 512 * t.val + (128 * j.val + q.val) = (4 * t.val + j.val) % 32 * 128 + q.val
  omega

section Loads

include h

theorem ldU (q e : Fin 128) :
    View.ld (iblk m c 0 t : Vec Ideal S512x512 .bf16) (rTile g j) (ix2 q e) = (u (chunkOf t j) g q e : EReal) := by
  refine (congrArg (iblk m c 0 t : Vec Ideal S512x512 .bf16) (emb_tile g j q e)).trans ((blkU m c t _ _).trans ?_)
  rw [row_eq]
  exact h.hu (chunkOf t j) g q e

theorem ldV (q e : Fin 128) :
    View.ld (iblk m c 1 t : Vec Ideal S512x512 .bf16) (rTile g j) (ix2 q e) = (v (chunkOf t j) g q e : EReal) := by
  refine (congrArg (iblk m c 1 t : Vec Ideal S512x512 .bf16) (emb_tile g j q e)).trans ((blkV m c t _ _).trans ?_)
  rw [row_eq]
  exact h.hv (chunkOf t j) g q e

theorem ldG (q e : Fin 128) :
    View.ld (iblk m c 2 t : Vec Ideal S512x512 .bf16) (rTile g j) (ix2 q e) = (a (chunkOf t j) g q e : EReal) := by
  refine (congrArg (iblk m c 2 t : Vec Ideal S512x512 .bf16) (emb_tile g j q e)).trans ((blkG m c t _ _).trans ?_)
  rw [row_eq]
  exact h.ha (chunkOf t j) g q e

theorem ldD (q e : Fin 128) :
    View.ld (iblk m c 3 t : Vec Ideal S512x512 .bf16) (rTile g j) (ix2 q e) = (d (chunkOf t j) g q e : EReal) := by
  refine (congrArg (iblk m c 3 t : Vec Ideal S512x512 .bf16) (emb_tile g j q e)).trans ((blkD m c t _ _).trans ?_)
  rw [row_eq]
  exact h.hd (chunkOf t j) g q e

theorem ldS (e : Fin 128) : View.ld (iblk m c 4 t : Vec Ideal S1x512 .f32) (rRow g) (ix2 0 e) = (s g e : EReal) :=
  (congrArg (iblk m c 4 t : Vec Ideal S1x512 .f32) (emb_row g e)).trans ((blkS m c t _).trans (h.hs g e))

theorem ldWs (p q : Fin 128) : View.ld (iblk m c 5 t : Vec Ideal S4x128x128 .f32) (rMat g) (ix3 0 p q) = (w g p q : EReal) :=
  (congrArg (iblk m c 5 t : Vec Ideal S4x128x128 .f32) (emb_mat g p q)).trans ((blkWs m c t g p q).trans (h.hw g p q))

theorem ldWst (p q : Fin 128) : View.ld (iblk m c 6 t : Vec Ideal S4x128x128 .f32) (rMat g) (ix3 0 q p) = (w g p q : EReal) :=
  (congrArg (iblk m c 6 t : Vec Ideal S4x128x128 .f32) (emb_mat g q p)).trans ((blkWst m c t g p q).trans (h.hw g p q))

theorem ldB (p e : Fin 128) : View.ld (iblk m c 7 t : Vec Ideal S4x128x128 .f32) (rMat g) (ix3 0 p e) = (b g p : EReal) :=
  (congrArg (iblk m c 7 t : Vec Ideal S4x128x128 .f32) (emb_mat g p e)).trans ((blkB m c t g p e).trans (h.hb g p))

omit h in
theorem ldOnes (k : Fin 8) (e : Fin 128) : View.ld (iblk m c 8 t : Vec Ideal S8x128 .bf16) rOnes (ix2 k e) = ((1 : ℝ) : EReal) := by
  refine (congrArg (iblk m c 8 t : Vec Ideal S8x128 .bf16) ?_).trans (blkOnes m c t k e)
  funext x
  apply Fin.ext
  match x with
  | ⟨0, _⟩ => show 0 + 1 * k.val = k.val; omega
  | ⟨1, _⟩ => show 0 + 1 * e.val = e.val; omega

end Loads

/-! ## A step's stores and shares -/

section Steps

include h

theorem stepU_real (q e : Fin 128) : stepU (F := Ideal) (iblk m c 0 t) (iblk m c 1 t) (iblk m c 2 t) (iblk m c 3 t) (iblk m c 4 t) (iblk m c 5 t)
    (iblk m c 7 t) g j (ix2 q e) = ((Cert.Gating.dau (u (chunkOf t j) g) (v (chunkOf t j) g) (a (chunkOf t j) g) (d (chunkOf t j) g) (s g)
      (w g) (b g) q e : ℝ) : EReal) :=
  dau_real (ldU h t g j) (ldV h t g j) (ldG h t g j) (ldD h t g j) (ldS h t g) (ldWs h t g) (ldB h t g) q e

theorem stepG_real (q e : Fin 128) : stepG (F := Ideal) (iblk m c 0 t) (iblk m c 1 t) (iblk m c 2 t) (iblk m c 3 t) (iblk m c 4 t) (iblk m c 5 t)
    (iblk m c 7 t) g j (ix2 q e) = ((Cert.Gating.dag (u (chunkOf t j) g) (v (chunkOf t j) g) (a (chunkOf t j) g) (d (chunkOf t j) g) (s g)
      (w g) (b g) q e : ℝ) : EReal) :=
  dag_real (ldU h t g j) (ldV h t g j) (ldG h t g j) (ldD h t g j) (ldS h t g) (ldWs h t g) (ldB h t g) q e

theorem stepV_real (q e : Fin 128) : stepV (F := Ideal) (iblk m c 0 t) (iblk m c 1 t) (iblk m c 2 t) (iblk m c 3 t) (iblk m c 4 t) (iblk m c 6 t)
    g j (ix2 q e) = ((Cert.Gating.dav (u (chunkOf t j) g) (v (chunkOf t j) g) (a (chunkOf t j) g) (d (chunkOf t j) g) (s g)
      (w g) q e : ℝ) : EReal) :=
  dav_real (ldU h t g j) (ldV h t g j) (ldG h t g j) (ldD h t g j) (ldS h t g) (ldWst h t g) q e

theorem stepW_real (p q : Fin 128) : stepW (F := Ideal) (iblk m c 0 t) (iblk m c 1 t) (iblk m c 2 t) (iblk m c 3 t) (iblk m c 4 t) g j (ix2 p q)
    = ((Cert.Gating.dws (u (chunkOf t j) g) (v (chunkOf t j) g) (a (chunkOf t j) g) (d (chunkOf t j) g) (s g) p q : ℝ) : EReal) :=
  dws_real (ldU h t g j) (ldV h t g j) (ldG h t g j) (ldD h t g j) (ldS h t g) p q

theorem stepB_real (k : Fin 8) (p : Fin 128) : stepB (F := Ideal) (iblk m c 0 t) (iblk m c 2 t) (iblk m c 3 t) (iblk m c 8 t) g j (ix2 k p)
    = ((Cert.Gating.dbs (u (chunkOf t j) g) (a (chunkOf t j) g) (d (chunkOf t j) g) p : ℝ) : EReal) :=
  dbs_real (ldU h t g j) (ldG h t g j) (ldD h t g j) (ldOnes t) k p

theorem stepS_real (e : Fin 128) : stepS (F := Ideal) (iblk m c 0 t) (iblk m c 1 t) (iblk m c 2 t) (iblk m c 3 t) (iblk m c 6 t) g j (ix2 0 e)
    = ((Cert.Gating.dsg (u (chunkOf t j) g) (v (chunkOf t j) g) (a (chunkOf t j) g) (d (chunkOf t j) g) (w g) e : ℝ) : EReal) :=
  dsg_real (ldU h t g j) (ldV h t g j) (ldG h t g j) (ldD h t g j) (ldWst h t g) e

end Steps

/-! ## What a tile leaves -/

section Tile

include h

theorem tile_dau (q e : Fin 128) : (outsAt0 m c t.val t.isLt).1 (ix2 (trow j q) (tcol g e)) = ((Cert.Gating.dau (u (chunkOf t j) g)
    (v (chunkOf t j) g) (a (chunkOf t j) g) (d (chunkOf t j) g) (s g) (w g) (b g) q e : ℝ) : EReal) := by
  by_cases h0 : t.val % 8 = 0
  · rw [outsAt0_A m c t h0]
    dsimp only
    rw [dau_first]
    exact (tile_apply _ g j q e).trans (stepU_real h t g j q e)
  · rw [outsAt0_B m c t h0]
    dsimp only
    rw [dau_later]
    exact (tile_apply _ g j q e).trans (stepU_real h t g j q e)

theorem tile_dav (q e : Fin 128) : (outsAt0 m c t.val t.isLt).2.1 (ix2 (trow j q) (tcol g e)) = ((Cert.Gating.dav (u (chunkOf t j) g)
    (v (chunkOf t j) g) (a (chunkOf t j) g) (d (chunkOf t j) g) (s g) (w g) q e : ℝ) : EReal) := by
  by_cases h0 : t.val % 8 = 0
  · rw [outsAt0_A m c t h0]
    dsimp only
    rw [dav_first]
    exact (tile_apply _ g j q e).trans (stepV_real h t g j q e)
  · rw [outsAt0_B m c t h0]
    dsimp only
    rw [dav_later]
    exact (tile_apply _ g j q e).trans (stepV_real h t g j q e)

theorem tile_dag (q e : Fin 128) : (outsAt0 m c t.val t.isLt).2.2.1 (ix2 (trow j q) (tcol g e)) = ((Cert.Gating.dag (u (chunkOf t j) g)
    (v (chunkOf t j) g) (a (chunkOf t j) g) (d (chunkOf t j) g) (s g) (w g) (b g) q e : ℝ) : EReal) := by
  by_cases h0 : t.val % 8 = 0
  · rw [outsAt0_A m c t h0]
    dsimp only
    rw [dag_first]
    exact (tile_apply _ g j q e).trans (stepG_real h t g j q e)
  · rw [outsAt0_B m c t h0]
    dsimp only
    rw [dag_later]
    exact (tile_apply _ g j q e).trans (stepG_real h t g j q e)

end Tile

/-- The fills the first tile stores are zero everywhere. -/
theorem zero_mat (i : S4x128x128.Idx) : View.canon
    [(⟨Rect.unit ![0, 0, 0] ![4, 128, 128] inb_S4x128x128_S4x128x128_0_0_0, k0_pay2 (F := Ideal)⟩ : View.Piece (Elt Ideal) S4x128x128 .f32)] i
      = (0 : EReal) := by
  have e : (Rect.unit (s := S4x128x128) ![0, 0, 0] ![4, 128, 128] inb_S4x128x128_S4x128x128_0_0_0).emb i = i := by
    funext x
    apply Fin.ext
    match x with
    | ⟨0, _⟩ => show 0 + 1 * (i 0).val = (i 0).val; omega
    | ⟨1, _⟩ => show 0 + 1 * (i 1).val = (i 1).val; omega
    | ⟨2, _⟩ => show 0 + 1 * (i 2).val = (i 2).val; omega
  refine (congrArg _ e.symm).trans ((View.canon_cons_emb _ _ _ _).trans ?_)
  show k0_pay2 (F := Ideal) i = (0 : EReal)
  idx_vars i
  pointwise [k0_pay2]

theorem zero_bias (i : S4x8x128.Idx) : View.canon
    [(⟨Rect.unit ![0, 0, 0] ![4, 8, 128] inb_S4x8x128_S4x8x128_0_0_0, k0_pay3 (F := Ideal)⟩ : View.Piece (Elt Ideal) S4x8x128 .f32)] i
      = (0 : EReal) := by
  have e : (Rect.unit (s := S4x8x128) ![0, 0, 0] ![4, 8, 128] inb_S4x8x128_S4x8x128_0_0_0).emb i = i := by
    funext x
    apply Fin.ext
    match x with
    | ⟨0, _⟩ => show 0 + 1 * (i 0).val = (i 0).val; omega
    | ⟨1, _⟩ => show 0 + 1 * (i 1).val = (i 1).val; omega
    | ⟨2, _⟩ => show 0 + 1 * (i 2).val = (i 2).val; omega
  refine (congrArg _ e.symm).trans ((View.canon_cons_emb _ _ _ _).trans ?_)
  show k0_pay3 (F := Ideal) i = (0 : EReal)
  idx_vars i
  pointwise [k0_pay3]

theorem zero_row (i : S1x512.Idx) : View.canon
    [(⟨Rect.unit ![0, 0] ![1, 512] inb_S1x512_S1x512_0_0, k0_pay4 (F := Ideal)⟩ : View.Piece (Elt Ideal) S1x512 .f32)] i = (0 : EReal) := by
  have e : (Rect.unit (s := S1x512) ![0, 0] ![1, 512] inb_S1x512_S1x512_0_0).emb i = i := by
    funext x
    apply Fin.ext
    match x with
    | ⟨0, _⟩ => show 0 + 1 * (i 0).val = (i 0).val; omega
    | ⟨1, _⟩ => show 0 + 1 * (i 1).val = (i 1).val; omega
  refine (congrArg _ e.symm).trans ((View.canon_cons_emb _ _ _ _).trans ?_)
  show k0_pay4 (F := Ideal) i = (0 : EReal)
  idx_vars i
  pointwise [k0_pay4]

/-- The carried part before tile `t`: nothing for the first. -/
abbrev before (m : (ℓ : Loc nD τ sig) → Buf (Elt Ideal) ℓ) (c : Dev nD) (t : Fin cfg0.N) :=
  outsAt0 m c (t.val - 1) (Nat.lt_of_le_of_lt (Nat.sub_le _ _) t.isLt)

section Shares

include h

theorem tile_dws (p q : Fin 128) : (outsAt0 m c t.val t.isLt).2.2.2.1 (ix3 g p q) = ((if t.val = 0 then 0 else (before m c t).2.2.2.1 (ix3 g p q))
    + ((∑ j, Cert.Gating.dws (u (chunkOf t j) g) (v (chunkOf t j) g) (a (chunkOf t j) g) (d (chunkOf t j) g) (s g) p q : ℝ) : EReal) : EReal) := by
  have := lt8 t
  rw [← Cert.Gating.coe_sum]
  by_cases h0 : t.val % 8 = 0
  · rw [outsAt0_A m c t h0, if_pos (by omega), zero_add]
    dsimp only
    rw [dws_first]
    exact (mat_first _ _ _ zero_mat g p q).trans (Finset.sum_congr rfl fun j _ => stepW_real h t g j p q)
  · rw [outsAt0_B m c t h0, if_neg (by omega)]
    dsimp only
    rw [dws_later]
    exact (mat_later _ _ _ _ g p q).trans (congrArg _ (Finset.sum_congr rfl fun j _ => stepW_real h t g j p q))

theorem tile_dbs (k : Fin 8) (p : Fin 128) : (outsAt0 m c t.val t.isLt).2.2.2.2.1 (ix3 g k p) = ((if t.val = 0 then 0 else
    (before m c t).2.2.2.2.1 (ix3 g k p)) + ((∑ j, Cert.Gating.dbs (u (chunkOf t j) g) (a (chunkOf t j) g) (d (chunkOf t j) g) p : ℝ) : EReal) : EReal) := by
  have := lt8 t
  rw [← Cert.Gating.coe_sum]
  by_cases h0 : t.val % 8 = 0
  · rw [outsAt0_A m c t h0, if_pos (by omega), zero_add]
    dsimp only
    rw [dbs_first]
    exact (bias_first _ _ _ zero_bias g k p).trans (Finset.sum_congr rfl fun j _ => stepB_real h t g j k p)
  · rw [outsAt0_B m c t h0, if_neg (by omega)]
    dsimp only
    rw [dbs_later]
    exact (bias_later _ _ _ _ g k p).trans (congrArg _ (Finset.sum_congr rfl fun j _ => stepB_real h t g j k p))

theorem tile_dsg (e : Fin 128) : (outsAt0 m c t.val t.isLt).2.2.2.2.2 (ix2 0 (tcol g e)) = ((if t.val = 0 then 0 else
    (before m c t).2.2.2.2.2 (ix2 0 (tcol g e))) + ((∑ j, Cert.Gating.dsg (u (chunkOf t j) g) (v (chunkOf t j) g) (a (chunkOf t j) g)
      (d (chunkOf t j) g) (w g) e : ℝ) : EReal) : EReal) := by
  have := lt8 t
  rw [← Cert.Gating.coe_sum]
  by_cases h0 : t.val % 8 = 0
  · rw [outsAt0_A m c t h0, if_pos (by omega), zero_add]
    dsimp only
    rw [dsg_first]
    exact (row_first _ _ _ zero_row g e).trans (Finset.sum_congr rfl fun j _ => stepS_real h t g j e)
  · rw [outsAt0_B m c t h0, if_neg (by omega)]
    dsimp only
    rw [dsg_later]
    exact (row_later _ _ _ _ g e).trans (congrArg _ (Finset.sum_congr rfl fun j _ => stepS_real h t g j e))

end Shares

end Cert.KernelIdeal.Gating
-- ==== Proof.Gating.Arrays.lean ====
/-
  The gating gradient's six result arrays after the run, of real arguments: each entry is the real formula of its chunk and
  group, or for the three accumulated results the sum of the formulas over the chunks.
-/
module

public import proofs.«01_k».proof.Proof.Gating.Tiles

@[expose] public section

set_option maxRecDepth 16384

noncomputable section

open Idealize.ShloMosaic Idealize.ShloMosaic.TcCoe Idealize.SL.Sem
open Idealize.ShloMosaic.Pipeline (Dat)

namespace Cert.KernelIdeal.Gating

open Cert.KernelIdeal Cert.KernelIdeal.Gen Cert.KernelIdeal.Value
open Cert.ReferenceIdeal.Gating (row col)
open Cert.Gating (Given chunkOf)

variable {m : (ℓ : Loc nD τ sig) → Buf (Elt Ideal) ℓ} {c : Dev nD} {u v a d : Fin 32 → Fin 4 → Fin 128 → Fin 128 → ℝ}
  {s : Fin 4 → Fin 128 → ℝ} {w : Fin 4 → Fin 128 → Fin 128 → ℝ} {b : Fin 4 → Fin 128 → ℝ}
  (h : Given (argZ m c) (argD m c) (argS m c) (argW m c) (argB m c) u v a d s w b)

/-! ## The three results written tile by tile -/

/-- The tile of chunk `n`, and the chunk's place in it. -/
abbrev tileOf (n : Fin 32) : Fin cfg0.N := ⟨n.val / 4, lt_of_lt_of_eq (by omega) N_0.symm⟩
abbrev placeOf (n : Fin 32) : Fin 4 := ⟨n.val % 4, by omega⟩

theorem chunkOf_tile (n : Fin 32) : chunkOf (tileOf n).val (placeOf n) = n := by
  apply Fin.ext
  show (4 * (n.val / 4) + n.val % 4) % 32 = n.val
  omega

section Tiles

variable (n : Fin 32) (g : Fin 4) (q e : Fin 128)

theorem at9 : ((cfg0.win 9).blk (tileOf n)).view.read (Elt Ideal) ((dats m 0 c).arrAt 9 cfg0.N) (ix2 (trow (placeOf n) q) (tcol g e))
    = (dats m 0 c).arrAt 9 cfg0.N (ix2 (row n q) (col g e) : S4096x512.Idx) := by
  have hi := (index_rows (tileOf n)).2.2.2.2.1
  rw [View.read_apply]
  refine congrArg ((dats m 0 c).arrAt 9 cfg0.N) ?_
  funext x
  apply Fin.ext
  match x with
  | ⟨0, _⟩ =>
    show win0_9.index (tileOf n) 0 * 512 + 1 * (128 * (n.val % 4) + q.val) = n.val * 128 + q.val
    rw [hi.1]
    show n.val / 4 * 512 + 1 * (128 * (n.val % 4) + q.val) = n.val * 128 + q.val
    omega
  | ⟨1, _⟩ => show win0_9.index (tileOf n) 1 * 512 + 1 * (g.val * 128 + e.val) = g.val * 128 + e.val; rw [hi.2]; omega

theorem at10 : ((cfg0.win 10).blk (tileOf n)).view.read (Elt Ideal) ((dats m 0 c).arrAt 10 cfg0.N) (ix2 (trow (placeOf n) q) (tcol g e))
    = (dats m 0 c).arrAt 10 cfg0.N (ix2 (row n q) (col g e) : S4096x512.Idx) := by
  have hi := (index_rows (tileOf n)).2.2.2.2.2.1
  rw [View.read_apply]
  refine congrArg ((dats m 0 c).arrAt 10 cfg0.N) ?_
  funext x
  apply Fin.ext
  match x with
  | ⟨0, _⟩ =>
    show win0_10.index (tileOf n) 0 * 512 + 1 * (128 * (n.val % 4) + q.val) = n.val * 128 + q.val
    rw [hi.1]
    show n.val / 4 * 512 + 1 * (128 * (n.val % 4) + q.val) = n.val * 128 + q.val
    omega
  | ⟨1, _⟩ => show win0_10.index (tileOf n) 1 * 512 + 1 * (g.val * 128 + e.val) = g.val * 128 + e.val; rw [hi.2]; omega

theorem at11 : ((cfg0.win 11).blk (tileOf n)).view.read (Elt Ideal) ((dats m 0 c).arrAt 11 cfg0.N) (ix2 (trow (placeOf n) q) (tcol g e))
    = (dats m 0 c).arrAt 11 cfg0.N (ix2 (row n q) (col g e) : S4096x512.Idx) := by
  have hi := (index_rows (tileOf n)).2.2.2.2.2.2
  rw [View.read_apply]
  refine congrArg ((dats m 0 c).arrAt 11 cfg0.N) ?_
  funext x
  apply Fin.ext
  match x with
  | ⟨0, _⟩ =>
    show win0_11.index (tileOf n) 0 * 512 + 1 * (128 * (n.val % 4) + q.val) = n.val * 128 + q.val
    rw [hi.1]
    show n.val / 4 * 512 + 1 * (128 * (n.val % 4) + q.val) = n.val * 128 + q.val
    omega
  | ⟨1, _⟩ => show win0_11.index (tileOf n) 1 * 512 + 1 * (g.val * 128 + e.val) = g.val * 128 + e.val; rw [hi.2]; omega

include h

theorem arr_dau : (dats m 0 c).arrAt 9 cfg0.N (ix2 (row n q) (col g e) : S4096x512.Idx)
    = ((Cert.Gating.dau (u n g) (v n g) (a n g) (d n g) (s g) (w g) (b g) q e : ℝ) : EReal) := by
  refine (at9 n g q e).symm.trans ((congrFun ((blocks9 m c (tileOf n) (flush0_9 _)).trans (flushed9 m c (tileOf n))) _).trans ?_)
  refine (tile_dau h (tileOf n) g (placeOf n) q e).trans ?_
  rw [chunkOf_tile]

theorem arr_dav : (dats m 0 c).arrAt 10 cfg0.N (ix2 (row n q) (col g e) : S4096x512.Idx)
    = ((Cert.Gating.dav (u n g) (v n g) (a n g) (d n g) (s g) (w g) q e : ℝ) : EReal) := by
  refine (at10 n g q e).symm.trans ((congrFun ((blocks10 m c (tileOf n) (flush0_10 _)).trans (flushed10 m c (tileOf n))) _).trans ?_)
  refine (tile_dav h (tileOf n) g (placeOf n) q e).trans ?_
  rw [chunkOf_tile]

theorem arr_dag : (dats m 0 c).arrAt 11 cfg0.N (ix2 (row n q) (col g e) : S4096x512.Idx)
    = ((Cert.Gating.dag (u n g) (v n g) (a n g) (d n g) (s g) (w g) (b g) q e : ℝ) : EReal) := by
  refine (at11 n g q e).symm.trans ((congrFun ((blocks11 m c (tileOf n) (flush0_11 _)).trans (flushed11 m c (tileOf n))) _).trans ?_)
  refine (tile_dag h (tileOf n) g (placeOf n) q e).trans ?_
  rw [chunkOf_tile]

end Tiles

/-! ## The three accumulated results -/

/-- A number that starts at the first tile's share and grows by each later tile's is, after tile `n`, the sum of the shares
    of tiles `0 … n`. -/
theorem fold_sum (π : (n : Nat) → n < cfg0.N → EReal) (M : Nat → ℝ)
    (hstep : ∀ t : Fin cfg0.N, π t.val t.isLt = ((if t.val = 0 then 0 else
      π (t.val - 1) (Nat.lt_of_le_of_lt (Nat.sub_le _ _) t.isLt)) + (M t.val : EReal) : EReal)) :
    ∀ (n : Nat) (hn : n < cfg0.N), π n hn = ((∑ t ∈ Finset.range (n + 1), M t : ℝ) : EReal)
  | 0, hn => by
    rw [Finset.sum_range_one]
    exact (hstep ⟨0, hn⟩).trans (by rw [if_pos rfl, zero_add])
  | n + 1, hn => by
    rw [Finset.sum_range_succ, EReal.coe_add, ← fold_sum π M hstep n (by omega)]
    exact (hstep ⟨n + 1, hn⟩).trans (by rw [if_neg (Nat.succ_ne_zero n)]; rfl)

/-- The last tile. -/
abbrev lastTile : Fin cfg0.N := ⟨7, lt_of_lt_of_eq (by decide) N_0.symm⟩

theorem alone {P : Fin cfg0.N → Prop} (hP : ∀ t, P t ↔ t.val % 8 = 7) {t t' : Fin cfg0.N} (h : P t) (h' : P t') : t = t' := by
  have := lt8 t
  have := lt8 t'
  have := (hP t).mp h
  have := (hP t').mp h'
  exact Fin.ext (by omega)

theorem last12 : ((cfg0.win 12).blk lastTile).view.read (Elt Ideal) ((dats m 0 c).arrAt 12 cfg0.N) = (dats m 0 c).flushed 12 lastTile :=
  (dats m 0 c).read_blk_arrAt_eq_flushed 12 (fun t t' hf hf' hne => absurd (alone flush0_12 hf hf') hne) cfg0.N lastTile lastTile.isLt
    ((flush0_12 lastTile).mpr (by decide))

theorem last13 : ((cfg0.win 13).blk lastTile).view.read (Elt Ideal) ((dats m 0 c).arrAt 13 cfg0.N) = (dats m 0 c).flushed 13 lastTile :=
  (dats m 0 c).read_blk_arrAt_eq_flushed 13 (fun t t' hf hf' hne => absurd (alone flush0_13 hf hf') hne) cfg0.N lastTile lastTile.isLt
    ((flush0_13 lastTile).mpr (by decide))

theorem last14 : ((cfg0.win 14).blk lastTile).view.read (Elt Ideal) ((dats m 0 c).arrAt 14 cfg0.N) = (dats m 0 c).flushed 14 lastTile :=
  (dats m 0 c).read_blk_arrAt_eq_flushed 14 (fun t t' hf hf' hne => absurd (alone flush0_14 hf hf') hne) cfg0.N lastTile lastTile.isLt
    ((flush0_14 lastTile).mpr (by decide))

theorem at12 (g : Fin 4) (p q : Fin 128) : ((cfg0.win 12).blk lastTile).view.read (Elt Ideal) ((dats m 0 c).arrAt 12 cfg0.N) (ix3 g p q)
    = (dats m 0 c).arrAt 12 cfg0.N (ix3 g p q : S4x128x128.Idx) := by
  have hi := (index_acc lastTile).1
  rw [View.read_apply]
  refine congrArg ((dats m 0 c).arrAt 12 cfg0.N) ?_
  funext x
  apply Fin.ext
  match x with
  | ⟨0, _⟩ => show win0_12.index lastTile 0 * 4 + 1 * g.val = g.val; rw [hi.1]; omega
  | ⟨1, _⟩ => show win0_12.index lastTile 1 * 128 + 1 * p.val = p.val; rw [hi.2.1]; omega
  | ⟨2, _⟩ => show win0_12.index lastTile 2 * 128 + 1 * q.val = q.val; rw [hi.2.2]; omega

theorem at13 (g : Fin 4) (k : Fin 8) (p : Fin 128) : ((cfg0.win 13).blk lastTile).view.read (Elt Ideal) ((dats m 0 c).arrAt 13 cfg0.N) (ix3 g k p)
    = (dats m 0 c).arrAt 13 cfg0.N (ix3 g k p : S4x8x128.Idx) := by
  have hi := (index_acc lastTile).2.1
  rw [View.read_apply]
  refine congrArg ((dats m 0 c).arrAt 13 cfg0.N) ?_
  funext x
  apply Fin.ext
  match x with
  | ⟨0, _⟩ => show win0_13.index lastTile 0 * 4 + 1 * g.val = g.val; rw [hi.1]; omega
  | ⟨1, _⟩ => show win0_13.index lastTile 1 * 8 + 1 * k.val = k.val; rw [hi.2.1]; omega
  | ⟨2, _⟩ => show win0_13.index lastTile 2 * 128 + 1 * p.val = p.val; rw [hi.2.2]; omega

theorem at14 (e : Fin 512) : ((cfg0.win 14).blk lastTile).view.read (Elt Ideal) ((dats m 0 c).arrAt 14 cfg0.N) (ix2 0 e)
    = (dats m 0 c).arrAt 14 cfg0.N (ix2 0 e : S1x512.Idx) := by
  have hi := (index_acc lastTile).2.2
  rw [View.read_apply]
  refine congrArg ((dats m 0 c).arrAt 14 cfg0.N) ?_
  funext x
  apply Fin.ext
  match x with
  | ⟨0, _⟩ => show win0_14.index lastTile 0 * 1 + 1 * 0 = 0; rw [hi.1]
  | ⟨1, _⟩ => show win0_14.index lastTile 1 * 512 + 1 * e.val = e.val; rw [hi.2]; omega

include h

theorem arr_dws (g : Fin 4) (p q : Fin 128) : (dats m 0 c).arrAt 12 cfg0.N (ix3 g p q : S4x128x128.Idx)
    = ((∑ n, Cert.Gating.dws (u n g) (v n g) (a n g) (d n g) (s g) p q : ℝ) : EReal) := by
  refine (at12 g p q).symm.trans ((congrFun ((last12).trans (flushed12 m c lastTile)) _).trans ?_)
  rw [Cert.Gating.sum_chunks]
  exact fold_sum (fun n hn => (outsAt0 m c n hn).2.2.2.1 (ix3 g p q)) _ (fun t => tile_dws h t g p q) 7 lastTile.isLt

theorem arr_dbs (g : Fin 4) (k : Fin 8) (p : Fin 128) : (dats m 0 c).arrAt 13 cfg0.N (ix3 g k p : S4x8x128.Idx)
    = ((∑ n, Cert.Gating.dbs (u n g) (a n g) (d n g) p : ℝ) : EReal) := by
  refine (at13 g k p).symm.trans ((congrFun ((last13).trans (flushed13 m c lastTile)) _).trans ?_)
  rw [Cert.Gating.sum_chunks]
  exact fold_sum (fun n hn => (outsAt0 m c n hn).2.2.2.2.1 (ix3 g k p)) _ (fun t => tile_dbs h t g k p) 7 lastTile.isLt

theorem arr_dsg (g : Fin 4) (e : Fin 128) : (dats m 0 c).arrAt 14 cfg0.N (ix2 0 (col g e) : S1x512.Idx)
    = ((∑ n, Cert.Gating.dsg (u n g) (v n g) (a n g) (d n g) (w g) e : ℝ) : EReal) := by
  refine (at14 (col g e)).symm.trans ((congrFun ((last14).trans (flushed14 m c lastTile)) _).trans ?_)
  rw [Cert.Gating.sum_chunks]
  exact fold_sum (fun n hn => (outsAt0 m c n hn).2.2.2.2.2 (ix2 0 (tcol g e))) _ (fun t => tile_dsg h t g e) 7 lastTile.isLt

end Cert.KernelIdeal.Gating
-- ==== Proof.Gating.Finite.lean ====
/-
  The gating gradient's precondition read back: where it holds, every number the two programs read is real.
-/
module

public import proofs.«01_k».proof.Defs
public import proofs.«01_k».proof.Proof.Gating.Tiles
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Pre_finite

open Cert.ReferenceIdeal.Gating (row col)

/-- The side conditions of the precondition's operations. -/
theorem facts : Facts where
  slices_S4096x3584_S4096x1536_0_0 := by decide
  bitsLt_bf16_f32 := by decide
  bcast_S_S4096x1536 := by decide
  reducesTo_S4096x1536_S_d0_1 := by decide
  h_S_ := by decide
  slices_S4096x1024_S4096x512_0_0 := by decide
  bcast_S_S4096x512 := by decide
  reducesTo_S4096x512_S_d0_1 := by decide
  bcast_S_S1x512 := by decide
  reducesTo_S1x512_S_d0_1 := by decide
  bcast_S_S1x4x128x128 := by decide
  reducesTo_S1x4x128x128_S_d0_1_2_3 := by decide
  bcast_S_S1x4x128 := by decide
  reducesTo_S1x4x128_S_d0_1_2 := by decide

attribute [local instance] facts

/-- A number whose absolute value is below infinity is real. -/
theorem real_of_small {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable {Z : FVec Ideal S4096x3584 .bf16} {D : FVec Ideal S4096x1024 .bf16} {S : FVec Ideal S1x512 .f32}
  {W : FVec Ideal S1x4x128x128 .f32} {B : FVec Ideal S1x4x128 .f32}

instance : Subsingleton S_.Idx := ⟨fun i j => by funext x; exact x.elim0⟩

/-- The precondition is the conjunction of its five parts. -/
theorem parts (h : fn (F := Ideal) Z D S W B = fun _ => 1#1) :
    (∀ (R : Fin 4096) (j : Fin 1536), ∃ r : ℝ, Z (ix2 R ⟨j.val, by omega⟩) = (r : EReal))
    ∧ (∀ (R : Fin 4096) (j : Fin 512), ∃ r : ℝ, D (ix2 R ⟨j.val, by omega⟩) = (r : EReal))
    ∧ (∀ i, ∃ r : ℝ, S i = (r : EReal)) ∧ (∀ i, ∃ r : ℝ, W i = (r : EReal)) ∧ (∀ i, ∃ r : ℝ, B i = (r : EReal)) := by
  obtain ⟨h, hb⟩ := IntOp.andi_eq_one.mp (congrFun h (Shape.Idx.first Facts.h_S_))
  obtain ⟨h, hw⟩ := IntOp.andi_eq_one.mp h
  obtain ⟨h, hs⟩ := IntOp.andi_eq_one.mp h
  obtain ⟨hz, hd⟩ := IntOp.andi_eq_one.mp h
  refine ⟨fun R j => real_of_small ?_, fun R j => real_of_small ?_, fun i => real_of_small ?_, fun i => real_of_small ?_,
    fun i => real_of_small ?_⟩
  · refine Eq.trans ?_ (Host.reduce_andi_all _ _ _ _ _ hz (ix2 R j))
    pointwise []
    rfl
  · refine Eq.trans ?_ (Host.reduce_andi_all _ _ _ _ _ hd (ix2 R j))
    pointwise []
    rfl
  · exact Host.reduce_andi_all _ _ _ _ _ hs i
  · exact Host.reduce_andi_all _ _ _ _ _ hw i
  · exact Host.reduce_andi_all _ _ _ _ _ hb i

/-- Where the precondition holds, the numbers read are real. -/
theorem given (h : fn (F := Ideal) Z D S W B = fun _ => 1#1) : ∃ u v a d s w b, Cert.Gating.Given Z D S W B u v a d s w b := by
  obtain ⟨hz, hd, hs, hw, hb⟩ := parts h
  choose z hz using hz
  choose d hd using hd
  choose s hs using hs
  choose w hw using hw
  choose b hb using hb
  exact ⟨fun n g q e => z (row n q) ⟨g.val * 128 + e.val, by omega⟩, fun n g q e => z (row n q) ⟨512 + (g.val * 128 + e.val), by omega⟩,
    fun n g q e => z (row n q) ⟨1024 + (g.val * 128 + e.val), by omega⟩, fun n g q e => d (row n q) (col g e),
    fun g e => s (ix2 0 (col g e)), fun g p q => w (ix4 0 g p q), fun g p => b (ix3 0 g p),
    fun n g q e => hz (row n q) ⟨g.val * 128 + e.val, by omega⟩, fun n g q e => hz (row n q) ⟨512 + (g.val * 128 + e.val), by omega⟩,
    fun n g q e => hz (row n q) ⟨1024 + (g.val * 128 + e.val), by omega⟩, fun n g q e => hd (row n q) (col g e), fun g e => hs _,
    fun g p q => hw _, fun g p => hb _⟩

end Cert.Pre_finite
-- ==== Proof.Gating.Equation.lean ====
/-
  The gating gradient: the six arrays the kernel leaves are the reference's six results, of real arguments. Both are the
  real formulas of `Gating.Reals`, chunk by chunk and group by group.
-/
module

public import proofs.«01_k».proof.Proof.Gating.Arrays
public import proofs.«01_k».proof.Proof.Gating.Finite

@[expose] public section

set_option maxRecDepth 16384

noncomputable section

open Idealize.ShloMosaic Idealize.ShloMosaic.TcCoe Idealize.SL.Sem
open Idealize.ShloMosaic.Pipeline (Dat)

namespace Cert.Gating

open Cert.ReferenceIdeal.Gating (row col)
open Cert.ReferenceIdeal Cert.ReferenceIdeal.Gen

variable {Z : FVec Ideal S4096x3584 .bf16} {D : FVec Ideal S4096x1024 .bf16} {S : FVec Ideal S1x512 .f32}
  {W : FVec Ideal S1x4x128x128 .f32} {B : FVec Ideal S1x4x128 .f32} {u v a d : Fin 32 → Fin 4 → Fin 128 → Fin 128 → ℝ}
  {s : Fin 4 → Fin 128 → ℝ} {w : Fin 4 → Fin 128 → Fin 128 → ℝ} {b : Fin 4 → Fin 128 → ℝ}

/-- The reference's parts of real arguments are real. -/
theorem Given.reals (h : Given Z D S W B u v a d s w b) : Cert.ReferenceIdeal.Gating.Reals Z D S W B u v a d s w b where
  hu n g q e := Eq.trans (by pointwise [Cert.ReferenceIdeal.Gating.pU, Cert.ReferenceIdeal.Gating.wideZ]) (h.hu n g q e)
  hv n g q e := Eq.trans (by pointwise [Cert.ReferenceIdeal.Gating.pV, Cert.ReferenceIdeal.Gating.wideZ]) (h.hv n g q e)
  ha n g q e := Eq.trans (by pointwise [Cert.ReferenceIdeal.Gating.pG, Cert.ReferenceIdeal.Gating.wideZ]) (h.ha n g q e)
  hd n g q e := Eq.trans (by pointwise [Cert.ReferenceIdeal.Gating.pD]) (h.hd n g q e)
  hs := h.hs
  hw := h.hw
  hb := h.hb

/-- Every row is a row of a chunk, and every column a column of a group. -/
theorem row_of (R : Fin 4096) : ∃ n q, R = row n q :=
  ⟨⟨R.val / 128, by omega⟩, ⟨R.val % 128, by omega⟩, Fin.ext (by show R.val = R.val / 128 * 128 + R.val % 128; omega)⟩

theorem col_of (C : Fin 512) : ∃ g e, C = col g e :=
  ⟨⟨C.val / 128, by omega⟩, ⟨C.val % 128, by omega⟩, Fin.ext (by show C.val = C.val / 128 * 128 + C.val % 128; omega)⟩

end Cert.Gating

namespace Cert.KernelIdeal.Gating

open Cert.KernelIdeal Cert.KernelIdeal.Gen Cert.KernelIdeal.Value
open Cert.Gating (Given row_of col_of)

variable {m : (ℓ : Loc nD τ sig) → Buf (Elt Ideal) ℓ} {c : Dev nD} {u v a d : Fin 32 → Fin 4 → Fin 128 → Fin 128 → ℝ}
  {s : Fin 4 → Fin 128 → ℝ} {w : Fin 4 → Fin 128 → Fin 128 → ℝ} {b : Fin 4 → Fin 128 → ℝ}
  (h : Given (argZ m c) (argD m c) (argS m c) (argW m c) (argB m c) u v a d s w b)

include h

theorem dau_eq : (dats m 0 c).arrAt 9 cfg0.N = Cert.ReferenceIdeal.Gating.dau (argZ m c) (argD m c) (argS m c) (argW m c) (argB m c) := by
  funext i
  idx_vars i
  obtain ⟨n, q, rfl⟩ := row_of i0
  obtain ⟨g, e, rfl⟩ := col_of i1
  exact (arr_dau h n g q e).trans (h.reals.dau n q g e).symm

theorem dav_eq : (dats m 0 c).arrAt 10 cfg0.N = Cert.ReferenceIdeal.Gating.dav (argZ m c) (argD m c) (argS m c) (argW m c) := by
  funext i
  idx_vars i
  obtain ⟨n, q, rfl⟩ := row_of i0
  obtain ⟨g, e, rfl⟩ := col_of i1
  exact (arr_dav h n g q e).trans (h.reals.dav n q g e).symm

theorem dag_eq : (dats m 0 c).arrAt 11 cfg0.N = Cert.ReferenceIdeal.Gating.dag (argZ m c) (argD m c) (argS m c) (argW m c) (argB m c) := by
  funext i
  idx_vars i
  obtain ⟨n, q, rfl⟩ := row_of i0
  obtain ⟨g, e, rfl⟩ := col_of i1
  exact (arr_dag h n g q e).trans (h.reals.dag n q g e).symm

theorem dws_eq : (dats m 0 c).arrAt 12 cfg0.N = Cert.ReferenceIdeal.Gating.dws (argZ m c) (argD m c) (argS m c) := by
  funext i
  idx_vars i
  exact (arr_dws h i0 i1 i2).trans (h.reals.dws i0 i1 i2).symm

theorem dbs_eq : (dats m 0 c).arrAt 13 cfg0.N = Cert.ReferenceIdeal.Gating.dbs (argZ m c) (argD m c) := by
  funext i
  idx_vars i
  exact (arr_dbs h i0 i1 i2).trans (h.reals.dbs i1 i0 i2).symm

theorem dsg_eq : (dats m 0 c).arrAt 14 cfg0.N = Cert.ReferenceIdeal.Gating.dsg (argZ m c) (argD m c) (argW m c) := by
  funext i
  idx_vars i
  obtain rfl : i0 = (0 : Fin 1) := Fin.fin_one_eq_zero i0
  obtain ⟨g, e, rfl⟩ := col_of i1
  exact (arr_dsg h g e).trans (h.reals.dsg g e).symm

end Cert.KernelIdeal.Gating
-- ==== Proof.Modulate.Tile.lean ====
/-
  The input projection's data gradient, one tile: what each of the two cases of the body leaves in the gradient's block and
  in the three carried sums, as the body's own terms over the tile's blocks.
-/
module

public import proofs.«01_k».proof.Proof.Gen.Kernel3Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Tile

open Cert.Kernel3Ideal Cert.Kernel3Ideal.Gen

variable {F : FTy → Type} [FloatOps F]

theorem hz : (![0, 0] : Fin 2 → Nat) = fun _ => 0 := funext fun a => by fin_cases a <;> rfl

/-- The 512 rows of the weights that start at row `o`. -/
abbrev rRow (o : Nat) (hb : ∀ a, (![o, 0] : Fin 2 → Nat) a + S512x1024.size a ≤ S3584x1024.size a) : Rect S3584x1024 :=
  Rect.unit ![o, 0] ![512, 1024] hb

/-- The first six of the seven products, added. -/
def six (d0 d1 d2 d3 d4 d5 : Vec F S512x512 .bf16) (w : Vec F S3584x1024 .bf16) : FVec F S512x1024 .f32 :=
  k0_pay6 d0 (View.ld w (rRow 0 inb_S3584x1024_S512x1024_0_0)) d1 (View.ld w (rRow 512 inb_S3584x1024_S512x1024_512_0))
    d2 (View.ld w (rRow 1024 inb_S3584x1024_S512x1024_1024_0)) d3 (View.ld w (rRow 1536 inb_S3584x1024_S512x1024_1536_0))
    d4 (View.ld w (rRow 2048 inb_S3584x1024_S512x1024_2048_0)) d5 (View.ld w (rRow 2560 inb_S3584x1024_S512x1024_2560_0))

/-- The last rows of the weights. -/
abbrev last (w : Vec F S3584x1024 .bf16) : Vec F S512x1024 .bf16 := View.ld w (rRow 3072 inb_S3584x1024_S512x1024_3072_0)

/-- The gradient of the modulated rows: all seven products, added. -/
def dh (d0 d1 d2 d3 d4 d5 d6 : Vec F S512x512 .bf16) (w : Vec F S3584x1024 .bf16) : FVec F S512x1024 .f32 :=
  k0_pay7 (six d0 d1 d2 d3 d4 d5 w) d6 (last w)

section Contents

variable (c : Dev nD) (i : grid0.Coords)
  (a1 : Memref sig .tc .vmem S512x512 .bf16) (h1 : a1.IsWhole) (a2 : Memref sig .tc .vmem S512x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S512x512 .bf16) (h5 : a5.IsWhole) (a6 : Memref sig .tc .vmem S512x512 .bf16) (h6 : a6.IsWhole)
  (a7 : Memref sig .tc .vmem S512x512 .bf16) (h7 : a7.IsWhole) (a8 : Memref sig .tc .vmem S3584x1024 .bf16) (h8 : a8.IsWhole)
  (a9 : Memref sig .tc .vmem S512x1024 .f32) (h9 : a9.IsWhole) (a10 : Memref sig .tc .vmem S512x1024 .f32) (h10 : a10.IsWhole)
  (a11 : Memref sig .tc .vmem S1x1024 .f32) (h11 : a11.IsWhole) (a12 : Memref sig .tc .vmem S1x1024 .f32) (h12 : a12.IsWhole)
  (a13 : Memref sig .tc .vmem S1x1024 .f32) (h13 : a13.IsWhole) (a14 : Memref sig .tc .vmem S512x1024 .f32) (h14 : a14.IsWhole)
  (a15 : Memref sig .tc .vmem S1x1024 .f32) (h15 : a15.IsWhole) (a16 : Memref sig .tc .vmem S1x1024 .f32) (h16 : a16.IsWhole)
  (a17 : Memref sig .tc .vmem S1x1024 .f32) (h17 : a17.IsWhole)
  (d0 d1 d2 d3 d4 d5 d6 : Vec F S512x512 .bf16) (w : Vec F S3584x1024 .bf16) (x dy : Vec F S512x1024 .f32)
  (g sc sh : Vec F S1x1024 .f32)

section First

variable (hc : cond0_0 i)

theorem first_gx : out0_A_13 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh
      = k0_pay2 (dh d0 d1 d2 d3 d4 d5 d6 w) (k0_pay8 x) (k0_pay9 x) g (k0_pay10 sc) dy := by
  unfold out0_A_13
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread,
    View.ld_unit_zero (S := S512x512) hz, View.ld_unit_zero (S := S512x1024) hz, View.ld_unit_zero (S := S1x1024) hz, dh, six, last]

theorem first_dsh : out0_A_14 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh
      = k0_pay11 (six d0 d1 d2 d3 d4 d5 w) d6 (last w) k0_pay3 := by
  unfold out0_A_14
  rw [View.read_writes_junk_eq_canon]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread,
    h7.read_unread, h8.read_unread, h9.read_unread, h10.read_unread, h11.read_unread, h12.read_unread, h13.read_unread,
    View.ld_unit_zero (S := S512x512) hz, View.ld_unit_zero (S := S512x1024) hz, View.ld_unit_zero (S := S1x1024) hz, dh, six, last]

theorem first_dsc : out0_A_15 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh
      = k0_pay12 (six d0 d1 d2 d3 d4 d5 w) d6 (last w) x g k0_pay4 := by
  unfold out0_A_15
  rw [View.read_writes_junk_eq_canon]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread,
    h7.read_unread, h8.read_unread, h9.read_unread, h10.read_unread, h11.read_unread, h12.read_unread, h13.read_unread,
    View.ld_unit_zero (S := S512x512) hz, View.ld_unit_zero (S := S512x1024) hz, View.ld_unit_zero (S := S1x1024) hz, dh, six, last]

theorem first_dg : out0_A_16 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh
      = k0_pay1 (dh d0 d1 d2 d3 d4 d5 d6 w) (k0_pay9 x) (k0_pay10 sc) k0_pay5 := by
  unfold out0_A_16
  rw [View.read_writes_junk_eq_canon]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread, h6.read_unread,
    h7.read_unread, h8.read_unread, h9.read_unread, h10.read_unread, h11.read_unread, h12.read_unread, h13.read_unread,
    View.ld_unit_zero (S := S512x512) hz, View.ld_unit_zero (S := S512x1024) hz, View.ld_unit_zero (S := S1x1024) hz, dh, six, last]

end First

section Next

variable (hc : ¬cond0_0 i) (psh psc pg : Vec F S1x1024 .f32)

theorem next_gx : out0_B_13 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh psh psc pg
      = k0_pay2 (dh d0 d1 d2 d3 d4 d5 d6 w) (k0_pay8 x) (k0_pay9 x) g (k0_pay10 sc) dy := by
  unfold out0_B_13
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread,
    View.ld_unit_zero (S := S512x512) hz, View.ld_unit_zero (S := S512x1024) hz, View.ld_unit_zero (S := S1x1024) hz, dh, six, last]

theorem next_dsh : out0_B_14 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh psh psc pg
      = k0_pay11 (six d0 d1 d2 d3 d4 d5 w) d6 (last w) psh := by
  unfold out0_B_14
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread, h15.read_unread,
    View.ld_unit_zero (S := S512x512) hz, View.ld_unit_zero (S := S512x1024) hz, View.ld_unit_zero (S := S1x1024) hz, dh, six, last]

theorem next_dsc : out0_B_15 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh psh psc pg
      = k0_pay12 (six d0 d1 d2 d3 d4 d5 w) d6 (last w) x g psc := by
  unfold out0_B_15
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread, h16.read_unread,
    View.ld_unit_zero (S := S512x512) hz, View.ld_unit_zero (S := S512x1024) hz, View.ld_unit_zero (S := S1x1024) hz, dh, six, last]

theorem next_dg : out0_B_16 c i a1 h1 a2 h2 a3 h3 a4 h4 a5 h5 a6 h6 a7 h7 a8 h8 a9 h9 a10 h10 a11 h11 a12 h12 a13 h13 a14 h14
    a15 h15 a16 h16 a17 h17 hc d0 d1 d2 d3 d4 d5 d6 w x dy g sc sh psh psc pg
      = k0_pay1 (dh d0 d1 d2 d3 d4 d5 d6 w) (k0_pay9 x) (k0_pay10 sc) pg := by
  unfold out0_B_16
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h12.read_unread, h13.read_unread, h17.read_unread,
    View.ld_unit_zero (S := S512x512) hz, View.ld_unit_zero (S := S512x1024) hz, View.ld_unit_zero (S := S1x1024) hz, dh, six, last]

end Next

end Contents

end Cert.Kernel3Ideal.Tile
-- ==== Proof.Modulate.Row.lean ====
/-
  The input projection's data gradient, read at an index over the extended reals: the formulas of one row, and what each of
  a tile's terms holds at a row and a column in those formulas.
-/
module

public import proofs.«01_k».proof.Proof.Modulate.Tile

@[expose] public section

set_option maxRecDepth 16384

noncomputable section

open Idealize.ShloMosaic Idealize.ShloMosaic.TcCoe Idealize.SL.Sem

namespace Cert.Modulate

/-! ## One row -/

section Row

variable (d x g sc dy : Fin 1024 → EReal)

/-- The row's mean square, kept away from zero. -/
def meanSq : EReal := Ideal.div (∑ l : Fin 1024, x l * x l) (Ideal.ofBits .f32 0x44800000#32) + Ideal.ofBits .f32 0x358637BD#32

/-- The normalised row. -/
def normRow (j : Fin 1024) : EReal := x j * Ideal.rsqrt (meanSq x)

/-- The gradient in the normalised row. -/
def dnRow (j : Fin 1024) : EReal := d j * (g j * (Ideal.ofBits .f32 0x3F800000#32 + sc j))

/-- The gradient in the row, the residual's own included. -/
def gxRow (j : Fin 1024) : EReal :=
  Ideal.rsqrt (meanSq x) * (dnRow d g sc j
    - normRow x j * Ideal.div (∑ l : Fin 1024, dnRow d g sc l * normRow x l) (Ideal.ofBits .f32 0x44800000#32)) + dy j

end Row

end Cert.Modulate

namespace Cert.Kernel3Ideal.Tile

open Cert.Kernel3Ideal Cert.Kernel3Ideal.Gen Cert.Modulate

theorem row_lt (k : Fin 7) (q : Fin 512) : 512 * k.val + q.val < 3584 := by omega

/-! ## A tile's terms at a row and a column -/

section Tile

variable (d0 d1 d2 d3 d4 d5 d6 : Vec Ideal S512x512 .bf16) (w : Vec Ideal S3584x1024 .bf16) (x dy : Vec Ideal S512x1024 .f32)
  (g sc : Vec Ideal S1x1024 .f32)

/-- Rows of the weights read at an index. -/
theorem ld_row {o : Nat} (hb : ∀ a, (![o, 0] : Fin 2 → Nat) a + S512x1024.size a ≤ S3584x1024.size a) (q : Fin 512) (j : Fin 1024)
    (h : o + q.val < 3584) : View.ld w (rRow o hb) (ix2 q j) = w (ix2 ⟨o + q.val, h⟩ j) := by
  refine congrArg w ?_
  funext a
  apply Fin.ext
  match a with
  | ⟨0, _⟩ => show o + 1 * q.val = o + q.val; omega
  | ⟨1, _⟩ => show 0 + 1 * j.val = j.val; omega

theorem seven_apply (w0 w1 w2 w3 w4 w5 w6 : Vec Ideal S512x1024 .bf16) (r : Fin 512) (j : Fin 1024) :
    k0_pay7 (k0_pay6 d0 w0 d1 w1 d2 w2 d3 w3 d4 w4 d5 w5) d6 w6 (ix2 r j)
      = ∑ q : Fin 512, d0 (ix2 r q) * w0 (ix2 q j) + ∑ q : Fin 512, d1 (ix2 r q) * w1 (ix2 q j)
        + ∑ q : Fin 512, d2 (ix2 r q) * w2 (ix2 q j) + ∑ q : Fin 512, d3 (ix2 r q) * w3 (ix2 q j)
        + ∑ q : Fin 512, d4 (ix2 r q) * w4 (ix2 q j) + ∑ q : Fin 512, d5 (ix2 r q) * w5 (ix2 q j)
        + ∑ q : Fin 512, d6 (ix2 r q) * w6 (ix2 q j) := by
  pointwise [k0_pay7, k0_pay6]

theorem dh_apply (r : Fin 512) (j : Fin 1024) : dh d0 d1 d2 d3 d4 d5 d6 w (ix2 r j)
    = ∑ k : Fin 7, ∑ q : Fin 512, (![d0, d1, d2, d3, d4, d5, d6] k : Vec Ideal S512x512 .bf16) (ix2 r q)
        * w (ix2 ⟨512 * k.val + q.val, row_lt k q⟩ j) := by
  unfold dh six last
  rw [seven_apply, Fin.sum_univ_seven]
  have e (o : Nat) (hb : ∀ a, (![o, 0] : Fin 2 → Nat) a + S512x1024.size a ≤ S3584x1024.size a) (k : Fin 7) (hk : o = 512 * k.val)
      (q : Fin 512) : View.ld w (rRow o hb) (ix2 q j) = w (ix2 ⟨512 * k.val + q.val, row_lt k q⟩ j) := by
    subst hk
    exact ld_row w hb q j _
  simp only [e 0 _ 0 rfl, e 512 _ 1 rfl, e 1024 _ 2 rfl, e 1536 _ 3 rfl, e 2048 _ 4 rfl, e 2560 _ 5 rfl, e 3072 _ 6 rfl]
  rfl

theorem norm_apply (r : Fin 512) (j : Fin 1024) : k0_pay9 x (ix2 r j) = normRow (fun j => x (ix2 r j)) j := by
  pointwise [k0_pay9, k0_pay8, normRow, meanSq]

theorem rsq_apply (r : Fin 512) : k0_pay8 x (ix2 r 0) = Ideal.rsqrt (meanSq fun j => x (ix2 r j)) := by
  pointwise [k0_pay8, meanSq]

theorem gx_apply (D : Vec Ideal S512x1024 .f32) (r : Fin 512) (j : Fin 1024) :
    k0_pay2 D (k0_pay8 x) (k0_pay9 x) g (k0_pay10 sc) dy (ix2 r j)
      = gxRow (fun j => D (ix2 r j)) (fun j => x (ix2 r j)) (fun j => g (ix2 0 j)) (fun j => sc (ix2 0 j)) (fun j => dy (ix2 r j)) j := by
  unfold gxRow dnRow
  simp only [← norm_apply, ← rsq_apply]
  pointwise [k0_pay2, k0_pay10]

theorem dsh_apply (p : Vec Ideal S1x1024 .f32) (j : Fin 1024) : k0_pay11 (six d0 d1 d2 d3 d4 d5 w) d6 (last w) p (ix2 0 j)
    = p (ix2 0 j) + ∑ r : Fin 512, dh d0 d1 d2 d3 d4 d5 d6 w (ix2 r j) := by
  unfold k0_pay11
  rw [show k0_pay7 (six d0 d1 d2 d3 d4 d5 w) d6 (last w) = dh d0 d1 d2 d3 d4 d5 d6 w from rfl]
  pointwise

theorem dsc_apply (p : Vec Ideal S1x1024 .f32) (j : Fin 1024) : k0_pay12 (six d0 d1 d2 d3 d4 d5 w) d6 (last w) x g p (ix2 0 j)
    = p (ix2 0 j) + ∑ r : Fin 512, dh d0 d1 d2 d3 d4 d5 d6 w (ix2 r j) * normRow (fun j => x (ix2 r j)) j * g (ix2 0 j) := by
  simp only [← norm_apply]
  unfold k0_pay12
  rw [show k0_pay7 (six d0 d1 d2 d3 d4 d5 w) d6 (last w) = dh d0 d1 d2 d3 d4 d5 d6 w from rfl]
  pointwise

theorem dg_apply (D : Vec Ideal S512x1024 .f32) (p : Vec Ideal S1x1024 .f32) (j : Fin 1024) :
    k0_pay1 D (k0_pay9 x) (k0_pay10 sc) p (ix2 0 j)
      = p (ix2 0 j) + ∑ r : Fin 512, D (ix2 r j) * (Ideal.ofBits .f32 0x3F800000#32 + sc (ix2 0 j)) * normRow (fun j => x (ix2 r j)) j := by
  simp only [← norm_apply]
  pointwise [k0_pay1, k0_pay10]

theorem zero_apply (j : Fin 1024) : (k0_pay3 (F := Ideal) : Vec Ideal S1x1024 .f32) (ix2 0 j) = 0
    ∧ (k0_pay4 (F := Ideal) : Vec Ideal S1x1024 .f32) (ix2 0 j) = 0 ∧ (k0_pay5 (F := Ideal) : Vec Ideal S1x1024 .f32) (ix2 0 j) = 0 :=
  ⟨by pointwise [k0_pay3], by pointwise [k0_pay4], by pointwise [k0_pay5]⟩

end Tile

end Cert.Kernel3Ideal.Tile
-- ==== Proof.Modulate.Arrays.lean ====
/-
  The input projection's data gradient over the whole arrays: the tiles' blocks as rows of the arguments, what each tile
  leaves, and the four result arrays after the run.
-/
module

public import proofs.«01_k».proof.Proof.Modulate.Row
public import proofs.«01_k».proof.Proof.Project.Arrays

@[expose] public section

set_option maxRecDepth 16384

noncomputable section

open Idealize.ShloMosaic Idealize.ShloMosaic.TcCoe Idealize.SL.Sem
open Idealize.ShloMosaic.Pipeline (Dat)

namespace Cert.Kernel3Ideal.Tile

open Cert.Kernel3Ideal Cert.Kernel3Ideal.Gen Cert.Kernel3Ideal.Value Cert.Project Cert.Modulate

/-! ## The arguments and their blocks -/

variable (m : (ℓ : Loc nD τ sig) → Buf (Elt Ideal) ℓ) (c : Dev nD)

abbrev argD0 : Vec Ideal S4096x512 .bf16 := m ((c.tc : Thread nD τ).loc main_arg0)
abbrev argD1 : Vec Ideal S4096x512 .bf16 := m ((c.tc : Thread nD τ).loc main_arg1)
abbrev argD2 : Vec Ideal S4096x512 .bf16 := m ((c.tc : Thread nD τ).loc main_arg2)
abbrev argD3 : Vec Ideal S4096x512 .bf16 := m ((c.tc : Thread nD τ).loc main_arg3)
abbrev argD4 : Vec Ideal S4096x512 .bf16 := m ((c.tc : Thread nD τ).loc main_arg4)
abbrev argD5 : Vec Ideal S4096x512 .bf16 := m ((c.tc : Thread nD τ).loc main_arg5)
abbrev argD6 : Vec Ideal S4096x512 .bf16 := m ((c.tc : Thread nD τ).loc main_arg6)
abbrev argW : Vec Ideal S3584x1024 .bf16 := m ((c.tc : Thread nD τ).loc main_arg7)
abbrev argX : Vec Ideal S4096x1024 .f32 := m ((c.tc : Thread nD τ).loc main_arg8)
abbrev argDY : Vec Ideal S4096x1024 .f32 := m ((c.tc : Thread nD τ).loc main_arg9)
abbrev argG : Vec Ideal S1x1024 .f32 := m ((c.tc : Thread nD τ).loc main_arg10)
abbrev argSC : Vec Ideal S1x1024 .f32 := m ((c.tc : Thread nD τ).loc main_arg11)

/-- The seven pieces of the projected rows' gradient. -/
def argD (k : Fin 7) : Vec Ideal S4096x512 .bf16 := ![argD0 m c, argD1 m c, argD2 m c, argD3 m c, argD4 m c, argD5 m c, argD6 m c] k

/-- The gradient of the modulated rows. -/
def dhM (R : Fin 4096) (j : Fin 1024) : EReal :=
  ∑ k : Fin 7, ∑ q : Fin 512, argD m c k (ix2 R q) * argW m c (ix2 ⟨512 * k.val + q.val, row_lt k q⟩ j)

/-- The gradient of the rows, and the three results' rows. -/
def gxM (R : Fin 4096) (j : Fin 1024) : EReal :=
  gxRow (dhM m c R) (fun j => argX m c (ix2 R j)) (fun j => argG m c (ix2 0 j)) (fun j => argSC m c (ix2 0 j)) (fun j => argDY m c (ix2 R j)) j
def dscM (R : Fin 4096) (j : Fin 1024) : EReal := dhM m c R j * normRow (fun j => argX m c (ix2 R j)) j * argG m c (ix2 0 j)
def dgM (R : Fin 4096) (j : Fin 1024) : EReal :=
  dhM m c R j * (Ideal.ofBits .f32 0x3F800000#32 + argSC m c (ix2 0 j)) * normRow (fun j => argX m c (ix2 R j)) j

theorem lt8 (t : Fin cfg0.N) : t.val < 8 := lt_of_lt_of_eq t.isLt N_0

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_8.index t 0 = t.val ∧ win0_8.index t 1 = 0)
    ∧ (win0_9.index t 0 = t.val ∧ win0_9.index t 1 = 0) ∧ (win0_13.index t 0 = t.val ∧ win0_13.index t 1 = 0) := by decide +kernel

theorem index_whole : ∀ t : Fin cfg0.N, (win0_7.index t 0 = 0 ∧ win0_7.index t 1 = 0) ∧ (win0_10.index t 0 = 0 ∧ win0_10.index t 1 = 0)
    ∧ (win0_11.index t 0 = 0 ∧ win0_11.index t 1 = 0) ∧ (win0_14.index t 0 = 0 ∧ win0_14.index t 1 = 0)
    ∧ (win0_15.index t 0 = 0 ∧ win0_15.index t 1 = 0) ∧ (win0_16.index t 0 = 0 ∧ win0_16.index t 1 = 0) := by decide +kernel

/-- An index of an array of rows by its two coordinates, in tile `t`. -/
theorem ix_row {n : Nat} (t : Fin cfg0.N) (r : Fin 512) (j : Fin n) (a b : Nat) (ha : a = t.val) (hb : b = 0)
    (x : (⟨2, ![4096, n]⟩ : Shape).Idx) (h0 : (x 0).val = a * 512 + 1 * r.val) (h1 : (x 1).val = b * n + 1 * j.val) : x = ix2 (rowOf t r) j := by
  rw [rowOf_lt (lt8 t)]
  subst ha hb
  funext i
  apply Fin.ext
  match i with
  | ⟨0, _⟩ => exact h0.trans (show t.val * 512 + 1 * r.val = 512 * t.val + r.val by omega)
  | ⟨1, _⟩ => exact h1.trans (show 0 * n + 1 * j.val = j.val by omega)

/-- An index of an array kept whole in every tile. -/
theorem ix_whole {n k : Nat} (r : Fin n) (j : Fin k) (a b : Nat) (ha : a = 0) (hb : b = 0)
    (x : (⟨2, ![n, k]⟩ : Shape).Idx) (h0 : (x 0).val = a * n + 1 * r.val) (h1 : (x 1).val = b * k + 1 * j.val) : x = ix2 r j := by
  subst ha hb
  funext i
  apply Fin.ext
  match i with
  | ⟨0, _⟩ => exact h0.trans (show 0 * n + 1 * r.val = r.val by omega)
  | ⟨1, _⟩ => exact h1.trans (show 0 * k + 1 * j.val = j.val by omega)

variable (t : Fin cfg0.N)

theorem blkX (r : Fin 512) (j : Fin 1024) : (iblk m c 8 t : Vec Ideal S512x1024 .f32) (ix2 r j) = argX m c (ix2 (rowOf t r) j) := by
  obtain ⟨-, -, -, -, -, -, -, h, -⟩ := index_rows t
  exact congrArg (argX m c) (ix_row t r j _ _ h.1 h.2 _ rfl rfl)

theorem blkDY (r : Fin 512) (j : Fin 1024) : (iblk m c 9 t : Vec Ideal S512x1024 .f32) (ix2 r j) = argDY m c (ix2 (rowOf t r) j) := by
  obtain ⟨-, -, -, -, -, -, -, -, h, -⟩ := index_rows t
  exact congrArg (argDY m c) (ix_row t r j _ _ h.1 h.2 _ rfl rfl)

theorem blkW (r : Fin 3584) (j : Fin 1024) : (iblk m c 7 t : Vec Ideal S3584x1024 .bf16) (ix2 r j) = argW m c (ix2 r j) := by
  obtain ⟨h, -⟩ := index_whole t
  exact congrArg (argW m c) (ix_whole r j _ _ h.1 h.2 _ rfl rfl)

theorem blkG (j : Fin 1024) : (iblk m c 10 t : Vec Ideal S1x1024 .f32) (ix2 0 j) = argG m c (ix2 0 j) := by
  obtain ⟨-, h, -⟩ := index_whole t
  exact congrArg (argG m c) (ix_whole 0 j _ _ h.1 h.2 _ rfl rfl)

theorem blkSC (j : Fin 1024) : (iblk m c 11 t : Vec Ideal S1x1024 .f32) (ix2 0 j) = argSC m c (ix2 0 j) := by
  obtain ⟨-, -, h, -⟩ := index_whole t
  exact congrArg (argSC m c) (ix_whole 0 j _ _ h.1 h.2 _ rfl rfl)

/-- The seven pieces' blocks in tile `t`. -/
theorem blkD (k : Fin 7) (r q : Fin 512) :
    (![iblk m c 0 t, iblk m c 1 t, iblk m c 2 t, iblk m c 3 t, iblk m c 4 t, iblk m c 5 t, iblk m c 6 t] k : Vec Ideal S512x512 .bf16) (ix2 r q)
      = argD m c k (ix2 (rowOf t r) q) := by
  obtain ⟨h0, h1, h2, h3, h4, h5, h6, -⟩ := index_rows t
  match k with
  | 0 => exact congrArg (argD0 m c) (ix_row t r q _ _ h0.1 h0.2 _ rfl rfl)
  | 1 => exact congrArg (argD1 m c) (ix_row t r q _ _ h1.1 h1.2 _ rfl rfl)
  | 2 => exact congrArg (argD2 m c) (ix_row t r q _ _ h2.1 h2.2 _ rfl rfl)
  | 3 => exact congrArg (argD3 m c) (ix_row t r q _ _ h3.1 h3.2 _ rfl rfl)
  | 4 => exact congrArg (argD4 m c) (ix_row t r q _ _ h4.1 h4.2 _ rfl rfl)
  | 5 => exact congrArg (argD5 m c) (ix_row t r q _ _ h5.1 h5.2 _ rfl rfl)
  | 6 => exact congrArg (argD6 m c) (ix_row t r q _ _ h6.1 h6.2 _ rfl rfl)

/-! ## One tile -/

/-- Tile `t`'s gradient of the modulated rows. -/
abbrev dhT : Vec Ideal S512x1024 .f32 :=
  dh (iblk m c 0 t) (iblk m c 1 t) (iblk m c 2 t) (iblk m c 3 t) (iblk m c 4 t) (iblk m c 5 t) (iblk m c 6 t) (iblk m c 7 t)

theorem dhT_apply (r : Fin 512) (j : Fin 1024) : dhT m c t (ix2 r j) = dhM m c (rowOf t r) j := by
  refine (dh_apply _ _ _ _ _ _ _ _ r j).trans ?_
  unfold dhM
  refine Finset.sum_congr rfl fun k _ => Finset.sum_congr rfl fun q _ => ?_
  rw [blkW]
  exact congrArg (· * argW m c (ix2 ⟨512 * k.val + q.val, row_lt k q⟩ j)) (blkD m c t k r q)

theorem tile_gx (r : Fin 512) (j : Fin 1024) : (outsAt0 m c t.val t.isLt).1 (ix2 r j) = gxM m c (rowOf t r) j := by
  have e : k0_pay2 (dhT m c t) (k0_pay8 (iblk m c 8 t)) (k0_pay9 (iblk m c 8 t)) (iblk m c 10 t) (k0_pay10 (iblk m c 11 t)) (iblk m c 9 t) (ix2 r j)
      = gxM m c (rowOf t r) j := by
    rw [gx_apply]
    unfold gxM
    simp only [dhT_apply, blkX, blkG, blkSC, blkDY]
  by_cases h0 : t.val % 8 = 0
  · rw [outsAt0_A m c t h0]
    dsimp only
    rw [first_gx]
    exact e
  · rw [outsAt0_B m c t h0]
    dsimp only
    rw [next_gx]
    exact e

/-- A carried sum before tile `t`: what the tile before left, or nothing. -/
abbrev before (π : (n : Nat) → n < cfg0.N → EReal) : EReal :=
  if t.val = 0 then 0 else π (t.val - 1) (Nat.lt_of_le_of_lt (Nat.sub_le _ _) t.isLt)

theorem tile_dsh (j : Fin 1024) : (outsAt0 m c t.val t.isLt).2.1 (ix2 0 j)
    = before t (fun n hn => (outsAt0 m c n hn).2.1 (ix2 0 j)) + ∑ r : Fin 512, dhM m c (rowOf t r) j := by
  have := lt8 t
  have e := fun p => dsh_apply (iblk m c 0 t) (iblk m c 1 t) (iblk m c 2 t) (iblk m c 3 t) (iblk m c 4 t) (iblk m c 5 t) (iblk m c 6 t) (iblk m c 7 t) p j
  simp only [dhT_apply] at e
  by_cases h0 : t.val % 8 = 0
  · rw [before, if_pos (by omega), outsAt0_A m c t h0]
    dsimp only
    rw [first_dsh, e, (zero_apply j).1]
  · rw [before, if_neg (by omega), outsAt0_B m c t h0]
    dsimp only
    rw [next_dsh, e]

theorem tile_dsc (j : Fin 1024) : (outsAt0 m c t.val t.isLt).2.2.1 (ix2 0 j)
    = before t (fun n hn => (outsAt0 m c n hn).2.2.1 (ix2 0 j)) + ∑ r : Fin 512, dscM m c (rowOf t r) j := by
  have := lt8 t
  have e := fun p => dsc_apply (iblk m c 0 t) (iblk m c 1 t) (iblk m c 2 t) (iblk m c 3 t) (iblk m c 4 t) (iblk m c 5 t) (iblk m c 6 t) (iblk m c 7 t)
    (iblk m c 8 t) (iblk m c 10 t) p j
  simp only [dhT_apply, blkX, blkG] at e
  by_cases h0 : t.val % 8 = 0
  · rw [before, if_pos (by omega), outsAt0_A m c t h0]
    dsimp only
    rw [first_dsc, e, (zero_apply j).2.1]
    rfl
  · rw [before, if_neg (by omega), outsAt0_B m c t h0]
    dsimp only
    rw [next_dsc, e]
    rfl

theorem tile_dg (j : Fin 1024) : (outsAt0 m c t.val t.isLt).2.2.2 (ix2 0 j)
    = before t (fun n hn => (outsAt0 m c n hn).2.2.2 (ix2 0 j)) + ∑ r : Fin 512, dgM m c (rowOf t r) j := by
  have := lt8 t
  have e := fun p => dg_apply (iblk m c 8 t) (iblk m c 11 t) (dhT m c t) p j
  simp only [dhT_apply, blkX, blkSC] at e
  by_cases h0 : t.val % 8 = 0
  · rw [before, if_pos (by omega), outsAt0_A m c t h0]
    dsimp only
    rw [first_dg, e, (zero_apply j).2.2]
    rfl
  · rw [before, if_neg (by omega), outsAt0_B m c t h0]
    dsimp only
    rw [next_dg, e]
    rfl

/-! ## The result arrays -/

/-- A number that starts at the first tile's share and grows by each later tile's is, after tile `n`, the sum of the shares
    of tiles `0 … n`. -/
theorem fold_sum (π : (n : Nat) → n < cfg0.N → EReal) (M : Nat → EReal)
    (hstep : ∀ t : Fin cfg0.N, π t.val t.isLt = before t π + M t.val) :
    ∀ (n : Nat) (hn : n < cfg0.N), π n hn = ∑ s ∈ Finset.range (n + 1), M s
  | 0, hn => by
    rw [Finset.sum_range_one]
    exact (hstep ⟨0, hn⟩).trans (by rw [before, if_pos rfl, zero_add])
  | n + 1, hn => by
    rw [Finset.sum_range_succ, ← fold_sum π M hstep n (by omega)]
    exact (hstep ⟨n + 1, hn⟩).trans (by rw [before, if_neg (Nat.succ_ne_zero n)]; rfl)

/-- The last tile. -/
abbrev lastTile : Fin cfg0.N := ⟨7, lt_of_lt_of_eq (by decide) N_0.symm⟩

theorem alone {P : Fin cfg0.N → Prop} (hP : ∀ t, P t ↔ t.val % 8 = 7) {t t' : Fin cfg0.N} (h : P t) (h' : P t') : t = t' := by
  have := lt8 t
  have := lt8 t'
  have := (hP t).mp h
  have := (hP t').mp h'
  exact Fin.ext (by omega)

theorem last14 : ((cfg0.win 14).blk lastTile).view.read (Elt Ideal) ((dats m 0 c).arrAt 14 cfg0.N) = (dats m 0 c).flushed 14 lastTile :=
  (dats m 0 c).read_blk_arrAt_eq_flushed 14 (fun t t' hf hf' hne => absurd (alone flush0_14 hf hf') hne) cfg0.N lastTile lastTile.isLt
    ((flush0_14 lastTile).mpr (by decide))

theorem last15 : ((cfg0.win 15).blk lastTile).view.read (Elt Ideal) ((dats m 0 c).arrAt 15 cfg0.N) = (dats m 0 c).flushed 15 lastTile :=
  (dats m 0 c).read_blk_arrAt_eq_flushed 15 (fun t t' hf hf' hne => absurd (alone flush0_15 hf hf') hne) cfg0.N lastTile lastTile.isLt
    ((flush0_15 lastTile).mpr (by decide))

theorem last16 : ((cfg0.win 16).blk lastTile).view.read (Elt Ideal) ((dats m 0 c).arrAt 16 cfg0.N) = (dats m 0 c).flushed 16 lastTile :=
  (dats m 0 c).read_blk_arrAt_eq_flushed 16 (fun t t' hf hf' hne => absurd (alone flush0_16 hf hf') hne) cfg0.N lastTile lastTile.isLt
    ((flush0_16 lastTile).mpr (by decide))

/-- The tile of row `R`. -/
abbrev tileOf (R : Fin 4096) : Fin cfg0.N := ⟨R.val / 512, lt_of_lt_of_eq (by omega) N_0.symm⟩

theorem at13 (R : Fin 4096) (j : Fin 1024) :
    ((cfg0.win 13).blk (tileOf R)).view.read (Elt Ideal) ((dats m 0 c).arrAt 13 cfg0.N) (ix2 (⟨R.val % 512, by omega⟩ : Fin 512) j)
      = (dats m 0 c).arrAt 13 cfg0.N (ix2 R j : S4096x1024.Idx) := by
  obtain ⟨-, -, -, -, -, -, -, -, -, h⟩ := index_rows (tileOf R)
  rw [View.read_apply]
  refine congrArg ((dats m 0 c).arrAt 13 cfg0.N) ?_
  refine (ix_row (tileOf R) ⟨R.val % 512, by omega⟩ j _ _ h.1 h.2 _ rfl rfl).trans ?_
  exact congrArg (fun R => (ix2 R j : S4096x1024.Idx)) (Cert.Kernel2Ideal.Tile.rowOf_div R)

theorem at14 (j : Fin 1024) : ((cfg0.win 14).blk lastTile).view.read (Elt Ideal) ((dats m 0 c).arrAt 14 cfg0.N) (ix2 0 j)
    = (dats m 0 c).arrAt 14 cfg0.N (ix2 0 j : S1x1024.Idx) := by
  obtain ⟨-, -, -, h, -⟩ := index_whole lastTile
  rw [View.read_apply]
  exact congrArg ((dats m 0 c).arrAt 14 cfg0.N) (ix_whole 0 j _ _ h.1 h.2 _ rfl rfl)

theorem at15 (j : Fin 1024) : ((cfg0.win 15).blk lastTile).view.read (Elt Ideal) ((dats m 0 c).arrAt 15 cfg0.N) (ix2 0 j)
    = (dats m 0 c).arrAt 15 cfg0.N (ix2 0 j : S1x1024.Idx) := by
  obtain ⟨-, -, -, -, h, -⟩ := index_whole lastTile
  rw [View.read_apply]
  exact congrArg ((dats m 0 c).arrAt 15 cfg0.N) (ix_whole 0 j _ _ h.1 h.2 _ rfl rfl)

theorem at16 (j : Fin 1024) : ((cfg0.win 16).blk lastTile).view.read (Elt Ideal) ((dats m 0 c).arrAt 16 cfg0.N) (ix2 0 j)
    = (dats m 0 c).arrAt 16 cfg0.N (ix2 0 j : S1x1024.Idx) := by
  obtain ⟨-, -, -, -, -, h⟩ := index_whole lastTile
  rw [View.read_apply]
  exact congrArg ((dats m 0 c).arrAt 16 cfg0.N) (ix_whole 0 j _ _ h.1 h.2 _ rfl rfl)

theorem arr_gx (R : Fin 4096) (j : Fin 1024) : (dats m 0 c).arrAt 13 cfg0.N (ix2 R j : S4096x1024.Idx) = gxM m c R j := by
  refine (at13 m c R j).symm.trans ((congrFun ((blocks13 m c (tileOf R) (flush0_13 _)).trans (flushed13 m c (tileOf R))) _).trans ?_)
  refine (tile_gx m c (tileOf R) ⟨R.val % 512, by omega⟩ j).trans ?_
  exact congrArg (fun R => gxM m c R j) (Cert.Kernel2Ideal.Tile.rowOf_div R)

theorem arr_dsh (j : Fin 1024) : (dats m 0 c).arrAt 14 cfg0.N (ix2 0 j : S1x1024.Idx) = ∑ R : Fin 4096, dhM m c R j := by
  refine (at14 m c j).symm.trans ((congrFun ((last14 m c).trans (flushed14 m c lastTile)) _).trans ?_)
  rw [sum_rows]
  exact fold_sum (fun n hn => (outsAt0 m c n hn).2.1 (ix2 0 j)) (fun t => ∑ r : Fin 512, dhM m c (rowOf t r) j)
    (fun t => tile_dsh m c t j) 7 lastTile.isLt

theorem arr_dsc (j : Fin 1024) : (dats m 0 c).arrAt 15 cfg0.N (ix2 0 j : S1x1024.Idx) = ∑ R : Fin 4096, dscM m c R j := by
  refine (at15 m c j).symm.trans ((congrFun ((last15 m c).trans (flushed15 m c lastTile)) _).trans ?_)
  rw [sum_rows]
  exact fold_sum (fun n hn => (outsAt0 m c n hn).2.2.1 (ix2 0 j)) (fun t => ∑ r : Fin 512, dscM m c (rowOf t r) j)
    (fun t => tile_dsc m c t j) 7 lastTile.isLt

theorem arr_dg (j : Fin 1024) : (dats m 0 c).arrAt 16 cfg0.N (ix2 0 j : S1x1024.Idx) = ∑ R : Fin 4096, dgM m c R j := by
  refine (at16 m c j).symm.trans ((congrFun ((last16 m c).trans (flushed16 m c lastTile)) _).trans ?_)
  rw [sum_rows]
  exact fold_sum (fun n hn => (outsAt0 m c n hn).2.2.2 (ix2 0 j)) (fun t => ∑ r : Fin 512, dgM m c (rowOf t r) j)
    (fun t => tile_dg m c t j) 7 lastTile.isLt

end Cert.Kernel3Ideal.Tile
-- ==== Proof.Weights.Tile.lean ====
/-
  The input projection's weights' gradient, one tile: what each of the three cases of the body (first tile, a tile
  between, the last tile) leaves in the carried accumulator and in the output block, as seven column stores whose
  payloads are the body's own terms; then those stores block by block.
-/
module

public import proofs.«01_k».proof.Proof.Gen.Kernel4Ideal.Value
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Tile

open Cert.Kernel4Ideal Cert.Kernel4Ideal.Gen

variable {F : FTy → Type} [FloatOps F]

theorem hz : (![0, 0] : Fin 2 → Nat) = fun _ => 0 := funext fun a => by fin_cases a <;> rfl

/-! ## Column stores of the accumulator -/

/-- The block of 512 columns of the accumulator that starts at column `o`. -/
abbrev rCol (o : Nat) (hb : ∀ a, (![0, o] : Fin 2 → Nat) a + S1024x512.size a ≤ S1024x3584.size a) : Rect S1024x3584 :=
  Rect.unit ![0, o] ![1024, 512] hb

section Columns

variable {o o' : Nat} (hb : ∀ a, (![0, o] : Fin 2 → Nat) a + S1024x512.size a ≤ S1024x3584.size a)
  (hb' : ∀ a, (![0, o'] : Fin 2 → Nat) a + S1024x512.size a ≤ S1024x3584.size a)

theorem col_not_mem (h : o + 512 ≤ o' ∨ o' + 512 ≤ o) (y : S1024x512.Idx) : (rCol o hb).idx y ∉ (rCol o' hb').set := by
  rw [Rect.mem_set_unit]
  intro hm
  have h1 : o' ≤ o + 1 * (y 1).val := (hm 1).1
  have h2 : o + 1 * (y 1).val < o' + 512 := (hm 1).2
  have h3 : (y 1).val < 512 := (y 1).isLt
  omega

/-- A store of one block of columns leaves the other blocks as they were. -/
theorem ld_canon_skip (P : Vec F S1024x512 .f32) (L : List (View.Piece (Elt F) S1024x3584 .f32)) (h : o + 512 ≤ o' ∨ o' + 512 ≤ o) :
    View.ld (View.canon (⟨rCol o' hb', P⟩ :: L)) (rCol o hb) = View.ld (View.canon L) (rCol o hb) :=
  funext fun y => View.canon_cons_of_not_mem (⟨rCol o' hb', P⟩ : View.Piece (Elt F) S1024x3584 .f32) L (col_not_mem hb hb' h y)

/-- A store of one block of columns, read back. -/
theorem ld_canon_hit (P : Vec F S1024x512 .f32) (L : List (View.Piece (Elt F) S1024x3584 .f32)) :
    View.ld (View.canon (⟨rCol o hb, P⟩ :: L)) (rCol o hb) = P :=
  funext fun y => View.canon_cons_emb (rCol o hb) P L y

/-- A load of one block of columns after the stores `L`. -/
theorem readCov_col (v : View sig .tc .vmem S1024x3584 .f32) (L : List (View.Piece (Elt F) S1024x3584 .f32)) :
    v.readCov L (rCol o hb).toLoadRect = View.ld (View.canon L) (rCol o hb) := View.readCov_eq_canon' _ _ _

/-- The whole accumulator read back after the stores `L`. -/
theorem readCov_whole (v : View sig .tc .vmem S1024x3584 .f32) (L : List (View.Piece (Elt F) S1024x3584 .f32)) :
    v.readCov L (Rect.unit ![0, 0] ![1024, 3584] inb_S1024x3584_S1024x3584_0_0).toLoadRect = View.canon L := by
  rw [View.readCov_eq_canon']
  generalize View.canon L = X
  exact View.ld_unit_zero (S := S1024x3584) hz _ _

end Columns

/-- What a tile stores over the accumulator `A`: to each of its seven blocks of columns the tile's product, added. -/
def slices (h : Vec F S512x1024 .bf16) (d0 d1 d2 d3 d4 d5 d6 : Vec F S512x512 .bf16) (A : Vec F S1024x3584 .f32)
    (L : List (View.Piece (Elt F) S1024x3584 .f32)) : List (View.Piece (Elt F) S1024x3584 .f32) :=
  ⟨rCol 3072 inb_S1024x3584_S1024x512_0_3072, k0_pay13 (k0_pay6 h) (View.ld A (rCol 3072 inb_S1024x3584_S1024x512_0_3072)) d6⟩ ::
  ⟨rCol 2560 inb_S1024x3584_S1024x512_0_2560, k0_pay12 (k0_pay6 h) (View.ld A (rCol 2560 inb_S1024x3584_S1024x512_0_2560)) d5⟩ ::
  ⟨rCol 2048 inb_S1024x3584_S1024x512_0_2048, k0_pay11 (k0_pay6 h) (View.ld A (rCol 2048 inb_S1024x3584_S1024x512_0_2048)) d4⟩ ::
  ⟨rCol 1536 inb_S1024x3584_S1024x512_0_1536, k0_pay10 (k0_pay6 h) (View.ld A (rCol 1536 inb_S1024x3584_S1024x512_0_1536)) d3⟩ ::
  ⟨rCol 1024 inb_S1024x3584_S1024x512_0_1024, k0_pay9 h (View.ld A (rCol 1024 inb_S1024x3584_S1024x512_0_1024)) d2⟩ ::
  ⟨rCol 512 inb_S1024x3584_S1024x512_0_512, k0_pay8 h (View.ld A (rCol 512 inb_S1024x3584_S1024x512_0_512)) d1⟩ ::
  ⟨rCol 0 inb_S1024x3584_S1024x512_0_0, k0_pay7 h (View.ld A (rCol 0 inb_S1024x3584_S1024x512_0_0)) d0⟩ :: L

/-- What the first tile stores before its products: zero everywhere, then the context rows' products in the keys' and in
    the values' columns. -/
def startStores (hc : Vec F S256x1024 .bf16) (ck cv : Vec F S256x512 .bf16) : List (View.Piece (Elt F) S1024x3584 .f32) :=
  [⟨rCol 2560 inb_S1024x3584_S1024x512_0_2560, k0_pay5 hc cv⟩, ⟨rCol 2048 inb_S1024x3584_S1024x512_0_2048, k0_pay4 hc ck⟩,
    ⟨Rect.unit ![0, 0] ![1024, 3584] inb_S1024x3584_S1024x3584_0_0, k0_pay2⟩]

/-- The accumulator after those stores. -/
def start (hc : Vec F S256x1024 .bf16) (ck cv : Vec F S256x512 .bf16) : Vec F S1024x3584 .f32 := View.canon (startStores hc ck cv)

/-! ## The stores, block by block -/

theorem col_lt (k : Fin 7) (q : Fin 512) : 512 * k.val + q.val < 3584 := by omega

theorem col_in (k : Fin 7) : ∀ a, (![0, 512 * k.val] : Fin 2 → Nat) a + S1024x512.size a ≤ S1024x3584.size a := fun a =>
  match a with
  | ⟨0, _⟩ => show 0 + 1024 ≤ 1024 by omega
  | ⟨1, _⟩ => show 512 * k.val + 512 ≤ 3584 by omega

/-- Block `k` of the columns. -/
abbrev rBlk (k : Fin 7) : Rect S1024x3584 := rCol (512 * k.val) (col_in k)

/-- Block `k` after a tile's stores. -/
theorem slices_ld (h : Vec F S512x1024 .bf16) (d0 d1 d2 d3 d4 d5 d6 : Vec F S512x512 .bf16) (A : Vec F S1024x3584 .f32)
    (L : List (View.Piece (Elt F) S1024x3584 .f32)) (k : Fin 7) :
    View.ld (View.canon (slices h d0 d1 d2 d3 d4 d5 d6 A L)) (rBlk k)
      = k0_pay7 h (View.ld A (rBlk k)) (![d0, d1, d2, d3, d4, d5, d6] k : Vec F S512x512 .bf16) := by
  unfold slices
  match k with
  | 6 => exact ld_canon_hit _ _ _
  | 5 => exact (ld_canon_skip _ _ _ _ (by decide)).trans (ld_canon_hit _ _ _)
  | 4 => exact ((ld_canon_skip _ _ _ _ (by decide)).trans (ld_canon_skip _ _ _ _ (by decide))).trans (ld_canon_hit _ _ _)
  | 3 => exact ((ld_canon_skip _ _ _ _ (by decide)).trans ((ld_canon_skip _ _ _ _ (by decide)).trans
      (ld_canon_skip _ _ _ _ (by decide)))).trans (ld_canon_hit _ _ _)
  | 2 => exact ((ld_canon_skip _ _ _ _ (by decide)).trans ((ld_canon_skip _ _ _ _ (by decide)).trans
      ((ld_canon_skip _ _ _ _ (by decide)).trans (ld_canon_skip _ _ _ _ (by decide))))).trans (ld_canon_hit _ _ _)
  | 1 => exact ((ld_canon_skip _ _ _ _ (by decide)).trans ((ld_canon_skip _ _ _ _ (by decide)).trans
      ((ld_canon_skip _ _ _ _ (by decide)).trans ((ld_canon_skip _ _ _ _ (by decide)).trans
      (ld_canon_skip _ _ _ _ (by decide)))))).trans (ld_canon_hit _ _ _)
  | 0 => exact ((ld_canon_skip _ _ _ _ (by decide)).trans ((ld_canon_skip _ _ _ _ (by decide)).trans
      ((ld_canon_skip _ _ _ _ (by decide)).trans ((ld_canon_skip _ _ _ _ (by decide)).trans
      ((ld_canon_skip _ _ _ _ (by decide)).trans (ld_canon_skip _ _ _ _ (by decide))))))).trans (ld_canon_hit _ _ _)

/-- Block `k` before the first tile's products. -/
theorem start_ld (hc : Vec F S256x1024 .bf16) (ck cv : Vec F S256x512 .bf16) (k : Fin 7) :
    (View.ld (start hc ck cv) (rBlk k) : Vec F S1024x512 .f32)
      = if k = 4 then k0_pay4 hc ck else if k = 5 then k0_pay5 hc cv else (View.ld (k0_pay2 (F := F) : Vec F S1024x3584 .f32) (rBlk k) : Vec F S1024x512 .f32) := by
  unfold start startStores
  by_cases h4 : k = 4
  · subst h4
    rw [if_pos rfl]
    exact (ld_canon_skip _ _ _ _ (by decide)).trans (ld_canon_hit _ _ _)
  · rw [if_neg h4]
    by_cases h5 : k = 5
    · subst h5
      rw [if_pos rfl]
      exact ld_canon_hit _ _ _
    · rw [if_neg h5]
      have e4 : k.val ≠ 4 := fun e => h4 (Fin.ext e)
      have e5 : k.val ≠ 5 := fun e => h5 (Fin.ext e)
      refine (ld_canon_skip _ _ _ _ (by omega)).trans ((ld_canon_skip _ _ _ _ (by omega)).trans ?_)
      exact congrArg (fun X : Vec F S1024x3584 .f32 => View.ld X (rBlk k)) (View.canon_unit_zero (S := S1024x3584) hz _ _)

/-! ## The cases -/

variable (c : Dev nD) (i : grid0.Coords)
  (a1 : Memref sig .tc .vmem S512x1024 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .bf16) (h4 : a4.IsWhole)
  (a5 : Memref sig .tc .vmem S512x512 .bf16) (h5 : a5.IsWhole)
  (a6 : Memref sig .tc .vmem S512x512 .bf16) (h6 : a6.IsWhole)
  (a7 : Memref sig .tc .vmem S512x512 .bf16) (h7 : a7.IsWhole)
  (a8 : Memref sig .tc .vmem S512x512 .bf16) (h8 : a8.IsWhole)
  (a9 : Memref sig .tc .vmem S256x1024 .bf16) (h9 : a9.IsWhole)
  (a10 : Memref sig .tc .vmem S256x512 .bf16) (h10 : a10.IsWhole)
  (a11 : Memref sig .tc .vmem S256x512 .bf16) (h11 : a11.IsWhole)
  (a12 : Memref sig .tc .vmem S1024x3584 .bf16) (h12 : a12.IsWhole)
  (a13 : Memref sig .tc .vmem S1024x3584 .f32) (h13 : a13.IsWhole)
  (h : Vec F S512x1024 .bf16) (d0 d1 d2 d3 d4 d5 d6 : Vec F S512x512 .bf16) (hc : Vec F S256x1024 .bf16) (ck cv : Vec F S256x512 .bf16)
  (acc : Vec F S1024x3584 .f32)

section Between

variable (hc0 : ¬cond0_0 i) (hc1 : ¬cond0_1 i)

theorem acc_between : sout0_B_0 c i a1 h1 a2 h2 a3 h3 a4 h4 a5 h5 a6 h6 a7 h7 a8 h8 a9 h9 a10 h10 a11 h11 a12 h12 a13 h13 hc0 hc1 h d0 d1 d2 d3 d4 d5 d6 hc ck cv acc
    = View.canon (slices h d0 d1 d2 d3 d4 d5 d6 acc []) := by
  unfold sout0_B_0
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread,
    View.ld_unit_zero (S := S512x1024) hz, View.ld_unit_zero (S := S512x512) hz]
  rfl

end Between

section First

variable (hc0 : cond0_0 i) (hc1 : ¬cond0_1 i)

theorem acc_first : sout0_A_0 c i a1 h1 a2 h2 a3 h3 a4 h4 a5 h5 a6 h6 a7 h7 a8 h8 a9 h9 a10 h10 a11 h11 a12 h12 a13 h13 hc0 hc1 h d0 d1 d2 d3 d4 d5 d6 hc ck cv
    = View.canon (slices h d0 d1 d2 d3 d4 d5 d6 (start hc ck cv) (startStores hc ck cv)) := by
  unfold sout0_A_0
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S512x1024) hz, View.ld_unit_zero (S := S512x512) hz, View.ld_unit_zero (S := S256x1024) hz,
    View.ld_unit_zero (S := S256x512) hz]
  simp only [slices, start, startStores, readCov_col, ld_canon_skip, Nat.reduceAdd, Nat.reduceLeDiff, true_or, or_true]

end First

section Last

variable (hc0 : ¬cond0_0 i) (hc1 : cond0_1 i)

theorem acc_last : sout0_C_0 c i a1 h1 a2 h2 a3 h3 a4 h4 a5 h5 a6 h6 a7 h7 a8 h8 a9 h9 a10 h10 a11 h11 a12 h12 a13 h13 hc0 hc1 h d0 d1 d2 d3 d4 d5 d6 hc ck cv acc
    = View.canon (slices h d0 d1 d2 d3 d4 d5 d6 acc []) := by
  unfold sout0_C_0
  rw [View.read_writes_junk_eq_canon]
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread,
    View.ld_unit_zero (S := S512x1024) hz, View.ld_unit_zero (S := S512x512) hz]
  rfl

/-- The last tile stores the accumulator, rounded, as the weights' gradient. -/
theorem dw_last : out0_C_11 c i a1 h1 a2 h2 a3 h3 a4 h4 a5 h5 a6 h6 a7 h7 a8 h8 a9 h9 a10 h10 a11 h11 a12 h12 a13 h13 hc0 hc1 h d0 d1 d2 d3 d4 d5 d6 hc ck cv acc
    = k0_pay1 (View.canon (slices h d0 d1 d2 d3 d4 d5 d6 acc [])) := by
  unfold out0_C_11
  rw [View.read_writes_junk_eq_canon]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h13.read_unread,
    View.ld_unit_zero (S := S512x1024) hz, View.ld_unit_zero (S := S512x512) hz]
  rw [readCov_whole]
  rfl

end Last

end Cert.Kernel4Ideal.Tile
-- ==== Proof.Weights.Arrays.lean ====
/-
  The input projection's weights' gradient over the whole arrays: the column stores read at an index, the sum over the
  tiles, and what the result array holds after the run.
-/
module

public import proofs.«01_k».proof.Proof.Weights.Tile
public import proofs.«01_k».proof.Proof.Project.Arrays

@[expose] public section

set_option maxRecDepth 16384

noncomputable section

open Idealize.ShloMosaic Idealize.ShloMosaic.TcCoe Idealize.SL.Sem
open Idealize.ShloMosaic.Pipeline (Dat)

namespace Cert.Kernel4Ideal.Tile

open Cert.Kernel4Ideal Cert.Kernel4Ideal.Gen Cert.Kernel4Ideal.Value Cert.Project

/-! ## The stores at an index -/

section Stores

/-- A block of columns read at an index. -/
theorem ld_col {o : Nat} (hb : ∀ a, (![0, o] : Fin 2 → Nat) a + S1024x512.size a ≤ S1024x3584.size a) (X : Vec Ideal S1024x3584 .f32)
    (p : Fin 1024) (q : Fin 512) (h : o + q.val < 3584) : View.ld X (rCol o hb) (ix2 p q) = X (ix2 p ⟨o + q.val, h⟩) := by
  refine congrArg X ?_
  funext a
  apply Fin.ext
  match a with
  | ⟨0, _⟩ => show 0 + 1 * p.val = p.val; omega
  | ⟨1, _⟩ => show o + 1 * q.val = o + q.val; omega

/-- One block of columns after a tile: what it held, and the tile's rows. -/
theorem part_apply (h : Vec Ideal S512x1024 .bf16) (A : Vec Ideal S1024x512 .f32) (d : Vec Ideal S512x512 .bf16) (p : Fin 1024) (q : Fin 512) :
    k0_pay7 h A d (ix2 p q) = A (ix2 p q) + ∑ r : Fin 512, h (ix2 r p) * d (ix2 r q) := by
  pointwise [k0_pay7, k0_pay6]

variable (h : Vec Ideal S512x1024 .bf16) (d0 d1 d2 d3 d4 d5 d6 : Vec Ideal S512x512 .bf16) (A : Vec Ideal S1024x3584 .f32)
  (L : List (View.Piece (Elt Ideal) S1024x3584 .f32))

/-- A tile's stores at row `p` of column `q` of block `k`. -/
theorem slices_apply (k : Fin 7) (p : Fin 1024) (q : Fin 512) :
    View.canon (slices h d0 d1 d2 d3 d4 d5 d6 A L) (ix2 p ⟨512 * k.val + q.val, col_lt k q⟩)
      = A (ix2 p ⟨512 * k.val + q.val, col_lt k q⟩)
        + ∑ r : Fin 512, h (ix2 r p) * (![d0, d1, d2, d3, d4, d5, d6] k : Vec Ideal S512x512 .bf16) (ix2 r q) := by
  refine (ld_col (col_in k) _ p q (col_lt k q)).symm.trans ((congrFun (slices_ld h d0 d1 d2 d3 d4 d5 d6 A L k) _).trans ?_)
  rw [part_apply, ld_col (col_in k) _ p q (col_lt k q)]

variable (hc : Vec Ideal S256x1024 .bf16) (ck cv : Vec Ideal S256x512 .bf16)

/-- What the accumulator holds before the first tile's products: the context rows' products in the blocks 4 and 5. -/
def startAt (k : Fin 7) (p : Fin 1024) (q : Fin 512) : EReal :=
  if k = 4 then ∑ r : Fin 256, hc (ix2 r p) * ck (ix2 r q) else if k = 5 then ∑ r : Fin 256, hc (ix2 r p) * cv (ix2 r q) else 0

theorem start_apply (k : Fin 7) (p : Fin 1024) (q : Fin 512) :
    start hc ck cv (ix2 p ⟨512 * k.val + q.val, col_lt k q⟩) = startAt hc ck cv k p q := by
  refine (ld_col (col_in k) _ p q (col_lt k q)).symm.trans ((congrFun (start_ld hc ck cv k) _).trans ?_)
  unfold startAt
  split
  · pointwise [k0_pay4, k0_pay3]
  · split
    · pointwise [k0_pay5, k0_pay3]
    · rw [ld_col (col_in k) _ p q (col_lt k q)]
      pointwise [k0_pay2]

end Stores

/-! ## The arguments and their blocks -/

variable (m : (ℓ : Loc nD τ sig) → Buf (Elt Ideal) ℓ) (ρ : Dev nD → PrngReg) (c : Dev nD)

abbrev argH : Vec Ideal S4096x1024 .bf16 := m ((c.tc : Thread nD τ).loc main_arg0)
abbrev argD0 : Vec Ideal S4096x512 .bf16 := m ((c.tc : Thread nD τ).loc main_arg1)
abbrev argD1 : Vec Ideal S4096x512 .bf16 := m ((c.tc : Thread nD τ).loc main_arg2)
abbrev argD2 : Vec Ideal S4096x512 .bf16 := m ((c.tc : Thread nD τ).loc main_arg3)
abbrev argD3 : Vec Ideal S4096x512 .bf16 := m ((c.tc : Thread nD τ).loc main_arg4)
abbrev argD4 : Vec Ideal S4096x512 .bf16 := m ((c.tc : Thread nD τ).loc main_arg5)
abbrev argD5 : Vec Ideal S4096x512 .bf16 := m ((c.tc : Thread nD τ).loc main_arg6)
abbrev argD6 : Vec Ideal S4096x512 .bf16 := m ((c.tc : Thread nD τ).loc main_arg7)
abbrev argHc : Vec Ideal S256x1024 .bf16 := m ((c.tc : Thread nD τ).loc main_arg8)
abbrev argCk : Vec Ideal S256x512 .bf16 := m ((c.tc : Thread nD τ).loc main_arg9)
abbrev argCv : Vec Ideal S256x512 .bf16 := m ((c.tc : Thread nD τ).loc main_arg10)

/-- The seven pieces of the projected rows' gradient. -/
def argD (k : Fin 7) : Vec Ideal S4096x512 .bf16 := ![argD0 m c, argD1 m c, argD2 m c, argD3 m c, argD4 m c, argD5 m c, argD6 m c] k

theorem lt8 (t : Fin cfg0.N) : t.val < 8 := lt_of_lt_of_eq t.isLt N_0

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) := by decide +kernel

/-- An index of an array of rows by its two coordinates, in tile `t`. -/
theorem ix_row {n : Nat} (t : Fin cfg0.N) (r : Fin 512) (j : Fin n) (a b : Nat) (ha : a = t.val) (hb : b = 0)
    (x : (⟨2, ![4096, n]⟩ : Shape).Idx) (h0 : (x 0).val = a * 512 + 1 * r.val) (h1 : (x 1).val = b * n + 1 * j.val) : x = ix2 (rowOf t r) j := by
  rw [rowOf_lt (lt8 t)]
  subst ha hb
  funext i
  apply Fin.ext
  match i with
  | ⟨0, _⟩ => exact h0.trans (show t.val * 512 + 1 * r.val = 512 * t.val + r.val by omega)
  | ⟨1, _⟩ => exact h1.trans (show 0 * n + 1 * j.val = j.val by omega)

/-- An index of an array kept whole in every tile. -/
theorem ix_whole {n k : Nat} (r : Fin n) (j : Fin k) (a b : Nat) (ha : a = 0) (hb : b = 0)
    (x : (⟨2, ![n, k]⟩ : Shape).Idx) (h0 : (x 0).val = a * n + 1 * r.val) (h1 : (x 1).val = b * k + 1 * j.val) : x = ix2 r j := by
  subst ha hb
  funext i
  apply Fin.ext
  match i with
  | ⟨0, _⟩ => exact h0.trans (show 0 * n + 1 * r.val = r.val by omega)
  | ⟨1, _⟩ => exact h1.trans (show 0 * k + 1 * j.val = j.val by omega)

variable (t : Fin cfg0.N)

theorem blkH (r : Fin 512) (j : Fin 1024) : (iblk m c 0 t : Vec Ideal S512x1024 .bf16) (ix2 r j) = argH m c (ix2 (rowOf t r) j) :=
  congrArg (argH m c) (ix_row t r j _ _ (index_rows t).1.1 (index_rows t).1.2 _ rfl rfl)

theorem blkHc (r : Fin 256) (j : Fin 1024) : (iblk m c 8 t : Vec Ideal S256x1024 .bf16) (ix2 r j) = argHc m c (ix2 r j) :=
  congrArg (argHc m c) (ix_whole r j _ _ (index_rows t).2.2.2.2.2.2.2.2.1.1 (index_rows t).2.2.2.2.2.2.2.2.1.2 _ rfl rfl)

theorem blkCk (r : Fin 256) (j : Fin 512) : (iblk m c 9 t : Vec Ideal S256x512 .bf16) (ix2 r j) = argCk m c (ix2 r j) :=
  congrArg (argCk m c) (ix_whole r j _ _ (index_rows t).2.2.2.2.2.2.2.2.2.1.1 (index_rows t).2.2.2.2.2.2.2.2.2.1.2 _ rfl rfl)

theorem blkCv (r : Fin 256) (j : Fin 512) : (iblk m c 10 t : Vec Ideal S256x512 .bf16) (ix2 r j) = argCv m c (ix2 r j) :=
  congrArg (argCv m c) (ix_whole r j _ _ (index_rows t).2.2.2.2.2.2.2.2.2.2.1 (index_rows t).2.2.2.2.2.2.2.2.2.2.2 _ rfl rfl)

/-- The seven pieces' blocks in tile `t`. -/
theorem blkD (k : Fin 7) (r q : Fin 512) :
    (![iblk m c 1 t, iblk m c 2 t, iblk m c 3 t, iblk m c 4 t, iblk m c 5 t, iblk m c 6 t, iblk m c 7 t] k : Vec Ideal S512x512 .bf16) (ix2 r q)
      = argD m c k (ix2 (rowOf t r) q) := by
  obtain ⟨-, h1, h2, h3, h4, h5, h6, h7, -⟩ := index_rows t
  match k with
  | 0 => exact congrArg (argD0 m c) (ix_row t r q _ _ h1.1 h1.2 _ rfl rfl)
  | 1 => exact congrArg (argD1 m c) (ix_row t r q _ _ h2.1 h2.2 _ rfl rfl)
  | 2 => exact congrArg (argD2 m c) (ix_row t r q _ _ h3.1 h3.2 _ rfl rfl)
  | 3 => exact congrArg (argD3 m c) (ix_row t r q _ _ h4.1 h4.2 _ rfl rfl)
  | 4 => exact congrArg (argD4 m c) (ix_row t r q _ _ h5.1 h5.2 _ rfl rfl)
  | 5 => exact congrArg (argD5 m c) (ix_row t r q _ _ h6.1 h6.2 _ rfl rfl)
  | 6 => exact congrArg (argD6 m c) (ix_row t r q _ _ h7.1 h7.2 _ rfl rfl)

/-! ## One tile, and the fold -/

/-- The carried tuple's type. -/
abbrev Carried : Type := Vec Ideal S1024x3584 .bf16 × Vec Ideal S1024x3584 .f32

/-- Tile `t`'s share of the gradient. -/
def share (k : Fin 7) (p : Fin 1024) (q : Fin 512) (t : Nat) : EReal :=
  ∑ r : Fin 512, argH m c (ix2 (rowOf t r) p) * argD m c k (ix2 (rowOf t r) q)

theorem tile_apply (A : Vec Ideal S1024x3584 .f32) (L : List (View.Piece (Elt Ideal) S1024x3584 .f32)) (k : Fin 7) (p : Fin 1024) (q : Fin 512) :
    View.canon (slices (iblk m c 0 t) (iblk m c 1 t) (iblk m c 2 t) (iblk m c 3 t) (iblk m c 4 t) (iblk m c 5 t) (iblk m c 6 t) (iblk m c 7 t) A L)
        (ix2 p ⟨512 * k.val + q.val, col_lt k q⟩)
      = A (ix2 p ⟨512 * k.val + q.val, col_lt k q⟩) + share m c k p q t := by
  rw [slices_apply]
  unfold share
  congr 1
  refine Finset.sum_congr rfl fun r _ => ?_
  rw [blkH]
  exact congrArg (argH m c (ix2 (rowOf t r) p) * ·) (blkD m c t k r q)

theorem start_blk (k : Fin 7) (p : Fin 1024) (q : Fin 512) :
    start (iblk m c 8 t) (iblk m c 9 t) (iblk m c 10 t) (ix2 p ⟨512 * k.val + q.val, col_lt k q⟩)
      = startAt (argHc m c) (argCk m c) (argCv m c) k p q := by
  rw [start_apply]
  unfold startAt
  simp only [blkHc, blkCk, blkCv]

theorem step_acc (st : Carried) (k : Fin 7) (p : Fin 1024) (q : Fin 512) :
    (stAt0 m c t.val t.isLt st).2 (ix2 p ⟨512 * k.val + q.val, col_lt k q⟩)
      = (if t.val = 0 then startAt (argHc m c) (argCk m c) (argCv m c) k p q else st.2 (ix2 p ⟨512 * k.val + q.val, col_lt k q⟩))
        + share m c k p q t := by
  have := lt8 t
  by_cases h0 : t.val % 8 = 0
  · rw [stAt0_A m c t st h0 (by omega), if_pos (by omega)]
    dsimp only
    rw [acc_first, tile_apply, start_blk]
  · rw [if_neg (by omega)]
    by_cases h1 : t.val % 8 = 7
    · rw [stAt0_C m c t st h0 h1]
      dsimp only
      rw [acc_last]
      exact tile_apply m c t _ _ k p q
    · rw [stAt0_B m c t st h0 h1]
      dsimp only
      rw [acc_between]
      exact tile_apply m c t _ _ k p q

theorem step_dw (h : t.val = 7) (st : Carried) (i : S1024x3584.Idx) :
    (stAt0 m c t.val t.isLt st).1 i = (stAt0 m c t.val t.isLt st).2 i := by
  rw [stAt0_C m c t st (by omega) (by omega)]
  dsimp only
  rw [dw_last, acc_last]
  unfold k0_pay1
  rw [truncf_apply]
  rw [Ideal.truncf_def]

/-- The carried tuple after tile `n`. -/
abbrev after (n : Nat) (h : 0 + n < cfg0.N) : Carried := Pipeline.accAt (fun n h => stAt0 m c n h junk0) (stAt0 m c) 0 n h

theorem after_step (n : Nat) (h : 0 + n < cfg0.N) : ∃ st, after m c n h = stAt0 m c n (by omega) st := by
  cases n with
  | zero => exact ⟨_, rfl⟩
  | succ n =>
    refine ⟨after m c n (by omega), ?_⟩
    have e : 0 + (n + 1) = n + 1 := Nat.zero_add _
    show Pipeline.accAt _ _ 0 (n + 1) h = _
    rw [Pipeline.accAt_succ]
    simp only [e]

/-- A number read off the carried tuple that the first tile sets to `z` and its own share, and to which each later tile
    adds its share, is after tile `n` the sum of `z` and the shares of tiles `0 … n`. -/
theorem fold_sum (π : Carried → EReal) (z : EReal) (M : Nat → EReal)
    (hstep : ∀ (t : Fin cfg0.N) (st : Carried), π (stAt0 m c t.val t.isLt st) = (if t.val = 0 then z else π st) + M t.val) :
    ∀ (n : Nat) (h : 0 + n < cfg0.N), π (after m c n h) = z + ∑ s ∈ Finset.range (n + 1), M s
  | 0, h => by
    rw [Finset.sum_range_one]
    exact (hstep ⟨0, by omega⟩ junk0).trans (by rw [if_pos rfl])
  | n + 1, h => by
    have e : 0 + (n + 1) = n + 1 := Nat.zero_add _
    rw [Finset.sum_range_succ, ← add_assoc, ← fold_sum π z M hstep n (by omega)]
    show π (Pipeline.accAt _ _ 0 (n + 1) h) = _
    rw [Pipeline.accAt_succ]
    simp only [e]
    exact (hstep ⟨n + 1, by omega⟩ _).trans (by rw [if_neg (Nat.succ_ne_zero n)])

/-- The result array at row `p` of column `q` of block `k`. -/
theorem G11_apply (k : Fin 7) (p : Fin 1024) (q : Fin 512) : G11 m c (ix2 p ⟨512 * k.val + q.val, col_lt k q⟩)
    = startAt (argHc m c) (argCk m c) (argCv m c) k p q + ∑ R : Fin 4096, argH m c (ix2 R p) * argD m c k (ix2 R q) := by
  have hN : cfg0.N = 8 := N_0
  rw [G11_last, sum_rows]
  obtain ⟨st, hst⟩ := after_step m c 7 (by omega)
  have h := step_dw m c ⟨7, by omega⟩ rfl st (ix2 p ⟨512 * k.val + q.val, col_lt k q⟩)
  show (after m c _ _).1 _ = _
  rw [hst]
  refine h.trans ?_
  rw [← hst]
  have e := fold_sum m c (fun st => st.2 (ix2 p ⟨512 * k.val + q.val, col_lt k q⟩)) _ (share m c k p q)
    (fun t st => step_acc m c t st k p q) 7 (by omega)
  exact e

end Cert.Kernel4Ideal.Tile
-- ==== Proof.Weights.Reference.lean ====
/-
  The reference's weights' gradient over the extended reals, read at an index, and the equation of the two programs.
-/
module

public import proofs.«01_k».proof.Proof.Gen.Reference4Ideal.Run
public import proofs.«01_k».proof.Proof.Weights.Arrays

@[expose] public section

set_option maxRecDepth 16384

noncomputable section

open Idealize.ShloMosaic Idealize.ShloMosaic.TcCoe Idealize.SL.Sem

namespace Cert.Reference4Ideal.Weights

open Cert.Reference4Ideal Cert.Reference4Ideal.Gen Cert.Reference4Ideal.Value Cert.Project

variable (H : FVec Ideal S4096x1024 .bf16) (D0 D1 D2 D3 D4 D5 D6 : FVec Ideal S4096x512 .bf16) (Hc : FVec Ideal S256x1024 .bf16)
  (Ck Cv : FVec Ideal S256x512 .bf16)

/-- The seven pieces of the projected rows' gradient, side by side. -/
def dz : FVec Ideal S4096x3584 .bf16 := concatenate S4096x3584 1 [⟨S4096x512, D0⟩, ⟨S4096x512, D1⟩, ⟨S4096x512, D2⟩, ⟨S4096x512, D3⟩,
  ⟨S4096x512, D4⟩, ⟨S4096x512, D5⟩, ⟨S4096x512, D6⟩] concatenates_S4096x512_S4096x512_S4096x512_S4096x512_S4096x512_S4096x512_S4096x512_S4096x3584_d1

/-- The context rows' gradient in the keys and the values, side by side. -/
def dzc : FVec Ideal S256x1024 .f32 := concatenate S256x1024 1 [⟨S256x512, (extf .f32 Ck bitsLt_bf16_f32 : FVec Ideal S256x512 .f32)⟩,
  ⟨S256x512, (extf .f32 Cv bitsLt_bf16_f32 : FVec Ideal S256x512 .f32)⟩] concatenates_S256x512_S256x512_S256x1024_d1

/-- The context rows' part, in the keys' and the values' columns. -/
def ctx : FVec Ideal S1024x3584 .f32 := pad S1024x3584 ![0, 2048] ![0, 512] ![0, 0] (transpose S1024x1024 [1, 0]
  (Host.dotGeneral dot_S256x1024_S256x1024_S1024x1024_0_0_1_1_n_n none (dzc Ck Cv) (extf .f32 Hc bitsLt_bf16_f32)) transposes_S1024x1024_S1024x1024_1_0)
  (constant S_ .f32 0x00000000#32) pads_S1024x1024_S1024x3584_000_20485120 h_S_

/-- The rows' part. -/
def rows : FVec Ideal S1024x3584 .f32 := transpose S1024x3584 [1, 0] (Host.dotGeneral dot_S4096x3584_S4096x1024_S3584x1024_0_0_1_1_n_n none
  (extf .f32 (dz D0 D1 D2 D3 D4 D5 D6) bitsLt_bf16_f32) (extf .f32 H bitsLt_bf16_f32)) transposes_S3584x1024_S1024x3584_1_0

def dw : FVec Ideal S1024x3584 .bf16 := truncf .bf16 (addf (ctx Hc Ck Cv) (rows H D0 D1 D2 D3 D4 D5 D6)) bitsLt_bf16_f32

theorem dw_apply (p : Fin 1024) (J : Fin 3584) : dw H D0 D1 D2 D3 D4 D5 D6 Hc Ck Cv (ix2 p J)
    = ctx Hc Ck Cv (ix2 p J) + rows H D0 D1 D2 D3 D4 D5 D6 (ix2 p J) := by
  pointwise [dw]

theorem rows_apply (p : Fin 1024) (J : Fin 3584) : rows H D0 D1 D2 D3 D4 D5 D6 (ix2 p J)
    = ∑ R : Fin 4096, dz D0 D1 D2 D3 D4 D5 D6 (ix2 R J) * H (ix2 R p) := by
  pointwise [rows]

/-- An entry at two equal columns. -/
theorem at_col (D : FVec Ideal S4096x512 .bf16) (R : Fin 4096) (q : Fin 512) (n : Nat) (hn : n < 512) (e : n = q.val) :
    D (ix2 R ⟨n, hn⟩) = D (ix2 R q) := by
  subst e
  rfl

theorem dz_apply (R : Fin 4096) (k : Fin 7) (q : Fin 512) (h : 512 * k.val + q.val < 3584) :
    dz D0 D1 D2 D3 D4 D5 D6 (ix2 R ⟨512 * k.val + q.val, h⟩) = (![D0, D1, D2, D3, D4, D5, D6] k : FVec Ideal S4096x512 .bf16) (ix2 R q) := by
  pointwise [dz]
  refine dite_eq_iff'.mpr ⟨fun _ => ?_, fun _ => ?_⟩
  · exact (at_col D0 R q _ _ (by omega)).trans (by rw [show k = 0 from Fin.ext (by show k.val = 0; omega)]; rfl)
  refine dite_eq_iff'.mpr ⟨fun _ => ?_, fun _ => ?_⟩
  · exact (at_col D1 R q _ _ (by omega)).trans (by rw [show k = 1 from Fin.ext (by show k.val = 1; omega)]; rfl)
  refine dite_eq_iff'.mpr ⟨fun _ => ?_, fun _ => ?_⟩
  · exact (at_col D2 R q _ _ (by omega)).trans (by rw [show k = 2 from Fin.ext (by show k.val = 2; omega)]; rfl)
  refine dite_eq_iff'.mpr ⟨fun _ => ?_, fun _ => ?_⟩
  · exact (at_col D3 R q _ _ (by omega)).trans (by rw [show k = 3 from Fin.ext (by show k.val = 3; omega)]; rfl)
  refine dite_eq_iff'.mpr ⟨fun _ => ?_, fun _ => ?_⟩
  · exact (at_col D4 R q _ _ (by omega)).trans (by rw [show k = 4 from Fin.ext (by show k.val = 4; omega)]; rfl)
  refine dite_eq_iff'.mpr ⟨fun _ => ?_, fun _ => ?_⟩
  · exact (at_col D5 R q _ _ (by omega)).trans (by rw [show k = 5 from Fin.ext (by show k.val = 5; omega)]; rfl)
  exact (at_col D6 R q _ _ (by omega)).trans (by rw [show k = 6 from Fin.ext (by show k.val = 6; omega)]; rfl)

theorem ctx_at (p : Fin 1024) (J : Fin 3584) : ctx Hc Ck Cv (ix2 p J) = if h : 2048 ≤ J.val ∧ J.val - 2048 < 1024 then
      ∑ x : Fin 256, (if h' : J.val - 2048 < 512 then Ck (ix2 x ⟨J.val - 2048, h'⟩) else Cv (ix2 x ⟨J.val - 2048 - 512, by omega⟩)) * Hc (ix2 x p)
    else 0 := by
  pointwise [ctx, dzc]

/-- The context rows' part is what the kernel's accumulator starts from. -/
theorem ctx_apply (k : Fin 7) (p : Fin 1024) (q : Fin 512) (h : 512 * k.val + q.val < 3584) :
    ctx Hc Ck Cv (ix2 p ⟨512 * k.val + q.val, h⟩) = Cert.Kernel4Ideal.Tile.startAt Hc Ck Cv k p q := by
  rw [ctx_at]
  unfold Cert.Kernel4Ideal.Tile.startAt
  by_cases h4 : k = 4
  · subst h4
    rw [if_pos rfl, dif_pos (by show 2048 ≤ 512 * 4 + q.val ∧ 512 * 4 + q.val - 2048 < 1024; omega)]
    refine Finset.sum_congr rfl fun r _ => ?_
    rw [dif_pos (by show 512 * 4 + q.val - 2048 < 512; omega), mul_comm]
    exact congrArg (fun j => Hc (ix2 r p) * Ck (ix2 r j)) (Fin.ext (by show 512 * 4 + q.val - 2048 = q.val; omega))
  · rw [if_neg h4]
    by_cases h5 : k = 5
    · subst h5
      rw [if_pos rfl, dif_pos (by show 2048 ≤ 512 * 5 + q.val ∧ 512 * 5 + q.val - 2048 < 1024; omega)]
      refine Finset.sum_congr rfl fun r _ => ?_
      rw [dif_neg (by show ¬512 * 5 + q.val - 2048 < 512; omega), mul_comm]
      exact congrArg (fun j => Hc (ix2 r p) * Cv (ix2 r j)) (Fin.ext (by show 512 * 5 + q.val - 2048 - 512 = q.val; omega))
    · have e4 : k.val ≠ 4 := fun e => h4 (Fin.ext e)
      have e5 : k.val ≠ 5 := fun e => h5 (Fin.ext e)
      rw [if_neg h5, dif_neg (by dsimp only; omega)]

end Cert.Reference4Ideal.Weights

namespace Cert.Kernel4Ideal.Tile

open Cert.Kernel4Ideal Cert.Kernel4Ideal.Gen Cert.Kernel4Ideal.Value

variable (m : (ℓ : Loc nD τ sig) → Buf (Elt Ideal) ℓ) (c : Dev nD)

/-- The kernel's weights' gradient is the reference's. -/
theorem dw_eq : G11 m c = Cert.Reference4Ideal.Weights.dw (argH m c) (argD0 m c) (argD1 m c) (argD2 m c) (argD3 m c) (argD4 m c) (argD5 m c)
    (argD6 m c) (argHc m c) (argCk m c) (argCv m c) := by
  funext i
  idx_vars i
  have hj : i1 = ⟨512 * (⟨i1.val / 512, by omega⟩ : Fin 7).val + (⟨i1.val % 512, by omega⟩ : Fin 512).val, by dsimp only; omega⟩ :=
    Fin.ext (by dsimp only; omega)
  rw [hj, G11_apply, Cert.Reference4Ideal.Weights.dw_apply, Cert.Reference4Ideal.Weights.rows_apply, Cert.Reference4Ideal.Weights.ctx_apply]
  congr 1
  refine Finset.sum_congr rfl fun R _ => ?_
  rw [Cert.Reference4Ideal.Weights.dz_apply, mul_comm]
  rfl

end Cert.Kernel4Ideal.Tile
-- ==== Proof.Modulate.Reference.lean ====
/-
  The reference's data gradient of the input projection over the extended reals: its four results as short terms, read at
  an index.
-/
module

public import proofs.«01_k».proof.Proof.Gen.Reference3Ideal.Run
public import proofs.«01_k».proof.Proof.Modulate.Row
public import proofs.«01_k».proof.Proof.Weights.Reference

@[expose] public section

set_option maxRecDepth 16384

noncomputable section

open Idealize.ShloMosaic Idealize.ShloMosaic.TcCoe Idealize.SL.Sem

namespace Cert.Reference3Ideal.Modulate

open Cert.Reference3Ideal Cert.Reference3Ideal.Gen Cert.Reference3Ideal.Value Cert.Modulate

variable (D0 D1 D2 D3 D4 D5 D6 : FVec Ideal S4096x512 .bf16) (W : FVec Ideal S3584x1024 .bf16) (X DY : FVec Ideal S4096x1024 .f32)
  (G SC : FVec Ideal S1x1024 .f32)

/-! ## The terms -/

/-- The seven pieces of the projected rows' gradient, side by side. -/
def dz : FVec Ideal S4096x3584 .bf16 := concatenate S4096x3584 1 [⟨S4096x512, D0⟩, ⟨S4096x512, D1⟩, ⟨S4096x512, D2⟩, ⟨S4096x512, D3⟩,
  ⟨S4096x512, D4⟩, ⟨S4096x512, D5⟩, ⟨S4096x512, D6⟩] concatenates_S4096x512_S4096x512_S4096x512_S4096x512_S4096x512_S4096x512_S4096x512_S4096x3584_d1

/-- The gradient of the modulated rows. -/
def dh : FVec Ideal S4096x1024 .f32 := Host.dotGeneral (F := Ideal) dot_S4096x3584_S1024x3584_S4096x1024_1_1_0_0_n_n none
  (extf .f32 (dz D0 D1 D2 D3 D4 D5 D6) bitsLt_bf16_f32) (extf .f32 (transpose S1024x3584 [1, 0] W transposes_S3584x1024_S1024x3584_1_0) bitsLt_bf16_f32)

/-- The rows' mean squares, kept away from zero, and their reciprocal roots. -/
def ms : FVec Ideal S4096x1 .f32 := addf (Host.divf (broadcastInDim S4096x1 ![0] bcast_S4096_S4096x1_0
    (Host.reduceAdd (mulf X X) (constant S_ .f32 0x00000000#32) reducesTo_S4096x1024_S4096_d1 h_S_))
  (broadcastInDim S4096x1 ![] bcast_S_S4096x1 (constant S_ .f32 0x44800000#32))) (broadcastInDim S4096x1 ![] bcast_S_S4096x1 (constant S_ .f32 0x358637BD#32))
def rs : FVec Ideal S4096x1 .f32 := Host.rsqrt (ms X)

/-- The normalised rows. -/
def xn : FVec Ideal S4096x1024 .f32 := mulf X (broadcastInDim S4096x1024 ![0, 1] bcast_S4096x1_S4096x1024_0_1 (rs X))

/-- The gain and one plus the scale, along the rows. -/
def gain : FVec Ideal S4096x1024 .f32 := broadcastInDim S4096x1024 ![0, 1] bcast_S1x1024_S4096x1024_0_1
  (broadcastInDim S1x1024 ![1] bcast_S1024_S1x1024_1 (shapeCast _ G shapeCasts_S1x1024_S1024 : FVec Ideal S1024 .f32))
def onep : FVec Ideal S4096x1024 .f32 := broadcastInDim S4096x1024 ![0, 1] bcast_S1x1024_S4096x1024_0_1
  (addf (broadcastInDim S1x1024 ![] bcast_S_S1x1024 (constant S_ .f32 0x3F800000#32)) SC)

/-- The gradient in the rows after the gain. -/
def dmod : FVec Ideal S4096x1024 .f32 := mulf (dh D0 D1 D2 D3 D4 D5 D6 W) (onep SC)

/-- The gradient in the normalised rows. -/
def dn : FVec Ideal S4096x1024 .f32 := mulf (dmod D0 D1 D2 D3 D4 D5 D6 W SC) (gain G)

/-- The mean square's gradient, over the row's length. -/
def dms : FVec Ideal S4096 .f32 := Host.reduceAdd (Host.divf (mulf (shapeCast _ (Host.reduceAdd (mulf X (dn D0 D1 D2 D3 D4 D5 D6 W G SC))
      (constant S_ .f32 0x00000000#32) reducesTo_S4096x1024_S4096_d1 h_S_) shapeCasts_S4096_S4096x1 : FVec Ideal S4096x1 .f32)
    (mulf (broadcastInDim S4096x1 ![] bcast_S_S4096x1 (constant S_ .f32 0xBF000000#32)) (Host.divf (rs X) (ms X))))
  (broadcastInDim S4096x1 ![] bcast_S_S4096x1 (constant S_ .f32 0x44800000#32))) (constant S_ .f32 0x00000000#32) reducesTo_S4096x1_S4096_d1 h_S_

/-- The four results. -/
def dx : FVec Ideal S4096x1024 .f32 := addf (addf (addf
    (mulf (dn D0 D1 D2 D3 D4 D5 D6 W G SC) (broadcastInDim S4096x1024 ![0, 1] bcast_S4096x1_S4096x1024_0_1 (rs X)))
    (mulf X (broadcastInDim S4096x1024 ![0] bcast_S4096_S4096x1024_0 (dms D0 D1 D2 D3 D4 D5 D6 W X G SC))))
  (mulf (broadcastInDim S4096x1024 ![0] bcast_S4096_S4096x1024_0 (dms D0 D1 D2 D3 D4 D5 D6 W X G SC)) X)) DY
def dshift : FVec Ideal S1x1024 .f32 := shapeCast _ (Host.reduceAdd (dh D0 D1 D2 D3 D4 D5 D6 W) (constant S_ .f32 0x00000000#32)
  reducesTo_S4096x1024_S1024_d0 h_S_ : FVec Ideal S1024 .f32) shapeCasts_S1024_S1x1024
def dscale : FVec Ideal S1x1024 .f32 := shapeCast _ (Host.reduceAdd (mulf (mulf (xn X) (gain G)) (dh D0 D1 D2 D3 D4 D5 D6 W))
  (constant S_ .f32 0x00000000#32) reducesTo_S4096x1024_S1024_d0 h_S_ : FVec Ideal S1024 .f32) shapeCasts_S1024_S1x1024
def dgain : FVec Ideal S1x1024 .f32 := broadcastInDim S1x1024 ![1] bcast_S1024_S1x1024_1 (Host.reduceAdd (shapeCast _
    (Host.reduceAdd (mulf (xn X) (dmod D0 D1 D2 D3 D4 D5 D6 W SC)) (constant S_ .f32 0x00000000#32) reducesTo_S4096x1024_S1024_d0 h_S_ : FVec Ideal S1024 .f32)
    shapeCasts_S1024_S1x1024 : FVec Ideal S1x1024 .f32) (constant S_ .f32 0x00000000#32) reducesTo_S1x1024_S1024_d0 h_S_ : FVec Ideal S1024 .f32)

/-! ## The terms at an index -/

/-- A sum over the columns of the pieces side by side, piece by piece. -/
theorem sum_cols {M : Type*} [AddCommMonoid M] (f : Fin 3584 → M) :
    ∑ J : Fin 3584, f J = ∑ k : Fin 7, ∑ q : Fin 512, f ⟨512 * k.val + q.val, Cert.Kernel3Ideal.Tile.row_lt k q⟩ := by
  rw [← (finProdFinEquiv (m := 7) (n := 512)).sum_comp f, Fintype.sum_prod_type]
  refine Finset.sum_congr rfl fun k _ => Finset.sum_congr rfl fun q _ => congrArg f (Fin.ext ?_)
  show q.val + 512 * k.val = 512 * k.val + q.val
  omega

theorem dh_at (R : Fin 4096) (j : Fin 1024) : dh D0 D1 D2 D3 D4 D5 D6 W (ix2 R j)
    = ∑ J : Fin 3584, dz D0 D1 D2 D3 D4 D5 D6 (ix2 R J) * W (ix2 J j) := by
  pointwise [dh]

/-- The gradient of the modulated rows, piece by piece. -/
theorem dh_apply (R : Fin 4096) (j : Fin 1024) : dh D0 D1 D2 D3 D4 D5 D6 W (ix2 R j)
    = ∑ k : Fin 7, ∑ q : Fin 512, (![D0, D1, D2, D3, D4, D5, D6] k : FVec Ideal S4096x512 .bf16) (ix2 R q)
        * W (ix2 ⟨512 * k.val + q.val, Cert.Kernel3Ideal.Tile.row_lt k q⟩ j) := by
  rw [dh_at, sum_cols]
  refine Finset.sum_congr rfl fun k _ => Finset.sum_congr rfl fun q _ => ?_
  exact congrArg (· * W (ix2 ⟨512 * k.val + q.val, Cert.Kernel3Ideal.Tile.row_lt k q⟩ j))
    (Cert.Reference4Ideal.Weights.dz_apply D0 D1 D2 D3 D4 D5 D6 R k q _)

theorem ms_apply (R : Fin 4096) : ms X (ix2 R 0) = meanSq fun j => X (ix2 R j) := by
  pointwise [ms, meanSq]

theorem rs_apply (R : Fin 4096) : rs X (ix2 R 0) = Ideal.rsqrt (meanSq fun j => X (ix2 R j)) := by
  simp only [← ms_apply]
  pointwise [rs]

theorem xn_apply (R : Fin 4096) (j : Fin 1024) : xn X (ix2 R j) = normRow (fun j => X (ix2 R j)) j := by
  unfold normRow
  simp only [← rs_apply]
  pointwise [xn]

theorem dmod_apply (R : Fin 4096) (j : Fin 1024) : dmod D0 D1 D2 D3 D4 D5 D6 W SC (ix2 R j)
    = dh D0 D1 D2 D3 D4 D5 D6 W (ix2 R j) * (Ideal.ofBits .f32 0x3F800000#32 + SC (ix2 0 j)) := by
  pointwise [dmod, onep]

theorem dn_apply (R : Fin 4096) (j : Fin 1024) : dn D0 D1 D2 D3 D4 D5 D6 W G SC (ix2 R j)
    = dh D0 D1 D2 D3 D4 D5 D6 W (ix2 R j) * (Ideal.ofBits .f32 0x3F800000#32 + SC (ix2 0 j)) * G (ix2 0 j) := by
  rw [← dmod_apply]
  pointwise [dn, gain]

theorem dms_apply (R : Fin 4096) : dms D0 D1 D2 D3 D4 D5 D6 W X G SC (ix1 R)
    = Ideal.div ((∑ l : Fin 1024, X (ix2 R l) * dn D0 D1 D2 D3 D4 D5 D6 W G SC (ix2 R l))
        * (Ideal.ofBits .f32 0xBF000000#32 * Ideal.div (rs X (ix2 R 0)) (ms X (ix2 R 0)))) (Ideal.ofBits .f32 0x44800000#32) := by
  pointwise [dms]
  exact Fin.sum_univ_one _

theorem dx_apply (R : Fin 4096) (j : Fin 1024) : dx D0 D1 D2 D3 D4 D5 D6 W X DY G SC (ix2 R j)
    = dn D0 D1 D2 D3 D4 D5 D6 W G SC (ix2 R j) * rs X (ix2 R 0) + X (ix2 R j) * dms D0 D1 D2 D3 D4 D5 D6 W X G SC (ix1 R)
      + dms D0 D1 D2 D3 D4 D5 D6 W X G SC (ix1 R) * X (ix2 R j) + DY (ix2 R j) := by
  pointwise [dx]

theorem dshift_apply (j : Fin 1024) : dshift D0 D1 D2 D3 D4 D5 D6 W (ix2 0 j)
    = ∑ R : Fin 4096, dh D0 D1 D2 D3 D4 D5 D6 W (ix2 R j) := by
  pointwise [dshift]

theorem dscale_apply (j : Fin 1024) : dscale D0 D1 D2 D3 D4 D5 D6 W X G (ix2 0 j)
    = ∑ R : Fin 4096, normRow (fun j => X (ix2 R j)) j * G (ix2 0 j) * dh D0 D1 D2 D3 D4 D5 D6 W (ix2 R j) := by
  simp only [← xn_apply]
  pointwise [dscale, gain]

theorem dgain_apply (j : Fin 1024) : dgain D0 D1 D2 D3 D4 D5 D6 W X SC (ix2 0 j)
    = ∑ R : Fin 4096, normRow (fun j => X (ix2 R j)) j
        * (dh D0 D1 D2 D3 D4 D5 D6 W (ix2 R j) * (Ideal.ofBits .f32 0x3F800000#32 + SC (ix2 0 j))) := by
  simp only [← xn_apply, ← dmod_apply]
  pointwise [dgain]
  exact Fin.sum_univ_one _

/-! ## The run's results -/

section Results

variable (m : (ℓ : Loc nD τ sig) → Buf (Elt Ideal) ℓ) (c : Dev nD)

abbrev argD0 : FVec Ideal S4096x512 .bf16 := m ((c.tc : Thread nD τ).loc main_arg0)
abbrev argD1 : FVec Ideal S4096x512 .bf16 := m ((c.tc : Thread nD τ).loc main_arg1)
abbrev argD2 : FVec Ideal S4096x512 .bf16 := m ((c.tc : Thread nD τ).loc main_arg2)
abbrev argD3 : FVec Ideal S4096x512 .bf16 := m ((c.tc : Thread nD τ).loc main_arg3)
abbrev argD4 : FVec Ideal S4096x512 .bf16 := m ((c.tc : Thread nD τ).loc main_arg4)
abbrev argD5 : FVec Ideal S4096x512 .bf16 := m ((c.tc : Thread nD τ).loc main_arg5)
abbrev argD6 : FVec Ideal S4096x512 .bf16 := m ((c.tc : Thread nD τ).loc main_arg6)
abbrev argW : FVec Ideal S3584x1024 .bf16 := m ((c.tc : Thread nD τ).loc main_arg7)
abbrev argX : FVec Ideal S4096x1024 .f32 := m ((c.tc : Thread nD τ).loc main_arg8)
abbrev argDY : FVec Ideal S4096x1024 .f32 := m ((c.tc : Thread nD τ).loc main_arg9)
abbrev argG : FVec Ideal S1x1024 .f32 := m ((c.tc : Thread nD τ).loc main_arg10)
abbrev argSC : FVec Ideal S1x1024 .f32 := m ((c.tc : Thread nD τ).loc main_arg11)

theorem out_dx : res_out0 m c = dx (argD0 m c) (argD1 m c) (argD2 m c) (argD3 m c) (argD4 m c) (argD5 m c) (argD6 m c) (argW m c)
    (argX m c) (argDY m c) (argG m c) (argSC m c) := rfl

end Results

end Cert.Reference3Ideal.Modulate
-- ==== Proof.Modulate.Finite.lean ====
/-
  The data gradient's precondition read back: where it holds, every number the two programs differentiate through is real.
-/
module

public import proofs.«01_k».proof.Defs
public import proofs.«01_k».proof.Proof.Modulate.Reference
public import proofs.«01_k».proof.Proof.Gating.Finite

@[expose] public section

set_option maxRecDepth 16384

noncomputable section

open Idealize.ShloMosaic Idealize.ShloMosaic.TcCoe Idealize.SL.Sem

namespace Cert.Pre_finite3

/-- The side conditions of the precondition's operations. -/
theorem facts : Facts where
  concatenates_S4096x512_S4096x512_S4096x512_S4096x512_S4096x512_S4096x512_S4096x512_S4096x3584_d1 := by decide
  bitsLt_bf16_f32 := by decide
  bcast_S_S4096x3584 := by decide
  reducesTo_S4096x3584_S_d0_1 := by decide
  h_S_ := by decide
  bcast_S_S3584x1024 := by decide
  reducesTo_S3584x1024_S_d0_1 := by decide
  bcast_S_S4096x1024 := by decide
  reducesTo_S4096x1024_S_d0_1 := by decide
  bcast_S_S1x1024 := by decide
  reducesTo_S1x1024_S_d0_1 := by decide

attribute [local instance] facts

variable {D0 D1 D2 D3 D4 D5 D6 : FVec Ideal S4096x512 .bf16} {W : FVec Ideal S3584x1024 .bf16} {X DY : FVec Ideal S4096x1024 .f32}
  {G SC SH : FVec Ideal S1x1024 .f32}

instance : Subsingleton S_.Idx := ⟨fun i j => by funext x; exact x.elim0⟩

/-- The precondition is the conjunction of its five parts. -/
theorem parts (h : fn (F := Ideal) D0 D1 D2 D3 D4 D5 D6 W X DY G SC SH = fun _ => 1#1) :
    (∀ (R : Fin 4096) (J : Fin 3584), ∃ r : ℝ, Cert.Reference3Ideal.Modulate.dz D0 D1 D2 D3 D4 D5 D6 (ix2 R J) = (r : EReal))
    ∧ (∀ (J : Fin 3584) (j : Fin 1024), ∃ r : ℝ, W (ix2 J j) = (r : EReal))
    ∧ (∀ i, ∃ r : ℝ, X i = (r : EReal)) ∧ (∀ i, ∃ r : ℝ, G i = (r : EReal)) ∧ (∀ i, ∃ r : ℝ, SC i = (r : EReal)) := by
  obtain ⟨h, hs⟩ := IntOp.andi_eq_one.mp (congrFun h (Shape.Idx.first Facts.h_S_))
  obtain ⟨h, hg⟩ := IntOp.andi_eq_one.mp h
  obtain ⟨h, hx⟩ := IntOp.andi_eq_one.mp h
  obtain ⟨hz, hw⟩ := IntOp.andi_eq_one.mp h
  refine ⟨fun R J => Cert.Pre_finite.real_of_small ?_, fun J j => Cert.Pre_finite.real_of_small ?_,
    fun i => Cert.Pre_finite.real_of_small ?_, fun i => Cert.Pre_finite.real_of_small ?_, fun i => Cert.Pre_finite.real_of_small ?_⟩
  · exact Host.reduce_andi_all _ _ _ _ _ hz (ix2 R J)
  · exact Host.reduce_andi_all _ _ _ _ _ hw (ix2 J j)
  · exact Host.reduce_andi_all _ _ _ _ _ hx i
  · exact Host.reduce_andi_all _ _ _ _ _ hg i
  · exact Host.reduce_andi_all _ _ _ _ _ hs i

/-- Where the precondition holds, the gradient of the modulated rows, the rows, the gain and the scale are real. -/
theorem given (h : fn (F := Ideal) D0 D1 D2 D3 D4 D5 D6 W X DY G SC SH = fun _ => 1#1) :
    ∃ (d x : Fin 4096 → Fin 1024 → ℝ) (g s : Fin 1024 → ℝ),
      (∀ R j, Cert.Reference3Ideal.Modulate.dh D0 D1 D2 D3 D4 D5 D6 W (ix2 R j) = (d R j : EReal)) ∧ (∀ R j, X (ix2 R j) = (x R j : EReal))
      ∧ (∀ j, G (ix2 0 j) = (g j : EReal)) ∧ (∀ j, SC (ix2 0 j) = (s j : EReal)) := by
  obtain ⟨hz, hw, hx, hg, hs⟩ := parts h
  choose z hz using hz
  choose w hw using hw
  choose x hx using hx
  choose g hg using hg
  choose s hs using hs
  refine ⟨fun R j => ∑ J : Fin 3584, z R J * w J j, fun R j => x (ix2 R j), fun j => g (ix2 0 j), fun j => s (ix2 0 j), fun R j => ?_,
    fun R j => hx _, fun j => hg _, fun j => hs _⟩
  rw [Cert.Reference3Ideal.Modulate.dh_at, ← Cert.Gating.coe_sum]
  refine Finset.sum_congr rfl fun J _ => ?_
  rw [EReal.coe_mul, ← hz, ← hw]

end Cert.Pre_finite3
-- ==== Proof.Modulate.Equation.lean ====
/-
  The input projection's data gradient: the four arrays the kernel leaves are the reference's four results. Three of them
  agree over the extended reals by commutativity; the rows' gradient is two forms of the normalisation's derivative, equal
  on real arguments (the residual's own gradient is added last and may be any extended real).
-/
module

public import proofs.«01_k».proof.Proof.Modulate.Arrays
public import proofs.«01_k».proof.Proof.Modulate.Finite
public import proofs.«01_k».proof.Proof.Project.Equation

@[expose] public section

set_option maxRecDepth 16384

noncomputable section

open Idealize.ShloMosaic Idealize.ShloMosaic.TcCoe Idealize.SL.Sem

namespace Cert.Modulate

open Cert.Gating (coe_sum div_real rsqrt_real one_eq neg_half_eq eps_eq)
open Cert.Project (width_eq)

/-! ## One row of reals -/

section Real

variable (d x g s : Fin 1024 → ℝ)

/-- The mean square and the gradient in the normalised row, of reals. -/
def ms : ℝ := (∑ l : Fin 1024, x l * x l) / 1024 + 8796093 / 8796093022208
def dn (j : Fin 1024) : ℝ := d j * (g j * (1 + s j))

theorem ms_pos : 0 < ms x := by
  have h : 0 ≤ ∑ l : Fin 1024, x l * x l := Finset.sum_nonneg fun l _ => mul_self_nonneg _
  unfold ms
  positivity

theorem meanSq_real : meanSq (fun j => (x j : EReal)) = ((ms x : ℝ) : EReal) := by
  unfold meanSq ms
  simp only [← EReal.coe_mul, coe_sum, width_eq, eps_eq]
  rw [div_real (by norm_num), ← EReal.coe_add]

theorem dnRow_real (j : Fin 1024) : dnRow (fun j => (d j : EReal)) (fun j => (g j : EReal)) (fun j => (s j : EReal)) j = ((dn d g s j : ℝ) : EReal) := by
  unfold dnRow dn
  rw [one_eq, ← EReal.coe_add, ← EReal.coe_mul, ← EReal.coe_mul]

theorem normRow_real (j : Fin 1024) : normRow (fun j => (x j : EReal)) j = ((x j * (Real.sqrt (ms x))⁻¹ : ℝ) : EReal) := by
  unfold normRow
  rw [meanSq_real, rsqrt_real (ms_pos x), ← EReal.coe_mul]

/-- The kernel's form of the row's gradient. -/
theorem gxRow_real (dy : Fin 1024 → EReal) (j : Fin 1024) :
    gxRow (fun j => (d j : EReal)) (fun j => (x j : EReal)) (fun j => (g j : EReal)) (fun j => (s j : EReal)) dy j
      = (((Real.sqrt (ms x))⁻¹ * (dn d g s j - x j * (Real.sqrt (ms x))⁻¹
          * ((∑ l : Fin 1024, dn d g s l * (x l * (Real.sqrt (ms x))⁻¹)) / 1024)) : ℝ) : EReal) + dy j := by
  unfold gxRow
  simp only [dnRow_real, normRow_real, meanSq_real, rsqrt_real (ms_pos x), ← EReal.coe_mul, coe_sum, width_eq]
  rw [div_real (by norm_num), ← EReal.coe_mul, ← EReal.coe_sub, ← EReal.coe_mul]

/-- The two forms of the normalisation's derivative. -/
theorem forms (j : Fin 1024) : (Real.sqrt (ms x))⁻¹ * (dn d g s j - x j * (Real.sqrt (ms x))⁻¹
      * ((∑ l : Fin 1024, dn d g s l * (x l * (Real.sqrt (ms x))⁻¹)) / 1024))
    = dn d g s j * (Real.sqrt (ms x))⁻¹
      + x j * (((∑ l : Fin 1024, x l * dn d g s l) * (-1 / 2 * ((Real.sqrt (ms x))⁻¹ / ms x))) / 1024)
      + (((∑ l : Fin 1024, x l * dn d g s l) * (-1 / 2 * ((Real.sqrt (ms x))⁻¹ / ms x))) / 1024) * x j := by
  have hs : ∑ l : Fin 1024, dn d g s l * (x l * (Real.sqrt (ms x))⁻¹) = (∑ l : Fin 1024, x l * dn d g s l) * (Real.sqrt (ms x))⁻¹ := by
    rw [Finset.sum_mul]
    exact Finset.sum_congr rfl fun l _ => by ring
  have hr : (Real.sqrt (ms x))⁻¹ * (Real.sqrt (ms x))⁻¹ = (ms x)⁻¹ := by
    rw [← mul_inv, Real.mul_self_sqrt (ms_pos x).le]
  rw [hs, div_eq_mul_inv (Real.sqrt (ms x))⁻¹ (ms x), ← hr]
  ring

end Real

end Cert.Modulate

namespace Cert.Kernel3Ideal.Tile

open Cert.Kernel3Ideal Cert.Kernel3Ideal.Gen Cert.Kernel3Ideal.Value Cert.Modulate

variable (m : (ℓ : Loc nD τ sig) → Buf (Elt Ideal) ℓ) (c : Dev nD)

/-- The reference's gradient of the modulated rows, of the kernel's arguments, is the kernel's. -/
theorem refDh_apply (R : Fin 4096) (j : Fin 1024) : Cert.Reference3Ideal.Modulate.dh (argD0 m c) (argD1 m c) (argD2 m c) (argD3 m c)
    (argD4 m c) (argD5 m c) (argD6 m c) (argW m c) (ix2 R j) = dhM m c R j :=
  Cert.Reference3Ideal.Modulate.dh_apply _ _ _ _ _ _ _ _ R j

theorem dsh_eq : (dats m 0 c).arrAt 14 cfg0.N = Cert.Reference3Ideal.Modulate.dshift (argD0 m c) (argD1 m c) (argD2 m c) (argD3 m c)
    (argD4 m c) (argD5 m c) (argD6 m c) (argW m c) := by
  funext i
  idx_vars i
  obtain rfl : i0 = (0 : Fin 1) := Fin.fin_one_eq_zero i0
  refine (arr_dsh m c i1).trans (Eq.trans (?_ : (_ : EReal) = _) (Cert.Reference3Ideal.Modulate.dshift_apply _ _ _ _ _ _ _ _ i1).symm)
  exact Finset.sum_congr rfl fun R _ => (refDh_apply m c R i1).symm

theorem dsc_eq : (dats m 0 c).arrAt 15 cfg0.N = Cert.Reference3Ideal.Modulate.dscale (argD0 m c) (argD1 m c) (argD2 m c) (argD3 m c)
    (argD4 m c) (argD5 m c) (argD6 m c) (argW m c) (argX m c) (argG m c) := by
  funext i
  idx_vars i
  obtain rfl : i0 = (0 : Fin 1) := Fin.fin_one_eq_zero i0
  refine (arr_dsc m c i1).trans (Eq.trans (?_ : (_ : EReal) = _) (Cert.Reference3Ideal.Modulate.dscale_apply _ _ _ _ _ _ _ _ _ _ i1).symm)
  refine Finset.sum_congr rfl fun R _ => ?_
  refine Eq.trans ?_ (congrArg (normRow (fun j => argX m c (ix2 R j)) i1 * argG m c (ix2 0 i1) * ·) (refDh_apply m c R i1).symm)
  unfold dscM
  rw [mul_assoc, mul_comm]

theorem dg_eq : (dats m 0 c).arrAt 16 cfg0.N = Cert.Reference3Ideal.Modulate.dgain (argD0 m c) (argD1 m c) (argD2 m c) (argD3 m c)
    (argD4 m c) (argD5 m c) (argD6 m c) (argW m c) (argX m c) (argSC m c) := by
  funext i
  idx_vars i
  obtain rfl : i0 = (0 : Fin 1) := Fin.fin_one_eq_zero i0
  refine (arr_dg m c i1).trans (Eq.trans (?_ : (_ : EReal) = _) (Cert.Reference3Ideal.Modulate.dgain_apply _ _ _ _ _ _ _ _ _ _ i1).symm)
  refine Finset.sum_congr rfl fun R _ => ?_
  refine Eq.trans ?_ (congrArg (fun e => normRow (fun j => argX m c (ix2 R j)) i1 * (e * (Ideal.ofBits .f32 0x3F800000#32 + argSC m c (ix2 0 i1))))
    (refDh_apply m c R i1).symm)
  exact mul_comm _ _

/-- The rows' gradient, where the arguments are real. -/
theorem gx_eq {d x : Fin 4096 → Fin 1024 → ℝ} {g s : Fin 1024 → ℝ}
    (hd : ∀ R j, Cert.Reference3Ideal.Modulate.dh (argD0 m c) (argD1 m c) (argD2 m c) (argD3 m c) (argD4 m c) (argD5 m c) (argD6 m c) (argW m c)
      (ix2 R j) = (d R j : EReal))
    (hx : ∀ R j, argX m c (ix2 R j) = (x R j : EReal)) (hg : ∀ j, argG m c (ix2 0 j) = (g j : EReal))
    (hs : ∀ j, argSC m c (ix2 0 j) = (s j : EReal)) :
    (dats m 0 c).arrAt 13 cfg0.N = Cert.Reference3Ideal.Modulate.dx (argD0 m c) (argD1 m c) (argD2 m c) (argD3 m c)
      (argD4 m c) (argD5 m c) (argD6 m c) (argW m c) (argX m c) (argDY m c) (argG m c) (argSC m c) := by
  funext i
  idx_vars i
  refine (arr_gx m c i0 i1).trans (Eq.trans (?_ : (_ : EReal) = _)
    (Cert.Reference3Ideal.Modulate.dx_apply _ _ _ _ _ _ _ _ _ _ _ _ i0 i1).symm)
  have hk : ∀ j, dhM m c i0 j = (d i0 j : EReal) := fun j => (refDh_apply m c i0 j).symm.trans (hd i0 j)
  have hdn : ∀ j, (d i0 j : EReal) * (Ideal.ofBits .f32 0x3F800000#32 + (s j : EReal)) * (g j : EReal) = ((dn (d i0) g s j : ℝ) : EReal) := fun j => by
    rw [Cert.Gating.one_eq, ← EReal.coe_add, ← EReal.coe_mul, ← EReal.coe_mul]
    exact congrArg _ (by unfold dn; ring)
  unfold gxM
  rw [show dhM m c i0 = fun j => (d i0 j : EReal) from funext hk]
  simp only [Cert.Reference3Ideal.Modulate.dms_apply, Cert.Reference3Ideal.Modulate.dn_apply, Cert.Reference3Ideal.Modulate.rs_apply,
    Cert.Reference3Ideal.Modulate.ms_apply, hd, hx, hg, hs, hdn]
  rw [gxRow_real, forms, meanSq_real, Cert.Gating.rsqrt_real (ms_pos (x i0)), Cert.Gating.div_real (ms_pos (x i0)).ne', Cert.Gating.neg_half_eq,
    Cert.Project.width_eq]
  simp only [← EReal.coe_mul, Cert.Gating.coe_sum]
  rw [Cert.Gating.div_real (by norm_num), ← EReal.coe_mul, ← EReal.coe_mul, ← EReal.coe_add, ← EReal.coe_add]

end Cert.Kernel3Ideal.Tile
-- ==== Proof.Input.Row.lean ====
/-
  The input projection of one row over the extended reals: the modulated row, its products with the weights, and the
  normalisation of each head's 64 columns; and a head's sum by a product with the matrix that is one within a head and
  zero between two heads.
-/
module

public import proofs.«01_k».proof.Proof.Modulate.Row
public import proofs.«01_k».proof.Proof.Gating.Reals

@[expose] public section

noncomputable section

open Idealize.ShloMosaic

namespace Cert.Input

open Cert.Modulate

/-! ## One row -/

/-- The modulated row: normalised, then the gain, then the scale and the shift. -/
def modRow (x g sc sh : Fin 1024 → EReal) (j : Fin 1024) : EReal :=
  normRow x j * g j * (Ideal.ofBits .f32 0x3F800000#32 + sc j) + sh j

/-- A row's product with a row of the weights. -/
def projRow (h w : Fin 1024 → EReal) : EReal := ∑ l : Fin 1024, h l * w l

/-- Column `d` of the head that column `j` lies in. -/
abbrev lane (j : Fin 512) (d : Fin 64) : Fin 512 := ⟨64 * (j.val / 64) + d.val, by omega⟩

/-- The place of column `j` in its head. -/
abbrev place (j : Fin 512) : Fin 64 := ⟨j.val % 64, by omega⟩

/-- The mean square of column `j`'s head, kept away from zero. -/
def headSq (z : Fin 512 → EReal) (j : Fin 512) : EReal :=
  Ideal.div (∑ d : Fin 64, z (lane j d) * z (lane j d)) (Ideal.ofBits .f32 0x42800000#32) + Ideal.ofBits .f32 0x358637BD#32

/-- The row with each head normalised, and the gain. -/
def headRow (z : Fin 512 → EReal) (g : Fin 64 → EReal) (j : Fin 512) : EReal := z j * Ideal.rsqrt (headSq z j) * g (place j)

/-! ## A head's sum -/

theorem lane_eq (a b : Fin 512) (h : a.val / 64 = b.val / 64) (d : Fin 64) : lane a d = lane b d := Fin.ext (by show 64 * (a.val / 64) + d.val = 64 * (b.val / 64) + d.val; rw [h])

/-- A sum over 512 columns, head by head. -/
theorem sum_heads {M : Type*} [AddCommMonoid M] (f : Fin 512 → M) :
    ∑ l : Fin 512, f l = ∑ h : Fin 8, ∑ d : Fin 64, f ⟨64 * h.val + d.val, by omega⟩ := by
  rw [← (finProdFinEquiv (m := 8) (n := 64)).sum_comp f, Fintype.sum_prod_type]
  refine Finset.sum_congr rfl fun h _ => Finset.sum_congr rfl fun d _ => congrArg f (Fin.ext ?_)
  show d.val + 64 * h.val = 64 * h.val + d.val
  omega

/-- The product with the matrix of ones within a head is the head's sum. -/
theorem sum_ones (f : Fin 512 → EReal) (O : Fin 512 → EReal) (j : Fin 512)
    (hO : ∀ l, O l = if l.val / 64 = j.val / 64 then 1 else 0) : ∑ l : Fin 512, f l * O l = ∑ d : Fin 64, f (lane j d) := by
  rw [sum_heads, Finset.sum_eq_single (⟨j.val / 64, by omega⟩ : Fin 8)]
  · refine Finset.sum_congr rfl fun d _ => ?_
    rw [hO, if_pos (by show (64 * (j.val / 64) + d.val) / 64 = j.val / 64; omega), mul_one]
  · intro h _ hne
    refine Finset.sum_eq_zero fun d _ => ?_
    rw [hO, if_neg, mul_zero]
    intro e
    exact hne (Fin.ext (by show h.val = j.val / 64; have e : (64 * h.val + d.val) / 64 = j.val / 64 := e; omega))
  · exact fun h => absurd (Finset.mem_univ _) h

/-- The square split into a part and the rest: where the row is real the rest is nothing, and the two products together are
    the head's sum of squares. -/
theorem two_sums (z : Fin 512 → ℝ) (O : Fin 512 → EReal) (j : Fin 512) (hO : ∀ l, O l = if l.val / 64 = j.val / 64 then 1 else 0) :
    ∑ l : Fin 512, ((z l : EReal) * (z l : EReal)) * O l
        + ∑ l : Fin 512, ((z l : EReal) * (z l : EReal) - (z l : EReal) * (z l : EReal)) * O l
      = ∑ d : Fin 64, (z (lane j d) : EReal) * (z (lane j d) : EReal) := by
  have hrest : ∑ l : Fin 512, ((z l : EReal) * (z l : EReal) - (z l : EReal) * (z l : EReal)) * O l = 0 := by
    refine Finset.sum_eq_zero fun l _ => ?_
    rw [← EReal.coe_mul, ← EReal.coe_sub, sub_self, EReal.coe_zero, zero_mul]
  rw [hrest, add_zero]
  exact sum_ones (fun l => (z l : EReal) * (z l : EReal)) O j hO

theorem head_width_eq : Ideal.ofBits .f32 0x42800000#32 = ((64 : ℝ) : EReal) := by
  simp [Ideal.ofBits, Ideal.ieee, -EReal.coe_mul]; norm_num
theorem head_inv_eq : Ideal.ofBits .f32 0x3C800000#32 = ((1 / 64 : ℝ) : EReal) := by
  simp [Ideal.ofBits, Ideal.ieee, -EReal.coe_mul]; norm_num

/-- A product with one sixty-fourth is a division by 64. -/
theorem mean_eq (s : EReal) : s * Ideal.ofBits .f32 0x3C800000#32 = Ideal.div s (Ideal.ofBits .f32 0x42800000#32) := by
  rw [head_width_eq, head_inv_eq, Ideal.div_coe (by norm_num)]

end Cert.Input
-- ==== Proof.Input.Tile.lean ====
/-
  The input projection, one tile: what the body leaves in its four blocks, and each of them at a row and a column in the
  formulas of one row.
-/
module

public import proofs.«01_k».proof.Proof.Gen.Kernel5Ideal.Value
public import proofs.«01_k».proof.Proof.Input.Row

@[expose] public section

set_option maxRecDepth 16384

noncomputable section

open Idealize.ShloMosaic Idealize.ShloMosaic.TcCoe Idealize.SL.Sem
open Idealize.ShloMosaic.Pipeline (Dat)

namespace Cert.Kernel5Ideal.Tile

open Cert.Kernel5Ideal Cert.Kernel5Ideal.Gen Cert.Modulate Cert.Input

theorem hz : (![0, 0] : Fin 2 → Nat) = fun _ => 0 := funext fun a => by fin_cases a <;> rfl

theorem row_lt (k : Fin 7) (q : Fin 512) : 512 * k.val + q.val < 3584 := by omega

/-! ## Blocks of columns and blocks of the weights' rows -/

/-- The 512 rows of the weights that start at row `o`. -/
abbrev rRow (o : Nat) (hb : ∀ a, (![o, 0] : Fin 2 → Nat) a + S512x1024.size a ≤ S3584x1024.size a) : Rect S3584x1024 :=
  Rect.unit ![o, 0] ![512, 1024] hb

/-- The block of 512 columns of the projected rows that starts at column `o`. -/
abbrev rCol (o : Nat) (hb : ∀ a, (![0, o] : Fin 2 → Nat) a + S512x512.size a ≤ S512x3584.size a) : Rect S512x3584 :=
  Rect.unit ![0, o] ![512, 512] hb

theorem row_in (k : Fin 7) : ∀ a, (![512 * k.val, 0] : Fin 2 → Nat) a + S512x1024.size a ≤ S3584x1024.size a := fun a =>
  match a with
  | ⟨0, _⟩ => show 512 * k.val + 512 ≤ 3584 by omega
  | ⟨1, _⟩ => show 0 + 1024 ≤ 1024 by omega

theorem col_in (k : Fin 7) : ∀ a, (![0, 512 * k.val] : Fin 2 → Nat) a + S512x512.size a ≤ S512x3584.size a := fun a =>
  match a with
  | ⟨0, _⟩ => show 0 + 512 ≤ 512 by omega
  | ⟨1, _⟩ => show 512 * k.val + 512 ≤ 3584 by omega

/-- Block `k` of the columns, and of the weights' rows. -/
abbrev rBlk (k : Fin 7) : Rect S512x3584 := rCol (512 * k.val) (col_in k)
abbrev wBlk (w : Vec Ideal S3584x1024 .bf16) (k : Fin 7) : Vec Ideal S512x1024 .bf16 := View.ld w (rRow (512 * k.val) (row_in k))

theorem wBlk_apply (w : Vec Ideal S3584x1024 .bf16) (k : Fin 7) (q : Fin 512) (j : Fin 1024) :
    wBlk w k (ix2 q j) = w (ix2 ⟨512 * k.val + q.val, row_lt k q⟩ j) := by
  refine congrArg w ?_
  funext a
  apply Fin.ext
  match a with
  | ⟨0, _⟩ => show 512 * k.val + 1 * q.val = 512 * k.val + q.val; omega
  | ⟨1, _⟩ => show 0 + 1 * j.val = j.val; omega

section Columns

variable {o o' : Nat} (hb : ∀ a, (![0, o] : Fin 2 → Nat) a + S512x512.size a ≤ S512x3584.size a)
  (hb' : ∀ a, (![0, o'] : Fin 2 → Nat) a + S512x512.size a ≤ S512x3584.size a)

theorem col_not_mem (h : o + 512 ≤ o' ∨ o' + 512 ≤ o) (y : S512x512.Idx) : (rCol o hb).idx y ∉ (rCol o' hb').set := by
  rw [Rect.mem_set_unit]
  intro hm
  have h1 : o' ≤ o + 1 * (y 1).val := (hm 1).1
  have h2 : o + 1 * (y 1).val < o' + 512 := (hm 1).2
  have h3 : (y 1).val < 512 := (y 1).isLt
  omega

/-- A store of one block of columns leaves the other blocks as they were. -/
theorem ld_canon_skip (P : Vec Ideal S512x512 .bf16) (L : List (View.Piece (Elt Ideal) S512x3584 .bf16)) (h : o + 512 ≤ o' ∨ o' + 512 ≤ o) :
    View.ld (View.canon (⟨rCol o' hb', P⟩ :: L)) (rCol o hb) = View.ld (View.canon L) (rCol o hb) :=
  funext fun y => View.canon_cons_of_not_mem (⟨rCol o' hb', P⟩ : View.Piece (Elt Ideal) S512x3584 .bf16) L (col_not_mem hb hb' h y)

/-- A store of one block of columns, read back. -/
theorem ld_canon_hit (P : Vec Ideal S512x512 .bf16) (L : List (View.Piece (Elt Ideal) S512x3584 .bf16)) :
    View.ld (View.canon (⟨rCol o hb, P⟩ :: L)) (rCol o hb) = P :=
  funext fun y => View.canon_cons_emb (rCol o hb) P L y

end Columns

/-! ## The four blocks -/

variable (x : Vec Ideal S512x1024 .f32) (g sc sh : Vec Ideal S1x1024 .f32) (w : Vec Ideal S3584x1024 .bf16) (O : Vec Ideal S512x512 .bf16)
  (gq gk : Vec Ideal S1x512 .f32)

/-- The modulated rows. -/
abbrev rows : FVec Ideal S512x1024 .bf16 := k0_pay5 x g sc sh

theorem rows_eq : k0_pay13 x g sc sh w O gq gk = rows x g sc sh := by
  unfold k0_pay13
  rw [View.ld_unit_zero (S := S512x1024) hz, View.ld_unit_zero (S := S1x1024) hz, View.ld_unit_zero (S := S1x1024) hz,
    View.ld_unit_zero (S := S1x1024) hz]

theorem keys_eq : k0_pay14 x g sc sh w O gq gk = k0_pay9 (rows x g sc sh) (wBlk w 4) := by
  unfold k0_pay14
  rw [rows_eq]
  rfl

theorem out_h : out0_8 x g sc sh w O gq gk = rows x g sc sh := by
  unfold out0_8
  rw [View.canon_unit_zero hz, View.ld_unit_zero (S := S512x1024) hz, View.ld_unit_zero (S := S1x1024) hz, View.ld_unit_zero (S := S1x1024) hz,
    View.ld_unit_zero (S := S1x1024) hz]

theorem out_q : out0_10 x g sc sh w O gq gk = k0_pay11 (rows x g sc sh) (wBlk w 3) gq O := by
  unfold out0_10
  rw [View.canon_unit_zero hz, rows_eq, View.ld_unit_zero (S := S1x512) hz, View.ld_unit_zero (S := S512x512) hz]
  rfl

theorem out_k : out0_11 x g sc sh w O gq gk = k0_pay2 (k0_pay9 (rows x g sc sh) (wBlk w 4)) gk O := by
  unfold out0_11
  rw [View.canon_unit_zero hz, keys_eq, View.ld_unit_zero (S := S1x512) hz, View.ld_unit_zero (S := S512x512) hz]

/-- Block `k` of the projected rows. -/
theorem out_z (k : Fin 7) : View.ld (out0_9 x g sc sh w O gq gk) (rBlk k) = k0_pay8 (rows x g sc sh) (wBlk w k) := by
  unfold out0_9
  rw [rows_eq, keys_eq, View.ld_unit_zero (S := S512x1024) hz, View.ld_unit_zero (S := S1x1024) hz, View.ld_unit_zero (S := S1x1024) hz,
    View.ld_unit_zero (S := S1x1024) hz]
  match k with
  | 6 => exact ld_canon_hit _ _ _
  | 5 => exact (ld_canon_skip _ _ _ _ (by decide)).trans (ld_canon_hit _ _ _)
  | 4 => exact ((ld_canon_skip _ _ _ _ (by decide)).trans (ld_canon_skip _ _ _ _ (by decide))).trans (ld_canon_hit _ _ _)
  | 3 => exact ((ld_canon_skip _ _ _ _ (by decide)).trans ((ld_canon_skip _ _ _ _ (by decide)).trans
      (ld_canon_skip _ _ _ _ (by decide)))).trans (ld_canon_hit _ _ _)
  | 2 => exact ((ld_canon_skip _ _ _ _ (by decide)).trans ((ld_canon_skip _ _ _ _ (by decide)).trans
      ((ld_canon_skip _ _ _ _ (by decide)).trans (ld_canon_skip _ _ _ _ (by decide))))).trans (ld_canon_hit _ _ _)
  | 1 => exact ((ld_canon_skip _ _ _ _ (by decide)).trans ((ld_canon_skip _ _ _ _ (by decide)).trans
      ((ld_canon_skip _ _ _ _ (by decide)).trans ((ld_canon_skip _ _ _ _ (by decide)).trans
      (ld_canon_skip _ _ _ _ (by decide)))))).trans (ld_canon_hit _ _ _)
  | 0 => exact ((ld_canon_skip _ _ _ _ (by decide)).trans ((ld_canon_skip _ _ _ _ (by decide)).trans
      ((ld_canon_skip _ _ _ _ (by decide)).trans ((ld_canon_skip _ _ _ _ (by decide)).trans
      ((ld_canon_skip _ _ _ _ (by decide)).trans (ld_canon_skip _ _ _ _ (by decide))))))).trans (ld_canon_hit _ _ _)

/-! ## The blocks at a row and a column -/

theorem rows_apply (r : Fin 512) (j : Fin 1024) : rows x g sc sh (ix2 r j)
    = modRow (fun j => x (ix2 r j)) (fun j => g (ix2 0 j)) (fun j => sc (ix2 0 j)) (fun j => sh (ix2 0 j)) j := by
  pointwise [rows, k0_pay5, modRow, normRow, meanSq]

theorem proj_apply (h : Vec Ideal S512x1024 .bf16) (v : Vec Ideal S512x1024 .bf16) (r q : Fin 512) :
    k0_pay9 h v (ix2 r q) = projRow (fun l => h (ix2 r l)) (fun l => v (ix2 q l)) := by
  pointwise [k0_pay9, projRow]

theorem narrow_apply (h : Vec Ideal S512x1024 .bf16) (v : Vec Ideal S512x1024 .bf16) (r q : Fin 512) :
    k0_pay8 h v (ix2 r q) = projRow (fun l => h (ix2 r l)) (fun l => v (ix2 q l)) := by
  pointwise [k0_pay8, projRow]

theorem head_apply (Z : Vec Ideal S512x512 .f32) (r j : Fin 512) : k0_pay2 Z gk O (ix2 r j)
    = Z (ix2 r j) * Ideal.rsqrt ((∑ l : Fin 512, Z (ix2 r l) * Z (ix2 r l) * O (ix2 l j)
        + ∑ l : Fin 512, (Z (ix2 r l) * Z (ix2 r l) - Z (ix2 r l) * Z (ix2 r l)) * O (ix2 l j)) * Ideal.ofBits .f32 0x3C800000#32
        + Ideal.ofBits .f32 0x358637BD#32) * gk (ix2 0 j) := by
  pointwise [k0_pay2]

theorem scaled_apply (h : Vec Ideal S512x1024 .bf16) (v : Vec Ideal S512x1024 .bf16) (r j : Fin 512) :
    k0_pay11 h v gq O (ix2 r j) = k0_pay2 (k0_pay9 h v) gq O (ix2 r j) * Ideal.ofBits .f32 0x3E000000#32 := by
  rw [head_apply]
  unfold k0_pay11
  generalize k0_pay9 h v = Z
  pointwise

/-- Where a row is real, its heads are normalised by their own mean squares. -/
theorem head_real (Z : Vec Ideal S512x512 .f32) (r j : Fin 512) (gg : Fin 64 → EReal) (z : Fin 512 → ℝ) (hZ : ∀ l, Z (ix2 r l) = (z l : EReal))
    (hO : ∀ l, O (ix2 l j) = if l.val / 64 = j.val / 64 then (1 : EReal) else 0) (hg : gk (ix2 0 j) = gg (place j)) :
    k0_pay2 Z gk O (ix2 r j) = headRow (fun l => Z (ix2 r l)) gg j := by
  rw [head_apply]
  unfold headRow headSq
  simp only [hZ, hg]
  rw [two_sums z (fun l => O (ix2 l j)) j hO, mean_eq]

end Cert.Kernel5Ideal.Tile
-- ==== Proof.Input.Blocks.lean ====
/-
  The input projection's input blocks at an index: what tile `t` reads of the seven arguments, directly or through the
  layouts the host prepares.
-/
module

public import proofs.«01_k».proof.Proof.Input.Tile
public import proofs.«01_k».proof.Proof.Project.Arrays

@[expose] public section

set_option maxRecDepth 16384

noncomputable section

open Idealize.ShloMosaic Idealize.ShloMosaic.TcCoe Idealize.SL.Sem
open Idealize.ShloMosaic.Pipeline (Dat)

namespace Cert.Kernel5Ideal.Tile

open Cert.Kernel5Ideal Cert.Kernel5Ideal.Gen Cert.Kernel5Ideal.Value Cert.Project Cert.Modulate Cert.Input

variable (m : (ℓ : Loc nD τ sig) → Buf (Elt Ideal) ℓ) (c : Dev nD)

/-- The seven arguments. -/
abbrev argX : Vec Ideal S4096x1024 .f32 := m ((c.tc : Thread nD τ).loc main_arg0)
abbrev argG : Vec Ideal S1x1024 .f32 := m ((c.tc : Thread nD τ).loc main_arg1)
abbrev argSC : Vec Ideal S1x1024 .f32 := m ((c.tc : Thread nD τ).loc main_arg2)
abbrev argSH : Vec Ideal S1x1024 .f32 := m ((c.tc : Thread nD τ).loc main_arg3)
abbrev argW : Vec Ideal S3584x1024 .bf16 := m ((c.tc : Thread nD τ).loc main_arg4)
abbrev argQ : Vec Ideal S1x64 .f32 := m ((c.tc : Thread nD τ).loc main_arg5)
abbrev argK : Vec Ideal S1x64 .f32 := m ((c.tc : Thread nD τ).loc main_arg6)

/-! ## The layouts the host prepares -/

/-- The matrix that is one within a head and zero between two heads. -/
theorem host_ones (i j : Fin 512) : (V m c main_v6 : Vec Ideal S512x512 .bf16) (ix2 i j) = if i.val / 64 = j.val / 64 then (1 : EReal) else 0 := by
  have h : (V m c main_v6 : Vec Ideal S512x512 .bf16) = truncf .bf16 (uitofp .f32 (shapeCast S512x512 (broadcastInDim S8x64x8x64 ![0, 1, 2, 3]
      bcast_S8x1x8x1_S8x64x8x64_0_1_2_3 (cmpi .eq (iotaInDim S8x1x8x1 32 0) (iotaInDim S8x1x8x1 32 2))) shapeCasts_S8x64x8x64_S512x512) : FVec Ideal S512x512 .f32)
      bitsLt_bf16_f32 := by
    show StableHlo.after hostOps0 _ _ = _
    after_results
    rfl
  rw [h]
  pointwise
  by_cases e : i.val / 64 = j.val / 64
  · rw [if_pos e, e, show IntOp.cmpi .eq (BitVec.ofNat 32 (j.val / 64)) (BitVec.ofNat 32 (j.val / 64)) = 1#1 by simp [IntOp.cmpi]]
    show (((1#1 : BitVec 1).toNat : ℝ) : EReal) = 1
    simp
  · have hne : BitVec.ofNat 32 (i.val / 64) ≠ BitVec.ofNat 32 (j.val / 64) := fun h => e (by
      have := congrArg BitVec.toNat h
      simp only [BitVec.toNat_ofNat] at this
      omega)
    rw [if_neg e, show IntOp.cmpi .eq (BitVec.ofNat 32 (i.val / 64)) (BitVec.ofNat 32 (j.val / 64)) = 0#1 by
      rw [show IntOp.cmpi .eq (BitVec.ofNat 32 (i.val / 64)) (BitVec.ofNat 32 (j.val / 64))
        = BitVec.ofBool (BitVec.ofNat 32 (i.val / 64) == BitVec.ofNat 32 (j.val / 64)) from rfl, beq_eq_false_iff_ne.mpr hne]
      rfl]
    show (((0#1 : BitVec 1).toNat : ℝ) : EReal) = 0
    simp

/-- The gains of the queries' and of the keys' heads, once per head. -/
theorem host_gq (j : Fin 512) : (V m c main_v9 : Vec Ideal S1x512 .f32) (ix2 0 j) = argQ m c (ix2 0 (place j)) := by
  have h : (V m c main_v9 : Vec Ideal S1x512 .f32) = shapeCast S1x512 (broadcastInDim S1x1x8x64 ![0, 1, 2, 3] bcast_S1x1x1x64_S1x1x8x64_0_1_2_3
      (shapeCast S1x1x1x64 (argQ m c) shapeCasts_S1x64_S1x1x1x64)) shapeCasts_S1x1x8x64_S1x512 := by
    show StableHlo.after hostOps0 _ _ = _
    after_results
    rfl
  rw [h]
  pointwise

theorem host_gk (j : Fin 512) : (V m c main_v12 : Vec Ideal S1x512 .f32) (ix2 0 j) = argK m c (ix2 0 (place j)) := by
  have h : (V m c main_v12 : Vec Ideal S1x512 .f32) = shapeCast S1x512 (broadcastInDim S1x1x8x64 ![0, 1, 2, 3] bcast_S1x1x1x64_S1x1x8x64_0_1_2_3
      (shapeCast S1x1x1x64 (argK m c) shapeCasts_S1x64_S1x1x1x64)) shapeCasts_S1x1x8x64_S1x512 := by
    show StableHlo.after hostOps0 _ _ = _
    after_results
    rfl
  rw [h]
  pointwise

/-! ## A tile's blocks -/

theorem lt8 (t : Fin cfg0.N) : t.val < 8 := lt_of_lt_of_eq t.isLt N_0

theorem index_rows : ∀ t : Fin cfg0.N, (win0_0.index t 0 = t.val ∧ win0_0.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0) := by decide +kernel

theorem index_whole : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by decide +kernel

/-- An index of an array of rows by its two coordinates, in tile `t`. -/
theorem ix_row {n : Nat} (t : Fin cfg0.N) (r : Fin 512) (j : Fin n) (a b : Nat) (ha : a = t.val) (hb : b = 0)
    (x : (⟨2, ![4096, n]⟩ : Shape).Idx) (h0 : (x 0).val = a * 512 + 1 * r.val) (h1 : (x 1).val = b * n + 1 * j.val) : x = ix2 (rowOf t r) j := by
  rw [rowOf_lt (lt8 t)]
  subst ha hb
  funext i
  apply Fin.ext
  match i with
  | ⟨0, _⟩ => exact h0.trans (show t.val * 512 + 1 * r.val = 512 * t.val + r.val by omega)
  | ⟨1, _⟩ => exact h1.trans (show 0 * n + 1 * j.val = j.val by omega)

/-- An index of an array kept whole in every tile. -/
theorem ix_whole {n k : Nat} (r : Fin n) (j : Fin k) (a b : Nat) (ha : a = 0) (hb : b = 0)
    (x : (⟨2, ![n, k]⟩ : Shape).Idx) (h0 : (x 0).val = a * n + 1 * r.val) (h1 : (x 1).val = b * k + 1 * j.val) : x = ix2 r j := by
  subst ha hb
  funext i
  apply Fin.ext
  match i with
  | ⟨0, _⟩ => exact h0.trans (show 0 * n + 1 * r.val = r.val by omega)
  | ⟨1, _⟩ => exact h1.trans (show 0 * k + 1 * j.val = j.val by omega)

variable (t : Fin cfg0.N)

theorem blkX (r : Fin 512) (j : Fin 1024) : (iblk m c 0 t : Vec Ideal S512x1024 .f32) (ix2 r j) = argX m c (ix2 (rowOf t r) j) := by
  obtain ⟨h, -⟩ := index_rows t
  refine (congrFun (V_main_arg0 m c) _).trans ?_
  exact congrArg (argX m c) (ix_row t r j _ _ h.1 h.2 _ rfl rfl)

theorem blkG (j : Fin 1024) : (iblk m c 1 t : Vec Ideal S1x1024 .f32) (ix2 0 j) = argG m c (ix2 0 j) := by
  obtain ⟨h, -⟩ := index_whole t
  refine (congrFun (V_main_arg1 m c) _).trans ?_
  exact congrArg (argG m c) (ix_whole 0 j _ _ h.1 h.2 _ rfl rfl)

theorem blkSC (j : Fin 1024) : (iblk m c 2 t : Vec Ideal S1x1024 .f32) (ix2 0 j) = argSC m c (ix2 0 j) := by
  obtain ⟨-, h, -⟩ := index_whole t
  refine (congrFun (V_main_arg2 m c) _).trans ?_
  exact congrArg (argSC m c) (ix_whole 0 j _ _ h.1 h.2 _ rfl rfl)

theorem blkSH (j : Fin 1024) : (iblk m c 3 t : Vec Ideal S1x1024 .f32) (ix2 0 j) = argSH m c (ix2 0 j) := by
  obtain ⟨-, -, h, -⟩ := index_whole t
  refine (congrFun (V_main_arg3 m c) _).trans ?_
  exact congrArg (argSH m c) (ix_whole 0 j _ _ h.1 h.2 _ rfl rfl)

theorem blkW (r : Fin 3584) (j : Fin 1024) : (iblk m c 4 t : Vec Ideal S3584x1024 .bf16) (ix2 r j) = argW m c (ix2 r j) := by
  obtain ⟨-, -, -, h, -⟩ := index_whole t
  refine (congrFun (V_main_arg4 m c) _).trans ?_
  exact congrArg (argW m c) (ix_whole r j _ _ h.1 h.2 _ rfl rfl)

theorem blkOnes (i j : Fin 512) : (iblk m c 5 t : Vec Ideal S512x512 .bf16) (ix2 i j) = if i.val / 64 = j.val / 64 then (1 : EReal) else 0 := by
  obtain ⟨-, -, -, -, h, -⟩ := index_whole t
  rw [← host_ones m c i j]
  exact congrArg (V m c main_v6 : Vec Ideal S512x512 .bf16) (ix_whole i j _ _ h.1 h.2 _ rfl rfl)

theorem blkQ (j : Fin 512) : (iblk m c 6 t : Vec Ideal S1x512 .f32) (ix2 0 j) = argQ m c (ix2 0 (place j)) := by
  obtain ⟨-, -, -, -, -, h, -⟩ := index_whole t
  rw [← host_gq m c j]
  exact congrArg (V m c main_v9 : Vec Ideal S1x512 .f32) (ix_whole 0 j _ _ h.1 h.2 _ rfl rfl)

theorem blkK (j : Fin 512) : (iblk m c 7 t : Vec Ideal S1x512 .f32) (ix2 0 j) = argK m c (ix2 0 (place j)) := by
  obtain ⟨-, -, -, -, -, -, h⟩ := index_whole t
  rw [← host_gk m c j]
  exact congrArg (V m c main_v12 : Vec Ideal S1x512 .f32) (ix_whole 0 j _ _ h.1 h.2 _ rfl rfl)

end Cert.Kernel5Ideal.Tile
-- ==== Proof.Input.Arrays.lean ====
/-
  The input projection over the whole arrays: the four result arrays after the run, at a row and a column.
-/
module

public import proofs.«01_k».proof.Proof.Input.Blocks

@[expose] public section

set_option maxRecDepth 16384

noncomputable section

open Idealize.ShloMosaic Idealize.ShloMosaic.TcCoe Idealize.SL.Sem
open Idealize.ShloMosaic.Pipeline (Dat)

namespace Cert.Kernel5Ideal.Tile

open Cert.Kernel5Ideal Cert.Kernel5Ideal.Gen Cert.Kernel5Ideal.Value Cert.Project Cert.Modulate Cert.Input

variable (m : (ℓ : Loc nD τ sig) → Buf (Elt Ideal) ℓ) (c : Dev nD)

/-- The modulated rows and the projected rows. -/
def hM (R : Fin 4096) : Fin 1024 → EReal :=
  modRow (fun j => argX m c (ix2 R j)) (fun j => argG m c (ix2 0 j)) (fun j => argSC m c (ix2 0 j)) (fun j => argSH m c (ix2 0 j))
def zM (R : Fin 4096) (J : Fin 3584) : EReal := projRow (hM m c R) fun l => argW m c (ix2 J l)

/-! ## One tile -/

section Tile

variable (t : Fin cfg0.N)

/-- Tile `t`'s modulated rows. -/
abbrev rowsT : FVec Ideal S512x1024 .bf16 := rows (iblk m c 0 t) (iblk m c 1 t) (iblk m c 2 t) (iblk m c 3 t)

theorem rowsT_apply (r : Fin 512) (j : Fin 1024) : rowsT m c t (ix2 r j) = hM m c (rowOf t r) j := by
  refine (rows_apply _ _ _ _ r j).trans ?_
  unfold hM
  simp only [blkX, blkG, blkSC, blkSH]

/-- A block of tile `t`'s projected rows. -/
theorem projT_apply (k : Fin 7) (r q : Fin 512) :
    k0_pay9 (rowsT m c t) (wBlk (iblk m c 4 t) k) (ix2 r q) = zM m c (rowOf t r) ⟨512 * k.val + q.val, row_lt k q⟩ := by
  rw [proj_apply]
  unfold zM
  simp only [rowsT_apply]
  exact congrArg (projRow (hM m c (rowOf t r))) (funext fun l => (wBlk_apply _ k q l).trans (blkW m c t _ l))

theorem narrowT_apply (k : Fin 7) (r q : Fin 512) :
    k0_pay8 (rowsT m c t) (wBlk (iblk m c 4 t) k) (ix2 r q) = zM m c (rowOf t r) ⟨512 * k.val + q.val, row_lt k q⟩ := by
  rw [narrow_apply]
  unfold zM
  simp only [rowsT_apply]
  exact congrArg (projRow (hM m c (rowOf t r))) (funext fun l => (wBlk_apply _ k q l).trans (blkW m c t _ l))

theorem tile_h (r : Fin 512) (j : Fin 1024) : out0_8 (iblk m c 0 t) (iblk m c 1 t) (iblk m c 2 t) (iblk m c 3 t) (iblk m c 4 t) (iblk m c 5 t)
    (iblk m c 6 t) (iblk m c 7 t) (ix2 r j) = hM m c (rowOf t r) j := by
  rw [out_h]
  exact rowsT_apply m c t r j

theorem tile_z (k : Fin 7) (r q : Fin 512) : out0_9 (iblk m c 0 t) (iblk m c 1 t) (iblk m c 2 t) (iblk m c 3 t) (iblk m c 4 t) (iblk m c 5 t)
    (iblk m c 6 t) (iblk m c 7 t) (ix2 r ⟨512 * k.val + q.val, row_lt k q⟩) = zM m c (rowOf t r) ⟨512 * k.val + q.val, row_lt k q⟩ := by
  refine Eq.trans ?_ ((congrFun (out_z (iblk m c 0 t) (iblk m c 1 t) (iblk m c 2 t) (iblk m c 3 t) (iblk m c 4 t) (iblk m c 5 t) (iblk m c 6 t) (iblk m c 7 t) k) (ix2 r q)).trans (narrowT_apply m c t k r q))
  refine congrArg (out0_9 (iblk m c 0 t) (iblk m c 1 t) (iblk m c 2 t) (iblk m c 3 t) (iblk m c 4 t) (iblk m c 5 t) (iblk m c 6 t) (iblk m c 7 t)) ?_
  funext a
  apply Fin.ext
  match a with
  | ⟨0, _⟩ => show r.val = 0 + 1 * r.val; omega
  | ⟨1, _⟩ => show 512 * k.val + q.val = 512 * k.val + 1 * q.val; omega

/-- The queries' columns and the keys' columns of projected rows. -/
abbrev qCols (R : Fin 4096) (l : Fin 512) : EReal := zM m c R ⟨1536 + l.val, by omega⟩
abbrev kCols (R : Fin 4096) (l : Fin 512) : EReal := zM m c R ⟨2048 + l.val, by omega⟩

variable (z : Fin 4096 → Fin 3584 → ℝ) (hz : ∀ R J, zM m c R J = (z R J : EReal))

include hz

theorem tile_q (r j : Fin 512) : out0_10 (iblk m c 0 t) (iblk m c 1 t) (iblk m c 2 t) (iblk m c 3 t) (iblk m c 4 t) (iblk m c 5 t)
    (iblk m c 6 t) (iblk m c 7 t) (ix2 r j)
      = headRow (qCols m c (rowOf t r)) (fun d => argQ m c (ix2 0 d)) j * Ideal.ofBits .f32 0x3E000000#32 := by
  rw [out_q, scaled_apply, head_real _ _ _ r j (fun d => argQ m c (ix2 0 d)) (fun l => z (rowOf t r) ⟨1536 + l.val, by omega⟩)
    (fun l => (projT_apply m c t 3 r l).trans (hz _ _)) (fun l => blkOnes m c t l j) (blkQ m c t j)]
  simp only [projT_apply]
  rfl

theorem tile_k (r j : Fin 512) : out0_11 (iblk m c 0 t) (iblk m c 1 t) (iblk m c 2 t) (iblk m c 3 t) (iblk m c 4 t) (iblk m c 5 t)
    (iblk m c 6 t) (iblk m c 7 t) (ix2 r j)
      = headRow (kCols m c (rowOf t r)) (fun d => argK m c (ix2 0 d)) j := by
  rw [out_k, head_real _ _ _ r j (fun d => argK m c (ix2 0 d)) (fun l => z (rowOf t r) ⟨2048 + l.val, by omega⟩)
    (fun l => (projT_apply m c t 4 r l).trans (hz _ _)) (fun l => blkOnes m c t l j) (blkK m c t j)]
  simp only [projT_apply]
  rfl

end Tile

/-! ## The result arrays -/

/-- The tile of row `R`. -/
abbrev tileOf (R : Fin 4096) : Fin cfg0.N := ⟨R.val / 512, lt_of_lt_of_eq (by omega) N_0.symm⟩

theorem at8 (R : Fin 4096) (j : Fin 1024) :
    ((cfg0.win 8).blk (tileOf R)).view.read (Elt Ideal) ((dats m 0 c).arrAt 8 cfg0.N) (ix2 (⟨R.val % 512, by omega⟩ : Fin 512) j)
      = (dats m 0 c).arrAt 8 cfg0.N (ix2 R j : S4096x1024.Idx) := by
  obtain ⟨-, h, -⟩ := index_rows (tileOf R)
  rw [View.read_apply]
  refine congrArg ((dats m 0 c).arrAt 8 cfg0.N) ?_
  refine (ix_row (tileOf R) ⟨R.val % 512, by omega⟩ j _ _ h.1 h.2 _ rfl rfl).trans ?_
  exact congrArg (fun R => (ix2 R j : S4096x1024.Idx)) (Cert.Kernel2Ideal.Tile.rowOf_div R)

theorem at9 (R : Fin 4096) (J : Fin 3584) :
    ((cfg0.win 9).blk (tileOf R)).view.read (Elt Ideal) ((dats m 0 c).arrAt 9 cfg0.N) (ix2 (⟨R.val % 512, by omega⟩ : Fin 512) J)
      = (dats m 0 c).arrAt 9 cfg0.N (ix2 R J : S4096x3584.Idx) := by
  obtain ⟨-, -, h, -⟩ := index_rows (tileOf R)
  rw [View.read_apply]
  refine congrArg ((dats m 0 c).arrAt 9 cfg0.N) ?_
  refine (ix_row (tileOf R) ⟨R.val % 512, by omega⟩ J _ _ h.1 h.2 _ rfl rfl).trans ?_
  exact congrArg (fun R => (ix2 R J : S4096x3584.Idx)) (Cert.Kernel2Ideal.Tile.rowOf_div R)

theorem at10 (R : Fin 4096) (j : Fin 512) :
    ((cfg0.win 10).blk (tileOf R)).view.read (Elt Ideal) ((dats m 0 c).arrAt 10 cfg0.N) (ix2 (⟨R.val % 512, by omega⟩ : Fin 512) j)
      = (dats m 0 c).arrAt 10 cfg0.N (ix2 R j : S4096x512.Idx) := by
  obtain ⟨-, -, -, h, -⟩ := index_rows (tileOf R)
  rw [View.read_apply]
  refine congrArg ((dats m 0 c).arrAt 10 cfg0.N) ?_
  refine (ix_row (tileOf R) ⟨R.val % 512, by omega⟩ j _ _ h.1 h.2 _ rfl rfl).trans ?_
  exact congrArg (fun R => (ix2 R j : S4096x512.Idx)) (Cert.Kernel2Ideal.Tile.rowOf_div R)

theorem at11 (R : Fin 4096) (j : Fin 512) :
    ((cfg0.win 11).blk (tileOf R)).view.read (Elt Ideal) ((dats m 0 c).arrAt 11 cfg0.N) (ix2 (⟨R.val % 512, by omega⟩ : Fin 512) j)
      = (dats m 0 c).arrAt 11 cfg0.N (ix2 R j : S4096x512.Idx) := by
  obtain ⟨-, -, -, -, h⟩ := index_rows (tileOf R)
  rw [View.read_apply]
  refine congrArg ((dats m 0 c).arrAt 11 cfg0.N) ?_
  refine (ix_row (tileOf R) ⟨R.val % 512, by omega⟩ j _ _ h.1 h.2 _ rfl rfl).trans ?_
  exact congrArg (fun R => (ix2 R j : S4096x512.Idx)) (Cert.Kernel2Ideal.Tile.rowOf_div R)

theorem arr_h (R : Fin 4096) (j : Fin 1024) : (dats m 0 c).arrAt 8 cfg0.N (ix2 R j : S4096x1024.Idx) = hM m c R j := by
  refine (at8 m c R j).symm.trans ((congrFun ((blocks8 m c (tileOf R) (flush0_8 _)).trans (flushed8 m c (tileOf R))) _).trans ?_)
  refine (tile_h m c (tileOf R) ⟨R.val % 512, by omega⟩ j).trans ?_
  exact congrArg (fun R => hM m c R j) (Cert.Kernel2Ideal.Tile.rowOf_div R)

theorem arr_z (R : Fin 4096) (k : Fin 7) (q : Fin 512) :
    (dats m 0 c).arrAt 9 cfg0.N (ix2 R ⟨512 * k.val + q.val, row_lt k q⟩ : S4096x3584.Idx) = zM m c R ⟨512 * k.val + q.val, row_lt k q⟩ := by
  refine (at9 m c R _).symm.trans ((congrFun ((blocks9 m c (tileOf R) (flush0_9 _)).trans (flushed9 m c (tileOf R))) _).trans ?_)
  refine (tile_z m c (tileOf R) k ⟨R.val % 512, by omega⟩ q).trans ?_
  exact congrArg (fun R => zM m c R ⟨512 * k.val + q.val, row_lt k q⟩) (Cert.Kernel2Ideal.Tile.rowOf_div R)

variable (z : Fin 4096 → Fin 3584 → ℝ) (hz : ∀ R J, zM m c R J = (z R J : EReal))

include hz

theorem arr_q (R : Fin 4096) (j : Fin 512) : (dats m 0 c).arrAt 10 cfg0.N (ix2 R j : S4096x512.Idx)
    = headRow (qCols m c R) (fun d => argQ m c (ix2 0 d)) j * Ideal.ofBits .f32 0x3E000000#32 := by
  refine (at10 m c R j).symm.trans ((congrFun ((blocks10 m c (tileOf R) (flush0_10 _)).trans (flushed10 m c (tileOf R))) _).trans ?_)
  refine (tile_q m c (tileOf R) z hz ⟨R.val % 512, by omega⟩ j).trans ?_
  exact congrArg (fun R => headRow (qCols m c R) (fun d => argQ m c (ix2 0 d)) j * Ideal.ofBits .f32 0x3E000000#32) (Cert.Kernel2Ideal.Tile.rowOf_div R)

theorem arr_k (R : Fin 4096) (j : Fin 512) : (dats m 0 c).arrAt 11 cfg0.N (ix2 R j : S4096x512.Idx)
    = headRow (kCols m c R) (fun d => argK m c (ix2 0 d)) j := by
  refine (at11 m c R j).symm.trans ((congrFun ((blocks11 m c (tileOf R) (flush0_11 _)).trans (flushed11 m c (tileOf R))) _).trans ?_)
  refine (tile_k m c (tileOf R) z hz ⟨R.val % 512, by omega⟩ j).trans ?_
  exact congrArg (fun R => headRow (kCols m c R) (fun d => argK m c (ix2 0 d)) j) (Cert.Kernel2Ideal.Tile.rowOf_div R)

end Cert.Kernel5Ideal.Tile
-- ==== Proof.Input.Reference.lean ====
/-
  The reference's input projection over the extended reals: its four results as short terms, read at an index.
-/
module

public import proofs.«01_k».proof.Proof.Gen.Reference5Ideal.Run
public import proofs.«01_k».proof.Proof.Input.Row
public import Idealize.ShloMosaic.Lib.Pointwise

@[expose] public section

set_option maxRecDepth 16384

noncomputable section

open Idealize.ShloMosaic Idealize.ShloMosaic.TcCoe Idealize.SL.Sem

namespace Cert.Reference5Ideal.Input

open Cert.Reference5Ideal Cert.Reference5Ideal.Gen Cert.Reference5Ideal.Value Cert.Modulate Cert.Input

variable (X : FVec Ideal S4096x1024 .f32) (G SC SH : FVec Ideal S1x1024 .f32) (W : FVec Ideal S3584x1024 .bf16) (Q K : FVec Ideal S1x64 .f32)

/-! ## The terms -/

/-- The rows' reciprocal roots of their mean squares. -/
def rs : FVec Ideal S4096x1 .f32 := Host.rsqrt (addf (Host.divf (broadcastInDim S4096x1 ![0] bcast_S4096_S4096x1_0
    (Host.reduceAdd (mulf X X) (constant S_ .f32 0x00000000#32) reducesTo_S4096x1024_S4096_d1 h_S_))
  (broadcastInDim S4096x1 ![] bcast_S_S4096x1 (constant S_ .f32 0x44800000#32))) (broadcastInDim S4096x1 ![] bcast_S_S4096x1 (constant S_ .f32 0x358637BD#32)))

/-- The modulated rows. -/
def rows : FVec Ideal S4096x1024 .f32 := addf (mulf (mulf (mulf X (broadcastInDim S4096x1024 ![0, 1] bcast_S4096x1_S4096x1024_0_1 (rs X)))
    (broadcastInDim S4096x1024 ![0, 1] bcast_S1x1024_S4096x1024_0_1
      (broadcastInDim S1x1024 ![1] bcast_S1024_S1x1024_1 (shapeCast _ G shapeCasts_S1x1024_S1024 : FVec Ideal S1024 .f32))))
    (broadcastInDim S4096x1024 ![0, 1] bcast_S1x1024_S4096x1024_0_1
      (addf (broadcastInDim S1x1024 ![] bcast_S_S1x1024 (constant S_ .f32 0x3F800000#32)) SC)))
  (broadcastInDim S4096x1024 ![0, 1] bcast_S1x1024_S4096x1024_0_1 SH)

/-- The projected rows. -/
def proj : FVec Ideal S4096x3584 .f32 := Host.dotGeneral (F := Ideal) dot_S4096x1024_S1024x3584_S4096x3584_1_0_0_1_n_n none (rows X G SC SH)
  (extf .f32 (transpose S1024x3584 [1, 0] W transposes_S3584x1024_S1024x3584_1_0) bitsLt_bf16_f32)

/-- The queries' and the keys' columns of projected rows `Z`, head by head. -/
def heads3 (Z : FVec Ideal S4096x3584 .f32) : FVec Ideal S4096x8x64 .f32 :=
  shapeCast _ (extractStridedSlice S4096x512 ![0, 1536] Z slices_S4096x3584_S4096x512_0_1536) shapeCasts_S4096x512_S4096x8x64
def heads4 (Z : FVec Ideal S4096x3584 .f32) : FVec Ideal S4096x8x64 .f32 :=
  shapeCast _ (extractStridedSlice S4096x512 ![0, 2048] Z slices_S4096x3584_S4096x512_0_2048) shapeCasts_S4096x512_S4096x8x64

/-- Heads' reciprocal roots of their mean squares. -/
def hs (Y : FVec Ideal S4096x8x64 .f32) : FVec Ideal S4096x8x1 .f32 := Host.rsqrt (addf (Host.divf (broadcastInDim S4096x8x1 ![0, 1] bcast_S4096x8_S4096x8x1_0_1
    (Host.reduceAdd (mulf Y Y) (constant S_ .f32 0x00000000#32) reducesTo_S4096x8x64_S4096x8_d2 h_S_))
  (broadcastInDim S4096x8x1 ![] bcast_S_S4096x8x1 (constant S_ .f32 0x42800000#32))) (broadcastInDim S4096x8x1 ![] bcast_S_S4096x8x1 (constant S_ .f32 0x358637BD#32)))

/-- Heads normalised, with a gain. -/
def normed (Y : FVec Ideal S4096x8x64 .f32) (g : FVec Ideal S1x64 .f32) : FVec Ideal S4096x8x64 .f32 :=
  mulf (mulf Y (broadcastInDim S4096x8x64 ![0, 1, 2] bcast_S4096x8x1_S4096x8x64_0_1_2 (hs Y)))
    (broadcastInDim S4096x8x64 ![0, 1, 2] bcast_S1x1x64_S4096x8x64_0_1_2
      (broadcastInDim S1x1x64 ![2] bcast_S64_S1x1x64_2 (shapeCast _ g shapeCasts_S1x64_S64 : FVec Ideal S64 .f32)))

/-- The four results. -/
def outH : FVec Ideal S4096x1024 .bf16 := truncf .bf16 (rows X G SC SH) bitsLt_bf16_f32
def outZ : FVec Ideal S4096x3584 .bf16 := truncf .bf16 (proj X G SC SH W) bitsLt_bf16_f32
def outQ : FVec Ideal S4096x512 .bf16 := truncf .bf16 (shapeCast _ (mulf (normed (heads3 (proj X G SC SH W)) Q)
  (broadcastInDim S4096x8x64 ![] bcast_S_S4096x8x64 (constant S_ .f32 0x3E000000#32))) shapeCasts_S4096x8x64_S4096x512 : FVec Ideal S4096x512 .f32) bitsLt_bf16_f32
def outK : FVec Ideal S4096x512 .bf16 := truncf .bf16 (shapeCast _ (normed (heads4 (proj X G SC SH W)) K)
  shapeCasts_S4096x8x64_S4096x512 : FVec Ideal S4096x512 .f32) bitsLt_bf16_f32

/-! ## The terms at an index -/

theorem rs_apply (R : Fin 4096) : rs X (ix2 R 0) = Ideal.rsqrt (meanSq fun j => X (ix2 R j)) := by
  pointwise [rs, meanSq]

theorem rows_apply (R : Fin 4096) (j : Fin 1024) : rows X G SC SH (ix2 R j)
    = modRow (fun j => X (ix2 R j)) (fun j => G (ix2 0 j)) (fun j => SC (ix2 0 j)) (fun j => SH (ix2 0 j)) j := by
  unfold modRow normRow
  simp only [← rs_apply]
  pointwise [rows]

theorem outH_apply (R : Fin 4096) (j : Fin 1024) : outH X G SC SH (ix2 R j)
    = modRow (fun j => X (ix2 R j)) (fun j => G (ix2 0 j)) (fun j => SC (ix2 0 j)) (fun j => SH (ix2 0 j)) j :=
  Eq.trans (by pointwise [outH]) (rows_apply X G SC SH R j)

theorem proj_apply (R : Fin 4096) (J : Fin 3584) : proj X G SC SH W (ix2 R J)
    = projRow (modRow (fun j => X (ix2 R j)) (fun j => G (ix2 0 j)) (fun j => SC (ix2 0 j)) (fun j => SH (ix2 0 j))) (fun l => W (ix2 J l)) := by
  refine Eq.trans (b := ∑ l : Fin 1024, rows X G SC SH (ix2 R l) * W (ix2 J l)) (by pointwise [proj]) ?_
  exact Finset.sum_congr rfl fun l _ => by rw [rows_apply]

theorem outZ_apply (R : Fin 4096) (J : Fin 3584) : outZ X G SC SH W (ix2 R J) = proj X G SC SH W (ix2 R J) := by
  pointwise [outZ]

theorem heads3_apply (Z : FVec Ideal S4096x3584 .f32) (R : Fin 4096) (h : Fin 8) (d : Fin 64) :
    heads3 Z (ix3 R h d) = Z (ix2 R ⟨1536 + (64 * h.val + d.val), by omega⟩) := by
  pointwise [heads3]
  exact congrArg Z (congrArg (ix2 R) (Fin.ext (by show 1536 + (h.val * 64 + d.val) = _ + (64 * h.val + d.val); omega)))

theorem heads4_apply (Z : FVec Ideal S4096x3584 .f32) (R : Fin 4096) (h : Fin 8) (d : Fin 64) :
    heads4 Z (ix3 R h d) = Z (ix2 R ⟨2048 + (64 * h.val + d.val), by omega⟩) := by
  pointwise [heads4]
  exact congrArg Z (congrArg (ix2 R) (Fin.ext (by show 2048 + (h.val * 64 + d.val) = _ + (64 * h.val + d.val); omega)))

theorem normed_apply (Y : FVec Ideal S4096x8x64 .f32) (g : FVec Ideal S1x64 .f32) (R : Fin 4096) (h : Fin 8) (d : Fin 64) :
    normed Y g (ix3 R h d) = Y (ix3 R h d) * Ideal.rsqrt (Ideal.div (∑ e : Fin 64, Y (ix3 R h e) * Y (ix3 R h e)) (Ideal.ofBits .f32 0x42800000#32)
      + Ideal.ofBits .f32 0x358637BD#32) * g (ix2 0 d) := by
  pointwise [normed, hs]

/-- The head and the place of column `j`. -/
abbrev head (j : Fin 512) : Fin 8 := ⟨j.val / 64, by omega⟩

theorem outQ_at (R : Fin 4096) (j : Fin 512) : outQ X G SC SH W Q (ix2 R j)
    = normed (heads3 (proj X G SC SH W)) Q (ix3 R (head j) (place j)) * Ideal.ofBits .f32 0x3E000000#32 := by
  pointwise [outQ]

theorem outK_at (R : Fin 4096) (j : Fin 512) : outK X G SC SH W K (ix2 R j)
    = normed (heads4 (proj X G SC SH W)) K (ix3 R (head j) (place j)) := by
  pointwise [outK]

theorem outQ_apply (R : Fin 4096) (j : Fin 512) : outQ X G SC SH W Q (ix2 R j)
    = headRow (fun l => proj X G SC SH W (ix2 R ⟨1536 + l.val, by omega⟩)) (fun d => Q (ix2 0 d)) j * Ideal.ofBits .f32 0x3E000000#32 := by
  rw [outQ_at, normed_apply]
  unfold headRow headSq
  simp only [heads3_apply]
  have e : 64 * (j.val / 64) + j.val % 64 = j.val := by omega
  simp only [e]

theorem outK_apply (R : Fin 4096) (j : Fin 512) : outK X G SC SH W K (ix2 R j)
    = headRow (fun l => proj X G SC SH W (ix2 R ⟨2048 + l.val, by omega⟩)) (fun d => K (ix2 0 d)) j := by
  rw [outK_at, normed_apply]
  unfold headRow headSq
  simp only [heads4_apply]
  have e : 64 * (j.val / 64) + j.val % 64 = j.val := by omega
  simp only [e]

/-! ## The run's results -/

section Results

variable (m : (ℓ : Loc nD τ sig) → Buf (Elt Ideal) ℓ) (c : Dev nD)

abbrev argX : FVec Ideal S4096x1024 .f32 := m ((c.tc : Thread nD τ).loc main_arg0)
abbrev argG : FVec Ideal S1x1024 .f32 := m ((c.tc : Thread nD τ).loc main_arg1)
abbrev argSC : FVec Ideal S1x1024 .f32 := m ((c.tc : Thread nD τ).loc main_arg2)
abbrev argSH : FVec Ideal S1x1024 .f32 := m ((c.tc : Thread nD τ).loc main_arg3)
abbrev argW : FVec Ideal S3584x1024 .bf16 := m ((c.tc : Thread nD τ).loc main_arg4)
abbrev argQ : FVec Ideal S1x64 .f32 := m ((c.tc : Thread nD τ).loc main_arg5)
abbrev argK : FVec Ideal S1x64 .f32 := m ((c.tc : Thread nD τ).loc main_arg6)

theorem out_q : res_main_v60 m c = outQ (argX m c) (argG m c) (argSC m c) (argSH m c) (argW m c) (argQ m c) := rfl

theorem out_k : res_main_v62 m c = outK (argX m c) (argG m c) (argSC m c) (argSH m c) (argW m c) (argK m c) := rfl

end Results

end Cert.Reference5Ideal.Input
-- ==== Proof.Input.Finite.lean ====
/-
  The input projection's precondition read back: where it holds, the projected rows are real.
-/
module

public import proofs.«01_k».proof.Defs
public import proofs.«01_k».proof.Proof.Input.Reference
public import proofs.«01_k».proof.Proof.Modulate.Equation

@[expose] public section

set_option maxRecDepth 16384

noncomputable section

open Idealize.ShloMosaic Idealize.ShloMosaic.TcCoe Idealize.SL.Sem

namespace Cert.Input

open Cert.Modulate

/-- The modulated row and its products of reals. -/
theorem modRow_real (x g s h : Fin 1024 → ℝ) (j : Fin 1024) :
    modRow (fun j => (x j : EReal)) (fun j => (g j : EReal)) (fun j => (s j : EReal)) (fun j => (h j : EReal)) j
      = ((x j * (Real.sqrt (ms x))⁻¹ * g j * (1 + s j) + h j : ℝ) : EReal) := by
  unfold modRow
  rw [normRow_real, Cert.Gating.one_eq]
  simp only [EReal.coe_add, EReal.coe_mul]

theorem projRow_real (h w : Fin 1024 → ℝ) :
    projRow (fun l => (h l : EReal)) (fun l => (w l : EReal)) = ((∑ l : Fin 1024, h l * w l : ℝ) : EReal) := by
  unfold projRow
  simp only [← EReal.coe_mul, Cert.Gating.coe_sum]

end Cert.Input

namespace Cert.Pre_finite5

open Cert.Input

/-- The side conditions of the precondition's operations. -/
theorem facts : Facts where
  bcast_S_S4096x1024 := by decide
  reducesTo_S4096x1024_S_d0_1 := by decide
  h_S_ := by decide
  bcast_S_S1x1024 := by decide
  reducesTo_S1x1024_S_d0_1 := by decide
  bitsLt_bf16_f32 := by decide
  bcast_S_S3584x1024 := by decide
  reducesTo_S3584x1024_S_d0_1 := by decide

attribute [local instance] facts

variable {X : FVec Ideal S4096x1024 .f32} {G SC SH : FVec Ideal S1x1024 .f32} {W : FVec Ideal S3584x1024 .bf16} {Q K : FVec Ideal S1x64 .f32}

instance : Subsingleton S_.Idx := ⟨fun i j => by funext x; exact x.elim0⟩

/-- The precondition is the conjunction of its five parts. -/
theorem parts (h : fn (F := Ideal) X G SC SH W Q K = fun _ => 1#1) :
    (∀ i, ∃ r : ℝ, X i = (r : EReal)) ∧ (∀ i, ∃ r : ℝ, G i = (r : EReal)) ∧ (∀ i, ∃ r : ℝ, SC i = (r : EReal))
    ∧ (∀ i, ∃ r : ℝ, SH i = (r : EReal)) ∧ (∀ (J : Fin 3584) (j : Fin 1024), ∃ r : ℝ, W (ix2 J j) = (r : EReal)) := by
  obtain ⟨h, hw⟩ := IntOp.andi_eq_one.mp (congrFun h (Shape.Idx.first Facts.h_S_))
  obtain ⟨h, hh⟩ := IntOp.andi_eq_one.mp h
  obtain ⟨h, hs⟩ := IntOp.andi_eq_one.mp h
  obtain ⟨hx, hg⟩ := IntOp.andi_eq_one.mp h
  refine ⟨fun i => Cert.Pre_finite.real_of_small ?_, fun i => Cert.Pre_finite.real_of_small ?_, fun i => Cert.Pre_finite.real_of_small ?_,
    fun i => Cert.Pre_finite.real_of_small ?_, fun J j => Cert.Pre_finite.real_of_small ?_⟩
  · exact Host.reduce_andi_all _ _ _ _ _ hx i
  · exact Host.reduce_andi_all _ _ _ _ _ hg i
  · exact Host.reduce_andi_all _ _ _ _ _ hs i
  · exact Host.reduce_andi_all _ _ _ _ _ hh i
  · exact Host.reduce_andi_all _ _ _ _ _ hw (ix2 J j)

/-- Where the precondition holds, the projected rows are real. -/
theorem given (h : fn (F := Ideal) X G SC SH W Q K = fun _ => 1#1) : ∃ z : Fin 4096 → Fin 3584 → ℝ, ∀ R J,
    projRow (modRow (fun j => X (ix2 R j)) (fun j => G (ix2 0 j)) (fun j => SC (ix2 0 j)) (fun j => SH (ix2 0 j))) (fun l => W (ix2 J l))
      = (z R J : EReal) := by
  obtain ⟨hx, hg, hs, hh, hw⟩ := parts h
  choose x hx using hx
  choose g hg using hg
  choose s hs using hs
  choose d hh using hh
  choose w hw using hw
  refine ⟨fun R J => ∑ l : Fin 1024, (x (ix2 R l) * (Real.sqrt (Cert.Modulate.ms fun j => x (ix2 R j)))⁻¹ * g (ix2 0 l) * (1 + s (ix2 0 l)) + d (ix2 0 l)) * w J l,
    fun R J => ?_⟩
  simp only [hx, hg, hs, hh, hw]
  rw [← projRow_real]
  refine congrArg (fun f => projRow f fun l => (w J l : EReal)) ?_
  funext l
  exact modRow_real (fun j => x (ix2 R j)) (fun j => g (ix2 0 j)) (fun j => s (ix2 0 j)) (fun j => d (ix2 0 j)) l

end Cert.Pre_finite5
-- ==== Proof.Input.Equation.lean ====
/-
  The input projection: the four arrays the kernel leaves are the reference's four results. The modulated and the projected
  rows agree over the extended reals; the normalised heads agree where the projected rows are real.
-/
module

public import proofs.«01_k».proof.Proof.Input.Arrays
public import proofs.«01_k».proof.Proof.Input.Finite

@[expose] public section

set_option maxRecDepth 16384

noncomputable section

open Idealize.ShloMosaic Idealize.ShloMosaic.TcCoe Idealize.SL.Sem

namespace Cert.Kernel5Ideal.Tile

open Cert.Kernel5Ideal Cert.Kernel5Ideal.Gen Cert.Kernel5Ideal.Value Cert.Modulate Cert.Input

variable (m : (ℓ : Loc nD τ sig) → Buf (Elt Ideal) ℓ) (c : Dev nD)

theorem h_eq : (dats m 0 c).arrAt 8 cfg0.N = Cert.Reference5Ideal.Input.outH (argX m c) (argG m c) (argSC m c) (argSH m c) := by
  funext i
  idx_vars i
  exact (arr_h m c i0 i1).trans (Cert.Reference5Ideal.Input.outH_apply _ _ _ _ i0 i1).symm

theorem z_eq : (dats m 0 c).arrAt 9 cfg0.N = Cert.Reference5Ideal.Input.outZ (argX m c) (argG m c) (argSC m c) (argSH m c) (argW m c) := by
  funext i
  idx_vars i
  obtain ⟨k, q, rfl⟩ : ∃ (k : Fin 7) (q : Fin 512), i1 = ⟨512 * k.val + q.val, row_lt k q⟩ :=
    ⟨⟨i1.val / 512, by omega⟩, ⟨i1.val % 512, by omega⟩, Fin.ext (show i1.val = 512 * (i1.val / 512) + i1.val % 512 by omega)⟩
  refine (arr_z m c i0 _ _).trans (Eq.trans ?_ (Cert.Reference5Ideal.Input.outZ_apply _ _ _ _ _ i0 _).symm)
  exact (Cert.Reference5Ideal.Input.proj_apply _ _ _ _ _ i0 _).symm

variable {z : Fin 4096 → Fin 3584 → ℝ} (hz : ∀ R J, zM m c R J = (z R J : EReal))

include hz

theorem q_eq : (dats m 0 c).arrAt 10 cfg0.N
    = Cert.Reference5Ideal.Input.outQ (argX m c) (argG m c) (argSC m c) (argSH m c) (argW m c) (argQ m c) := by
  funext i
  idx_vars i
  refine (arr_q m c z hz i0 i1).trans (Eq.trans ?_ (Cert.Reference5Ideal.Input.outQ_apply _ _ _ _ _ _ i0 i1).symm)
  simp only [Cert.Reference5Ideal.Input.proj_apply]
  rfl

theorem k_eq : (dats m 0 c).arrAt 11 cfg0.N
    = Cert.Reference5Ideal.Input.outK (argX m c) (argG m c) (argSC m c) (argSH m c) (argW m c) (argK m c) := by
  funext i
  idx_vars i
  refine (arr_k m c z hz i0 i1).trans (Eq.trans ?_ (Cert.Reference5Ideal.Input.outK_apply _ _ _ _ _ _ i0 i1).symm)
  simp only [Cert.Reference5Ideal.Input.proj_apply]
  rfl

end Cert.Kernel5Ideal.Tile
-- ==== Proof.Heads.Tile.lean ====
/-
  The gradient of the heads' norms, one tile: what each of the three cases of the body (first tile, a tile between, the last
  tile) leaves in the three blocks of rows and in the two carried sums, and what the last tile leaves in the folded sums,
  as the body's own terms over the tile's blocks; then those terms at a row and a column.
-/
module

public import proofs.«01_k».proof.Proof.Gen.Kernel6Ideal.Value
public import proofs.«01_k».proof.Proof.Input.Row
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel6Ideal.Tile

open Cert.Kernel6Ideal Cert.Kernel6Ideal.Gen

section Contents

variable {F : FTy → Type} [FloatOps F]

theorem hz : (![0, 0] : Fin 2 → Nat) = fun _ => 0 := funext fun a => by fin_cases a <;> rfl

/-- A tile's gradient in the keys, and in the queries. -/
def gradK (z : Vec F S512x512 .bf16) (d : Vec F S512x512 .f32) (g : Vec F S1x512 .f32) (O : Vec F S512x512 .bf16) : Vec F S512x512 .bf16 :=
  k0_pay15 (k0_pay10 z O) (k0_pay11 z O) (k0_pay13 d g) (k0_pay14 z d g O O) (Scalar.ofBits .f32 0x3C800000#32)
def gradQ (z : Vec F S512x512 .bf16) (d : Vec F S512x512 .f32) (g : Vec F S1x512 .f32) (O : Vec F S512x512 .bf16) : Vec F S512x512 .bf16 :=
  k0_pay3 (k0_pay18 z) (k0_pay19 d) g (k0_pay20 z O) k0_pay21 O

/-- A tile's sum over its rows for the keys' gain and for the queries' gain, added to what was carried. -/
def sumK (z : Vec F S512x512 .bf16) (d : Vec F S512x512 .f32) (O : Vec F S512x512 .bf16) (acc : Vec F S1x512 .f32) : Vec F S1x512 .f32 :=
  k0_pay16 (k0_pay12 z d O) acc
def sumQ (z : Vec F S512x512 .bf16) (d : Vec F S512x512 .f32) (O : Vec F S512x512 .bf16) (acc : Vec F S1x512 .f32) : Vec F S1x512 .f32 :=
  k0_pay4 (k0_pay18 z) (k0_pay19 d) (k0_pay20 z O) k0_pay21 acc

variable (c : Dev nD) (i : grid0.Coords)
  (a1 : Memref sig .tc .vmem S512x512 .bf16) (h1 : a1.IsWhole) (a2 : Memref sig .tc .vmem S512x512 .bf16) (h2 : a2.IsWhole)
  (a3 : Memref sig .tc .vmem S512x512 .f32) (h3 : a3.IsWhole) (a4 : Memref sig .tc .vmem S512x512 .f32) (h4 : a4.IsWhole)
  (a5 : Memref sig .tc .vmem S512x512 .f32) (h5 : a5.IsWhole) (a6 : Memref sig .tc .vmem S512x512 .bf16) (h6 : a6.IsWhole)
  (a7 : Memref sig .tc .vmem S1x512 .f32) (h7 : a7.IsWhole) (a8 : Memref sig .tc .vmem S1x512 .f32) (h8 : a8.IsWhole)
  (a9 : Memref sig .tc .vmem S512x128 .f32) (h9 : a9.IsWhole) (a10 : Memref sig .tc .vmem S512x512 .bf16) (h10 : a10.IsWhole)
  (a11 : Memref sig .tc .vmem S512x512 .bf16) (h11 : a11.IsWhole) (a12 : Memref sig .tc .vmem S512x512 .bf16) (h12 : a12.IsWhole)
  (a13 : Memref sig .tc .vmem S8x128 .f32) (h13 : a13.IsWhole) (a14 : Memref sig .tc .vmem S8x128 .f32) (h14 : a14.IsWhole)
  (a15 : Memref sig .tc .vmem S1x512 .f32) (h15 : a15.IsWhole) (a16 : Memref sig .tc .vmem S1x512 .f32) (h16 : a16.IsWhole)
  (zq zk : Vec F S512x512 .bf16) (dq dk dv : Vec F S512x512 .f32) (O : Vec F S512x512 .bf16) (gq gk : Vec F S1x512 .f32)
  (fold : Vec F S512x128 .f32) (accq acck : Vec F S1x512 .f32)

/-- A tile between the first and the last. -/
theorem between (hc0 : ¬cond0_0 i) (hc1 : ¬cond0_1 i) :
    out0_B_9 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = gradQ zq dq gq O
    ∧ out0_B_10 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = gradK zk dk gk O
    ∧ out0_B_11 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = k0_pay17 dv
    ∧ sout0_B_0 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = sumQ zq dq O accq
    ∧ sout0_B_1 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = sumK zk dk O acck := by
  refine ⟨?_, ?_, ?_, ?_, ?_⟩
  all_goals first | unfold out0_B_9 | unfold out0_B_10 | unfold out0_B_11 | unfold sout0_B_0 | unfold sout0_B_1
  all_goals
    rw [View.read_writes_junk_eq_canon]
    unfold kernelRun0_B
    dsimp only
    sl_unfold_words
    rw [View.canon_unit_zero hz]
    simp only [View.readAt_eq_ld, h1.read_unread, h2.read_unread, h3.read_unread, h4.read_unread, h5.read_unread, h6.read_unread,
      h7.read_unread, h8.read_unread, h9.read_unread, h15.read_unread, h16.read_unread, View.ld_unit_zero (S := S512x512) hz,
      View.ld_unit_zero (S := S1x512) hz, gradQ, gradK, sumQ, sumK]

/-- The first tile: the carried sums start from zero. -/
theorem first (hc0 : cond0_0 i) (hc1 : ¬cond0_1 i) :
    out0_A_9 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold = gradQ zq dq gq O
    ∧ out0_A_10 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold = gradK zk dk gk O
    ∧ out0_A_11 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold = k0_pay17 dv
    ∧ sout0_A_0 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold = sumQ zq dq O k0_pay8
    ∧ sout0_A_1 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold = sumK zk dk O k0_pay7 := by
  refine ⟨?_, ?_, ?_, ?_, ?_⟩
  all_goals first | unfold out0_A_9 | unfold out0_A_10 | unfold out0_A_11 | unfold sout0_A_0 | unfold sout0_A_1
  all_goals
    rw [View.read_writes_junk_eq_canon]
    unfold kernelRun0_A
    dsimp only
    sl_unfold_words
    first | rw [View.canon_unit_zero hz] | rw [View.canon_cons_unit_zero (S := S1x512) hz]
    simp only [View.readCov_unit_zero (S := S1x512) _ hz, View.readAt_eq_ld, h1.read_unread, h2.read_unread, h3.read_unread, h4.read_unread,
      h5.read_unread, h6.read_unread, h7.read_unread, h8.read_unread, h9.read_unread, View.ld_unit_zero (S := S512x512) hz,
      View.ld_unit_zero (S := S1x512) hz, gradQ, gradK, sumQ, sumK]

/-- The last tile: the carried sums are folded over the heads. -/
theorem last (hc0 : ¬cond0_0 i) (hc1 : cond0_1 i) :
    out0_C_9 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = gradQ zq dq gq O
    ∧ out0_C_10 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = gradK zk dk gk O
    ∧ out0_C_11 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = k0_pay17 dv
    ∧ sout0_C_0 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = sumQ zq dq O accq
    ∧ sout0_C_1 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = sumK zk dk O acck
    ∧ out0_C_12 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = k0_pay6 (sumQ zq dq O accq) fold
    ∧ out0_C_13 c i a1 h1 a2 h2 a3 h3 a4 h4 a5 h5 a6 h6 a7 h7 a8 h8 a9 h9 a10 h10 a11 h11 a12 h12 a13 h13 a14 h14 a15 h15 a16 h16 hc0 hc1
        zq zk dq dk dv O gq gk fold accq acck = k0_pay5 (sumK zk dk O acck) fold := by
  refine ⟨?_, ?_, ?_, ?_, ?_, ?_, ?_⟩
  all_goals first | unfold out0_C_9 | unfold out0_C_10 | unfold out0_C_11 | unfold sout0_C_0 | unfold sout0_C_1 | unfold out0_C_12 | unfold out0_C_13
  all_goals
    rw [View.read_writes_junk_eq_canon]
    unfold kernelRun0_C
    dsimp only
    sl_unfold_words
    rw [View.canon_unit_zero hz]
    simp only [View.readCov_unit_zero (S := S1x512) _ hz, View.readAt_eq_ld, h1.read_unread, h2.read_unread, h3.read_unread, h4.read_unread,
      h5.read_unread, h6.read_unread, h7.read_unread, h8.read_unread, h9.read_unread, h15.read_unread, h16.read_unread,
      View.ld_unit_zero (S := S512x512) hz, View.ld_unit_zero (S := S1x512) hz, View.ld_unit_zero (S := S512x128) hz, gradQ, gradK, sumQ, sumK]

end Contents

/-! ## The terms at a row and a column -/

section Entries

variable (z : Vec Ideal S512x512 .bf16) (d : Vec Ideal S512x512 .f32) (g : Vec Ideal S1x512 .f32) (O : Vec Ideal S512x512 .bf16)

/-- The reciprocal root of the mean square of a column's head, as a tile computes it. -/
def inv (r j : Fin 512) : EReal :=
  Ideal.rsqrt ((∑ l : Fin 512, z (ix2 r l) * z (ix2 r l) * O (ix2 l j)
      + ∑ l : Fin 512, (z (ix2 r l) * z (ix2 r l) - z (ix2 r l) * z (ix2 r l)) * O (ix2 l j)) * Ideal.ofBits .f32 0x3C800000#32
    + Ideal.ofBits .f32 0x358637BD#32)

/-- A column of the gradient of the norm. -/
def dcol (e gg : Fin 512 → EReal) (r j : Fin 512) : EReal :=
  inv z O r j * (e j * gg j - z (ix2 r j) * inv z O r j
    * ((∑ l : Fin 512, e l * gg l * (z (ix2 r l) * inv z O r l) * O (ix2 l j)
        + ∑ l : Fin 512, (e l * gg l * (z (ix2 r l) * inv z O r l) - e l * gg l * (z (ix2 r l) * inv z O r l)) * O (ix2 l j))
      * Ideal.ofBits .f32 0x3C800000#32))

theorem pay10_apply (r j : Fin 512) : k0_pay10 z O (ix2 r j) = inv z O r j := by
  pointwise [k0_pay10, k0_pay9, inv]

theorem pay11_apply (r j : Fin 512) : k0_pay11 z O (ix2 r j) = z (ix2 r j) * inv z O r j := by
  rw [← pay10_apply]
  unfold k0_pay11
  generalize k0_pay10 z O = A
  pointwise [k0_pay9]

theorem gradK_apply (r j : Fin 512) : gradK z d g O (ix2 r j) = dcol z O (fun l => d (ix2 r l)) (fun l => g (ix2 0 l)) r j := by
  unfold dcol
  simp only [← pay11_apply z O]
  rw [← pay10_apply]
  unfold gradK k0_pay14
  generalize k0_pay10 z O = A
  generalize k0_pay11 z O = B
  pointwise [k0_pay15, k0_pay13]

theorem pay1_apply (r j : Fin 512) : k0_pay1 (k0_pay20 z O) k0_pay21 (ix2 r j) = inv z O r j := by
  pointwise [k0_pay1, k0_pay20, k0_pay21, k0_pay18, inv]

theorem pay2_apply (r j : Fin 512) : k0_pay2 (k0_pay18 z) (k0_pay20 z O) k0_pay21 (ix2 r j) = z (ix2 r j) * inv z O r j := by
  rw [← pay1_apply]
  unfold k0_pay2
  generalize k0_pay1 (k0_pay20 z O) k0_pay21 = A
  pointwise [k0_pay18]

theorem gradQ_apply (r j : Fin 512) : gradQ z d g O (ix2 r j)
    = dcol z O (fun l => d (ix2 r l) * Ideal.ofBits .f32 0x3E000000#32) (fun l => g (ix2 0 l)) r j := by
  unfold dcol
  simp only [← pay2_apply z O]
  rw [← pay1_apply]
  unfold gradQ k0_pay3
  generalize k0_pay1 (k0_pay20 z O) k0_pay21 = A
  generalize k0_pay2 (k0_pay18 z) (k0_pay20 z O) k0_pay21 = B
  pointwise [k0_pay19]

theorem sumK_apply (acc : Vec Ideal S1x512 .f32) (j : Fin 512) : sumK z d O acc (ix2 0 j)
    = acc (ix2 0 j) + ∑ r : Fin 512, d (ix2 r j) * (z (ix2 r j) * inv z O r j) := by
  simp only [← pay11_apply z O]
  unfold sumK k0_pay12
  generalize k0_pay11 z O = B
  pointwise [k0_pay16]

theorem sumQ_apply (acc : Vec Ideal S1x512 .f32) (j : Fin 512) : sumQ z d O acc (ix2 0 j)
    = acc (ix2 0 j) + ∑ r : Fin 512, d (ix2 r j) * Ideal.ofBits .f32 0x3E000000#32 * (z (ix2 r j) * inv z O r j) := by
  simp only [← pay2_apply z O]
  unfold sumQ k0_pay4
  generalize k0_pay2 (k0_pay18 z) (k0_pay20 z O) k0_pay21 = B
  pointwise [k0_pay19]

theorem zeroK_apply (j : Fin 512) : (k0_pay7 : FVec Ideal S1x512 .f32) (ix2 0 j) = 0 := by
  pointwise [k0_pay7]

theorem zeroQ_apply (j : Fin 512) : (k0_pay8 : FVec Ideal S1x512 .f32) (ix2 0 j) = 0 := by
  pointwise [k0_pay8]

theorem foldK_apply (acc : Vec Ideal S1x512 .f32) (fold : Vec Ideal S512x128 .f32) (a : Fin 8) (j : Fin 128) :
    k0_pay5 acc fold (ix2 a j) = ∑ l : Fin 512, acc (ix2 0 l) * fold (ix2 l j) := by
  pointwise [k0_pay5]

theorem foldQ_apply (acc : Vec Ideal S1x512 .f32) (fold : Vec Ideal S512x128 .f32) (a : Fin 8) (j : Fin 128) :
    k0_pay6 acc fold (ix2 a j) = ∑ l : Fin 512, acc (ix2 0 l) * fold (ix2 l j) := by
  pointwise [k0_pay6]

theorem dv_apply (e : Vec Ideal S512x512 .f32) (r j : Fin 512) : k0_pay17 e (ix2 r j) = e (ix2 r j) := by
  pointwise [k0_pay17]

end Entries

end Cert.Kernel6Ideal.Tile
-- ==== Proof.Heads.Blocks.lean ====
/-
  The gradient of the heads' norms: its input blocks at an index, read of the six arguments directly or through the layouts
  the host prepares.
-/
module

public import proofs.«01_k».proof.Proof.Heads.Tile
public import proofs.«01_k».proof.Proof.Project.Arrays

@[expose] public section

set_option maxRecDepth 16384

noncomputable section

open Idealize.ShloMosaic Idealize.ShloMosaic.TcCoe Idealize.SL.Sem
open Idealize.ShloMosaic.Pipeline (Dat)

namespace Cert.Kernel6Ideal.Tile

open Cert.Kernel6Ideal Cert.Kernel6Ideal.Gen Cert.Kernel6Ideal.Value Cert.Project Cert.Input

variable (m : (ℓ : Loc nD τ sig) → Buf (Elt Ideal) ℓ) (c : Dev nD)

/-- The six arguments. -/
abbrev argZ : Vec Ideal S4096x3584 .bf16 := m ((c.tc : Thread nD τ).loc main_arg0)
abbrev argDQ : Vec Ideal S4096x512 .f32 := m ((c.tc : Thread nD τ).loc main_arg1)
abbrev argDK : Vec Ideal S4096x512 .f32 := m ((c.tc : Thread nD τ).loc main_arg2)
abbrev argDV : Vec Ideal S4096x512 .f32 := m ((c.tc : Thread nD τ).loc main_arg3)
abbrev argQ : Vec Ideal S1x64 .f32 := m ((c.tc : Thread nD τ).loc main_arg4)
abbrev argK : Vec Ideal S1x64 .f32 := m ((c.tc : Thread nD τ).loc main_arg5)

/-! ## The layouts the host prepares -/

/-- Two numbers compared as words, the answer read as a number. -/
theorem cmp_word (a b : Nat) (ha : a < 4096) (hb : b < 4096) :
    (((IntOp.cmpi .eq (BitVec.ofNat 32 a) (BitVec.ofNat 32 b)).toNat : ℝ) : EReal) = if a = b then (1 : EReal) else 0 := by
  by_cases e : a = b
  · rw [if_pos e, e, show IntOp.cmpi .eq (BitVec.ofNat 32 b) (BitVec.ofNat 32 b) = 1#1 by simp [IntOp.cmpi]]
    simp
  · have hne : BitVec.ofNat 32 a ≠ BitVec.ofNat 32 b := fun h => e (by
      have := congrArg BitVec.toNat h
      simp only [BitVec.toNat_ofNat] at this
      omega)
    rw [if_neg e, show IntOp.cmpi .eq (BitVec.ofNat 32 a) (BitVec.ofNat 32 b) = 0#1 by
      rw [show IntOp.cmpi .eq (BitVec.ofNat 32 a) (BitVec.ofNat 32 b) = BitVec.ofBool (BitVec.ofNat 32 a == BitVec.ofNat 32 b) from rfl,
        beq_eq_false_iff_ne.mpr hne]
      rfl]
    simp

/-- The matrix that is one within a head and zero between two heads. -/
theorem host_ones (i j : Fin 512) : (V m c main_v6 : Vec Ideal S512x512 .bf16) (ix2 i j) = if i.val / 64 = j.val / 64 then (1 : EReal) else 0 := by
  have h : (V m c main_v6 : Vec Ideal S512x512 .bf16) = truncf .bf16 (uitofp .f32 (shapeCast S512x512 (broadcastInDim S8x64x8x64 ![0, 1, 2, 3]
      bcast_S8x1x8x1_S8x64x8x64_0_1_2_3 (cmpi .eq (iotaInDim S8x1x8x1 32 0) (iotaInDim S8x1x8x1 32 2))) shapeCasts_S8x64x8x64_S512x512) : FVec Ideal S512x512 .f32)
      bitsLt_bf16_f32 := by
    show StableHlo.after hostOps0 _ _ = _
    after_results
    rfl
  rw [h]
  pointwise
  exact cmp_word _ _ (by omega) (by omega)

/-- The matrix that folds the columns to the places of a head. -/
theorem host_fold (l : Fin 512) (j : Fin 128) : (V m c main_v11 : Vec Ideal S512x128 .f32) (ix2 l j) = if l.val % 64 = j.val then (1 : EReal) else 0 := by
  have h : (V m c main_v11 : Vec Ideal S512x128 .f32) = (uitofp .f32 (shapeCast S512x128 (cmpi .eq (iotaInDim S8x64x128 32 1) (iotaInDim S8x64x128 32 2))
      shapeCasts_S8x64x128_S512x128) : FVec Ideal S512x128 .f32) := by
    show StableHlo.after hostOps0 _ _ = _
    after_results
    rfl
  rw [h]
  pointwise
  exact cmp_word _ _ (by omega) (by omega)

/-- The gains of the queries' and of the keys' heads, once per head. -/
theorem host_gq (j : Fin 512) : (V m c main_v14 : Vec Ideal S1x512 .f32) (ix2 0 j) = argQ m c (ix2 0 (place j)) := by
  have h : (V m c main_v14 : Vec Ideal S1x512 .f32) = shapeCast S1x512 (broadcastInDim S1x1x8x64 ![0, 1, 2, 3] bcast_S1x1x1x64_S1x1x8x64_0_1_2_3
      (shapeCast S1x1x1x64 (argQ m c) shapeCasts_S1x64_S1x1x1x64)) shapeCasts_S1x1x8x64_S1x512 := by
    show StableHlo.after hostOps0 _ _ = _
    after_results
    rfl
  rw [h]
  pointwise

theorem host_gk (j : Fin 512) : (V m c main_v17 : Vec Ideal S1x512 .f32) (ix2 0 j) = argK m c (ix2 0 (place j)) := by
  have h : (V m c main_v17 : Vec Ideal S1x512 .f32) = shapeCast S1x512 (broadcastInDim S1x1x8x64 ![0, 1, 2, 3] bcast_S1x1x1x64_S1x1x8x64_0_1_2_3
      (shapeCast S1x1x1x64 (argK m c) shapeCasts_S1x64_S1x1x1x64)) shapeCasts_S1x1x8x64_S1x512 := by
    show StableHlo.after hostOps0 _ _ = _
    after_results
    rfl
  rw [h]
  pointwise

/-! ## A tile's blocks -/

theorem lt8 (t : Fin cfg0.N) : t.val < 8 := lt_of_lt_of_eq t.isLt N_0

theorem index_rows : ∀ t : Fin cfg0.N, (win0_0.index t 0 = t.val ∧ win0_0.index t 1 = 3) ∧ (win0_1.index t 0 = t.val ∧ win0_1.index t 1 = 4)
    ∧ (win0_2.index t 0 = t.val ∧ win0_2.index t 1 = 0) ∧ (win0_3.index t 0 = t.val ∧ win0_3.index t 1 = 0)
    ∧ (win0_4.index t 0 = t.val ∧ win0_4.index t 1 = 0) := by decide +kernel

theorem index_whole : ∀ t : Fin cfg0.N, (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by decide +kernel

/-- An index of an array by its two coordinates, in tile `t` of the rows and in block `k` of 512 columns. -/
theorem ix_block {n : Nat} (t : Fin cfg0.N) (r j : Fin 512) (k : Nat) (hk : 512 * k + j.val < n) (a b : Nat) (ha : a = t.val) (hb : b = k)
    (x : (⟨2, ![4096, n]⟩ : Shape).Idx) (h0 : (x 0).val = a * 512 + 1 * r.val) (h1 : (x 1).val = b * 512 + 1 * j.val) :
    x = ix2 (rowOf t r) ⟨512 * k + j.val, hk⟩ := by
  rw [rowOf_lt (lt8 t)]
  subst ha hb
  funext i
  apply Fin.ext
  match i with
  | ⟨0, _⟩ => exact h0.trans (show t.val * 512 + 1 * r.val = 512 * t.val + r.val by omega)
  | ⟨1, _⟩ => exact h1.trans (show b * 512 + 1 * j.val = 512 * b + j.val by omega)

/-- An index of an array kept whole in every tile. -/
theorem ix_whole {n k : Nat} (r : Fin n) (j : Fin k) (a b : Nat) (ha : a = 0) (hb : b = 0)
    (x : (⟨2, ![n, k]⟩ : Shape).Idx) (h0 : (x 0).val = a * n + 1 * r.val) (h1 : (x 1).val = b * k + 1 * j.val) : x = ix2 r j := by
  subst ha hb
  funext i
  apply Fin.ext
  match i with
  | ⟨0, _⟩ => exact h0.trans (show 0 * n + 1 * r.val = r.val by omega)
  | ⟨1, _⟩ => exact h1.trans (show 0 * k + 1 * j.val = j.val by omega)

variable (t : Fin cfg0.N)

theorem blkZq (r j : Fin 512) : (iblk m c 0 t : Vec Ideal S512x512 .bf16) (ix2 r j) = argZ m c (ix2 (rowOf t r) ⟨1536 + j.val, by omega⟩) := by
  obtain ⟨h, -⟩ := index_rows t
  refine (congrFun (V_main_arg0 m c) _).trans ?_
  exact congrArg (argZ m c) (ix_block t r j 3 (by omega) _ _ h.1 h.2 _ rfl rfl)

theorem blkZk (r j : Fin 512) : (iblk m c 1 t : Vec Ideal S512x512 .bf16) (ix2 r j) = argZ m c (ix2 (rowOf t r) ⟨2048 + j.val, by omega⟩) := by
  obtain ⟨-, h, -⟩ := index_rows t
  refine (congrFun (V_main_arg0 m c) _).trans ?_
  exact congrArg (argZ m c) (ix_block t r j 4 (by omega) _ _ h.1 h.2 _ rfl rfl)

theorem col_zero (R : Fin 4096) (j : Fin 512) : (ix2 R ⟨512 * 0 + j.val, by omega⟩ : S4096x512.Idx) = ix2 R j := congrArg (ix2 R) (Fin.ext (Nat.zero_add _))

theorem blkDQ (r j : Fin 512) : (iblk m c 2 t : Vec Ideal S512x512 .f32) (ix2 r j) = argDQ m c (ix2 (rowOf t r) j) := by
  obtain ⟨-, -, h, -⟩ := index_rows t
  refine (congrFun (V_main_arg1 m c) _).trans ?_
  exact congrArg (argDQ m c) ((ix_block t r j 0 (by omega) _ _ h.1 h.2 _ rfl rfl).trans (col_zero _ j))

theorem blkDK (r j : Fin 512) : (iblk m c 3 t : Vec Ideal S512x512 .f32) (ix2 r j) = argDK m c (ix2 (rowOf t r) j) := by
  obtain ⟨-, -, -, h, -⟩ := index_rows t
  refine (congrFun (V_main_arg2 m c) _).trans ?_
  exact congrArg (argDK m c) ((ix_block t r j 0 (by omega) _ _ h.1 h.2 _ rfl rfl).trans (col_zero _ j))

theorem blkDV (r j : Fin 512) : (iblk m c 4 t : Vec Ideal S512x512 .f32) (ix2 r j) = argDV m c (ix2 (rowOf t r) j) := by
  obtain ⟨-, -, -, -, h⟩ := index_rows t
  refine (congrFun (V_main_arg3 m c) _).trans ?_
  exact congrArg (argDV m c) ((ix_block t r j 0 (by omega) _ _ h.1 h.2 _ rfl rfl).trans (col_zero _ j))

theorem blkOnes (i j : Fin 512) : (iblk m c 5 t : Vec Ideal S512x512 .bf16) (ix2 i j) = if i.val / 64 = j.val / 64 then (1 : EReal) else 0 := by
  obtain ⟨h, -⟩ := index_whole t
  rw [← host_ones m c i j]
  exact congrArg (V m c main_v6 : Vec Ideal S512x512 .bf16) (ix_whole i j _ _ h.1 h.2 _ rfl rfl)

theorem blkQ (j : Fin 512) : (iblk m c 6 t : Vec Ideal S1x512 .f32) (ix2 0 j) = argQ m c (ix2 0 (place j)) := by
  obtain ⟨-, h, -⟩ := index_whole t
  rw [← host_gq m c j]
  exact congrArg (V m c main_v14 : Vec Ideal S1x512 .f32) (ix_whole 0 j _ _ h.1 h.2 _ rfl rfl)

theorem blkK (j : Fin 512) : (iblk m c 7 t : Vec Ideal S1x512 .f32) (ix2 0 j) = argK m c (ix2 0 (place j)) := by
  obtain ⟨-, -, h, -⟩ := index_whole t
  rw [← host_gk m c j]
  exact congrArg (V m c main_v17 : Vec Ideal S1x512 .f32) (ix_whole 0 j _ _ h.1 h.2 _ rfl rfl)

theorem blkFold (l : Fin 512) (j : Fin 128) : (iblk m c 8 t : Vec Ideal S512x128 .f32) (ix2 l j) = if l.val % 64 = j.val then (1 : EReal) else 0 := by
  obtain ⟨-, -, -, h⟩ := index_whole t
  rw [← host_fold m c l j]
  exact congrArg (V m c main_v11 : Vec Ideal S512x128 .f32) (ix_whole l j _ _ h.1 h.2 _ rfl rfl)

end Cert.Kernel6Ideal.Tile
-- ==== Proof.Heads.Row.lean ====
/-
  The derivative of a head's norm on one row of reals: the kernel's form and the reference's form are one; and the fold of 512
  columns to the 64 places of a head.
-/
module

public import proofs.«01_k».proof.Proof.Input.Row

@[expose] public section

noncomputable section

open Idealize.ShloMosaic

namespace Cert.Heads

open Cert.Input
open Cert.Gating (coe_sum div_real rsqrt_real eps_eq)

theorem eighth_eq : Ideal.ofBits .f32 0x3E000000#32 = ((1 / 8 : ℝ) : EReal) := by
  simp [Ideal.ofBits, Ideal.ieee, -EReal.coe_mul]; norm_num

/-- Column `l` of the queries and of the keys among the projected columns. -/
abbrev colQ (l : Fin 512) : Fin 3584 := ⟨1536 + l.val, by omega⟩
abbrev colK (l : Fin 512) : Fin 3584 := ⟨2048 + l.val, by omega⟩

theorem lane_div (j : Fin 512) (d : Fin 64) : (lane j d).val / 64 = j.val / 64 := by
  show (64 * (j.val / 64) + d.val) / 64 = j.val / 64
  omega

theorem place_lane (j : Fin 512) (d : Fin 64) : place (lane j d) = d := Fin.ext (by
  show (64 * (j.val / 64) + d.val) % 64 = d.val
  omega)

section Real

variable (z e : Fin 512 → ℝ) (g : Fin 64 → ℝ)

/-- The mean square of a column's head, kept away from zero. -/
def hm (j : Fin 512) : ℝ := (∑ d : Fin 64, z (lane j d) * z (lane j d)) / 64 + 8796093 / 8796093022208

/-- The normalised column. -/
def hat (j : Fin 512) : ℝ := z j * (Real.sqrt (hm z j))⁻¹

/-- The gradient in a column. -/
def grad (j : Fin 512) : ℝ := (Real.sqrt (hm z j))⁻¹ * (e j * g (place j) - hat z j
  * ((∑ d : Fin 64, e (lane j d) * g d * hat z (lane j d)) * (1 / 64)))

theorem hm_pos (j : Fin 512) : 0 < hm z j := by
  have h : 0 ≤ ∑ d : Fin 64, z (lane j d) * z (lane j d) := Finset.sum_nonneg fun _ _ => mul_self_nonneg _
  unfold hm
  positivity

/-- A head's columns have one mean square. -/
theorem hm_lane (j : Fin 512) (d : Fin 64) : hm z (lane j d) = hm z j := by
  unfold hm
  exact congrArg (fun s => s / 64 + _) (Finset.sum_congr rfl fun f _ => by rw [lane_eq (lane j d) j (lane_div j d)])

theorem headSq_real (j : Fin 512) : headSq (fun l => (z l : EReal)) j = ((hm z j : ℝ) : EReal) := by
  unfold headSq hm
  simp only [← EReal.coe_mul, coe_sum, head_width_eq, eps_eq]
  rw [div_real (by norm_num), ← EReal.coe_add]

/-- The two forms of the derivative. -/
theorem forms (j : Fin 512) : grad z e g j = e j * g (place j) * (Real.sqrt (hm z j))⁻¹
      + z j * (((∑ d : Fin 64, z (lane j d) * (e (lane j d) * g d)) * (-1 / 2 * ((Real.sqrt (hm z j))⁻¹ / hm z j))) / 64)
      + (((∑ d : Fin 64, z (lane j d) * (e (lane j d) * g d)) * (-1 / 2 * ((Real.sqrt (hm z j))⁻¹ / hm z j))) / 64) * z j := by
  have hs : ∑ d : Fin 64, e (lane j d) * g d * hat z (lane j d)
      = (∑ d : Fin 64, z (lane j d) * (e (lane j d) * g d)) * (Real.sqrt (hm z j))⁻¹ := by
    rw [Finset.sum_mul]
    refine Finset.sum_congr rfl fun d _ => ?_
    unfold hat
    rw [hm_lane]
    ring
  have hr : (Real.sqrt (hm z j))⁻¹ * (Real.sqrt (hm z j))⁻¹ = (hm z j)⁻¹ := by
    rw [← mul_inv, Real.mul_self_sqrt (hm_pos z j).le]
  unfold grad
  rw [hs, div_eq_mul_inv (Real.sqrt (hm z j))⁻¹ (hm z j), ← hr]
  unfold hat
  ring

end Real

/-- A real row split into a part and the rest: the two products with the matrix of ones are the head's sum. -/
theorem two_parts (p : Fin 512 → ℝ) (O : Fin 512 → EReal) (j : Fin 512) (hO : ∀ l, O l = if l.val / 64 = j.val / 64 then 1 else 0) :
    ∑ l : Fin 512, (p l : EReal) * O l + ∑ l : Fin 512, ((p l : EReal) - (p l : EReal)) * O l = ((∑ d : Fin 64, p (lane j d) : ℝ) : EReal) := by
  have hrest : ∑ l : Fin 512, ((p l : EReal) - (p l : EReal)) * O l = 0 := by
    refine Finset.sum_eq_zero fun l _ => ?_
    rw [← EReal.coe_sub, sub_self, EReal.coe_zero, zero_mul]
  rw [hrest, add_zero, sum_ones (fun l => (p l : EReal)) O j hO, coe_sum]

/-- Folding 512 columns to a head's places: the eight heads' columns at a place, added; past the places nothing. -/
theorem fold_heads (f : Fin 512 → EReal) (B : Fin 512 → EReal) (j : Fin 128) (hB : ∀ l, B l = if l.val % 64 = j.val then 1 else 0) :
    ∑ l : Fin 512, f l * B l = if h : j.val < 64 then ∑ k : Fin 8, f ⟨64 * k.val + j.val, by omega⟩ else 0 := by
  rw [sum_heads]
  split
  · rename_i h
    refine Finset.sum_congr rfl fun k _ => ?_
    rw [Finset.sum_eq_single (⟨j.val, h⟩ : Fin 64)]
    · rw [hB, if_pos (by show (64 * k.val + j.val) % 64 = j.val; omega), mul_one]
    · intro d _ hne
      rw [hB, if_neg, mul_zero]
      intro e
      exact hne (Fin.ext (by have e : (64 * k.val + d.val) % 64 = j.val := e; show d.val = j.val; omega))
    · exact fun h => absurd (Finset.mem_univ _) h
  · rename_i h
    refine Finset.sum_eq_zero fun k _ => Finset.sum_eq_zero fun d _ => ?_
    rw [hB, if_neg, mul_zero]
    intro e
    have e : (64 * k.val + d.val) % 64 = j.val := e
    omega

end Cert.Heads
-- ==== Proof.Heads.Arrays.lean ====
/-
  The gradient of the heads' norms over the whole arrays: what the five result arrays hold after the run, on real arguments, in
  the formulas of one row.
-/
module

public import proofs.«01_k».proof.Proof.Heads.Blocks
public import proofs.«01_k».proof.Proof.Heads.Row

@[expose] public section

set_option maxRecDepth 16384

noncomputable section

open Idealize.ShloMosaic Idealize.ShloMosaic.TcCoe Idealize.SL.Sem
open Idealize.ShloMosaic.Pipeline (Dat)

namespace Cert.Kernel6Ideal.Tile

open Cert.Kernel6Ideal Cert.Kernel6Ideal.Gen Cert.Kernel6Ideal.Value Cert.Project Cert.Input Cert.Heads
open Cert.Gating (coe_sum rsqrt_real eps_eq)

/-! ## A tile on real blocks -/

section Real

variable {z O : Vec Ideal S512x512 .bf16} {p : Fin 512 → ℝ} {r : Fin 512} (hz : ∀ l, z (ix2 r l) = (p l : EReal))
  (hO : ∀ i j : Fin 512, O (ix2 i j) = if i.val / 64 = j.val / 64 then (1 : EReal) else 0)

include hz hO

theorem inv_real (j : Fin 512) : inv z O r j = (((Real.sqrt (hm p j))⁻¹ : ℝ) : EReal) := by
  have h := two_parts (fun l => p l * p l) (fun l => O (ix2 l j)) j fun l => hO l j
  have e : (∑ d : Fin 64, p (lane j d) * p (lane j d)) * (1 / 64) + 8796093 / 8796093022208 = hm p j := by
    unfold hm
    ring
  unfold inv
  simp only [hz, ← EReal.coe_mul]
  rw [h, head_inv_eq, eps_eq, ← EReal.coe_mul, ← EReal.coe_add, e, rsqrt_real (hm_pos p j)]

theorem hat_real (j : Fin 512) : z (ix2 r j) * inv z O r j = ((hat p j : ℝ) : EReal) := by
  rw [inv_real hz hO, hz, ← EReal.coe_mul]
  rfl

theorem dcol_real (e : Fin 512 → ℝ) (g : Fin 64 → ℝ) (j : Fin 512) :
    dcol z O (fun l => (e l : EReal)) (fun l => (g (place l) : EReal)) r j = ((grad p e g j : ℝ) : EReal) := by
  have h := two_parts (fun l => e l * g (place l) * hat p l) (fun l => O (ix2 l j)) j fun l => hO l j
  simp only [place_lane] at h
  unfold dcol
  simp only [hat_real hz hO]
  rw [inv_real hz hO]
  simp only [← EReal.coe_mul]
  rw [h, head_inv_eq]
  simp only [← EReal.coe_mul, ← EReal.coe_sub]
  rfl

end Real

/-! ## One tile, and the fold -/

variable (m : (ℓ : Loc nD τ sig) → Buf (Elt Ideal) ℓ) (c : Dev nD)

/-- The carried tuple's type. -/
abbrev Carried : Type := Vec Ideal S512x512 .bf16 × Vec Ideal S512x512 .bf16 × Vec Ideal S512x512 .bf16 × Vec Ideal S8x128 .f32 × Vec Ideal S8x128 .f32
  × Vec Ideal S1x512 .f32 × Vec Ideal S1x512 .f32

section Step

variable (t : Fin cfg0.N) (st : Carried)

theorem step_q : (stAt0 m c t.val t.isLt st).1 = gradQ (iblk m c 0 t) (iblk m c 2 t) (iblk m c 6 t) (iblk m c 5 t) := by
  have := lt8 t
  by_cases h0 : t.val % 8 = 0
  · rw [stAt0_A m c t st h0 (by omega)]
    dsimp only
    exact (first ..).1
  · by_cases h1 : t.val % 8 = 7
    · rw [stAt0_C m c t st h0 h1]
      dsimp only
      exact (last ..).1
    · rw [stAt0_B m c t st h0 h1]
      dsimp only
      exact (between ..).1

theorem step_k : (stAt0 m c t.val t.isLt st).2.1 = gradK (iblk m c 1 t) (iblk m c 3 t) (iblk m c 7 t) (iblk m c 5 t) := by
  have := lt8 t
  by_cases h0 : t.val % 8 = 0
  · rw [stAt0_A m c t st h0 (by omega)]
    dsimp only
    exact (first ..).2.1
  · by_cases h1 : t.val % 8 = 7
    · rw [stAt0_C m c t st h0 h1]
      dsimp only
      exact (last ..).2.1
    · rw [stAt0_B m c t st h0 h1]
      dsimp only
      exact (between ..).2.1

theorem step_v : (stAt0 m c t.val t.isLt st).2.2.1 = k0_pay17 (iblk m c 4 t) := by
  have := lt8 t
  by_cases h0 : t.val % 8 = 0
  · rw [stAt0_A m c t st h0 (by omega)]
    dsimp only
    exact (first ..).2.2.1
  · by_cases h1 : t.val % 8 = 7
    · rw [stAt0_C m c t st h0 h1]
      dsimp only
      exact (last ..).2.2.1
    · rw [stAt0_B m c t st h0 h1]
      dsimp only
      exact (between ..).2.2.1

theorem step_sumQ : (stAt0 m c t.val t.isLt st).2.2.2.2.2.1
    = sumQ (iblk m c 0 t) (iblk m c 2 t) (iblk m c 5 t) (if t.val = 0 then (k0_pay8 : FVec Ideal S1x512 .f32) else st.2.2.2.2.2.1) := by
  have := lt8 t
  by_cases h0 : t.val % 8 = 0
  · rw [stAt0_A m c t st h0 (by omega), if_pos (by omega)]
    dsimp only
    exact (first ..).2.2.2.1
  · rw [if_neg (by omega)]
    by_cases h1 : t.val % 8 = 7
    · rw [stAt0_C m c t st h0 h1]
      dsimp only
      exact (last ..).2.2.2.1
    · rw [stAt0_B m c t st h0 h1]
      dsimp only
      exact (between ..).2.2.2.1

theorem step_sumK : (stAt0 m c t.val t.isLt st).2.2.2.2.2.2
    = sumK (iblk m c 1 t) (iblk m c 3 t) (iblk m c 5 t) (if t.val = 0 then (k0_pay7 : FVec Ideal S1x512 .f32) else st.2.2.2.2.2.2) := by
  have := lt8 t
  by_cases h0 : t.val % 8 = 0
  · rw [stAt0_A m c t st h0 (by omega), if_pos (by omega)]
    dsimp only
    exact (first ..).2.2.2.2
  · rw [if_neg (by omega)]
    by_cases h1 : t.val % 8 = 7
    · rw [stAt0_C m c t st h0 h1]
      dsimp only
      exact (last ..).2.2.2.2.1
    · rw [stAt0_B m c t st h0 h1]
      dsimp only
      exact (between ..).2.2.2.2

/-- The last tile's folded sums, of the carried sums it leaves. -/
theorem step_foldQ (h : t.val = 7) : (stAt0 m c t.val t.isLt st).2.2.2.1 = k0_pay6 (stAt0 m c t.val t.isLt st).2.2.2.2.2.1 (iblk m c 8 t) := by
  rw [step_sumQ, if_neg (by omega), stAt0_C m c t st (by omega) (by omega)]
  dsimp only
  exact (last ..).2.2.2.2.2.1

theorem step_foldK (h : t.val = 7) : (stAt0 m c t.val t.isLt st).2.2.2.2.1 = k0_pay5 (stAt0 m c t.val t.isLt st).2.2.2.2.2.2 (iblk m c 8 t) := by
  rw [step_sumK, if_neg (by omega), stAt0_C m c t st (by omega) (by omega)]
  dsimp only
  exact (last ..).2.2.2.2.2.2

end Step

/-- The carried tuple after tile `n`. -/
abbrev after (n : Nat) (h : 0 + n < cfg0.N) : Carried := Pipeline.accAt (fun n h => stAt0 m c n h junk0) (stAt0 m c) 0 n h

theorem after_step (n : Nat) (h : 0 + n < cfg0.N) : ∃ st, after m c n h = stAt0 m c n (by omega) st := by
  cases n with
  | zero => exact ⟨_, rfl⟩
  | succ n =>
    refine ⟨after m c n (by omega), ?_⟩
    have e : 0 + (n + 1) = n + 1 := Nat.zero_add _
    show Pipeline.accAt _ _ 0 (n + 1) h = _
    rw [Pipeline.accAt_succ]
    simp only [e]

/-- A number read off the carried tuple that the first tile sets to its own share and to which each later tile adds its share is,
    after tile `n`, the sum of the shares of tiles `0 … n`. -/
theorem fold_sum (π : Carried → EReal) (M : Nat → EReal)
    (hstep : ∀ (t : Fin cfg0.N) (st : Carried), π (stAt0 m c t.val t.isLt st) = (if t.val = 0 then 0 else π st) + M t.val) :
    ∀ (n : Nat) (h : 0 + n < cfg0.N), π (after m c n h) = ∑ s ∈ Finset.range (n + 1), M s
  | 0, h => by
    rw [Finset.sum_range_one]
    exact (hstep ⟨0, by omega⟩ junk0).trans (by rw [if_pos rfl, zero_add])
  | n + 1, h => by
    have e : 0 + (n + 1) = n + 1 := Nat.zero_add _
    rw [Finset.sum_range_succ, ← fold_sum π M hstep n (by omega)]
    show π (Pipeline.accAt _ _ 0 (n + 1) h) = _
    rw [Pipeline.accAt_succ]
    simp only [e]
    exact (hstep ⟨n + 1, by omega⟩ _).trans (by rw [if_neg (Nat.succ_ne_zero n)])

theorem pt_eq (R : Fin 4096) (j : Fin 512) : 1 * (R.val / 512 - 0) + 1 * (j.val / 512 - 0) = R.val / 512 := by omega

theorem loc_eq (R : Fin 4096) (j : Fin 512) : loc9Of (ix2 R j) = ix2 ⟨R.val % 512, by omega⟩ j := by
  funext a
  apply Fin.ext
  match a with
  | ⟨0, _⟩ => rfl
  | ⟨1, _⟩ => show j.val % 512 = j.val; omega

theorem rowOf_div (R : Fin 4096) : rowOf (R.val / 512) ⟨R.val % 512, by omega⟩ = R := by
  rw [rowOf_lt (by omega)]
  apply Fin.ext
  dsimp only
  omega

/-! ## The five result arrays -/

/-- The gradient that arrives at the values is handed on. -/
theorem arr_v (R : Fin 4096) (j : Fin 512) : G11 m c (ix2 R j) = argDV m c (ix2 R j) := by
  have hN : cfg0.N = 8 := N_0
  have hp : pt11Of (ix2 R j) = R.val / 512 := pt_eq R j
  have hlt : R.val / 512 < cfg0.N := by omega
  unfold G11
  rw [dif_pos (by omega), show loc11Of (ix2 R j) = _ from loc_eq R j]
  obtain ⟨st, hst⟩ := after_step m c (R.val / 512) (by omega)
  simp only [hp]
  show (after m c _ _).2.2.1 _ = _
  rw [hst, step_v m c ⟨R.val / 512, hlt⟩, dv_apply, blkDV, rowOf_div]

section Queries

variable {z e : Fin 4096 → Fin 512 → ℝ} {g : Fin 64 → ℝ} (hz : ∀ R (l : Fin 512), argZ m c (ix2 R (colQ l)) = (z R l : EReal))
  (he : ∀ R j, argDQ m c (ix2 R j) = (e R j : EReal)) (hg : ∀ d, argQ m c (ix2 0 d) = (g d : EReal))

include hz he hg in
theorem arr_q (R : Fin 4096) (j : Fin 512) : G9 m c (ix2 R j) = ((grad (z R) (fun l => e R l * (1 / 8)) g j : ℝ) : EReal) := by
  have hN : cfg0.N = 8 := N_0
  have hp : pt9Of (ix2 R j) = R.val / 512 := pt_eq R j
  have hlt : R.val / 512 < cfg0.N := by omega
  unfold G9
  rw [dif_pos (by omega), loc_eq]
  obtain ⟨st, hst⟩ := after_step m c (R.val / 512) (by omega)
  simp only [hp]
  show (after m c _ _).1 _ = _
  rw [hst, step_q m c ⟨R.val / 512, hlt⟩, gradQ_apply]
  simp only [blkDQ, blkQ, rowOf_div, he, hg, eighth_eq, ← EReal.coe_mul]
  exact dcol_real (fun l => (blkZq m c _ _ l).trans (by rw [rowOf_div, hz])) (blkOnes m c _) _ g j

include hz he in
theorem step_gq (t : Fin cfg0.N) (st : Carried) (l : Fin 512) : (stAt0 m c t.val t.isLt st).2.2.2.2.2.1 (ix2 0 l)
    = (if t.val = 0 then 0 else st.2.2.2.2.2.1 (ix2 0 l))
      + ∑ r : Fin 512, ((e (rowOf t r) l * (1 / 8) * hat (z (rowOf t r)) l : ℝ) : EReal) := by
  rw [step_sumQ, sumQ_apply]
  congr 1
  · split
    · exact zeroQ_apply l
    · rfl
  · refine Finset.sum_congr rfl fun r _ => ?_
    rw [hat_real (fun l => (blkZq m c t r l).trans (hz _ l)) (blkOnes m c t), blkDQ, he, eighth_eq, EReal.coe_mul, EReal.coe_mul]

include hz he in
theorem arr_gq (a : Fin 8) (j : Fin 128) : G12 m c (ix2 a j) = if h : j.val < 64 then ∑ k : Fin 8, ∑ R : Fin 4096,
    ((e R ⟨64 * k.val + j.val, by omega⟩ * (1 / 8) * hat (z R) ⟨64 * k.val + j.val, by omega⟩ : ℝ) : EReal) else 0 := by
  have hN : cfg0.N = 8 := N_0
  rw [G12_last]
  obtain ⟨st, hst⟩ := after_step m c 7 (by omega)
  have h := step_foldQ m c ⟨7, by omega⟩ st rfl
  show (after m c _ _).2.2.2.1 _ = _
  rw [hst]
  refine (congrFun h _).trans ?_
  rw [foldQ_apply, fold_heads _ (fun l => (iblk m c 8 ⟨7, by omega⟩ : Vec Ideal S512x128 .f32) (ix2 l j)) j fun l => blkFold m c _ l j]
  refine dite_congr rfl (fun hj => Finset.sum_congr rfl fun k _ => ?_) fun _ => rfl
  rw [sum_rows]
  have sum := fold_sum m c (fun st => st.2.2.2.2.2.1 (ix2 0 ⟨64 * k.val + j.val, by omega⟩))
    (fun t => ∑ r : Fin 512, ((e (rowOf t r) ⟨64 * k.val + j.val, by omega⟩ * (1 / 8) * hat (z (rowOf t r)) ⟨64 * k.val + j.val, by omega⟩ : ℝ) : EReal))
    (fun t st => step_gq m c hz he t st ⟨64 * k.val + j.val, by omega⟩) 7 (by omega)
  rw [hst] at sum
  exact sum

end Queries

section Keys

variable {z e : Fin 4096 → Fin 512 → ℝ} {g : Fin 64 → ℝ} (hz : ∀ R (l : Fin 512), argZ m c (ix2 R (colK l)) = (z R l : EReal))
  (he : ∀ R j, argDK m c (ix2 R j) = (e R j : EReal)) (hg : ∀ d, argK m c (ix2 0 d) = (g d : EReal))

include hz he hg in
theorem arr_k (R : Fin 4096) (j : Fin 512) : G10 m c (ix2 R j) = ((grad (z R) (e R) g j : ℝ) : EReal) := by
  have hN : cfg0.N = 8 := N_0
  have hp : pt10Of (ix2 R j) = R.val / 512 := pt_eq R j
  have hlt : R.val / 512 < cfg0.N := by omega
  unfold G10
  rw [dif_pos (by omega), show loc10Of (ix2 R j) = _ from loc_eq R j]
  obtain ⟨st, hst⟩ := after_step m c (R.val / 512) (by omega)
  simp only [hp]
  show (after m c _ _).2.1 _ = _
  rw [hst, step_k m c ⟨R.val / 512, hlt⟩, gradK_apply]
  simp only [blkDK, blkK, rowOf_div, he, hg]
  exact dcol_real (fun l => (blkZk m c _ _ l).trans (by rw [rowOf_div, hz])) (blkOnes m c _) _ g j

include hz he in
theorem step_gk (t : Fin cfg0.N) (st : Carried) (l : Fin 512) : (stAt0 m c t.val t.isLt st).2.2.2.2.2.2 (ix2 0 l)
    = (if t.val = 0 then 0 else st.2.2.2.2.2.2 (ix2 0 l)) + ∑ r : Fin 512, ((e (rowOf t r) l * hat (z (rowOf t r)) l : ℝ) : EReal) := by
  rw [step_sumK, sumK_apply]
  congr 1
  · split
    · exact zeroK_apply l
    · rfl
  · refine Finset.sum_congr rfl fun r _ => ?_
    rw [hat_real (fun l => (blkZk m c t r l).trans (hz _ l)) (blkOnes m c t), blkDK, he, EReal.coe_mul]

include hz he in
theorem arr_gk (a : Fin 8) (j : Fin 128) : G13 m c (ix2 a j) = if h : j.val < 64 then ∑ k : Fin 8, ∑ R : Fin 4096,
    ((e R ⟨64 * k.val + j.val, by omega⟩ * hat (z R) ⟨64 * k.val + j.val, by omega⟩ : ℝ) : EReal) else 0 := by
  have hN : cfg0.N = 8 := N_0
  rw [G13_last]
  obtain ⟨st, hst⟩ := after_step m c 7 (by omega)
  have h := step_foldK m c ⟨7, by omega⟩ st rfl
  show (after m c _ _).2.2.2.2.1 _ = _
  rw [hst]
  refine (congrFun h _).trans ?_
  rw [foldK_apply, fold_heads _ (fun l => (iblk m c 8 ⟨7, by omega⟩ : Vec Ideal S512x128 .f32) (ix2 l j)) j fun l => blkFold m c _ l j]
  refine dite_congr rfl (fun hj => Finset.sum_congr rfl fun k _ => ?_) fun _ => rfl
  rw [sum_rows]
  have sum := fold_sum m c (fun st => st.2.2.2.2.2.2 (ix2 0 ⟨64 * k.val + j.val, by omega⟩))
    (fun t => ∑ r : Fin 512, ((e (rowOf t r) ⟨64 * k.val + j.val, by omega⟩ * hat (z (rowOf t r)) ⟨64 * k.val + j.val, by omega⟩ : ℝ) : EReal))
    (fun t st => step_gk m c hz he t st ⟨64 * k.val + j.val, by omega⟩) 7 (by omega)
  rw [hst] at sum
  exact sum

end Keys

end Cert.Kernel6Ideal.Tile
-- ==== Proof.Heads.Finite.lean ====
/-
  The precondition of the gradient of the heads' norms read back: where it holds, the columns of the queries and keys, the two
  gradients that arrive and the two gains are real.
-/
module

public import proofs.«01_k».proof.Defs
public import proofs.«01_k».proof.Proof.Gating.Finite

@[expose] public section

set_option maxRecDepth 16384

noncomputable section

open Idealize.ShloMosaic Idealize.ShloMosaic.TcCoe Idealize.SL.Sem

namespace Cert.Pre_finite6

/-- The side conditions of the precondition's operations. -/
theorem facts : Facts where
  slices_S4096x3584_S4096x1024_0_1536 := by decide
  bitsLt_bf16_f32 := by decide
  bcast_S_S4096x1024 := by decide
  reducesTo_S4096x1024_S_d0_1 := by decide
  h_S_ := by decide
  bcast_S_S4096x512 := by decide
  reducesTo_S4096x512_S_d0_1 := by decide
  bcast_S_S1x64 := by decide
  reducesTo_S1x64_S_d0_1 := by decide

attribute [local instance] facts

variable {Z : FVec Ideal S4096x3584 .bf16} {DQ DK DV : FVec Ideal S4096x512 .f32} {Q K : FVec Ideal S1x64 .f32}

instance : Subsingleton S_.Idx := ⟨fun i j => by funext x; exact x.elim0⟩

/-- A column of the slice of `z`. -/
theorem slice_apply (R : Fin 4096) (l : Fin 1024) : (extf .f32 (extractStridedSlice S4096x1024 ![0, 1536] Z Facts.slices_S4096x3584_S4096x1024_0_1536)
    Facts.bitsLt_bf16_f32 : FVec Ideal S4096x1024 .f32) (ix2 R l) = Z (ix2 R ⟨1536 + l.val, by omega⟩) := by
  pointwise

/-- The precondition is the conjunction of its five parts. -/
theorem parts (h : fn (F := Ideal) Z DQ DK DV Q K = fun _ => 1#1) :
    (∀ (R : Fin 4096) (l : Fin 1024), ∃ r : ℝ, Z (ix2 R ⟨1536 + l.val, by omega⟩) = (r : EReal)) ∧ (∀ i, ∃ r : ℝ, DQ i = (r : EReal))
    ∧ (∀ i, ∃ r : ℝ, DK i = (r : EReal)) ∧ (∀ i, ∃ r : ℝ, Q i = (r : EReal)) ∧ (∀ i, ∃ r : ℝ, K i = (r : EReal)) := by
  obtain ⟨h, hk⟩ := IntOp.andi_eq_one.mp (congrFun h (Shape.Idx.first Facts.h_S_))
  obtain ⟨h, hq⟩ := IntOp.andi_eq_one.mp h
  obtain ⟨h, hdk⟩ := IntOp.andi_eq_one.mp h
  obtain ⟨hz, hdq⟩ := IntOp.andi_eq_one.mp h
  refine ⟨fun R l => ?_, fun i => Cert.Pre_finite.real_of_small ?_, fun i => Cert.Pre_finite.real_of_small ?_,
    fun i => Cert.Pre_finite.real_of_small ?_, fun i => Cert.Pre_finite.real_of_small ?_⟩
  · rw [← slice_apply (Z := Z) R l]
    exact Cert.Pre_finite.real_of_small (Host.reduce_andi_all _ _ _ _ _ hz (ix2 R l))
  · exact Host.reduce_andi_all _ _ _ _ _ hdq i
  · exact Host.reduce_andi_all _ _ _ _ _ hdk i
  · exact Host.reduce_andi_all _ _ _ _ _ hq i
  · exact Host.reduce_andi_all _ _ _ _ _ hk i

end Cert.Pre_finite6
-- ==== Proof.Heads.Reference.lean ====
/-
  The reference's gradient of the heads' norms over the extended reals: its five results as short terms, read at an index and,
  on real arguments, in the formulas of one row.
-/
module

public import proofs.«01_k».proof.Proof.Gen.Reference6Ideal.Run
public import proofs.«01_k».proof.Proof.Heads.Row
public import Idealize.ShloMosaic.Lib.Pointwise

@[expose] public section

set_option maxRecDepth 16384

noncomputable section

open Idealize.ShloMosaic Idealize.ShloMosaic.TcCoe Idealize.SL.Sem

namespace Cert.Reference6Ideal.Heads

open Cert.Reference6Ideal Cert.Reference6Ideal.Gen Cert.Reference6Ideal.Value Cert.Input Cert.Heads

/-! ## The terms -/

/-- The queries' and the keys' columns, head by head, and a gradient that arrives, head by head. -/
def headsQ (Z : FVec Ideal S4096x3584 .bf16) : FVec Ideal S4096x8x64 .f32 :=
  shapeCast _ (extf .f32 (extractStridedSlice S4096x512 ![0, 1536] Z slices_S4096x3584_S4096x512_0_1536) bitsLt_bf16_f32 : FVec Ideal S4096x512 .f32) shapeCasts_S4096x512_S4096x8x64
def headsK (Z : FVec Ideal S4096x3584 .bf16) : FVec Ideal S4096x8x64 .f32 :=
  shapeCast _ (extf .f32 (extractStridedSlice S4096x512 ![0, 2048] Z slices_S4096x3584_S4096x512_0_2048) bitsLt_bf16_f32 : FVec Ideal S4096x512 .f32) shapeCasts_S4096x512_S4096x8x64
def cotK (D : FVec Ideal S4096x512 .f32) : FVec Ideal S4096x8x64 .f32 := shapeCast _ D shapeCasts_S4096x512_S4096x8x64
def cotQ (D : FVec Ideal S4096x512 .f32) : FVec Ideal S4096x8x64 .f32 :=
  mulf (cotK D) (broadcastInDim S4096x8x64 ![] bcast_S_S4096x8x64 (constant S_ .f32 0x3E000000#32))

/-- A gain, repeated over rows and heads. -/
def gain (g : FVec Ideal S1x64 .f32) : FVec Ideal S4096x8x64 .f32 := broadcastInDim S4096x8x64 ![0, 1, 2] bcast_S1x1x64_S4096x8x64_0_1_2
  (broadcastInDim S1x1x64 ![2] bcast_S64_S1x1x64_2 (shapeCast _ g shapeCasts_S1x64_S64 : FVec Ideal S64 .f32))

variable (Y N C : FVec Ideal S4096x8x64 .f32)

/-- The heads' mean squares. -/
def sq : FVec Ideal S4096x8x1 .f32 := addf (Host.divf (broadcastInDim S4096x8x1 ![0, 1] bcast_S4096x8_S4096x8x1_0_1
    (Host.reduceAdd (mulf Y Y) (constant S_ .f32 0x00000000#32) reducesTo_S4096x8x64_S4096x8_d2 h_S_))
  (broadcastInDim S4096x8x1 ![] bcast_S_S4096x8x1 (constant S_ .f32 0x42800000#32))) (broadcastInDim S4096x8x1 ![] bcast_S_S4096x8x1 (constant S_ .f32 0x358637BD#32))

/-- The reciprocal roots, along the heads' columns. -/
def rs : FVec Ideal S4096x8x64 .f32 := broadcastInDim S4096x8x64 ![0, 1, 2] bcast_S4096x8x1_S4096x8x64_0_1_2 (Host.rsqrt (sq Y))

/-- The gradient in a column through its head's mean square, but for the factor that is the column. -/
def coef : FVec Ideal S4096x8x64 .f32 := broadcastInDim S4096x8x64 ![0, 1] bcast_S4096x8_S4096x8x64_0_1 (Host.reduceAdd
  (Host.divf (mulf (shapeCast _ (Host.reduceAdd (mulf Y N) (constant S_ .f32 0x00000000#32) reducesTo_S4096x8x64_S4096x8_d2 h_S_ : FVec Ideal S4096x8 .f32) shapeCasts_S4096x8_S4096x8x1)
      (mulf (broadcastInDim S4096x8x1 ![] bcast_S_S4096x8x1 (constant S_ .f32 0xBF000000#32)) (Host.divf (Host.rsqrt (sq Y)) (sq Y))))
    (broadcastInDim S4096x8x1 ![] bcast_S_S4096x8x1 (constant S_ .f32 0x42800000#32)))
  (constant S_ .f32 0x00000000#32) reducesTo_S4096x8x1_S4096x8_d2 h_S_)

/-- The gradient in the heads. -/
def back : FVec Ideal S4096x8x64 .f32 := addf (addf (mulf N (rs Y)) (mulf Y (coef Y N))) (mulf (coef Y N) Y)

/-- It in rows, narrowed. -/
def outRow : FVec Ideal S4096x512 .bf16 := truncf .bf16 (shapeCast _ (back Y N) shapeCasts_S4096x8x64_S4096x512 : FVec Ideal S4096x512 .f32) bitsLt_bf16_f32

/-- The gradient in the gain, and in the shape that the call returns it in. -/
def gsum : FVec Ideal S64 .f32 := Host.reduceAdd (shapeCast _ (Host.reduceAdd (mulf (mulf Y (rs Y)) C) (constant S_ .f32 0x00000000#32)
  reducesTo_S4096x8x64_S64_d0_1 h_S_ : FVec Ideal S64 .f32) shapeCasts_S64_S1x1x64) (constant S_ .f32 0x00000000#32) reducesTo_S1x1x64_S64_d0_1 h_S_
def outGain : FVec Ideal S8x128 .f32 := broadcastInDim S8x128 ![0, 1] bcast_S1x128_S8x128_0_1 (concatenate S1x128 1
  [⟨S1x64, (broadcastInDim S1x64 ![1] bcast_S64_S1x64_1 (gsum Y C) : FVec Ideal S1x64 .f32)⟩,
    ⟨S1x64, (broadcastInDim S1x64 ![] bcast_S_S1x64 (constant S_ .f32 0x00000000#32) : FVec Ideal S1x64 .f32)⟩] concatenates_S1x64_S1x64_S1x128_d1)

/-! ## The terms at an index -/

/-- A sum over the two leading axes of three. -/
theorem sum_lead {a b n : Nat} (h : (⟨3, ![a, b, n]⟩ : Shape).ReducesTo [0, 1] ⟨1, ![n]⟩) (v : (⟨3, ![a, b, n]⟩ : Shape).Idx → EReal) (init : EReal)
    (d : Fin n) : Ideal.hostReduceAdd h v init (ix1 d) = init + ∑ p : Fin a, ∑ q : Fin b, v (ix3 p q d) := by
  have fiber (i : (⟨3, ![a, b, n]⟩ : Shape).Idx) : h.drop i = ix1 d ↔ ∃ k : Fin a × Fin b, ix3 k.1 k.2 d = i := by
    constructor
    · intro e
      refine ⟨(i 0, i 1), ?_⟩
      funext x
      apply Fin.ext
      match x with
      | ⟨0, _⟩ => rfl
      | ⟨1, _⟩ => rfl
      | ⟨2, _⟩ => exact (congrArg Fin.val (congrFun e ⟨0, Nat.one_pos⟩)).symm
    · rintro ⟨k, rfl⟩
      funext x
      apply Fin.ext
      match x with
      | ⟨0, _⟩ => rfl
  refine congrArg (init + ·) ((Finset.sum_filter_eq_sum_of_fiber _ (fun k : Fin a × Fin b => ix3 k.1 k.2 d)
    (fun _ _ e => Prod.ext (congrFun e 0) (congrFun e 1)) fiber v).trans ?_)
  simp only [Fintype.sum_prod_type]

/-- Column `d` of head `h`. -/
abbrev col (h : Fin 8) (d : Fin 64) : Fin 512 := ⟨64 * h.val + d.val, by omega⟩

theorem headsQ_apply (Z : FVec Ideal S4096x3584 .bf16) (R : Fin 4096) (h : Fin 8) (d : Fin 64) :
    headsQ Z (ix3 R h d) = Z (ix2 R (colQ (col h d))) := by
  pointwise [headsQ]
  exact congrArg Z (congrArg (ix2 R) (Fin.ext (by show 1536 + (h.val * 64 + d.val) = _ + (64 * h.val + d.val); omega)))

theorem headsK_apply (Z : FVec Ideal S4096x3584 .bf16) (R : Fin 4096) (h : Fin 8) (d : Fin 64) :
    headsK Z (ix3 R h d) = Z (ix2 R (colK (col h d))) := by
  pointwise [headsK]
  exact congrArg Z (congrArg (ix2 R) (Fin.ext (by show 2048 + (h.val * 64 + d.val) = _ + (64 * h.val + d.val); omega)))

theorem cotK_apply (D : FVec Ideal S4096x512 .f32) (R : Fin 4096) (h : Fin 8) (d : Fin 64) : cotK D (ix3 R h d) = D (ix2 R (col h d)) := by
  pointwise [cotK]
  exact congrArg D (congrArg (ix2 R) (Fin.ext (by show h.val * 64 + d.val = 64 * h.val + d.val; omega)))

theorem cotQ_apply (D : FVec Ideal S4096x512 .f32) (R : Fin 4096) (h : Fin 8) (d : Fin 64) :
    cotQ D (ix3 R h d) = D (ix2 R (col h d)) * Ideal.ofBits .f32 0x3E000000#32 := by
  rw [← cotK_apply D R h d]
  pointwise [cotQ]

theorem gain_apply (g : FVec Ideal S1x64 .f32) (R : Fin 4096) (h : Fin 8) (d : Fin 64) : gain g (ix3 R h d) = g (ix2 0 d) := by
  pointwise [gain]

theorem sq_apply (R : Fin 4096) (h : Fin 8) : sq Y (ix3 R h 0) = Ideal.div (∑ d : Fin 64, Y (ix3 R h d) * Y (ix3 R h d)) (Ideal.ofBits .f32 0x42800000#32)
    + Ideal.ofBits .f32 0x358637BD#32 := by
  pointwise [sq]

theorem rs_apply (R : Fin 4096) (h : Fin 8) (d : Fin 64) : rs Y (ix3 R h d) = Ideal.rsqrt (sq Y (ix3 R h 0)) := by
  pointwise [rs]

theorem coef_apply (R : Fin 4096) (h : Fin 8) (d : Fin 64) : coef Y N (ix3 R h d)
    = Ideal.div ((∑ e : Fin 64, Y (ix3 R h e) * N (ix3 R h e)) * (Ideal.ofBits .f32 0xBF000000#32
        * Ideal.div (Ideal.rsqrt (sq Y (ix3 R h 0))) (sq Y (ix3 R h 0)))) (Ideal.ofBits .f32 0x42800000#32) := by
  pointwise [coef]
  exact Fin.sum_univ_one _

theorem back_apply (R : Fin 4096) (h : Fin 8) (d : Fin 64) : back Y N (ix3 R h d)
    = N (ix3 R h d) * rs Y (ix3 R h d) + Y (ix3 R h d) * coef Y N (ix3 R h d) + coef Y N (ix3 R h d) * Y (ix3 R h d) := by
  pointwise [back]

/-- The head of column `j`. -/
abbrev head (j : Fin 512) : Fin 8 := ⟨j.val / 64, by omega⟩

theorem outRow_apply (R : Fin 4096) (j : Fin 512) : outRow Y N (ix2 R j) = back Y N (ix3 R (head j) (place j)) := by
  pointwise [outRow]

theorem gsum_apply (d : Fin 64) : gsum Y C (ix1 d) = ∑ R : Fin 4096, ∑ h : Fin 8, Y (ix3 R h d) * rs Y (ix3 R h d) * C (ix3 R h d) := by
  pointwise [gsum, sum_lead]
  exact (Fin.sum_univ_one _).trans (Fin.sum_univ_one _)

theorem outGain_apply (a : Fin 8) (j : Fin 128) : outGain Y C (ix2 a j) = if h : j.val < 64 then gsum Y C (ix1 ⟨j.val, h⟩) else 0 := by
  pointwise [outGain]

/-! ## On real arguments -/

section Real

open Cert.Gating (coe_sum div_real rsqrt_real eps_eq neg_half_eq)

theorem lane_col (h : Fin 8) (d f : Fin 64) : lane (col h d) f = col h f := Fin.ext (by
  show 64 * ((64 * h.val + d.val) / 64) + f.val = 64 * h.val + f.val
  omega)

theorem place_col (h : Fin 8) (d : Fin 64) : place (col h d) = d := Fin.ext (by
  show (64 * h.val + d.val) % 64 = d.val
  omega)

theorem col_head (j : Fin 512) : col (head j) (place j) = j := Fin.ext (by
  show 64 * (j.val / 64) + j.val % 64 = j.val
  omega)

variable {Y N C} {z e : Fin 4096 → Fin 512 → ℝ} {g : Fin 64 → ℝ}
  (hY : ∀ R h d, Y (ix3 R h d) = (z R (col h d) : EReal)) (hN : ∀ R h d, N (ix3 R h d) = ((e R (col h d) * g d : ℝ) : EReal))
  (hC : ∀ R h d, C (ix3 R h d) = (e R (col h d) : EReal))

include hY in
theorem sq_real (R : Fin 4096) (h : Fin 8) (d : Fin 64) : sq Y (ix3 R h 0) = ((hm (z R) (col h d) : ℝ) : EReal) := by
  rw [sq_apply]
  unfold hm
  simp only [hY, lane_col, ← EReal.coe_mul, coe_sum, head_width_eq, eps_eq]
  rw [div_real (by norm_num), ← EReal.coe_add]

include hY in
theorem rs_real (R : Fin 4096) (h : Fin 8) (d : Fin 64) : rs Y (ix3 R h d) = (((Real.sqrt (hm (z R) (col h d)))⁻¹ : ℝ) : EReal) := by
  rw [rs_apply, sq_real hY R h d, rsqrt_real (hm_pos _ _)]

include hY hN in
theorem back_real (R : Fin 4096) (h : Fin 8) (d : Fin 64) : back Y N (ix3 R h d) = ((grad (z R) (e R) g (col h d) : ℝ) : EReal) := by
  rw [back_apply, rs_real hY, coef_apply, sq_real hY R h d, rsqrt_real (hm_pos _ _), div_real (hm_pos _ _).ne', forms]
  simp only [hY, hN, lane_col, place_col, ← EReal.coe_mul, coe_sum, head_width_eq, neg_half_eq]
  rw [div_real (by norm_num)]
  simp only [← EReal.coe_mul, ← EReal.coe_add]

include hY hN in
theorem outRow_real (R : Fin 4096) (j : Fin 512) : outRow Y N (ix2 R j) = ((grad (z R) (e R) g j : ℝ) : EReal) := by
  rw [outRow_apply, back_real hY hN, col_head]

include hY hC in
theorem outGain_real (a : Fin 8) (j : Fin 128) : outGain Y C (ix2 a j)
    = if h : j.val < 64 then ∑ k : Fin 8, ∑ R : Fin 4096, ((e R (col k ⟨j.val, h⟩) * hat (z R) (col k ⟨j.val, h⟩) : ℝ) : EReal) else 0 := by
  rw [outGain_apply]
  split
  · rename_i h
    rw [gsum_apply, Finset.sum_comm]
    refine Finset.sum_congr rfl fun k _ => Finset.sum_congr rfl fun R _ => ?_
    rw [hY, hC, rs_real hY, ← EReal.coe_mul, ← EReal.coe_mul]
    exact congrArg _ (mul_comm _ _)
  · rfl

end Real

/-! ## The five results -/

section Results

variable (Z : FVec Ideal S4096x3584 .bf16) (D : FVec Ideal S4096x512 .f32) (G : FVec Ideal S1x64 .f32)

def outQ : FVec Ideal S4096x512 .bf16 := outRow (headsQ Z) (mulf (cotQ D) (gain G))
def outK : FVec Ideal S4096x512 .bf16 := outRow (headsK Z) (mulf (cotK D) (gain G))
def outV : FVec Ideal S4096x512 .bf16 := truncf .bf16 D bitsLt_bf16_f32
def outGQ : FVec Ideal S8x128 .f32 := outGain (headsQ Z) (cotQ D)
def outGK : FVec Ideal S8x128 .f32 := outGain (headsK Z) (cotK D)

theorem outV_apply (R : Fin 4096) (j : Fin 512) : outV D (ix2 R j) = D (ix2 R j) := by
  pointwise [outV]

variable {Z D G} {z e : Fin 4096 → Fin 512 → ℝ} {g : Fin 64 → ℝ} (hd : ∀ R j, D (ix2 R j) = (e R j : EReal)) (hg : ∀ d, G (ix2 0 d) = (g d : EReal))

include hd in
theorem cotQ_real (R : Fin 4096) (h : Fin 8) (d : Fin 64) : cotQ D (ix3 R h d) = ((e R (col h d) * (1 / 8) : ℝ) : EReal) := by
  rw [cotQ_apply, hd, eighth_eq, EReal.coe_mul]

include hd in
theorem cotK_real (R : Fin 4096) (h : Fin 8) (d : Fin 64) : cotK D (ix3 R h d) = (e R (col h d) : EReal) := by
  rw [cotK_apply, hd]

variable (hq : ∀ R (l : Fin 512), Z (ix2 R (colQ l)) = (z R l : EReal)) (hk : ∀ R (l : Fin 512), Z (ix2 R (colK l)) = (z R l : EReal))

include hd hg hq in
theorem outQ_real (R : Fin 4096) (j : Fin 512) : outQ Z D G (ix2 R j) = ((grad (z R) (fun l => e R l * (1 / 8)) g j : ℝ) : EReal) := by
  refine outRow_real (e := fun R l => e R l * (1 / 8)) (fun R h d => (headsQ_apply Z R h d).trans (hq R _)) (fun R h d => ?_) R j
  rw [EReal.coe_mul, ← cotQ_real hd, ← hg d, ← gain_apply G R h d]
  rfl

include hd hg hk in
theorem outK_real (R : Fin 4096) (j : Fin 512) : outK Z D G (ix2 R j) = ((grad (z R) (e R) g j : ℝ) : EReal) := by
  refine outRow_real (fun R h d => (headsK_apply Z R h d).trans (hk R _)) (fun R h d => ?_) R j
  rw [EReal.coe_mul, ← cotK_real hd, ← hg d, ← gain_apply G R h d]
  rfl

include hd hq in
theorem outGQ_real (a : Fin 8) (j : Fin 128) : outGQ Z D (ix2 a j) = if h : j.val < 64 then
    ∑ k : Fin 8, ∑ R : Fin 4096, ((e R (col k ⟨j.val, h⟩) * (1 / 8) * hat (z R) (col k ⟨j.val, h⟩) : ℝ) : EReal) else 0 :=
  outGain_real (e := fun R l => e R l * (1 / 8)) (fun R h d => (headsQ_apply Z R h d).trans (hq R _)) (cotQ_real hd) a j

include hd hk in
theorem outGK_real (a : Fin 8) (j : Fin 128) : outGK Z D (ix2 a j) = if h : j.val < 64 then
    ∑ k : Fin 8, ∑ R : Fin 4096, ((e R (col k ⟨j.val, h⟩) * hat (z R) (col k ⟨j.val, h⟩) : ℝ) : EReal) else 0 :=
  outGain_real (fun R h d => (headsK_apply Z R h d).trans (hk R _)) (cotK_real hd) a j

end Results

section Run

variable (m : (ℓ : Loc nD τ sig) → Buf (Elt Ideal) ℓ) (c : Dev nD)

abbrev argZ : FVec Ideal S4096x3584 .bf16 := m ((c.tc : Thread nD τ).loc main_arg0)
abbrev argDQ : FVec Ideal S4096x512 .f32 := m ((c.tc : Thread nD τ).loc main_arg1)
abbrev argDK : FVec Ideal S4096x512 .f32 := m ((c.tc : Thread nD τ).loc main_arg2)
abbrev argDV : FVec Ideal S4096x512 .f32 := m ((c.tc : Thread nD τ).loc main_arg3)
abbrev argQ : FVec Ideal S1x64 .f32 := m ((c.tc : Thread nD τ).loc main_arg4)
abbrev argK : FVec Ideal S1x64 .f32 := m ((c.tc : Thread nD τ).loc main_arg5)

theorem out_q : res_main_v94 m c = outQ (argZ m c) (argDQ m c) (argQ m c) := rfl

theorem out_k : res_main_v95 m c = outK (argZ m c) (argDK m c) (argK m c) := rfl

end Run

end Cert.Reference6Ideal.Heads
-- ==== Proof.Heads.Equation.lean ====
/-
  The gradient of the heads' norms: the five arrays the kernel leaves are the reference's five results. The values' gradient
  agrees over the extended reals; the other four agree on real arguments.
-/
module

public import proofs.«01_k».proof.Proof.Heads.Arrays
public import proofs.«01_k».proof.Proof.Heads.Finite
public import proofs.«01_k».proof.Proof.Heads.Reference

@[expose] public section

set_option maxRecDepth 16384

noncomputable section

open Idealize.ShloMosaic Idealize.ShloMosaic.TcCoe Idealize.SL.Sem

namespace Cert.Kernel6Ideal.Tile

open Cert.Kernel6Ideal Cert.Kernel6Ideal.Gen Cert.Kernel6Ideal.Value Cert.Input Cert.Heads

attribute [local instance] Cert.Pre_finite6.facts

variable (m : (ℓ : Loc nD τ sig) → Buf (Elt Ideal) ℓ) (c : Dev nD)

theorem v_eq : G11 m c = Cert.Reference6Ideal.Heads.outV (argDV m c) := by
  funext i
  idx_vars i
  exact (arr_v m c i0 i1).trans (Cert.Reference6Ideal.Heads.outV_apply _ i0 i1).symm

variable (h : Cert.Pre_finite6.fn (F := Ideal) (argZ m c) (argDQ m c) (argDK m c) (argDV m c) (argQ m c) (argK m c) = fun _ => 1#1)

include h

/-- Where the precondition holds: the queries' columns, the gradient that arrives at them and their gain are real. -/
theorem given_q : ∃ (z e : Fin 4096 → Fin 512 → ℝ) (g : Fin 64 → ℝ), (∀ R (l : Fin 512), argZ m c (ix2 R (colQ l)) = (z R l : EReal))
    ∧ (∀ R j, argDQ m c (ix2 R j) = (e R j : EReal)) ∧ ∀ d, argQ m c (ix2 0 d) = (g d : EReal) := by
  obtain ⟨hz, he, -, hg, -⟩ := Cert.Pre_finite6.parts h
  choose z hz using hz
  choose e he using he
  choose g hg using hg
  exact ⟨fun R l => z R ⟨l.val, by omega⟩, fun R j => e (ix2 R j), fun d => g (ix2 0 d), fun R l => hz R ⟨l.val, by omega⟩, fun R j => he _, fun d => hg _⟩

/-- And the keys'. -/
theorem given_k : ∃ (z e : Fin 4096 → Fin 512 → ℝ) (g : Fin 64 → ℝ), (∀ R (l : Fin 512), argZ m c (ix2 R (colK l)) = (z R l : EReal))
    ∧ (∀ R j, argDK m c (ix2 R j) = (e R j : EReal)) ∧ ∀ d, argK m c (ix2 0 d) = (g d : EReal) := by
  obtain ⟨hz, -, he, -, hg⟩ := Cert.Pre_finite6.parts h
  choose z hz using hz
  choose e he using he
  choose g hg using hg
  refine ⟨fun R l => z R ⟨512 + l.val, by omega⟩, fun R j => e (ix2 R j), fun d => g (ix2 0 d), fun R l => ?_, fun R j => he _, fun d => hg _⟩
  rw [← hz R ⟨512 + l.val, by omega⟩]
  exact congrArg (argZ m c) (congrArg (ix2 R) (Fin.ext (by show 2048 + l.val = 1536 + (512 + l.val); omega)))

theorem q_eq : G9 m c = Cert.Reference6Ideal.Heads.outQ (argZ m c) (argDQ m c) (argQ m c) := by
  obtain ⟨z, e, g, hz, he, hg⟩ := given_q m c h
  funext i
  idx_vars i
  exact (arr_q m c hz he hg i0 i1).trans (Cert.Reference6Ideal.Heads.outQ_real he hg hz i0 i1).symm

theorem k_eq : G10 m c = Cert.Reference6Ideal.Heads.outK (argZ m c) (argDK m c) (argK m c) := by
  obtain ⟨z, e, g, hz, he, hg⟩ := given_k m c h
  funext i
  idx_vars i
  exact (arr_k m c hz he hg i0 i1).trans (Cert.Reference6Ideal.Heads.outK_real he hg hz i0 i1).symm

theorem gq_eq : G12 m c = Cert.Reference6Ideal.Heads.outGQ (argZ m c) (argDQ m c) := by
  obtain ⟨z, e, -, hz, he, -⟩ := given_q m c h
  funext i
  idx_vars i
  exact (arr_gq m c hz he i0 i1).trans (Cert.Reference6Ideal.Heads.outGQ_real he hz i0 i1).symm

theorem gk_eq : G13 m c = Cert.Reference6Ideal.Heads.outGK (argZ m c) (argDK m c) := by
  obtain ⟨z, e, -, hz, he, -⟩ := given_k m c h
  funext i
  idx_vars i
  exact (arr_gk m c hz he i0 i1).trans (Cert.Reference6Ideal.Heads.outGK_real he hz i0 i1).symm

end Cert.Kernel6Ideal.Tile
-- ==== Proof.Context.Tile.lean ====
/-
  The context's share of the input projection's data gradient: its one tile's three sums over the context's rows, as the
  body's own terms, then at a column; and the three result arrays after the run.
-/
module

public import proofs.«01_k».proof.Proof.Gen.Kernel7Ideal.Value
public import proofs.«01_k».proof.Proof.Modulate.Row

@[expose] public section

set_option maxRecDepth 16384

noncomputable section

open Idealize.ShloMosaic Idealize.ShloMosaic.TcCoe Idealize.SL.Sem
open Idealize.ShloMosaic.Pipeline (Dat)

namespace Cert.Kernel7Ideal.Tile

open Cert.Kernel7Ideal Cert.Kernel7Ideal.Gen Cert.Kernel7Ideal.Value Cert.Modulate

/-- Row `q` of the weights' two pieces among the 1024 rows the call reads, and row `l` of those among all. -/
abbrev rowW (k : Fin 2) (q : Fin 512) : Fin 1024 := ⟨512 * k.val + q.val, by omega⟩
abbrev rowAll (l : Fin 1024) : Fin 3584 := ⟨2048 + l.val, by omega⟩

section Contents

variable {F : FTy → Type} [FloatOps F]

theorem hz : (![0, 0] : Fin 2 → Nat) = fun _ => 0 := funext fun a => by fin_cases a <;> rfl

/-- The 512 rows of the weights that start at row `o`. -/
abbrev rRow (o : Nat) (hb : ∀ a, (![o, 0] : Fin 2 → Nat) a + S512x1024.size a ≤ S1024x1024.size a) : Rect S1024x1024 :=
  Rect.unit ![o, 0] ![512, 1024] hb

abbrev w0 (w : Vec F S1024x1024 .bf16) : Vec F S512x1024 .bf16 := View.ld w (rRow 0 inb_S1024x1024_S512x1024_0_0)
abbrev w1 (w : Vec F S1024x1024 .bf16) : Vec F S512x1024 .bf16 := View.ld w (rRow 512 inb_S1024x1024_S512x1024_512_0)

/-- The gradient of the modulated rows. -/
def dh (d0 d1 : Vec F S256x512 .bf16) (w : Vec F S1024x1024 .bf16) : FVec F S256x1024 .f32 := k0_pay6 d0 (w0 w) d1 (w1 w)

variable (c : Dev nD) (i : grid0.Coords)
  (a1 : Memref sig .tc .vmem S256x512 .bf16) (h1 : a1.IsWhole) (a2 : Memref sig .tc .vmem S256x512 .bf16) (h2 : a2.IsWhole)
  (a3 : Memref sig .tc .vmem S1024x1024 .bf16) (h3 : a3.IsWhole) (a4 : Memref sig .tc .vmem S256x1024 .f32) (h4 : a4.IsWhole)
  (a5 : Memref sig .tc .vmem S1x1024 .f32) (h5 : a5.IsWhole) (a6 : Memref sig .tc .vmem S1x1024 .f32) (h6 : a6.IsWhole)
  (a7 : Memref sig .tc .vmem S1x1024 .f32) (h7 : a7.IsWhole) (a8 : Memref sig .tc .vmem S1x1024 .f32) (h8 : a8.IsWhole)
  (a9 : Memref sig .tc .vmem S1x1024 .f32) (h9 : a9.IsWhole) (a10 : Memref sig .tc .vmem S1x1024 .f32) (h10 : a10.IsWhole)
  (d0 d1 : Vec F S256x512 .bf16) (w : Vec F S1024x1024 .bf16) (x : Vec F S256x1024 .f32) (g sc sh : Vec F S1x1024 .f32)

/-- What the tile leaves: the sums start from zero. -/
theorem only (hc : cond0_0 i) :
    out0_A_7 c i a1 h1 a2 h2 a3 h3 a4 h4 a5 h5 a6 h6 a7 h7 a8 h8 a9 h9 a10 h10 hc d0 d1 w x g sc sh = k0_pay9 d0 (w0 w) d1 (w1 w) k0_pay3
    ∧ out0_A_8 c i a1 h1 a2 h2 a3 h3 a4 h4 a5 h5 a6 h6 a7 h7 a8 h8 a9 h9 a10 h10 hc d0 d1 w x g sc sh = k0_pay1 (dh d0 d1 w) (k0_pay7 x) g k0_pay4
    ∧ out0_A_9 c i a1 h1 a2 h2 a3 h3 a4 h4 a5 h5 a6 h6 a7 h7 a8 h8 a9 h9 a10 h10 hc d0 d1 w x g sc sh
      = k0_pay2 (dh d0 d1 w) (k0_pay7 x) (k0_pay8 sc) k0_pay5 := by
  refine ⟨?_, ?_, ?_⟩
  all_goals first | unfold out0_A_7 | unfold out0_A_8 | unfold out0_A_9
  all_goals
    rw [View.read_writes_junk_eq_canon]
    unfold kernelRun0_A
    dsimp only
    sl_unfold_words
    rw [View.canon_cons_unit_zero (S := S1x1024) hz]
    simp only [View.readCov_unit_zero (S := S1x1024) _ hz, View.readAt_eq_ld, h1.read_unread, h2.read_unread, h3.read_unread, h4.read_unread,
      h5.read_unread, h6.read_unread, h7.read_unread, View.ld_unit_zero (S := S256x512) hz, View.ld_unit_zero (S := S256x1024) hz,
      View.ld_unit_zero (S := S1x1024) hz, dh]

end Contents

/-! ## The terms at an index -/

section Entries

variable (d0 d1 : Vec Ideal S256x512 .bf16) (w : Vec Ideal S1024x1024 .bf16) (x : Vec Ideal S256x1024 .f32) (g sc p : Vec Ideal S1x1024 .f32)

/-- Rows of the weights read at an index. -/
theorem ld_row {o : Nat} (hb : ∀ a, (![o, 0] : Fin 2 → Nat) a + S512x1024.size a ≤ S1024x1024.size a) (k : Fin 2) (ho : o = 512 * k.val)
    (q : Fin 512) (j : Fin 1024) : View.ld w (rRow o hb) (ix2 q j) = w (ix2 (rowW k q) j) := by
  subst ho
  refine congrArg w ?_
  funext a
  apply Fin.ext
  match a with
  | ⟨0, _⟩ => show 512 * k.val + 1 * q.val = 512 * k.val + q.val; omega
  | ⟨1, _⟩ => show 0 + 1 * j.val = j.val; omega

theorem two_apply (v0 v1 : Vec Ideal S512x1024 .bf16) (r : Fin 256) (j : Fin 1024) : k0_pay6 d0 v0 d1 v1 (ix2 r j)
    = ∑ q : Fin 512, d0 (ix2 r q) * v0 (ix2 q j) + ∑ q : Fin 512, d1 (ix2 r q) * v1 (ix2 q j) := by
  pointwise [k0_pay6]

theorem dh_apply (r : Fin 256) (j : Fin 1024) : dh d0 d1 w (ix2 r j)
    = ∑ k : Fin 2, ∑ q : Fin 512, (![d0, d1] k : Vec Ideal S256x512 .bf16) (ix2 r q) * w (ix2 (rowW k q) j) := by
  unfold dh
  rw [two_apply, Fin.sum_univ_two]
  simp only [ld_row w inb_S1024x1024_S512x1024_0_0 0 rfl, ld_row w inb_S1024x1024_S512x1024_512_0 1 rfl]
  rfl

theorem norm_apply (r : Fin 256) (j : Fin 1024) : k0_pay7 x (ix2 r j) = normRow (fun j => x (ix2 r j)) j := by
  pointwise [k0_pay7, normRow, meanSq]

theorem dsh_apply (j : Fin 1024) : k0_pay9 d0 (w0 w) d1 (w1 w) (k0_pay3 : FVec Ideal S1x1024 .f32) (ix2 0 j) = ∑ r : Fin 256, dh d0 d1 w (ix2 r j) := by
  have e : k0_pay9 d0 (w0 w) d1 (w1 w) (k0_pay3 : FVec Ideal S1x1024 .f32) (ix2 0 j) = 0 + ∑ r : Fin 256, dh d0 d1 w (ix2 r j) := by
    unfold k0_pay9
    rw [show k0_pay6 d0 (w0 w) d1 (w1 w) = dh d0 d1 w from rfl]
    generalize dh d0 d1 w = D
    pointwise [k0_pay3]
  rw [e, zero_add]

theorem dsc_apply (D : Vec Ideal S256x1024 .f32) (j : Fin 1024) : k0_pay1 D (k0_pay7 x) g (k0_pay4 : FVec Ideal S1x1024 .f32) (ix2 0 j)
    = ∑ r : Fin 256, D (ix2 r j) * normRow (fun j => x (ix2 r j)) j * g (ix2 0 j) := by
  have e : k0_pay1 D (k0_pay7 x) g (k0_pay4 : FVec Ideal S1x1024 .f32) (ix2 0 j) = 0 + ∑ r : Fin 256, D (ix2 r j) * k0_pay7 x (ix2 r j) * g (ix2 0 j) := by
    generalize k0_pay7 x = N
    pointwise [k0_pay1, k0_pay4]
  rw [e, zero_add]
  simp only [norm_apply]

theorem dg_apply (D : Vec Ideal S256x1024 .f32) (j : Fin 1024) : k0_pay2 D (k0_pay7 x) (k0_pay8 sc) (k0_pay5 : FVec Ideal S1x1024 .f32) (ix2 0 j)
    = ∑ r : Fin 256, D (ix2 r j) * (Ideal.ofBits .f32 0x3F800000#32 + sc (ix2 0 j)) * normRow (fun j => x (ix2 r j)) j := by
  have e : k0_pay2 D (k0_pay7 x) (k0_pay8 sc) (k0_pay5 : FVec Ideal S1x1024 .f32) (ix2 0 j)
      = 0 + ∑ r : Fin 256, D (ix2 r j) * (Ideal.ofBits .f32 0x3F800000#32 + sc (ix2 0 j)) * k0_pay7 x (ix2 r j) := by
    generalize k0_pay7 x = N
    pointwise [k0_pay2, k0_pay5, k0_pay8]
  rw [e, zero_add]
  simp only [norm_apply]

end Entries

/-! ## The arrays -/

variable (m : (ℓ : Loc nD τ sig) → Buf (Elt Ideal) ℓ) (c : Dev nD)

abbrev argK : Vec Ideal S256x512 .bf16 := m ((c.tc : Thread nD τ).loc main_arg0)
abbrev argV : Vec Ideal S256x512 .bf16 := m ((c.tc : Thread nD τ).loc main_arg1)
abbrev argW : Vec Ideal S3584x1024 .bf16 := m ((c.tc : Thread nD τ).loc main_arg2)
abbrev argX : Vec Ideal S256x1024 .f32 := m ((c.tc : Thread nD τ).loc main_arg3)
abbrev argG : Vec Ideal S1x1024 .f32 := m ((c.tc : Thread nD τ).loc main_arg4)
abbrev argSC : Vec Ideal S1x1024 .f32 := m ((c.tc : Thread nD τ).loc main_arg5)

/-- The gradient of the context's modulated rows. -/
def dhM (r : Fin 256) (j : Fin 1024) : EReal :=
  ∑ k : Fin 2, ∑ q : Fin 512, (![argK m c, argV m c] k : Vec Ideal S256x512 .bf16) (ix2 r q) * argW m c (ix2 (rowAll (rowW k q)) j)

theorem index : ∀ t : Fin cfg0.N, (win0_0.index t 0 = 0 ∧ win0_0.index t 1 = 0) ∧ (win0_1.index t 0 = 0 ∧ win0_1.index t 1 = 0)
    ∧ (win0_2.index t 0 = 2 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) := by decide +kernel

/-- An index of an array kept whole. -/
theorem ix_whole {n k : Nat} (r : Fin n) (j : Fin k) (a b : Nat) (ha : a = 0) (hb : b = 0)
    (x : (⟨2, ![n, k]⟩ : Shape).Idx) (h0 : (x 0).val = a * n + 1 * r.val) (h1 : (x 1).val = b * k + 1 * j.val) : x = ix2 r j := by
  subst ha hb
  funext i
  apply Fin.ext
  match i with
  | ⟨0, _⟩ => exact h0.trans (show 0 * n + 1 * r.val = r.val by omega)
  | ⟨1, _⟩ => exact h1.trans (show 0 * k + 1 * j.val = j.val by omega)

/-- An index of the weights in the block the call reads. -/
theorem ix_weights (l j : Fin 1024) (a b : Nat) (ha : a = 2) (hb : b = 0) (x : S3584x1024.Idx) (h0 : (x 0).val = a * 1024 + 1 * l.val)
    (h1 : (x 1).val = b * 1024 + 1 * j.val) : x = ix2 (rowAll l) j := by
  subst ha hb
  funext i
  apply Fin.ext
  match i with
  | ⟨0, _⟩ => exact h0.trans (show 2 * 1024 + 1 * l.val = 2048 + l.val by omega)
  | ⟨1, _⟩ => exact h1.trans (show 0 * 1024 + 1 * j.val = j.val by omega)

variable (t : Fin cfg0.N)

theorem blkD (k : Fin 2) (r : Fin 256) (q : Fin 512) :
    (![iblk m c 0 t, iblk m c 1 t] k : Vec Ideal S256x512 .bf16) (ix2 r q) = (![argK m c, argV m c] k : Vec Ideal S256x512 .bf16) (ix2 r q) := by
  obtain ⟨h0, h1, -⟩ := index t
  match k with
  | 0 => exact congrArg (argK m c) (ix_whole r q _ _ h0.1 h0.2 _ rfl rfl)
  | 1 => exact congrArg (argV m c) (ix_whole r q _ _ h1.1 h1.2 _ rfl rfl)

theorem blkW (l j : Fin 1024) : (X0_2 m c t : Vec Ideal S1024x1024 .bf16) (ix2 l j) = argW m c (ix2 (rowAll l) j) := by
  obtain ⟨-, -, h, -⟩ := index t
  unfold X0_2 Pipeline.Window.fill
  rw [dif_pos (moved0_2 t _)]
  exact congrArg (argW m c) (ix_weights l j _ _ h.1 h.2 _ rfl rfl)

theorem blkX (r : Fin 256) (j : Fin 1024) : (iblk m c 3 t : Vec Ideal S256x1024 .f32) (ix2 r j) = argX m c (ix2 r j) := by
  obtain ⟨-, -, -, h, -⟩ := index t
  exact congrArg (argX m c) (ix_whole r j _ _ h.1 h.2 _ rfl rfl)

theorem blkG (j : Fin 1024) : (iblk m c 4 t : Vec Ideal S1x1024 .f32) (ix2 0 j) = argG m c (ix2 0 j) := by
  obtain ⟨-, -, -, -, h, -⟩ := index t
  exact congrArg (argG m c) (ix_whole 0 j _ _ h.1 h.2 _ rfl rfl)

theorem blkSC (j : Fin 1024) : (iblk m c 5 t : Vec Ideal S1x1024 .f32) (ix2 0 j) = argSC m c (ix2 0 j) := by
  obtain ⟨-, -, -, -, -, h, -⟩ := index t
  exact congrArg (argSC m c) (ix_whole 0 j _ _ h.1 h.2 _ rfl rfl)

theorem dhT_apply (r : Fin 256) (j : Fin 1024) : dh (iblk m c 0 t) (iblk m c 1 t) (X0_2 m c t) (ix2 r j) = dhM m c r j := by
  refine (dh_apply _ _ _ r j).trans ?_
  unfold dhM
  refine Finset.sum_congr rfl fun k _ => Finset.sum_congr rfl fun q _ => ?_
  rw [blkW]
  exact congrArg (· * argW m c (ix2 (rowAll (rowW k q)) j)) (blkD m c t k r q)

theorem tile_dsh (j : Fin 1024) : (outsAt0 m c t).1 (ix2 0 j) = ∑ r : Fin 256, dhM m c r j := by
  unfold outsAt0
  dsimp only
  rw [(only ..).1, dsh_apply]
  simp only [dhT_apply]

theorem tile_dsc (j : Fin 1024) : (outsAt0 m c t).2.1 (ix2 0 j)
    = ∑ r : Fin 256, dhM m c r j * normRow (fun j => argX m c (ix2 r j)) j * argG m c (ix2 0 j) := by
  unfold outsAt0
  dsimp only
  rw [(only ..).2.1, dsc_apply]
  simp only [dhT_apply, blkX, blkG]

theorem tile_dg (j : Fin 1024) : (outsAt0 m c t).2.2 (ix2 0 j)
    = ∑ r : Fin 256, dhM m c r j * (Ideal.ofBits .f32 0x3F800000#32 + argSC m c (ix2 0 j)) * normRow (fun j => argX m c (ix2 r j)) j := by
  unfold outsAt0
  dsimp only
  rw [(only ..).2.2, dg_apply]
  simp only [dhT_apply, blkX, blkSC]

/-- The one tile. -/
abbrev tile0 : Fin cfg0.N := ⟨0, by decide⟩

theorem arr_dsh (j : Fin 1024) : (dats m 0 c).arrAt 7 cfg0.N (ix2 0 j : S1x1024.Idx) = ∑ r : Fin 256, dhM m c r j := by
  obtain ⟨-, -, -, -, -, -, h, -⟩ := index tile0
  refine Eq.trans ?_ ((congrFun ((blocks7 m c tile0 (by decide +kernel)).trans (flushed7 m c tile0)) (ix2 0 j)).trans (tile_dsh m c tile0 j))
  rw [View.read_apply]
  exact (congrArg ((dats m 0 c).arrAt 7 cfg0.N) (ix_whole 0 j _ _ h.1 h.2 _ rfl rfl)).symm

theorem arr_dsc (j : Fin 1024) : (dats m 0 c).arrAt 8 cfg0.N (ix2 0 j : S1x1024.Idx)
    = ∑ r : Fin 256, dhM m c r j * normRow (fun j => argX m c (ix2 r j)) j * argG m c (ix2 0 j) := by
  obtain ⟨-, -, -, -, -, -, -, h, -⟩ := index tile0
  refine Eq.trans ?_ ((congrFun ((blocks8 m c tile0 (by decide +kernel)).trans (flushed8 m c tile0)) (ix2 0 j)).trans (tile_dsc m c tile0 j))
  rw [View.read_apply]
  exact (congrArg ((dats m 0 c).arrAt 8 cfg0.N) (ix_whole 0 j _ _ h.1 h.2 _ rfl rfl)).symm

theorem arr_dg (j : Fin 1024) : (dats m 0 c).arrAt 9 cfg0.N (ix2 0 j : S1x1024.Idx)
    = ∑ r : Fin 256, dhM m c r j * (Ideal.ofBits .f32 0x3F800000#32 + argSC m c (ix2 0 j)) * normRow (fun j => argX m c (ix2 r j)) j := by
  obtain ⟨-, -, -, -, -, -, -, -, h⟩ := index tile0
  refine Eq.trans ?_ ((congrFun ((blocks9 m c tile0 (by decide +kernel)).trans (flushed9 m c tile0)) (ix2 0 j)).trans (tile_dg m c tile0 j))
  rw [View.read_apply]
  exact (congrArg ((dats m 0 c).arrAt 9 cfg0.N) (ix_whole 0 j _ _ h.1 h.2 _ rfl rfl)).symm

end Cert.Kernel7Ideal.Tile
-- ==== Proof.Context.Equation.lean ====
/-
  The context's share of the input projection's data gradient: the reference's three results as short terms read at a
  column, and the three arrays the kernel leaves, which are those. They agree over the extended reals, on any arguments.
-/
module

public import proofs.«01_k».proof.Proof.Gen.Reference7Ideal.Run
public import proofs.«01_k».proof.Proof.Context.Tile

@[expose] public section

set_option maxRecDepth 16384

noncomputable section

open Idealize.ShloMosaic Idealize.ShloMosaic.TcCoe Idealize.SL.Sem

namespace Cert.Reference7Ideal.Context

open Cert.Reference7Ideal Cert.Reference7Ideal.Gen Cert.Reference7Ideal.Value Cert.Modulate
open Cert.Kernel7Ideal.Tile (rowW rowAll)

variable (K V : FVec Ideal S256x512 .bf16) (W : FVec Ideal S3584x1024 .bf16) (X : FVec Ideal S256x1024 .f32) (G SC : FVec Ideal S1x1024 .f32)

/-! ## The terms -/

/-- The gradients of the keys and of the values, side by side. -/
def dz : FVec Ideal S256x1024 .bf16 := concatenate S256x1024 1 [⟨S256x512, K⟩, ⟨S256x512, V⟩] concatenates_S256x512_S256x512_S256x1024_d1

/-- The gradient of the modulated rows. -/
def dh : FVec Ideal S256x1024 .f32 := Host.dotGeneral (F := Ideal) dot_S256x1024_S1024x1024_S256x1024_1_1_0_0_n_n none
  (extf .f32 (dz K V) bitsLt_bf16_f32) (extf .f32 (extractStridedSlice S1024x1024 ![0, 2048]
    (transpose S1024x3584 [1, 0] W transposes_S3584x1024_S1024x3584_1_0) slices_S1024x3584_S1024x1024_0_2048) bitsLt_bf16_f32)

/-- The normalised rows. -/
def xn : FVec Ideal S256x1024 .f32 := mulf X (broadcastInDim S256x1024 ![0, 1] bcast_S256x1_S256x1024_0_1 (Host.rsqrt (addf
  (Host.divf (broadcastInDim S256x1 ![0] bcast_S256_S256x1_0 (Host.reduceAdd (mulf X X) (constant S_ .f32 0x00000000#32) reducesTo_S256x1024_S256_d1 h_S_))
    (broadcastInDim S256x1 ![] bcast_S_S256x1 (constant S_ .f32 0x44800000#32))) (broadcastInDim S256x1 ![] bcast_S_S256x1 (constant S_ .f32 0x358637BD#32)))))

/-- The gain and one plus the scale, along the rows. -/
def gain : FVec Ideal S256x1024 .f32 := broadcastInDim S256x1024 ![0, 1] bcast_S1x1024_S256x1024_0_1
  (broadcastInDim S1x1024 ![1] bcast_S1024_S1x1024_1 (shapeCast _ G shapeCasts_S1x1024_S1024 : FVec Ideal S1024 .f32))
def onep : FVec Ideal S256x1024 .f32 := broadcastInDim S256x1024 ![0, 1] bcast_S1x1024_S256x1024_0_1
  (addf (broadcastInDim S1x1024 ![] bcast_S_S1x1024 (constant S_ .f32 0x3F800000#32)) SC)

variable (D : FVec Ideal S256x1024 .f32)

/-- The three results, of the gradient `D` of the modulated rows. -/
def dshift : FVec Ideal S1x1024 .f32 := shapeCast _ (Host.reduceAdd D (constant S_ .f32 0x00000000#32)
  reducesTo_S256x1024_S1024_d0 h_S_ : FVec Ideal S1024 .f32) shapeCasts_S1024_S1x1024
def dscale : FVec Ideal S1x1024 .f32 := shapeCast _ (Host.reduceAdd (mulf (mulf (xn X) (gain G)) D)
  (constant S_ .f32 0x00000000#32) reducesTo_S256x1024_S1024_d0 h_S_ : FVec Ideal S1024 .f32) shapeCasts_S1024_S1x1024
def dgain : FVec Ideal S1x1024 .f32 := broadcastInDim S1x1024 ![1] bcast_S1024_S1x1024_1 (Host.reduceAdd (shapeCast _
    (Host.reduceAdd (mulf (xn X) (mulf D (onep SC))) (constant S_ .f32 0x00000000#32) reducesTo_S256x1024_S1024_d0 h_S_ : FVec Ideal S1024 .f32)
    shapeCasts_S1024_S1x1024 : FVec Ideal S1x1024 .f32) (constant S_ .f32 0x00000000#32) reducesTo_S1x1024_S1024_d0 h_S_ : FVec Ideal S1024 .f32)

/-! ## The terms at an index -/

theorem sum_cols {M : Type*} [AddCommMonoid M] (f : Fin 1024 → M) : ∑ J : Fin 1024, f J = ∑ k : Fin 2, ∑ q : Fin 512, f (rowW k q) := by
  rw [← (finProdFinEquiv (m := 2) (n := 512)).sum_comp f, Fintype.sum_prod_type]
  refine Finset.sum_congr rfl fun k _ => Finset.sum_congr rfl fun q _ => congrArg f (Fin.ext ?_)
  show q.val + 512 * k.val = 512 * k.val + q.val
  omega

/-- An entry at two equal columns. -/
theorem at_col (E : FVec Ideal S256x512 .bf16) (r : Fin 256) (q : Fin 512) (n : Nat) (hn : n < 512) (e : n = q.val) :
    E (ix2 r ⟨n, hn⟩) = E (ix2 r q) := by
  subst e
  rfl

theorem dz_apply (r : Fin 256) (k : Fin 2) (q : Fin 512) : dz K V (ix2 r (rowW k q)) = (![K, V] k : FVec Ideal S256x512 .bf16) (ix2 r q) := by
  pointwise [dz]
  refine dite_eq_iff'.mpr ⟨fun _ => ?_, fun _ => ?_⟩
  · exact (at_col K r q _ _ (by omega)).trans (by rw [show k = 0 from Fin.ext (by show k.val = 0; omega)]; rfl)
  exact (at_col V r q _ _ (by omega)).trans (by rw [show k = 1 from Fin.ext (by show k.val = 1; omega)]; rfl)

theorem dh_at (r : Fin 256) (j : Fin 1024) : dh K V W (ix2 r j) = ∑ l : Fin 1024, dz K V (ix2 r l) * W (ix2 (rowAll l) j) := by
  pointwise [dh]

theorem dh_apply (r : Fin 256) (j : Fin 1024) : dh K V W (ix2 r j)
    = ∑ k : Fin 2, ∑ q : Fin 512, (![K, V] k : FVec Ideal S256x512 .bf16) (ix2 r q) * W (ix2 (rowAll (rowW k q)) j) := by
  rw [dh_at, sum_cols]
  simp only [dz_apply]

theorem xn_apply (r : Fin 256) (j : Fin 1024) : xn X (ix2 r j) = normRow (fun j => X (ix2 r j)) j := by
  pointwise [xn, normRow, meanSq]

theorem dshift_apply (j : Fin 1024) : dshift D (ix2 0 j) = ∑ r : Fin 256, D (ix2 r j) := by
  pointwise [dshift]

theorem dscale_apply (j : Fin 1024) : dscale X G D (ix2 0 j) = ∑ r : Fin 256, normRow (fun j => X (ix2 r j)) j * G (ix2 0 j) * D (ix2 r j) := by
  simp only [← xn_apply]
  pointwise [dscale, gain]

theorem dgain_apply (j : Fin 1024) : dgain X SC D (ix2 0 j)
    = ∑ r : Fin 256, normRow (fun j => X (ix2 r j)) j * (D (ix2 r j) * (Ideal.ofBits .f32 0x3F800000#32 + SC (ix2 0 j))) := by
  simp only [← xn_apply]
  pointwise [dgain, onep]
  exact Fin.sum_univ_one _

/-! ## The run's arguments -/

variable (m : (ℓ : Loc nD τ sig) → Buf (Elt Ideal) ℓ) (c : Dev nD)

abbrev argK : FVec Ideal S256x512 .bf16 := m ((c.tc : Thread nD τ).loc main_arg0)
abbrev argV : FVec Ideal S256x512 .bf16 := m ((c.tc : Thread nD τ).loc main_arg1)
abbrev argW : FVec Ideal S3584x1024 .bf16 := m ((c.tc : Thread nD τ).loc main_arg2)
abbrev argX : FVec Ideal S256x1024 .f32 := m ((c.tc : Thread nD τ).loc main_arg3)
abbrev argG : FVec Ideal S1x1024 .f32 := m ((c.tc : Thread nD τ).loc main_arg4)
abbrev argSC : FVec Ideal S1x1024 .f32 := m ((c.tc : Thread nD τ).loc main_arg5)

end Cert.Reference7Ideal.Context

namespace Cert.Kernel7Ideal.Tile

open Cert.Kernel7Ideal Cert.Kernel7Ideal.Gen Cert.Kernel7Ideal.Value Cert.Modulate

variable (m : (ℓ : Loc nD τ sig) → Buf (Elt Ideal) ℓ) (c : Dev nD)

/-- The reference's gradient of the modulated rows, of the kernel's arguments, is the kernel's. -/
theorem refDh_apply (r : Fin 256) (j : Fin 1024) : Cert.Reference7Ideal.Context.dh (argK m c) (argV m c) (argW m c) (ix2 r j) = dhM m c r j :=
  Cert.Reference7Ideal.Context.dh_apply _ _ _ r j

theorem dsh_eq : (dats m 0 c).arrAt 7 cfg0.N
    = Cert.Reference7Ideal.Context.dshift (Cert.Reference7Ideal.Context.dh (argK m c) (argV m c) (argW m c)) := by
  funext i
  idx_vars i
  obtain rfl : i0 = (0 : Fin 1) := Fin.fin_one_eq_zero i0
  refine (arr_dsh m c i1).trans (Eq.trans (?_ : (_ : EReal) = _) (Cert.Reference7Ideal.Context.dshift_apply _ i1).symm)
  exact Finset.sum_congr rfl fun r _ => (refDh_apply m c r i1).symm

theorem dsc_eq : (dats m 0 c).arrAt 8 cfg0.N
    = Cert.Reference7Ideal.Context.dscale (argX m c) (argG m c) (Cert.Reference7Ideal.Context.dh (argK m c) (argV m c) (argW m c)) := by
  funext i
  idx_vars i
  obtain rfl : i0 = (0 : Fin 1) := Fin.fin_one_eq_zero i0
  refine (arr_dsc m c i1).trans (Eq.trans (?_ : (_ : EReal) = _) (Cert.Reference7Ideal.Context.dscale_apply _ _ _ i1).symm)
  refine Finset.sum_congr rfl fun r _ => ?_
  rw [mul_assoc, mul_comm]
  exact congrArg (normRow (fun j => argX m c (ix2 r j)) i1 * argG m c (ix2 0 i1) * ·) (refDh_apply m c r i1).symm

theorem dg_eq : (dats m 0 c).arrAt 9 cfg0.N
    = Cert.Reference7Ideal.Context.dgain (argX m c) (argSC m c) (Cert.Reference7Ideal.Context.dh (argK m c) (argV m c) (argW m c)) := by
  funext i
  idx_vars i
  obtain rfl : i0 = (0 : Fin 1) := Fin.fin_one_eq_zero i0
  refine (arr_dg m c i1).trans (Eq.trans (?_ : (_ : EReal) = _) (Cert.Reference7Ideal.Context.dgain_apply _ _ _ i1).symm)
  refine Finset.sum_congr rfl fun r _ => ?_
  rw [mul_comm]
  exact congrArg (fun e => normRow (fun j => argX m c (ix2 r j)) i1 * (e * (Ideal.ofBits .f32 0x3F800000#32 + argSC m c (ix2 0 i1))))
    (refDh_apply m c r i1).symm

end Cert.Kernel7Ideal.Tile
-- ==== Proof.ContextKeys.Tile.lean ====
/-
  The gradient of the norm of the context's keys: its one tile's three results, as the body's own terms, then at a row and a
  column.
-/
module

public import proofs.«01_k».proof.Proof.Gen.Kernel8Ideal.Value
public import proofs.«01_k».proof.Proof.Heads.Row
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.Kernel8Ideal.Tile

open Cert.Kernel8Ideal Cert.Kernel8Ideal.Gen

section Contents

variable {F : FTy → Type} [FloatOps F]

theorem hz : (![0, 0] : Fin 2 → Nat) = fun _ => 0 := funext fun a => by fin_cases a <;> rfl

/-- The tile's gradient in the keys, and its sum over the rows for the gain. -/
def gradK (z : Vec F S256x512 .bf16) (d : Vec F S256x512 .f32) (g : Vec F S1x512 .f32) (O : Vec F S512x512 .bf16) : Vec F S256x512 .bf16 :=
  k0_pay1 (k0_pay7 z O) (k0_pay8 z O) (k0_pay10 d g) (k0_pay11 z d g O O) (Scalar.ofBits .f32 0x3C800000#32)
def sumK (z : Vec F S256x512 .bf16) (d : Vec F S256x512 .f32) (O : Vec F S512x512 .bf16) : Vec F S1x512 .f32 :=
  k0_pay2 (k0_pay9 z d O) k0_pay5

variable (c : Dev nD) (i : grid0.Coords)
  (a1 : Memref sig .tc .vmem S256x512 .bf16) (h1 : a1.IsWhole) (a2 : Memref sig .tc .vmem S256x512 .f32) (h2 : a2.IsWhole)
  (a3 : Memref sig .tc .vmem S256x512 .f32) (h3 : a3.IsWhole) (a4 : Memref sig .tc .vmem S512x512 .bf16) (h4 : a4.IsWhole)
  (a5 : Memref sig .tc .vmem S1x512 .f32) (h5 : a5.IsWhole) (a6 : Memref sig .tc .vmem S512x128 .f32) (h6 : a6.IsWhole)
  (a7 : Memref sig .tc .vmem S256x512 .bf16) (h7 : a7.IsWhole) (a8 : Memref sig .tc .vmem S256x512 .bf16) (h8 : a8.IsWhole)
  (a9 : Memref sig .tc .vmem S8x128 .f32) (h9 : a9.IsWhole) (a10 : Memref sig .tc .vmem S1x512 .f32) (h10 : a10.IsWhole)
  (z : Vec F S256x512 .bf16) (d dv : Vec F S256x512 .f32) (O : Vec F S512x512 .bf16) (g : Vec F S1x512 .f32) (fold : Vec F S512x128 .f32)

/-- What the tile leaves: it is the first and the last, so the carried sum starts from zero and is folded at once. -/
theorem only (hc0 : cond0_0 i) (hc1 : cond0_1 i) :
    out0_A_6 c i a1 h1 a2 h2 a3 h3 a4 h4 a5 h5 a6 h6 a7 h7 a8 h8 a9 h9 a10 h10 hc0 hc1 z d dv O g fold = gradK z d g O
    ∧ out0_A_7 c i a1 h1 a2 h2 a3 h3 a4 h4 a5 h5 a6 h6 a7 h7 a8 h8 a9 h9 a10 h10 hc0 hc1 z d dv O g fold = k0_pay3 dv
    ∧ out0_A_8 c i a1 h1 a2 h2 a3 h3 a4 h4 a5 h5 a6 h6 a7 h7 a8 h8 a9 h9 a10 h10 hc0 hc1 z d dv O g fold = k0_pay4 (sumK z d O) fold := by
  refine ⟨?_, ?_, ?_⟩
  all_goals first | unfold out0_A_6 | unfold out0_A_7 | unfold out0_A_8
  all_goals
    rw [View.read_writes_junk_eq_canon]
    unfold kernelRun0_A
    dsimp only
    sl_unfold_words
    rw [View.canon_unit_zero hz]
    simp only [View.readCov_unit_zero (S := S1x512) _ hz, View.readAt_eq_ld, h1.read_unread,
      h2.read_unread, h3.read_unread, h4.read_unread, h5.read_unread, h6.read_unread, View.ld_unit_zero (S := S256x512) hz,
      View.ld_unit_zero (S := S512x512) hz, View.ld_unit_zero (S := S1x512) hz, View.ld_unit_zero (S := S512x128) hz, gradK, sumK]
  rw [View.readCov_cons_unit_lit' (S := S1x512) _ _ _ _ _ (congrFun hz) (congrFun hz)]

end Contents

/-! ## The terms at a row and a column -/

section Entries

variable (z : Vec Ideal S256x512 .bf16) (d : Vec Ideal S256x512 .f32) (g : Vec Ideal S1x512 .f32) (O : Vec Ideal S512x512 .bf16)

/-- The reciprocal root of the mean square of a column's head, as the tile computes it. -/
def inv (r : Fin 256) (j : Fin 512) : EReal :=
  Ideal.rsqrt ((∑ l : Fin 512, z (ix2 r l) * z (ix2 r l) * O (ix2 l j)
      + ∑ l : Fin 512, (z (ix2 r l) * z (ix2 r l) - z (ix2 r l) * z (ix2 r l)) * O (ix2 l j)) * Ideal.ofBits .f32 0x3C800000#32
    + Ideal.ofBits .f32 0x358637BD#32)

/-- A column of the gradient of the norm. -/
def dcol (e gg : Fin 512 → EReal) (r : Fin 256) (j : Fin 512) : EReal :=
  inv z O r j * (e j * gg j - z (ix2 r j) * inv z O r j
    * ((∑ l : Fin 512, e l * gg l * (z (ix2 r l) * inv z O r l) * O (ix2 l j)
        + ∑ l : Fin 512, (e l * gg l * (z (ix2 r l) * inv z O r l) - e l * gg l * (z (ix2 r l) * inv z O r l)) * O (ix2 l j))
      * Ideal.ofBits .f32 0x3C800000#32))

theorem pay7_apply (r : Fin 256) (j : Fin 512) : k0_pay7 z O (ix2 r j) = inv z O r j := by
  pointwise [k0_pay7, k0_pay6, inv]

theorem pay8_apply (r : Fin 256) (j : Fin 512) : k0_pay8 z O (ix2 r j) = z (ix2 r j) * inv z O r j := by
  rw [← pay7_apply]
  unfold k0_pay8
  generalize k0_pay7 z O = A
  pointwise [k0_pay6]

theorem gradK_apply (r : Fin 256) (j : Fin 512) :
    gradK z d g O (ix2 r j) = dcol z O (fun l => d (ix2 r l)) (fun l => g (ix2 0 l)) r j := by
  unfold dcol
  simp only [← pay8_apply z O]
  rw [← pay7_apply]
  unfold gradK k0_pay11
  generalize k0_pay7 z O = A
  generalize k0_pay8 z O = B
  pointwise [k0_pay1, k0_pay10]

theorem sumK_apply (j : Fin 512) : sumK z d O (ix2 0 j) = ∑ r : Fin 256, d (ix2 r j) * (z (ix2 r j) * inv z O r j) := by
  have e : sumK z d O (ix2 0 j) = 0 + ∑ r : Fin 256, d (ix2 r j) * k0_pay8 z O (ix2 r j) := by
    unfold sumK k0_pay9
    generalize k0_pay8 z O = B
    pointwise [k0_pay2, k0_pay5]
  rw [e, zero_add]
  simp only [pay8_apply]

theorem foldK_apply (acc : Vec Ideal S1x512 .f32) (fold : Vec Ideal S512x128 .f32) (a : Fin 8) (j : Fin 128) :
    k0_pay4 acc fold (ix2 a j) = ∑ l : Fin 512, acc (ix2 0 l) * fold (ix2 l j) := by
  pointwise [k0_pay4]

theorem dv_apply (e : Vec Ideal S256x512 .f32) (r : Fin 256) (j : Fin 512) : k0_pay3 e (ix2 r j) = e (ix2 r j) := by
  pointwise [k0_pay3]

end Entries

end Cert.Kernel8Ideal.Tile
-- ==== Proof.ContextKeys.Finite.lean ====
/-
  The precondition of the gradient of the norm of the context's keys read back: where it holds, the keys' columns, the gradient
  that arrives and the gain are real.
-/
module

public import proofs.«01_k».proof.Defs
public import proofs.«01_k».proof.Proof.Gating.Finite

@[expose] public section

set_option maxRecDepth 16384

noncomputable section

open Idealize.ShloMosaic Idealize.ShloMosaic.TcCoe Idealize.SL.Sem

namespace Cert.Pre_finite8

/-- The side conditions of the precondition's operations. -/
theorem facts : Facts where
  slices_S256x1024_S256x512_0_0 := by decide
  bitsLt_bf16_f32 := by decide
  bcast_S_S256x512 := by decide
  reducesTo_S256x512_S_d0_1 := by decide
  h_S_ := by decide
  bcast_S_S1x64 := by decide
  reducesTo_S1x64_S_d0_1 := by decide

attribute [local instance] facts

variable {Z : FVec Ideal S256x1024 .bf16} {DK DV : FVec Ideal S256x512 .f32} {K : FVec Ideal S1x64 .f32}

instance : Subsingleton S_.Idx := ⟨fun i j => by funext x; exact x.elim0⟩

/-- A column of the slice of the context's projected columns. -/
theorem slice_apply (R : Fin 256) (l : Fin 512) : (extf .f32 (extractStridedSlice S256x512 ![0, 0] Z Facts.slices_S256x1024_S256x512_0_0)
    Facts.bitsLt_bf16_f32 : FVec Ideal S256x512 .f32) (ix2 R l) = Z (ix2 R ⟨l.val, by omega⟩) := by
  pointwise

/-- The precondition is the conjunction of its three parts. -/
theorem parts (h : fn (F := Ideal) Z DK DV K = fun _ => 1#1) : (∀ (R : Fin 256) (l : Fin 512), ∃ r : ℝ, Z (ix2 R ⟨l.val, by omega⟩) = (r : EReal))
    ∧ (∀ i, ∃ r : ℝ, DK i = (r : EReal)) ∧ (∀ i, ∃ r : ℝ, K i = (r : EReal)) := by
  obtain ⟨h, hk⟩ := IntOp.andi_eq_one.mp (congrFun h (Shape.Idx.first Facts.h_S_))
  obtain ⟨hz, hd⟩ := IntOp.andi_eq_one.mp h
  refine ⟨fun R l => ?_, fun i => Cert.Pre_finite.real_of_small ?_, fun i => Cert.Pre_finite.real_of_small ?_⟩
  · rw [← slice_apply (Z := Z) R l]
    exact Cert.Pre_finite.real_of_small (Host.reduce_andi_all _ _ _ _ _ hz (ix2 R l))
  · exact Host.reduce_andi_all _ _ _ _ _ hd i
  · exact Host.reduce_andi_all _ _ _ _ _ hk i

end Cert.Pre_finite8
-- ==== Proof.ContextKeys.Reference.lean ====
/-
  The reference's gradient of the norm of the context's keys over the extended reals: its three results as short terms, read at
  an index and, on real arguments, in the formulas of one row.
-/
module

public import proofs.«01_k».proof.Proof.Gen.Reference8Ideal.Run
public import proofs.«01_k».proof.Proof.Heads.Reference
public import Idealize.ShloMosaic.Lib.Pointwise

@[expose] public section

set_option maxRecDepth 16384

noncomputable section

open Idealize.ShloMosaic Idealize.ShloMosaic.TcCoe Idealize.SL.Sem

namespace Cert.Reference8Ideal.ContextKeys

open Cert.Reference8Ideal Cert.Reference8Ideal.Gen Cert.Reference8Ideal.Value Cert.Input Cert.Heads
open Cert.Reference6Ideal.Heads (sum_lead col head lane_col place_col col_head)

/-! ## The terms -/

/-- Column `l` of the context's keys among its projected columns. -/
abbrev colC (l : Fin 512) : Fin 1024 := ⟨l.val, by omega⟩

/-- The keys' columns, head by head, and the gradient that arrives, head by head. -/
def headsK (Z : FVec Ideal S256x1024 .bf16) : FVec Ideal S256x8x64 .f32 :=
  shapeCast _ (extf .f32 (extractStridedSlice S256x512 ![0, 0] Z slices_S256x1024_S256x512_0_0) bitsLt_bf16_f32 : FVec Ideal S256x512 .f32) shapeCasts_S256x512_S256x8x64
def cotK (D : FVec Ideal S256x512 .f32) : FVec Ideal S256x8x64 .f32 := shapeCast _ D shapeCasts_S256x512_S256x8x64

/-- A gain, repeated over rows and heads. -/
def gain (g : FVec Ideal S1x64 .f32) : FVec Ideal S256x8x64 .f32 := broadcastInDim S256x8x64 ![0, 1, 2] bcast_S1x1x64_S256x8x64_0_1_2
  (broadcastInDim S1x1x64 ![2] bcast_S64_S1x1x64_2 (shapeCast _ g shapeCasts_S1x64_S64 : FVec Ideal S64 .f32))

variable (Y N C : FVec Ideal S256x8x64 .f32)

/-- The heads' mean squares. -/
def sq : FVec Ideal S256x8x1 .f32 := addf (Host.divf (broadcastInDim S256x8x1 ![0, 1] bcast_S256x8_S256x8x1_0_1
    (Host.reduceAdd (mulf Y Y) (constant S_ .f32 0x00000000#32) reducesTo_S256x8x64_S256x8_d2 h_S_))
  (broadcastInDim S256x8x1 ![] bcast_S_S256x8x1 (constant S_ .f32 0x42800000#32))) (broadcastInDim S256x8x1 ![] bcast_S_S256x8x1 (constant S_ .f32 0x358637BD#32))

/-- The reciprocal roots, along the heads' columns. -/
def rs : FVec Ideal S256x8x64 .f32 := broadcastInDim S256x8x64 ![0, 1, 2] bcast_S256x8x1_S256x8x64_0_1_2 (Host.rsqrt (sq Y))

/-- The gradient in a column through its head's mean square, but for the factor that is the column. -/
def coef : FVec Ideal S256x8x64 .f32 := broadcastInDim S256x8x64 ![0, 1] bcast_S256x8_S256x8x64_0_1 (Host.reduceAdd
  (Host.divf (mulf (shapeCast _ (Host.reduceAdd (mulf Y N) (constant S_ .f32 0x00000000#32) reducesTo_S256x8x64_S256x8_d2 h_S_ : FVec Ideal S256x8 .f32) shapeCasts_S256x8_S256x8x1)
      (mulf (broadcastInDim S256x8x1 ![] bcast_S_S256x8x1 (constant S_ .f32 0xBF000000#32)) (Host.divf (Host.rsqrt (sq Y)) (sq Y))))
    (broadcastInDim S256x8x1 ![] bcast_S_S256x8x1 (constant S_ .f32 0x42800000#32)))
  (constant S_ .f32 0x00000000#32) reducesTo_S256x8x1_S256x8_d2 h_S_)

/-- The gradient in the heads. -/
def back : FVec Ideal S256x8x64 .f32 := addf (addf (mulf N (rs Y)) (mulf Y (coef Y N))) (mulf (coef Y N) Y)

/-- It in rows, narrowed. -/
def outRow : FVec Ideal S256x512 .bf16 := truncf .bf16 (shapeCast _ (back Y N) shapeCasts_S256x8x64_S256x512 : FVec Ideal S256x512 .f32) bitsLt_bf16_f32

/-- The gradient in the gain, and in the shape that the call returns it in. -/
def gsum : FVec Ideal S64 .f32 := Host.reduceAdd (shapeCast _ (Host.reduceAdd (mulf (mulf Y (rs Y)) C) (constant S_ .f32 0x00000000#32)
  reducesTo_S256x8x64_S64_d0_1 h_S_ : FVec Ideal S64 .f32) shapeCasts_S64_S1x1x64) (constant S_ .f32 0x00000000#32) reducesTo_S1x1x64_S64_d0_1 h_S_
def outGain : FVec Ideal S8x128 .f32 := broadcastInDim S8x128 ![0, 1] bcast_S1x128_S8x128_0_1 (concatenate S1x128 1
  [⟨S1x64, (broadcastInDim S1x64 ![1] bcast_S64_S1x64_1 (gsum Y C) : FVec Ideal S1x64 .f32)⟩,
    ⟨S1x64, (broadcastInDim S1x64 ![] bcast_S_S1x64 (constant S_ .f32 0x00000000#32) : FVec Ideal S1x64 .f32)⟩] concatenates_S1x64_S1x64_S1x128_d1)

/-! ## The terms at an index -/

theorem headsK_apply (Z : FVec Ideal S256x1024 .bf16) (R : Fin 256) (h : Fin 8) (d : Fin 64) :
    headsK Z (ix3 R h d) = Z (ix2 R (colC (col h d))) := by
  pointwise [headsK]
  exact congrArg Z (congrArg (ix2 R) (Fin.ext (by show h.val * 64 + d.val = 64 * h.val + d.val; omega)))

theorem cotK_apply (D : FVec Ideal S256x512 .f32) (R : Fin 256) (h : Fin 8) (d : Fin 64) : cotK D (ix3 R h d) = D (ix2 R (col h d)) := by
  pointwise [cotK]
  exact congrArg D (congrArg (ix2 R) (Fin.ext (by show h.val * 64 + d.val = 64 * h.val + d.val; omega)))

theorem gain_apply (g : FVec Ideal S1x64 .f32) (R : Fin 256) (h : Fin 8) (d : Fin 64) : gain g (ix3 R h d) = g (ix2 0 d) := by
  pointwise [gain]

theorem sq_apply (R : Fin 256) (h : Fin 8) : sq Y (ix3 R h 0) = Ideal.div (∑ d : Fin 64, Y (ix3 R h d) * Y (ix3 R h d)) (Ideal.ofBits .f32 0x42800000#32)
    + Ideal.ofBits .f32 0x358637BD#32 := by
  pointwise [sq]

theorem rs_apply (R : Fin 256) (h : Fin 8) (d : Fin 64) : rs Y (ix3 R h d) = Ideal.rsqrt (sq Y (ix3 R h 0)) := by
  pointwise [rs]

theorem coef_apply (R : Fin 256) (h : Fin 8) (d : Fin 64) : coef Y N (ix3 R h d)
    = Ideal.div ((∑ e : Fin 64, Y (ix3 R h e) * N (ix3 R h e)) * (Ideal.ofBits .f32 0xBF000000#32
        * Ideal.div (Ideal.rsqrt (sq Y (ix3 R h 0))) (sq Y (ix3 R h 0)))) (Ideal.ofBits .f32 0x42800000#32) := by
  pointwise [coef]
  exact Fin.sum_univ_one _

theorem back_apply (R : Fin 256) (h : Fin 8) (d : Fin 64) : back Y N (ix3 R h d)
    = N (ix3 R h d) * rs Y (ix3 R h d) + Y (ix3 R h d) * coef Y N (ix3 R h d) + coef Y N (ix3 R h d) * Y (ix3 R h d) := by
  pointwise [back]

theorem outRow_apply (R : Fin 256) (j : Fin 512) : outRow Y N (ix2 R j) = back Y N (ix3 R (head j) (place j)) := by
  pointwise [outRow]

theorem gsum_apply (d : Fin 64) : gsum Y C (ix1 d) = ∑ R : Fin 256, ∑ h : Fin 8, Y (ix3 R h d) * rs Y (ix3 R h d) * C (ix3 R h d) := by
  pointwise [gsum, sum_lead]
  exact (Fin.sum_univ_one _).trans (Fin.sum_univ_one _)

theorem outGain_apply (a : Fin 8) (j : Fin 128) : outGain Y C (ix2 a j) = if h : j.val < 64 then gsum Y C (ix1 ⟨j.val, h⟩) else 0 := by
  pointwise [outGain]

/-! ## On real arguments -/

section Real

open Cert.Gating (coe_sum div_real rsqrt_real eps_eq neg_half_eq)

variable {Y N C} {z e : Fin 256 → Fin 512 → ℝ} {g : Fin 64 → ℝ}
  (hY : ∀ R h d, Y (ix3 R h d) = (z R (col h d) : EReal)) (hN : ∀ R h d, N (ix3 R h d) = ((e R (col h d) * g d : ℝ) : EReal))
  (hC : ∀ R h d, C (ix3 R h d) = (e R (col h d) : EReal))

include hY in
theorem sq_real (R : Fin 256) (h : Fin 8) (d : Fin 64) : sq Y (ix3 R h 0) = ((hm (z R) (col h d) : ℝ) : EReal) := by
  rw [sq_apply]
  unfold hm
  simp only [hY, lane_col, ← EReal.coe_mul, coe_sum, head_width_eq, eps_eq]
  rw [div_real (by norm_num), ← EReal.coe_add]

include hY in
theorem rs_real (R : Fin 256) (h : Fin 8) (d : Fin 64) : rs Y (ix3 R h d) = (((Real.sqrt (hm (z R) (col h d)))⁻¹ : ℝ) : EReal) := by
  rw [rs_apply, sq_real hY R h d, rsqrt_real (hm_pos _ _)]

include hY hN in
theorem back_real (R : Fin 256) (h : Fin 8) (d : Fin 64) : back Y N (ix3 R h d) = ((grad (z R) (e R) g (col h d) : ℝ) : EReal) := by
  rw [back_apply, rs_real hY, coef_apply, sq_real hY R h d, rsqrt_real (hm_pos _ _), div_real (hm_pos _ _).ne', forms]
  simp only [hY, hN, lane_col, place_col, ← EReal.coe_mul, coe_sum, head_width_eq, neg_half_eq]
  rw [div_real (by norm_num)]
  simp only [← EReal.coe_mul, ← EReal.coe_add]

include hY hN in
theorem outRow_real (R : Fin 256) (j : Fin 512) : outRow Y N (ix2 R j) = ((grad (z R) (e R) g j : ℝ) : EReal) := by
  rw [outRow_apply, back_real hY hN, col_head]

include hY hC in
theorem outGain_real (a : Fin 8) (j : Fin 128) : outGain Y C (ix2 a j)
    = if h : j.val < 64 then ∑ k : Fin 8, ∑ R : Fin 256, ((e R (col k ⟨j.val, h⟩) * hat (z R) (col k ⟨j.val, h⟩) : ℝ) : EReal) else 0 := by
  rw [outGain_apply]
  split
  · rename_i h
    rw [gsum_apply, Finset.sum_comm]
    refine Finset.sum_congr rfl fun k _ => Finset.sum_congr rfl fun R _ => ?_
    rw [hY, hC, rs_real hY, ← EReal.coe_mul, ← EReal.coe_mul]
    exact congrArg _ (mul_comm _ _)
  · rfl

end Real

/-! ## The three results -/

section Results

variable (Z : FVec Ideal S256x1024 .bf16) (D : FVec Ideal S256x512 .f32) (G : FVec Ideal S1x64 .f32)

def outK : FVec Ideal S256x512 .bf16 := outRow (headsK Z) (mulf (cotK D) (gain G))
def outV : FVec Ideal S256x512 .bf16 := truncf .bf16 D bitsLt_bf16_f32
def outGK : FVec Ideal S8x128 .f32 := outGain (headsK Z) (cotK D)

theorem outV_apply (R : Fin 256) (j : Fin 512) : outV D (ix2 R j) = D (ix2 R j) := by
  pointwise [outV]

variable {Z D G} {z e : Fin 256 → Fin 512 → ℝ} {g : Fin 64 → ℝ} (hz : ∀ R (l : Fin 512), Z (ix2 R (colC l)) = (z R l : EReal))
  (hd : ∀ R j, D (ix2 R j) = (e R j : EReal)) (hg : ∀ d, G (ix2 0 d) = (g d : EReal))

include hd in
theorem cotK_real (R : Fin 256) (h : Fin 8) (d : Fin 64) : cotK D (ix3 R h d) = (e R (col h d) : EReal) := by
  rw [cotK_apply, hd]

include hz hd hg in
theorem outK_real (R : Fin 256) (j : Fin 512) : outK Z D G (ix2 R j) = ((grad (z R) (e R) g j : ℝ) : EReal) := by
  refine outRow_real (fun R h d => (headsK_apply Z R h d).trans (hz R _)) (fun R h d => ?_) R j
  rw [EReal.coe_mul, ← cotK_real hd, ← hg d, ← gain_apply G R h d]
  rfl

include hz hd in
theorem outGK_real (a : Fin 8) (j : Fin 128) : outGK Z D (ix2 a j) = if h : j.val < 64 then
    ∑ k : Fin 8, ∑ R : Fin 256, ((e R (col k ⟨j.val, h⟩) * hat (z R) (col k ⟨j.val, h⟩) : ℝ) : EReal) else 0 :=
  outGain_real (fun R h d => (headsK_apply Z R h d).trans (hz R _)) (cotK_real hd) a j

end Results

section Run

variable (m : (ℓ : Loc nD τ sig) → Buf (Elt Ideal) ℓ) (c : Dev nD)

abbrev argZ : FVec Ideal S256x1024 .bf16 := m ((c.tc : Thread nD τ).loc main_arg0)
abbrev argDK : FVec Ideal S256x512 .f32 := m ((c.tc : Thread nD τ).loc main_arg1)
abbrev argDV : FVec Ideal S256x512 .f32 := m ((c.tc : Thread nD τ).loc main_arg2)
abbrev argK : FVec Ideal S1x64 .f32 := m ((c.tc : Thread nD τ).loc main_arg3)

theorem out_k : res_main_v49 m c = outK (argZ m c) (argDK m c) (argK m c) := rfl

end Run

end Cert.Reference8Ideal.ContextKeys
-- ==== Proof.ContextKeys.Equation.lean ====
/-
  The gradient of the norm of the context's keys: the three arrays the kernel leaves are the reference's three results. The
  values' gradient agrees over the extended reals; the other two agree on real arguments.
-/
module

public import proofs.«01_k».proof.Proof.ContextKeys.Tile
public import proofs.«01_k».proof.Proof.ContextKeys.Finite
public import proofs.«01_k».proof.Proof.ContextKeys.Reference
public import proofs.«01_k».proof.Proof.Heads.Blocks

@[expose] public section

set_option maxRecDepth 16384

noncomputable section

open Idealize.ShloMosaic Idealize.ShloMosaic.TcCoe Idealize.SL.Sem
open Idealize.ShloMosaic.Pipeline (Dat)

namespace Cert.Kernel8Ideal.Tile

open Cert.Kernel8Ideal Cert.Kernel8Ideal.Gen Cert.Kernel8Ideal.Value Cert.Input Cert.Heads
open Cert.Gating (coe_sum rsqrt_real eps_eq)
open Cert.Kernel6Ideal.Tile (cmp_word)
open Cert.Reference8Ideal.ContextKeys (colC)

/-! ## The tile on real blocks -/

section Real

variable {z : Vec Ideal S256x512 .bf16} {O : Vec Ideal S512x512 .bf16} {p : Fin 512 → ℝ} {r : Fin 256} (hz : ∀ l, z (ix2 r l) = (p l : EReal))
  (hO : ∀ i j : Fin 512, O (ix2 i j) = if i.val / 64 = j.val / 64 then (1 : EReal) else 0)

include hz hO

theorem inv_real (j : Fin 512) : inv z O r j = (((Real.sqrt (hm p j))⁻¹ : ℝ) : EReal) := by
  have h := two_parts (fun l => p l * p l) (fun l => O (ix2 l j)) j fun l => hO l j
  have e : (∑ d : Fin 64, p (lane j d) * p (lane j d)) * (1 / 64) + 8796093 / 8796093022208 = hm p j := by
    unfold hm
    ring
  unfold inv
  simp only [hz, ← EReal.coe_mul]
  rw [h, head_inv_eq, eps_eq, ← EReal.coe_mul, ← EReal.coe_add, e, rsqrt_real (hm_pos p j)]

theorem hat_real (j : Fin 512) : z (ix2 r j) * inv z O r j = ((hat p j : ℝ) : EReal) := by
  rw [inv_real hz hO, hz, ← EReal.coe_mul]
  rfl

theorem dcol_real (e : Fin 512 → ℝ) (g : Fin 64 → ℝ) (j : Fin 512) :
    dcol z O (fun l => (e l : EReal)) (fun l => (g (place l) : EReal)) r j = ((grad p e g j : ℝ) : EReal) := by
  have h := two_parts (fun l => e l * g (place l) * hat p l) (fun l => O (ix2 l j)) j fun l => hO l j
  simp only [place_lane] at h
  unfold dcol
  simp only [hat_real hz hO]
  rw [inv_real hz hO]
  simp only [← EReal.coe_mul]
  rw [h, head_inv_eq]
  simp only [← EReal.coe_mul, ← EReal.coe_sub]
  rfl

end Real

variable (m : (ℓ : Loc nD τ sig) → Buf (Elt Ideal) ℓ) (c : Dev nD)

/-- The four arguments. -/
abbrev argZ : Vec Ideal S256x1024 .bf16 := m ((c.tc : Thread nD τ).loc main_arg0)
abbrev argDK : Vec Ideal S256x512 .f32 := m ((c.tc : Thread nD τ).loc main_arg1)
abbrev argDV : Vec Ideal S256x512 .f32 := m ((c.tc : Thread nD τ).loc main_arg2)
abbrev argK : Vec Ideal S1x64 .f32 := m ((c.tc : Thread nD τ).loc main_arg3)

/-! ## The layouts the host prepares -/

/-- The matrix that is one within a head and zero between two heads. -/
theorem host_ones (i j : Fin 512) : (V m c main_v6 : Vec Ideal S512x512 .bf16) (ix2 i j) = if i.val / 64 = j.val / 64 then (1 : EReal) else 0 := by
  have h : (V m c main_v6 : Vec Ideal S512x512 .bf16) = truncf .bf16 (uitofp .f32 (shapeCast S512x512 (broadcastInDim S8x64x8x64 ![0, 1, 2, 3]
      bcast_S8x1x8x1_S8x64x8x64_0_1_2_3 (cmpi .eq (iotaInDim S8x1x8x1 32 0) (iotaInDim S8x1x8x1 32 2))) shapeCasts_S8x64x8x64_S512x512) : FVec Ideal S512x512 .f32)
      bitsLt_bf16_f32 := by
    show StableHlo.after hostOps0 _ _ = _
    after_results
    rfl
  rw [h]
  pointwise
  exact cmp_word _ _ (by omega) (by omega)

/-- The matrix that folds the columns to the places of a head. -/
theorem host_fold (l : Fin 512) (j : Fin 128) : (V m c main_v11 : Vec Ideal S512x128 .f32) (ix2 l j) = if l.val % 64 = j.val then (1 : EReal) else 0 := by
  have h : (V m c main_v11 : Vec Ideal S512x128 .f32) = (uitofp .f32 (shapeCast S512x128 (cmpi .eq (iotaInDim S8x64x128 32 1) (iotaInDim S8x64x128 32 2))
      shapeCasts_S8x64x128_S512x128) : FVec Ideal S512x128 .f32) := by
    show StableHlo.after hostOps0 _ _ = _
    after_results
    rfl
  rw [h]
  pointwise
  exact cmp_word _ _ (by omega) (by omega)

/-- The gain of the keys' heads, once per head. -/
theorem host_gk (j : Fin 512) : (V m c main_v14 : Vec Ideal S1x512 .f32) (ix2 0 j) = argK m c (ix2 0 (place j)) := by
  have h : (V m c main_v14 : Vec Ideal S1x512 .f32) = shapeCast S1x512 (broadcastInDim S1x1x8x64 ![0, 1, 2, 3] bcast_S1x1x1x64_S1x1x8x64_0_1_2_3
      (shapeCast S1x1x1x64 (argK m c) shapeCasts_S1x64_S1x1x1x64)) shapeCasts_S1x1x8x64_S1x512 := by
    show StableHlo.after hostOps0 _ _ = _
    after_results
    rfl
  rw [h]
  pointwise

/-! ## The tile's blocks -/

theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- An index of an array kept whole, or of its first columns. -/
theorem ix_first {n k w : Nat} (r : Fin n) (j : Fin k) (hw : j.val < w) (a b : Nat) (ha : a = 0) (hb : b = 0)
    (x : (⟨2, ![n, w]⟩ : Shape).Idx) (h0 : (x 0).val = a * n + 1 * r.val) (h1 : (x 1).val = b * k + 1 * j.val) : x = ix2 r ⟨j.val, hw⟩ := by
  subst ha hb
  funext i
  apply Fin.ext
  match i with
  | ⟨0, _⟩ => exact h0.trans (show 0 * n + 1 * r.val = r.val by omega)
  | ⟨1, _⟩ => exact h1.trans (show 0 * k + 1 * j.val = j.val by omega)

variable (t : Fin cfg0.N)

theorem blkZ (r : Fin 256) (j : Fin 512) : (iblk m c 0 t : Vec Ideal S256x512 .bf16) (ix2 r j) = argZ m c (ix2 r (colC j)) := by
  obtain ⟨h, -⟩ := index t
  refine (congrFun (V_main_arg0 m c) _).trans ?_
  exact congrArg (argZ m c) (ix_first r j (by omega) _ _ h.1 h.2 _ rfl rfl)

theorem blkDK (r : Fin 256) (j : Fin 512) : (iblk m c 1 t : Vec Ideal S256x512 .f32) (ix2 r j) = argDK m c (ix2 r j) := by
  obtain ⟨-, h, -⟩ := index t
  refine (congrFun (V_main_arg1 m c) _).trans ?_
  exact congrArg (argDK m c) (ix_first r j j.isLt _ _ h.1 h.2 _ rfl rfl)

theorem blkDV (r : Fin 256) (j : Fin 512) : (iblk m c 2 t : Vec Ideal S256x512 .f32) (ix2 r j) = argDV m c (ix2 r j) := by
  obtain ⟨-, -, h, -⟩ := index t
  refine (congrFun (V_main_arg2 m c) _).trans ?_
  exact congrArg (argDV m c) (ix_first r j j.isLt _ _ h.1 h.2 _ rfl rfl)

theorem blkOnes (i j : Fin 512) : (iblk m c 3 t : Vec Ideal S512x512 .bf16) (ix2 i j) = if i.val / 64 = j.val / 64 then (1 : EReal) else 0 := by
  obtain ⟨-, -, -, h, -⟩ := index t
  rw [← host_ones m c i j]
  exact congrArg (V m c main_v6 : Vec Ideal S512x512 .bf16) (ix_first i j j.isLt _ _ h.1 h.2 _ rfl rfl)

theorem blkK (j : Fin 512) : (iblk m c 4 t : Vec Ideal S1x512 .f32) (ix2 0 j) = argK m c (ix2 0 (place j)) := by
  obtain ⟨-, -, -, -, h, -⟩ := index t
  rw [← host_gk m c j]
  exact congrArg (V m c main_v14 : Vec Ideal S1x512 .f32) (ix_first 0 j j.isLt _ _ h.1 h.2 _ rfl rfl)

theorem blkFold (l : Fin 512) (j : Fin 128) : (iblk m c 5 t : Vec Ideal S512x128 .f32) (ix2 l j) = if l.val % 64 = j.val then (1 : EReal) else 0 := by
  obtain ⟨-, -, -, -, -, h, -⟩ := index t
  rw [← host_fold m c l j]
  exact congrArg (V m c main_v11 : Vec Ideal S512x128 .f32) (ix_first l j j.isLt _ _ h.1 h.2 _ rfl rfl)

/-! ## The three result arrays -/

/-- The one tile. -/
abbrev tile0 : Fin cfg0.N := ⟨0, by decide⟩

theorem tile_k : (outsAt0 m c t).1 = gradK (iblk m c 0 t) (iblk m c 1 t) (iblk m c 4 t) (iblk m c 3 t) := by
  unfold outsAt0
  dsimp only
  exact (only ..).1

theorem tile_v : (outsAt0 m c t).2.1 = k0_pay3 (iblk m c 2 t) := by
  unfold outsAt0
  dsimp only
  exact (only ..).2.1

theorem tile_gk : (outsAt0 m c t).2.2 = k0_pay4 (sumK (iblk m c 0 t) (iblk m c 1 t) (iblk m c 3 t)) (iblk m c 5 t) := by
  unfold outsAt0
  dsimp only
  exact (only ..).2.2

theorem arr_k (r : Fin 256) (j : Fin 512) : (dats m 0 c).arrAt 6 cfg0.N (ix2 r j : S256x512.Idx) = (outsAt0 m c tile0).1 (ix2 r j) := by
  obtain ⟨-, -, -, -, -, -, h, -⟩ := index tile0
  refine Eq.trans ?_ (congrFun ((blocks6 m c tile0 (by decide +kernel)).trans (flushed6 m c tile0)) (ix2 r j))
  rw [View.read_apply]
  exact (congrArg ((dats m 0 c).arrAt 6 cfg0.N) (ix_first r j j.isLt _ _ h.1 h.2 _ rfl rfl)).symm

theorem arr_v (r : Fin 256) (j : Fin 512) : (dats m 0 c).arrAt 7 cfg0.N (ix2 r j : S256x512.Idx) = (outsAt0 m c tile0).2.1 (ix2 r j) := by
  obtain ⟨-, -, -, -, -, -, -, h, -⟩ := index tile0
  refine Eq.trans ?_ (congrFun ((blocks7 m c tile0 (by decide +kernel)).trans (flushed7 m c tile0)) (ix2 r j))
  rw [View.read_apply]
  exact (congrArg ((dats m 0 c).arrAt 7 cfg0.N) (ix_first r j j.isLt _ _ h.1 h.2 _ rfl rfl)).symm

theorem arr_gk (a : Fin 8) (j : Fin 128) : (dats m 0 c).arrAt 8 cfg0.N (ix2 a j : S8x128.Idx) = (outsAt0 m c tile0).2.2 (ix2 a j) := by
  obtain ⟨-, -, -, -, -, -, -, -, h⟩ := index tile0
  refine Eq.trans ?_ (congrFun ((blocks8 m c tile0 (by decide +kernel)).trans (flushed8 m c tile0)) (ix2 a j))
  rw [View.read_apply]
  exact (congrArg ((dats m 0 c).arrAt 8 cfg0.N) (ix_first a j j.isLt _ _ h.1 h.2 _ rfl rfl)).symm

/-- The gain's gradient, folded to a head's places, where the keys and the gradient at them are real. -/
theorem fold_real {z e : Fin 256 → Fin 512 → ℝ} (hz : ∀ R (l : Fin 512), argZ m c (ix2 R (colC l)) = (z R l : EReal))
    (he : ∀ R j, argDK m c (ix2 R j) = (e R j : EReal)) (a : Fin 8) (j : Fin 128) :
    k0_pay4 (sumK (iblk m c 0 t) (iblk m c 1 t) (iblk m c 3 t)) (iblk m c 5 t) (ix2 a j) = if h : j.val < 64 then
      ∑ k : Fin 8, ∑ R : Fin 256, ((e R (Cert.Reference6Ideal.Heads.col k ⟨j.val, h⟩) * hat (z R) (Cert.Reference6Ideal.Heads.col k ⟨j.val, h⟩) : ℝ) : EReal)
      else 0 := by
  rw [foldK_apply, fold_heads _ (fun l => (iblk m c 5 t : Vec Ideal S512x128 .f32) (ix2 l j)) j fun l => blkFold m c t l j]
  refine dite_congr rfl (fun hj => Finset.sum_congr rfl fun k _ => ?_) fun _ => rfl
  rw [sumK_apply]
  refine Finset.sum_congr rfl fun R _ => ?_
  rw [hat_real (fun l => (blkZ m c t R l).trans (hz _ l)) (blkOnes m c t), blkDK, he, EReal.coe_mul]

/-! ## They are the reference's results -/

theorem v_eq : (dats m 0 c).arrAt 7 cfg0.N = Cert.Reference8Ideal.ContextKeys.outV (argDV m c) := by
  funext i
  change S256x512.Idx at i
  idx_vars i
  refine (arr_v m c i0 i1).trans ?_
  rw [tile_v, dv_apply, blkDV, Cert.Reference8Ideal.ContextKeys.outV_apply]

attribute [local instance] Cert.Pre_finite8.facts

variable (h : Cert.Pre_finite8.fn (F := Ideal) (argZ m c) (argDK m c) (argDV m c) (argK m c) = fun _ => 1#1)

include h

/-- Where the precondition holds: the keys' columns, the gradient that arrives at them and their gain are real. -/
theorem given : ∃ (z e : Fin 256 → Fin 512 → ℝ) (g : Fin 64 → ℝ), (∀ R (l : Fin 512), argZ m c (ix2 R (colC l)) = (z R l : EReal))
    ∧ (∀ R j, argDK m c (ix2 R j) = (e R j : EReal)) ∧ ∀ d, argK m c (ix2 0 d) = (g d : EReal) := by
  obtain ⟨hz, he, hg⟩ := Cert.Pre_finite8.parts h
  choose z hz using hz
  choose e he using he
  choose g hg using hg
  exact ⟨z, fun R j => e (ix2 R j), fun d => g (ix2 0 d), hz, fun R j => he _, fun d => hg _⟩

theorem k_eq : (dats m 0 c).arrAt 6 cfg0.N = Cert.Reference8Ideal.ContextKeys.outK (argZ m c) (argDK m c) (argK m c) := by
  obtain ⟨z, e, g, hz, he, hg⟩ := given m c h
  funext i
  change S256x512.Idx at i
  idx_vars i
  refine (arr_k m c i0 i1).trans (Eq.trans ?_ (Cert.Reference8Ideal.ContextKeys.outK_real hz he hg i0 i1).symm)
  rw [tile_k, gradK_apply]
  simp only [blkDK, blkK, he, hg]
  exact dcol_real (fun l => (blkZ m c _ _ l).trans (hz _ l)) (blkOnes m c _) _ g i1

theorem gk_eq : (dats m 0 c).arrAt 8 cfg0.N = Cert.Reference8Ideal.ContextKeys.outGK (argZ m c) (argDK m c) := by
  obtain ⟨z, e, -, hz, he, -⟩ := given m c h
  funext i
  change S8x128.Idx at i
  idx_vars i
  refine (arr_gk m c i0 i1).trans (Eq.trans ?_ (Cert.Reference8Ideal.ContextKeys.outGK_real hz he i0 i1).symm)
  rw [tile_gk]
  exact fold_real m c _ hz he i0 i1

end Cert.Kernel8Ideal.Tile
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Project.Equation
public import proofs.«01_k».proof.Proof.Gating.Equation
public import proofs.«01_k».proof.Proof.Modulate.Equation
public import proofs.«01_k».proof.Proof.Weights.Reference
public import proofs.«01_k».proof.Proof.Input.Equation
public import proofs.«01_k».proof.Proof.Heads.Equation
public import proofs.«01_k».proof.Proof.Context.Equation
public import proofs.«01_k».proof.Proof.ContextKeys.Equation
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ

theorem frame_referenceIdeal : Cert.quiescent_ReferenceIdeal := fun m ρ _ =>
  (θ_run Cert.ReferenceIdeal.defs _ _).mono (fun r h => ⟨fun c => (h c).2.2.2.2.2.2, sem_eq_zero_of_no_sems rfl r.2⟩)
    (Cert.ReferenceIdeal.Value.run (F := Ideal) m ρ)

theorem frame_kernelIdeal_finite [hPre_finite : Cert.Pre_finite.Facts] : Cert.quiescent_KernelIdeal_pre_finite :=
  fun m ρ _ => frame_kernelIdeal m ρ trivial

theorem frame_referenceIdeal_finite [hPre_finite : Cert.Pre_finite.Facts] : Cert.quiescent_ReferenceIdeal_pre_finite :=
  fun m ρ _ => frame_referenceIdeal m ρ trivial

theorem preserves : Cert.preserves_Kernel_KernelIdeal :=
  ⟨IdealRules.named_const.statement _ _ _ _ _ rfl, IdealRules.named_const.statement _ _ _ _ _ rfl⟩

theorem algebraic : Cert.algebraic_KernelIdeal_ReferenceIdeal_pre_finite (hPre_finite := Cert.Pre_finite.facts) :=
  fun m ρ m' ρ' hpre hag =>
  ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    Cert.KernelIdeal.Value.run_blocks m ρ,
    (θ_run Cert.ReferenceIdeal.defs _ _).mono (fun r h c => by
      obtain ⟨u, v, a, d, s, w, b, hr⟩ := Cert.Pre_finite.given (hpre c)
      obtain ⟨h0, h1, h2, h3, h4, h5, hk⟩ := h c
      obtain ⟨a0, a1, a2, a3, a4⟩ := hag c
      have e0 := h0.trans (Cert.ReferenceIdeal.Gating.out_dau m' c)
      have e1 := h1.trans (Cert.ReferenceIdeal.Gating.out_dav m' c)
      have e2 := h2.trans (Cert.ReferenceIdeal.Gating.out_dag m' c)
      have e3 := h3.trans (Cert.ReferenceIdeal.Gating.out_dws m' c)
      have e4 := h4.trans (show _ = Cert.ReferenceIdeal.Gating.dbs (Cert.ReferenceIdeal.Gating.argZ m' c)
        (Cert.ReferenceIdeal.Gating.argD m' c) from rfl)
      have e5 := h5.trans (Cert.ReferenceIdeal.Gating.out_dsg m' c)
      simp only [Cert.ReferenceIdeal.Gating.argZ, Cert.ReferenceIdeal.Gating.argD, Cert.ReferenceIdeal.Gating.argS,
        Cert.ReferenceIdeal.Gating.argW, Cert.ReferenceIdeal.Gating.argB] at e0 e1 e2 e3 e4 e5
      rw [a0, a1, a2, a3, a4] at e0
      rw [a0, a1, a2, a3] at e1
      rw [a0, a1, a2, a3, a4] at e2
      rw [a0, a1, a2] at e3
      rw [a0, a1] at e4
      rw [a0, a1, a3] at e5
      exact ⟨e0.trans (Cert.KernelIdeal.Gating.dau_eq hr).symm, e1.trans (Cert.KernelIdeal.Gating.dav_eq hr).symm,
        e2.trans (Cert.KernelIdeal.Gating.dag_eq hr).symm, e3.trans (Cert.KernelIdeal.Gating.dws_eq hr).symm,
        e4.trans (Cert.KernelIdeal.Gating.dbs_eq hr).symm, e5.trans (Cert.KernelIdeal.Gating.dsg_eq hr).symm, hk⟩)
      (Cert.ReferenceIdeal.Value.run (F := Ideal) m' ρ')⟩

/-! ## The second program: the output projection's gradient -/

theorem frame_reference2Ideal : Cert.quiescent_Reference2Ideal := fun m ρ _ =>
  (θ_run Cert.Reference2Ideal.defs _ _).mono (fun r h => ⟨fun c => (h c).2.2.2.2.2, sem_eq_zero_of_no_sems rfl r.2⟩)
    (Cert.Reference2Ideal.Value.run (F := Ideal) m ρ)

theorem algebraic2 : Cert.algebraic_Kernel2Ideal_Reference2Ideal := fun m ρ m' ρ' _ hag =>
  ⟨fun c => Cert.Kernel2Ideal.Value.G6 m c, fun c => Cert.Kernel2Ideal.Value.G7 m c, fun c => Cert.Kernel2Ideal.Value.G8 m c,
    fun c => Cert.Kernel2Ideal.Value.G9 m c, fun c => Cert.Kernel2Ideal.Value.G10 m c,
    Cert.Kernel2Ideal.Value.run (F := Ideal) m ρ,
    (θ_run Cert.Reference2Ideal.defs _ _).mono (fun r h c => by
      obtain ⟨h0, h1, h2, h3, h4, hk⟩ := h c
      obtain ⟨a0, a1, a2, a3, a4, a5⟩ := hag c
      rw [a0, a1, a2, a3, a4, a5] at h0 h1 h2 h3 h4
      exact ⟨h0.trans (Cert.Kernel2Ideal.Tile.dx_eq m c).symm, h1.trans (Cert.Kernel2Ideal.Tile.dcat_eq m c).symm,
        h2.trans (Cert.Kernel2Ideal.Tile.dw_eq m c).symm, h3.trans (Cert.Kernel2Ideal.Tile.dgate_eq m c).symm,
        h4.trans (Cert.Kernel2Ideal.Tile.loss_eq m c).symm, hk⟩)
      (Cert.Reference2Ideal.Value.run (F := Ideal) m' ρ')⟩

/-! ## The third program: the input projection's data gradient -/

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run (F := Ideal) m ρ)

theorem frame_kernel3Ideal_finite [hPre_finite3 : Cert.Pre_finite3.Facts] : Cert.quiescent_Kernel3Ideal_pre_finite3 :=
  fun m ρ _ => frame_kernel3Ideal m ρ trivial

theorem frame_reference3Ideal_finite [hPre_finite3 : Cert.Pre_finite3.Facts] : Cert.quiescent_Reference3Ideal_pre_finite3 :=
  fun m ρ _ => frame_reference3Ideal m ρ trivial

theorem algebraic3 : Cert.algebraic_Kernel3Ideal_Reference3Ideal_pre_finite3 (hPre_finite3 := Cert.Pre_finite3.facts) :=
  fun m ρ m' ρ' hpre hag =>
  ⟨fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    Cert.Kernel3Ideal.Value.run_blocks m ρ,
    (θ_run Cert.Reference3Ideal.defs _ _).mono (fun r h c => by
      obtain ⟨d, x, g, s, hd, hx, hg, hs⟩ := Cert.Pre_finite3.given (hpre c)
      obtain ⟨h0, h1, h2, h3, hk⟩ := h c
      obtain ⟨a0, a1, a2, a3, a4, a5, a6, a7, a8, a9, a10, a11, -⟩ := hag c
      have e0 := h0.trans (Cert.Reference3Ideal.Modulate.out_dx m' c)
      have e1 := h1.trans (show _ = Cert.Reference3Ideal.Modulate.dshift (Cert.Reference3Ideal.Modulate.argD0 m' c)
        (Cert.Reference3Ideal.Modulate.argD1 m' c) (Cert.Reference3Ideal.Modulate.argD2 m' c) (Cert.Reference3Ideal.Modulate.argD3 m' c)
        (Cert.Reference3Ideal.Modulate.argD4 m' c) (Cert.Reference3Ideal.Modulate.argD5 m' c) (Cert.Reference3Ideal.Modulate.argD6 m' c)
        (Cert.Reference3Ideal.Modulate.argW m' c) from rfl)
      have e2 := h2.trans (show _ = Cert.Reference3Ideal.Modulate.dscale (Cert.Reference3Ideal.Modulate.argD0 m' c)
        (Cert.Reference3Ideal.Modulate.argD1 m' c) (Cert.Reference3Ideal.Modulate.argD2 m' c) (Cert.Reference3Ideal.Modulate.argD3 m' c)
        (Cert.Reference3Ideal.Modulate.argD4 m' c) (Cert.Reference3Ideal.Modulate.argD5 m' c) (Cert.Reference3Ideal.Modulate.argD6 m' c)
        (Cert.Reference3Ideal.Modulate.argW m' c) (Cert.Reference3Ideal.Modulate.argX m' c) (Cert.Reference3Ideal.Modulate.argG m' c) from rfl)
      have e3 := h3.trans (show _ = Cert.Reference3Ideal.Modulate.dgain (Cert.Reference3Ideal.Modulate.argD0 m' c)
        (Cert.Reference3Ideal.Modulate.argD1 m' c) (Cert.Reference3Ideal.Modulate.argD2 m' c) (Cert.Reference3Ideal.Modulate.argD3 m' c)
        (Cert.Reference3Ideal.Modulate.argD4 m' c) (Cert.Reference3Ideal.Modulate.argD5 m' c) (Cert.Reference3Ideal.Modulate.argD6 m' c)
        (Cert.Reference3Ideal.Modulate.argW m' c) (Cert.Reference3Ideal.Modulate.argX m' c) (Cert.Reference3Ideal.Modulate.argSC m' c) from rfl)
      simp only [Cert.Reference3Ideal.Modulate.argD0, Cert.Reference3Ideal.Modulate.argD1, Cert.Reference3Ideal.Modulate.argD2,
        Cert.Reference3Ideal.Modulate.argD3, Cert.Reference3Ideal.Modulate.argD4, Cert.Reference3Ideal.Modulate.argD5,
        Cert.Reference3Ideal.Modulate.argD6, Cert.Reference3Ideal.Modulate.argW, Cert.Reference3Ideal.Modulate.argX,
        Cert.Reference3Ideal.Modulate.argDY, Cert.Reference3Ideal.Modulate.argG, Cert.Reference3Ideal.Modulate.argSC] at e0 e1 e2 e3
      rw [a0, a1, a2, a3, a4, a5, a6, a7, a8, a9, a10, a11] at e0
      rw [a0, a1, a2, a3, a4, a5, a6, a7] at e1
      rw [a0, a1, a2, a3, a4, a5, a6, a7, a8, a10] at e2
      rw [a0, a1, a2, a3, a4, a5, a6, a7, a8, a11] at e3
      exact ⟨e0.trans (Cert.Kernel3Ideal.Tile.gx_eq m c hd hx hg hs).symm, e1.trans (Cert.Kernel3Ideal.Tile.dsh_eq m c).symm,
        e2.trans (Cert.Kernel3Ideal.Tile.dsc_eq m c).symm, e3.trans (Cert.Kernel3Ideal.Tile.dg_eq m c).symm, hk⟩)
      (Cert.Reference3Ideal.Value.run (F := Ideal) m' ρ')⟩

/-! ## The fourth program: the input projection's weights' gradient -/

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2, sem_eq_zero_of_no_sems rfl r.2⟩)
    (Cert.Reference4Ideal.Value.run (F := Ideal) m ρ)

theorem algebraic4 : Cert.algebraic_Kernel4Ideal_Reference4Ideal := fun m ρ m' ρ' _ hag =>
  ⟨fun c => Cert.Kernel4Ideal.Value.G11 m c,
    Cert.Kernel4Ideal.Value.run (F := Ideal) m ρ,
    (θ_run Cert.Reference4Ideal.defs _ _).mono (fun r h c => by
      obtain ⟨h0, hk⟩ := h c
      obtain ⟨a0, a1, a2, a3, a4, a5, a6, a7, a8, a9, a10⟩ := hag c
      rw [a0, a1, a2, a3, a4, a5, a6, a7, a8, a9, a10] at h0
      exact ⟨h0.trans (Cert.Kernel4Ideal.Tile.dw_eq m c).symm, hk⟩)
      (Cert.Reference4Ideal.Value.run (F := Ideal) m' ρ')⟩

/-! ## The fifth program: the input projection, forward -/

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2.2.2.2, sem_eq_zero_of_no_sems rfl r.2⟩)
    (Cert.Reference5Ideal.Value.run (F := Ideal) m ρ)

theorem frame_kernel5Ideal_finite [hPre_finite5 : Cert.Pre_finite5.Facts] : Cert.quiescent_Kernel5Ideal_pre_finite5 :=
  fun m ρ _ => frame_kernel5Ideal m ρ trivial

theorem frame_reference5Ideal_finite [hPre_finite5 : Cert.Pre_finite5.Facts] : Cert.quiescent_Reference5Ideal_pre_finite5 :=
  fun m ρ _ => frame_reference5Ideal m ρ trivial

theorem algebraic5 : Cert.algebraic_Kernel5Ideal_Reference5Ideal_pre_finite5 (hPre_finite5 := Cert.Pre_finite5.facts) :=
  fun m ρ m' ρ' hpre hag =>
  ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    Cert.Kernel5Ideal.Value.run_blocks m ρ,
    (θ_run Cert.Reference5Ideal.defs _ _).mono (fun r h c => by
      obtain ⟨z, hz⟩ := Cert.Pre_finite5.given (hpre c)
      obtain ⟨h0, h1, h2, h3, hk⟩ := h c
      obtain ⟨a0, a1, a2, a3, a4, a5, a6⟩ := hag c
      have e0 := h0.trans (show _ = Cert.Reference5Ideal.Input.outH (Cert.Reference5Ideal.Input.argX m' c) (Cert.Reference5Ideal.Input.argG m' c) (Cert.Reference5Ideal.Input.argSC m' c) (Cert.Reference5Ideal.Input.argSH m' c) from rfl)
      have e1 := h1.trans (show _ = Cert.Reference5Ideal.Input.outZ (Cert.Reference5Ideal.Input.argX m' c) (Cert.Reference5Ideal.Input.argG m' c) (Cert.Reference5Ideal.Input.argSC m' c) (Cert.Reference5Ideal.Input.argSH m' c) (Cert.Reference5Ideal.Input.argW m' c) from rfl)
      have e2 := h2.trans (Cert.Reference5Ideal.Input.out_q m' c)
      have e3 := h3.trans (Cert.Reference5Ideal.Input.out_k m' c)
      simp only [Cert.Reference5Ideal.Input.argX, Cert.Reference5Ideal.Input.argG, Cert.Reference5Ideal.Input.argSC, Cert.Reference5Ideal.Input.argSH,
        Cert.Reference5Ideal.Input.argW, Cert.Reference5Ideal.Input.argQ, Cert.Reference5Ideal.Input.argK] at e0 e1 e2 e3
      rw [a0, a1, a2, a3] at e0
      rw [a0, a1, a2, a3, a4] at e1
      rw [a0, a1, a2, a3, a4, a5] at e2
      rw [a0, a1, a2, a3, a4, a6] at e3
      exact ⟨e0.trans (Cert.Kernel5Ideal.Tile.h_eq m c).symm, e1.trans (Cert.Kernel5Ideal.Tile.z_eq m c).symm,
        e2.trans (Cert.Kernel5Ideal.Tile.q_eq m c hz).symm, e3.trans (Cert.Kernel5Ideal.Tile.k_eq m c hz).symm, hk⟩)
      (Cert.Reference5Ideal.Value.run (F := Ideal) m' ρ')⟩

/-! ## The sixth program: the gradient of the heads' norms -/

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2.2.2.2.2, sem_eq_zero_of_no_sems rfl r.2⟩)
    (Cert.Reference6Ideal.Value.run (F := Ideal) m ρ)

theorem frame_kernel6Ideal_finite [hPre_finite6 : Cert.Pre_finite6.Facts] : Cert.quiescent_Kernel6Ideal_pre_finite6 :=
  fun m ρ _ => frame_kernel6Ideal m ρ trivial

theorem frame_reference6Ideal_finite [hPre_finite6 : Cert.Pre_finite6.Facts] : Cert.quiescent_Reference6Ideal_pre_finite6 :=
  fun m ρ _ => frame_reference6Ideal m ρ trivial

theorem algebraic6 : Cert.algebraic_Kernel6Ideal_Reference6Ideal_pre_finite6 (hPre_finite6 := Cert.Pre_finite6.facts) :=
  fun m ρ m' ρ' hpre hag =>
  ⟨fun c => Cert.Kernel6Ideal.Value.G9 m c, fun c => Cert.Kernel6Ideal.Value.G10 m c, fun c => Cert.Kernel6Ideal.Value.G11 m c,
    fun c => Cert.Kernel6Ideal.Value.G12 m c, fun c => Cert.Kernel6Ideal.Value.G13 m c,
    Cert.Kernel6Ideal.Value.run (F := Ideal) m ρ,
    (θ_run Cert.Reference6Ideal.defs _ _).mono (fun r h c => by
      obtain ⟨h0, h1, h2, h3, h4, hk⟩ := h c
      obtain ⟨a0, a1, a2, a3, a4, a5⟩ := hag c
      have e0 := h0.trans (Cert.Reference6Ideal.Heads.out_q m' c)
      have e1 := h1.trans (Cert.Reference6Ideal.Heads.out_k m' c)
      have e2 := h2.trans (show _ = Cert.Reference6Ideal.Heads.outV (Cert.Reference6Ideal.Heads.argDV m' c) from rfl)
      have e3 := h3.trans (show _ = Cert.Reference6Ideal.Heads.outGQ (Cert.Reference6Ideal.Heads.argZ m' c) (Cert.Reference6Ideal.Heads.argDQ m' c) from rfl)
      have e4 := h4.trans (show _ = Cert.Reference6Ideal.Heads.outGK (Cert.Reference6Ideal.Heads.argZ m' c) (Cert.Reference6Ideal.Heads.argDK m' c) from rfl)
      simp only [Cert.Reference6Ideal.Heads.argZ, Cert.Reference6Ideal.Heads.argDQ, Cert.Reference6Ideal.Heads.argDK, Cert.Reference6Ideal.Heads.argDV,
        Cert.Reference6Ideal.Heads.argQ, Cert.Reference6Ideal.Heads.argK] at e0 e1 e2 e3 e4
      rw [a0, a1, a4] at e0
      rw [a0, a2, a5] at e1
      rw [a3] at e2
      rw [a0, a1] at e3
      rw [a0, a2] at e4
      exact ⟨e0.trans (Cert.Kernel6Ideal.Tile.q_eq m c (hpre c)).symm, e1.trans (Cert.Kernel6Ideal.Tile.k_eq m c (hpre c)).symm,
        e2.trans (Cert.Kernel6Ideal.Tile.v_eq m c).symm, e3.trans (Cert.Kernel6Ideal.Tile.gq_eq m c (hpre c)).symm,
        e4.trans (Cert.Kernel6Ideal.Tile.gk_eq m c (hpre c)).symm, hk⟩)
      (Cert.Reference6Ideal.Value.run (F := Ideal) m' ρ')⟩

/-! ## The seventh program: the context's share of the input projection's data gradient -/

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2.2.2, sem_eq_zero_of_no_sems rfl r.2⟩)
    (Cert.Reference7Ideal.Value.run (F := Ideal) m ρ)

theorem algebraic7 : Cert.algebraic_Kernel7Ideal_Reference7Ideal := fun m ρ m' ρ' _ hag =>
  ⟨fun c => (Cert.Kernel7Ideal.Gen.dats m 0 c).arrAt 7 Cert.Kernel7Ideal.cfg0.N,
    fun c => (Cert.Kernel7Ideal.Gen.dats m 0 c).arrAt 8 Cert.Kernel7Ideal.cfg0.N,
    fun c => (Cert.Kernel7Ideal.Gen.dats m 0 c).arrAt 9 Cert.Kernel7Ideal.cfg0.N,
    Cert.Kernel7Ideal.Value.run_blocks m ρ,
    (θ_run Cert.Reference7Ideal.defs _ _).mono (fun r h c => by
      obtain ⟨h0, h1, h2, hk⟩ := h c
      obtain ⟨a0, a1, a2, a3, a4, a5, a6⟩ := hag c
      have e0 := h0.trans (show _ = Cert.Reference7Ideal.Context.dshift (Cert.Reference7Ideal.Context.dh (Cert.Reference7Ideal.Context.argK m' c) (Cert.Reference7Ideal.Context.argV m' c) (Cert.Reference7Ideal.Context.argW m' c)) from rfl)
      have e1 := h1.trans (show _ = Cert.Reference7Ideal.Context.dscale (Cert.Reference7Ideal.Context.argX m' c) (Cert.Reference7Ideal.Context.argG m' c) (Cert.Reference7Ideal.Context.dh (Cert.Reference7Ideal.Context.argK m' c) (Cert.Reference7Ideal.Context.argV m' c) (Cert.Reference7Ideal.Context.argW m' c)) from rfl)
      have e2 := h2.trans (show _ = Cert.Reference7Ideal.Context.dgain (Cert.Reference7Ideal.Context.argX m' c) (Cert.Reference7Ideal.Context.argSC m' c) (Cert.Reference7Ideal.Context.dh (Cert.Reference7Ideal.Context.argK m' c) (Cert.Reference7Ideal.Context.argV m' c) (Cert.Reference7Ideal.Context.argW m' c)) from rfl)
      simp only [Cert.Reference7Ideal.Context.argK, Cert.Reference7Ideal.Context.argV, Cert.Reference7Ideal.Context.argW, Cert.Reference7Ideal.Context.argX,
        Cert.Reference7Ideal.Context.argG, Cert.Reference7Ideal.Context.argSC] at e0 e1 e2
      rw [a0, a1, a2] at e0
      rw [a0, a1, a2, a3, a4] at e1
      rw [a0, a1, a2, a3, a5] at e2
      exact ⟨e0.trans (Cert.Kernel7Ideal.Tile.dsh_eq m c).symm, e1.trans (Cert.Kernel7Ideal.Tile.dsc_eq m c).symm,
        e2.trans (Cert.Kernel7Ideal.Tile.dg_eq m c).symm, hk⟩)
      (Cert.Reference7Ideal.Value.run (F := Ideal) m' ρ')⟩

/-! ## The eighth program: the gradient of the norm of the context's keys -/

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2.2.2, sem_eq_zero_of_no_sems rfl r.2⟩)
    (Cert.Reference8Ideal.Value.run (F := Ideal) m ρ)

theorem frame_kernel8Ideal_finite [hPre_finite8 : Cert.Pre_finite8.Facts] : Cert.quiescent_Kernel8Ideal_pre_finite8 :=
  fun m ρ _ => frame_kernel8Ideal m ρ trivial

theorem frame_reference8Ideal_finite [hPre_finite8 : Cert.Pre_finite8.Facts] : Cert.quiescent_Reference8Ideal_pre_finite8 :=
  fun m ρ _ => frame_reference8Ideal m ρ trivial

theorem algebraic8 : Cert.algebraic_Kernel8Ideal_Reference8Ideal_pre_finite8 (hPre_finite8 := Cert.Pre_finite8.facts) :=
  fun m ρ m' ρ' hpre hag =>
  ⟨fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N,
    Cert.Kernel8Ideal.Value.run_blocks m ρ,
    (θ_run Cert.Reference8Ideal.defs _ _).mono (fun r h c => by
      obtain ⟨h0, h1, h2, hk⟩ := h c
      obtain ⟨a0, a1, a2, a3⟩ := hag c
      have e0 := h0.trans (Cert.Reference8Ideal.ContextKeys.out_k m' c)
      have e1 := h1.trans (show _ = Cert.Reference8Ideal.ContextKeys.outV (Cert.Reference8Ideal.ContextKeys.argDV m' c) from rfl)
      have e2 := h2.trans (show _ = Cert.Reference8Ideal.ContextKeys.outGK (Cert.Reference8Ideal.ContextKeys.argZ m' c) (Cert.Reference8Ideal.ContextKeys.argDK m' c) from rfl)
      simp only [Cert.Reference8Ideal.ContextKeys.argZ, Cert.Reference8Ideal.ContextKeys.argDK, Cert.Reference8Ideal.ContextKeys.argDV,
        Cert.Reference8Ideal.ContextKeys.argK] at e0 e1 e2
      rw [a0, a1, a3] at e0
      rw [a2] at e1
      rw [a0, a1] at e2
      exact ⟨e0.trans (Cert.Kernel8Ideal.Tile.k_eq m c (hpre c)).symm, e1.trans (Cert.Kernel8Ideal.Tile.v_eq m c).symm,
        e2.trans (Cert.Kernel8Ideal.Tile.gk_eq m c (hpre c)).symm, hk⟩)
      (Cert.Reference8Ideal.Value.run (F := Ideal) m' ρ')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts,
    Cert.Kernel8Ideal.Gen.facts, Cert.Reference8Ideal.Gen.facts,
    Cert.Pre_finite.facts, Cert.Pre_finite3.facts, Cert.Pre_finite5.facts, Cert.Pre_finite6.facts, Cert.Pre_finite8.facts,
    frame_kernel, frame_kernelIdeal, frame_kernelIdeal_finite (hPre_finite := Cert.Pre_finite.facts), frame_referenceIdeal,
    frame_referenceIdeal_finite (hPre_finite := Cert.Pre_finite.facts), frame_kernel2, frame_kernel2Ideal, frame_reference2Ideal,
    frame_kernel3, frame_kernel3Ideal, frame_kernel3Ideal_finite (hPre_finite3 := Cert.Pre_finite3.facts), frame_reference3Ideal,
    frame_reference3Ideal_finite (hPre_finite3 := Cert.Pre_finite3.facts), frame_kernel4, frame_kernel4Ideal, frame_reference4Ideal,
    frame_kernel5, frame_kernel5Ideal, frame_kernel5Ideal_finite (hPre_finite5 := Cert.Pre_finite5.facts), frame_reference5Ideal,
    frame_reference5Ideal_finite (hPre_finite5 := Cert.Pre_finite5.facts), frame_kernel6, frame_kernel6Ideal,
    frame_kernel6Ideal_finite (hPre_finite6 := Cert.Pre_finite6.facts), frame_reference6Ideal,
    frame_reference6Ideal_finite (hPre_finite6 := Cert.Pre_finite6.facts), frame_kernel7, frame_kernel7Ideal, frame_reference7Ideal,
    frame_kernel8, frame_kernel8Ideal, frame_kernel8Ideal_finite (hPre_finite8 := Cert.Pre_finite8.facts), frame_reference8Ideal,
    frame_reference8Ideal_finite (hPre_finite8 := Cert.Pre_finite8.facts), preserves, algebraic, trivial, algebraic2, trivial, algebraic3,
    trivial, algebraic4, trivial, algebraic5, trivial, algebraic6, trivial, algebraic7, trivial, algebraic8⟩

end Cert.Proof

end
